-- ==== Defs.lean ====
def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_PoolDw (m : (ℓ : Loc Cert.PoolDw.nD Cert.PoolDw.τ Cert.PoolDw.sig) → Buf (Elt Bits) ℓ) : Prop :=
  True

def Pre_PoolDwIdeal (m : (ℓ : Loc Cert.PoolDwIdeal.nD Cert.PoolDwIdeal.τ Cert.PoolDwIdeal.sig) → Buf (Elt Ideal) ℓ) : Prop :=
  True

def Pre_PoolDwRefIdeal (m : (ℓ : Loc Cert.PoolDwRefIdeal.nD Cert.PoolDwRefIdeal.τ Cert.PoolDwRefIdeal.sig) → Buf (Elt Ideal) ℓ) : Prop :=
  True

def Pre_AttnDw (m : (ℓ : Loc Cert.AttnDw.nD Cert.AttnDw.τ Cert.AttnDw.sig) → Buf (Elt Bits) ℓ) : Prop :=
  True

def Pre_AttnDwIdeal (m : (ℓ : Loc Cert.AttnDwIdeal.nD Cert.AttnDwIdeal.τ Cert.AttnDwIdeal.sig) → Buf (Elt Ideal) ℓ) : Prop :=
  True

def Pre_AttnDwRefIdeal (m : (ℓ : Loc Cert.AttnDwRefIdeal.nD Cert.AttnDwRefIdeal.τ Cert.AttnDwRefIdeal.sig) → Buf (Elt Ideal) ℓ) : Prop :=
  True

def Pre_SsdDw (m : (ℓ : Loc Cert.SsdDw.nD Cert.SsdDw.τ Cert.SsdDw.sig) → Buf (Elt Bits) ℓ) : Prop :=
  True

def Pre_SsdDwIdeal (m : (ℓ : Loc Cert.SsdDwIdeal.nD Cert.SsdDwIdeal.τ Cert.SsdDwIdeal.sig) → Buf (Elt Ideal) ℓ) : Prop :=
  True

def Pre_SsdDwRefIdeal (m : (ℓ : Loc Cert.SsdDwRefIdeal.nD Cert.SsdDwRefIdeal.τ Cert.SsdDwRefIdeal.sig) → Buf (Elt Ideal) ℓ) : Prop :=
  True

def Pre_InPDw (m : (ℓ : Loc Cert.InPDw.nD Cert.InPDw.τ Cert.InPDw.sig) → Buf (Elt Bits) ℓ) : Prop :=
  True

def Pre_InPDwIdeal (m : (ℓ : Loc Cert.InPDwIdeal.nD Cert.InPDwIdeal.τ Cert.InPDwIdeal.sig) → Buf (Elt Ideal) ℓ) : Prop :=
  True

def Pre_InPDwRefIdeal (m : (ℓ : Loc Cert.InPDwRefIdeal.nD Cert.InPDwRefIdeal.τ Cert.InPDwRefIdeal.sig) → Buf (Elt Ideal) ℓ) : Prop :=
  True

def Pre_InXDw (m : (ℓ : Loc Cert.InXDw.nD Cert.InXDw.τ Cert.InXDw.sig) → Buf (Elt Bits) ℓ) : Prop :=
  True

def Pre_InXDwIdeal (m : (ℓ : Loc Cert.InXDwIdeal.nD Cert.InXDwIdeal.τ Cert.InXDwIdeal.sig) → Buf (Elt Ideal) ℓ) : Prop :=
  True

def Pre_InXDwRefIdeal (m : (ℓ : Loc Cert.InXDwRefIdeal.nD Cert.InXDwRefIdeal.τ Cert.InXDwRefIdeal.sig) → Buf (Elt Ideal) ℓ) : Prop :=
  True

def Pre_InGDw (m : (ℓ : Loc Cert.InGDw.nD Cert.InGDw.τ Cert.InGDw.sig) → Buf (Elt Bits) ℓ) : Prop :=
  True

def Pre_InGDwIdeal (m : (ℓ : Loc Cert.InGDwIdeal.nD Cert.InGDwIdeal.τ Cert.InGDwIdeal.sig) → Buf (Elt Ideal) ℓ) : Prop :=
  True

def Pre_InGDwRefIdeal (m : (ℓ : Loc Cert.InGDwRefIdeal.nD Cert.InGDwRefIdeal.τ Cert.InGDwRefIdeal.sig) → Buf (Elt Ideal) ℓ) : Prop :=
  True

def Pre_InFDw (m : (ℓ : Loc Cert.InFDw.nD Cert.InFDw.τ Cert.InFDw.sig) → Buf (Elt Bits) ℓ) : Prop :=
  True

def Pre_InFDwIdeal (m : (ℓ : Loc Cert.InFDwIdeal.nD Cert.InFDwIdeal.τ Cert.InFDwIdeal.sig) → Buf (Elt Ideal) ℓ) : Prop :=
  True

def Pre_InFDwRefIdeal (m : (ℓ : Loc Cert.InFDwRefIdeal.nD Cert.InFDwRefIdeal.τ Cert.InFDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_PoolDx (m : (ℓ : Loc Cert.PoolDx.nD Cert.PoolDx.τ Cert.PoolDx.sig) → Buf (Elt Bits) ℓ) : Prop :=
  True

def Pre_PoolDxIdeal (m : (ℓ : Loc Cert.PoolDxIdeal.nD Cert.PoolDxIdeal.τ Cert.PoolDxIdeal.sig) → Buf (Elt Ideal) ℓ) : Prop :=
  True

def Pre_PoolDxRefIdeal (m : (ℓ : Loc Cert.PoolDxRefIdeal.nD Cert.PoolDxRefIdeal.τ Cert.PoolDxRefIdeal.sig) → Buf (Elt Ideal) ℓ) : Prop :=
  True

def Pre_SsdDx (m : (ℓ : Loc Cert.SsdDx.nD Cert.SsdDx.τ Cert.SsdDx.sig) → Buf (Elt Bits) ℓ) : Prop :=
  True

def Pre_SsdDxIdeal (m : (ℓ : Loc Cert.SsdDxIdeal.nD Cert.SsdDxIdeal.τ Cert.SsdDxIdeal.sig) → Buf (Elt Ideal) ℓ) : Prop :=
  True

def Pre_SsdDxRefIdeal (m : (ℓ : Loc Cert.SsdDxRefIdeal.nD Cert.SsdDxRefIdeal.τ Cert.SsdDxRefIdeal.sig) → Buf (Elt Ideal) ℓ) : Prop :=
  True

def Pre_InPDx (m : (ℓ : Loc Cert.InPDx.nD Cert.InPDx.τ Cert.InPDx.sig) → Buf (Elt Bits) ℓ) : Prop :=
  True

def Pre_InPDxIdeal (m : (ℓ : Loc Cert.InPDxIdeal.nD Cert.InPDxIdeal.τ Cert.InPDxIdeal.sig) → Buf (Elt Ideal) ℓ) : Prop :=
  True

def Pre_InPDxRefIdeal (m : (ℓ : Loc Cert.InPDxRefIdeal.nD Cert.InPDxRefIdeal.τ Cert.InPDxRefIdeal.sig) → Buf (Elt Ideal) ℓ) : Prop :=
  True

def Pre_InZDx (m : (ℓ : Loc Cert.InZDx.nD Cert.InZDx.τ Cert.InZDx.sig) → Buf (Elt Bits) ℓ) : Prop :=
  True

def Pre_InZDxIdeal (m : (ℓ : Loc Cert.InZDxIdeal.nD Cert.InZDxIdeal.τ Cert.InZDxIdeal.sig) → Buf (Elt Ideal) ℓ) : Prop :=
  True

def Pre_InZDxRefIdeal (m : (ℓ : Loc Cert.InZDxRefIdeal.nD Cert.InZDxRefIdeal.τ Cert.InZDxRefIdeal.sig) → Buf (Elt Ideal) ℓ) : Prop :=
  True

def Pre_InXDx (m : (ℓ : Loc Cert.InXDx.nD Cert.InXDx.τ Cert.InXDx.sig) → Buf (Elt Bits) ℓ) : Prop :=
  True

def Pre_InXDxIdeal (m : (ℓ : Loc Cert.InXDxIdeal.nD Cert.InXDxIdeal.τ Cert.InXDxIdeal.sig) → Buf (Elt Ideal) ℓ) : Prop :=
  True

def Pre_InXDxRefIdeal (m : (ℓ : Loc Cert.InXDxRefIdeal.nD Cert.InXDxRefIdeal.τ Cert.InXDxRefIdeal.sig) → Buf (Elt Ideal) ℓ) : Prop :=
  True

def Pre_InGDx (m : (ℓ : Loc Cert.InGDx.nD Cert.InGDx.τ Cert.InGDx.sig) → Buf (Elt Bits) ℓ) : Prop :=
  True

def Pre_InGDxIdeal (m : (ℓ : Loc Cert.InGDxIdeal.nD Cert.InGDxIdeal.τ Cert.InGDxIdeal.sig) → Buf (Elt Ideal) ℓ) : Prop :=
  True

def Pre_InGDxRefIdeal (m : (ℓ : Loc Cert.InGDxRefIdeal.nD Cert.InGDxRefIdeal.τ Cert.InGDxRefIdeal.sig) → Buf (Elt Ideal) ℓ) : Prop :=
  True

def Pre_InFDx (m : (ℓ : Loc Cert.InFDx.nD Cert.InFDx.τ Cert.InFDx.sig) → Buf (Elt Bits) ℓ) : Prop :=
  True

def Pre_InFDxIdeal (m : (ℓ : Loc Cert.InFDxIdeal.nD Cert.InFDxIdeal.τ Cert.InFDxIdeal.sig) → Buf (Elt Ideal) ℓ) : Prop :=
  True

def Pre_InFDxRefIdeal (m : (ℓ : Loc Cert.InFDxRefIdeal.nD Cert.InFDxRefIdeal.τ Cert.InFDxRefIdeal.sig) → Buf (Elt Ideal) ℓ) : Prop :=
  True

def Pre_InP (m : (ℓ : Loc Cert.InP.nD Cert.InP.τ Cert.InP.sig) → Buf (Elt Bits) ℓ) : Prop :=
  True

def Pre_InPIdeal (m : (ℓ : Loc Cert.InPIdeal.nD Cert.InPIdeal.τ Cert.InPIdeal.sig) → Buf (Elt Ideal) ℓ) : Prop :=
  True

def Pre_InPRefIdeal (m : (ℓ : Loc Cert.InPRefIdeal.nD Cert.InPRefIdeal.τ Cert.InPRefIdeal.sig) → Buf (Elt Ideal) ℓ) : Prop :=
  True

def Pre_InZ (m : (ℓ : Loc Cert.InZ.nD Cert.InZ.τ Cert.InZ.sig) → Buf (Elt Bits) ℓ) : Prop :=
  True

def Pre_InZIdeal (m : (ℓ : Loc Cert.InZIdeal.nD Cert.InZIdeal.τ Cert.InZIdeal.sig) → Buf (Elt Ideal) ℓ) : Prop :=
  True

def Pre_InZRefIdeal (m : (ℓ : Loc Cert.InZRefIdeal.nD Cert.InZRefIdeal.τ Cert.InZRefIdeal.sig) → Buf (Elt Ideal) ℓ) : Prop :=
  True

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXRefIdeal (m : (ℓ : Loc Cert.InXRefIdeal.nD Cert.InXRefIdeal.τ Cert.InXRefIdeal.sig) → Buf (Elt Ideal) ℓ) : Prop :=
  True

def Pre_InG (m : (ℓ : Loc Cert.InG.nD Cert.InG.τ Cert.InG.sig) → Buf (Elt Bits) ℓ) : Prop :=
  True

def Pre_InGIdeal (m : (ℓ : Loc Cert.InGIdeal.nD Cert.InGIdeal.τ Cert.InGIdeal.sig) → Buf (Elt Ideal) ℓ) : Prop :=
  True

def Pre_InGRefIdeal (m : (ℓ : Loc Cert.InGRefIdeal.nD Cert.InGRefIdeal.τ Cert.InGRefIdeal.sig) → Buf (Elt Ideal) ℓ) : Prop :=
  True

def Pre_InF (m : (ℓ : Loc Cert.InF.nD Cert.InF.τ Cert.InF.sig) → Buf (Elt Bits) ℓ) : Prop :=
  True

def Pre_InFIdeal (m : (ℓ : Loc Cert.InFIdeal.nD Cert.InFIdeal.τ Cert.InFIdeal.sig) → Buf (Elt Ideal) ℓ) : Prop :=
  True

def Pre_InFRefIdeal (m : (ℓ : Loc Cert.InFRefIdeal.nD Cert.InFRefIdeal.τ Cert.InFRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_PoolDw [hPoolDw : Cert.PoolDw.Facts] : Prop :=
  ∀ (m : (ℓ : Loc Cert.PoolDw.nD Cert.PoolDw.τ Cert.PoolDw.sig) → Buf (Elt Bits) ℓ) (g : Dev Cert.PoolDw.nD → PrngReg), Pre_PoolDw m →
    θ_run (Cert.PoolDw.defs (F := Bits)) (onTc (τ := Cert.PoolDw.τ) (Cert.PoolDw.main (F := Bits))) ⟨m, fun _ => 0, g⟩ (fun r => (∀ c : Dev Cert.PoolDw.nD,
      r.2.mem ((c.tc : Thread Cert.PoolDw.nD Cert.PoolDw.τ).loc Cert.PoolDw.main_arg0) = m ((c.tc : Thread Cert.PoolDw.nD Cert.PoolDw.τ).loc Cert.PoolDw.main_arg0)
      ∧ r.2.mem ((c.tc : Thread Cert.PoolDw.nD Cert.PoolDw.τ).loc Cert.PoolDw.main_arg1) = m ((c.tc : Thread Cert.PoolDw.nD Cert.PoolDw.τ).loc Cert.PoolDw.main_arg1))
      ∧ r.2.sem = fun _ => 0)

def quiescent_PoolDwIdeal [hPoolDwIdeal : Cert.PoolDwIdeal.Facts] : Prop :=
  ∀ (m : (ℓ : Loc Cert.PoolDwIdeal.nD Cert.PoolDwIdeal.τ Cert.PoolDwIdeal.sig) → Buf (Elt Ideal) ℓ) (g : Dev Cert.PoolDwIdeal.nD → PrngReg), Pre_PoolDwIdeal m →
    θ_run (Cert.PoolDwIdeal.defs (F := Ideal)) (onTc (τ := Cert.PoolDwIdeal.τ) (Cert.PoolDwIdeal.main (F := Ideal))) ⟨m, fun _ => 0, g⟩ (fun r => (∀ c : Dev Cert.PoolDwIdeal.nD,
      r.2.mem ((c.tc : Thread Cert.PoolDwIdeal.nD Cert.PoolDwIdeal.τ).loc Cert.PoolDwIdeal.main_arg0) = m ((c.tc : Thread Cert.PoolDwIdeal.nD Cert.PoolDwIdeal.τ).loc Cert.PoolDwIdeal.main_arg0)
      ∧ r.2.mem ((c.tc : Thread Cert.PoolDwIdeal.nD Cert.PoolDwIdeal.τ).loc Cert.PoolDwIdeal.main_arg1) = m ((c.tc : Thread Cert.PoolDwIdeal.nD Cert.PoolDwIdeal.τ).loc Cert.PoolDwIdeal.main_arg1))
      ∧ r.2.sem = fun _ => 0)

def quiescent_PoolDwRefIdeal [hPoolDwRefIdeal : Cert.PoolDwRefIdeal.Facts] : Prop :=
  ∀ (m : (ℓ : Loc Cert.PoolDwRefIdeal.nD Cert.PoolDwRefIdeal.τ Cert.PoolDwRefIdeal.sig) → Buf (Elt Ideal) ℓ) (g : Dev Cert.PoolDwRefIdeal.nD → PrngReg), Pre_PoolDwRefIdeal m →
    θ_run (Cert.PoolDwRefIdeal.defs (F := Ideal)) (onTc (τ := Cert.PoolDwRefIdeal.τ) (Cert.PoolDwRefIdeal.main (F := Ideal))) ⟨m, fun _ => 0, g⟩ (fun r => (∀ c : Dev Cert.PoolDwRefIdeal.nD,
      r.2.mem ((c.tc : Thread Cert.PoolDwRefIdeal.nD Cert.PoolDwRefIdeal.τ).loc Cert.PoolDwRefIdeal.main_arg0) = m ((c.tc : Thread Cert.PoolDwRefIdeal.nD Cert.PoolDwRefIdeal.τ).loc Cert.PoolDwRefIdeal.main_arg0)
      ∧ r.2.mem ((c.tc : Thread Cert.PoolDwRefIdeal.nD Cert.PoolDwRefIdeal.τ).loc Cert.PoolDwRefIdeal.main_arg1) = m ((c.tc : Thread Cert.PoolDwRefIdeal.nD Cert.PoolDwRefIdeal.τ).loc Cert.PoolDwRefIdeal.main_arg1))
      ∧ r.2.sem = fun _ => 0)

def quiescent_AttnDw [hAttnDw : Cert.AttnDw.Facts] : Prop :=
  ∀ (m : (ℓ : Loc Cert.AttnDw.nD Cert.AttnDw.τ Cert.AttnDw.sig) → Buf (Elt Bits) ℓ) (g : Dev Cert.AttnDw.nD → PrngReg), Pre_AttnDw m →
    θ_run (Cert.AttnDw.defs (F := Bits)) (onTc (τ := Cert.AttnDw.τ) (Cert.AttnDw.main (F := Bits))) ⟨m, fun _ => 0, g⟩ (fun r => (∀ c : Dev Cert.AttnDw.nD,
      r.2.mem ((c.tc : Thread Cert.AttnDw.nD Cert.AttnDw.τ).loc Cert.AttnDw.main_arg0) = m ((c.tc : Thread Cert.AttnDw.nD Cert.AttnDw.τ).loc Cert.AttnDw.main_arg0)
      ∧ r.2.mem ((c.tc : Thread Cert.AttnDw.nD Cert.AttnDw.τ).loc Cert.AttnDw.main_arg1) = m ((c.tc : Thread Cert.AttnDw.nD Cert.AttnDw.τ).loc Cert.AttnDw.main_arg1))
      ∧ r.2.sem = fun _ => 0)

def quiescent_AttnDwIdeal [hAttnDwIdeal : Cert.AttnDwIdeal.Facts] : Prop :=
  ∀ (m : (ℓ : Loc Cert.AttnDwIdeal.nD Cert.AttnDwIdeal.τ Cert.AttnDwIdeal.sig) → Buf (Elt Ideal) ℓ) (g : Dev Cert.AttnDwIdeal.nD → PrngReg), Pre_AttnDwIdeal m →
    θ_run (Cert.AttnDwIdeal.defs (F := Ideal)) (onTc (τ := Cert.AttnDwIdeal.τ) (Cert.AttnDwIdeal.main (F := Ideal))) ⟨m, fun _ => 0, g⟩ (fun r => (∀ c : Dev Cert.AttnDwIdeal.nD,
      r.2.mem ((c.tc : Thread Cert.AttnDwIdeal.nD Cert.AttnDwIdeal.τ).loc Cert.AttnDwIdeal.main_arg0) = m ((c.tc : Thread Cert.AttnDwIdeal.nD Cert.AttnDwIdeal.τ).loc Cert.AttnDwIdeal.main_arg0)
      ∧ r.2.mem ((c.tc : Thread Cert.AttnDwIdeal.nD Cert.AttnDwIdeal.τ).loc Cert.AttnDwIdeal.main_arg1) = m ((c.tc : Thread Cert.AttnDwIdeal.nD Cert.AttnDwIdeal.τ).loc Cert.AttnDwIdeal.main_arg1))
      ∧ r.2.sem = fun _ => 0)

def quiescent_AttnDwRefIdeal [hAttnDwRefIdeal : Cert.AttnDwRefIdeal.Facts] : Prop :=
  ∀ (m : (ℓ : Loc Cert.AttnDwRefIdeal.nD Cert.AttnDwRefIdeal.τ Cert.AttnDwRefIdeal.sig) → Buf (Elt Ideal) ℓ) (g : Dev Cert.AttnDwRefIdeal.nD → PrngReg), Pre_AttnDwRefIdeal m →
    θ_run (Cert.AttnDwRefIdeal.defs (F := Ideal)) (onTc (τ := Cert.AttnDwRefIdeal.τ) (Cert.AttnDwRefIdeal.main (F := Ideal))) ⟨m, fun _ => 0, g⟩ (fun r => (∀ c : Dev Cert.AttnDwRefIdeal.nD,
      r.2.mem ((c.tc : Thread Cert.AttnDwRefIdeal.nD Cert.AttnDwRefIdeal.τ).loc Cert.AttnDwRefIdeal.main_arg0) = m ((c.tc : Thread Cert.AttnDwRefIdeal.nD Cert.AttnDwRefIdeal.τ).loc Cert.AttnDwRefIdeal.main_arg0)
      ∧ r.2.mem ((c.tc : Thread Cert.AttnDwRefIdeal.nD Cert.AttnDwRefIdeal.τ).loc Cert.AttnDwRefIdeal.main_arg1) = m ((c.tc : Thread Cert.AttnDwRefIdeal.nD Cert.AttnDwRefIdeal.τ).loc Cert.AttnDwRefIdeal.main_arg1))
      ∧ r.2.sem = fun _ => 0)

def quiescent_SsdDw [hSsdDw : Cert.SsdDw.Facts] : Prop :=
  ∀ (m : (ℓ : Loc Cert.SsdDw.nD Cert.SsdDw.τ Cert.SsdDw.sig) → Buf (Elt Bits) ℓ) (g : Dev Cert.SsdDw.nD → PrngReg), Pre_SsdDw m →
    θ_run (Cert.SsdDw.defs (F := Bits)) (onTc (τ := Cert.SsdDw.τ) (Cert.SsdDw.main (F := Bits))) ⟨m, fun _ => 0, g⟩ (fun r => (∀ c : Dev Cert.SsdDw.nD,
      r.2.mem ((c.tc : Thread Cert.SsdDw.nD Cert.SsdDw.τ).loc Cert.SsdDw.main_arg0) = m ((c.tc : Thread Cert.SsdDw.nD Cert.SsdDw.τ).loc Cert.SsdDw.main_arg0)
      ∧ r.2.mem ((c.tc : Thread Cert.SsdDw.nD Cert.SsdDw.τ).loc Cert.SsdDw.main_arg1) = m ((c.tc : Thread Cert.SsdDw.nD Cert.SsdDw.τ).loc Cert.SsdDw.main_arg1))
      ∧ r.2.sem = fun _ => 0)

def quiescent_SsdDwIdeal [hSsdDwIdeal : Cert.SsdDwIdeal.Facts] : Prop :=
  ∀ (m : (ℓ : Loc Cert.SsdDwIdeal.nD Cert.SsdDwIdeal.τ Cert.SsdDwIdeal.sig) → Buf (Elt Ideal) ℓ) (g : Dev Cert.SsdDwIdeal.nD → PrngReg), Pre_SsdDwIdeal m →
    θ_run (Cert.SsdDwIdeal.defs (F := Ideal)) (onTc (τ := Cert.SsdDwIdeal.τ) (Cert.SsdDwIdeal.main (F := Ideal))) ⟨m, fun _ => 0, g⟩ (fun r => (∀ c : Dev Cert.SsdDwIdeal.nD,
      r.2.mem ((c.tc : Thread Cert.SsdDwIdeal.nD Cert.SsdDwIdeal.τ).loc Cert.SsdDwIdeal.main_arg0) = m ((c.tc : Thread Cert.SsdDwIdeal.nD Cert.SsdDwIdeal.τ).loc Cert.SsdDwIdeal.main_arg0)
      ∧ r.2.mem ((c.tc : Thread Cert.SsdDwIdeal.nD Cert.SsdDwIdeal.τ).loc Cert.SsdDwIdeal.main_arg1) = m ((c.tc : Thread Cert.SsdDwIdeal.nD Cert.SsdDwIdeal.τ).loc Cert.SsdDwIdeal.main_arg1))
      ∧ r.2.sem = fun _ => 0)

def quiescent_SsdDwRefIdeal [hSsdDwRefIdeal : Cert.SsdDwRefIdeal.Facts] : Prop :=
  ∀ (m : (ℓ : Loc Cert.SsdDwRefIdeal.nD Cert.SsdDwRefIdeal.τ Cert.SsdDwRefIdeal.sig) → Buf (Elt Ideal) ℓ) (g : Dev Cert.SsdDwRefIdeal.nD → PrngReg), Pre_SsdDwRefIdeal m →
    θ_run (Cert.SsdDwRefIdeal.defs (F := Ideal)) (onTc (τ := Cert.SsdDwRefIdeal.τ) (Cert.SsdDwRefIdeal.main (F := Ideal))) ⟨m, fun _ => 0, g⟩ (fun r => (∀ c : Dev Cert.SsdDwRefIdeal.nD,
      r.2.mem ((c.tc : Thread Cert.SsdDwRefIdeal.nD Cert.SsdDwRefIdeal.τ).loc Cert.SsdDwRefIdeal.main_arg0) = m ((c.tc : Thread Cert.SsdDwRefIdeal.nD Cert.SsdDwRefIdeal.τ).loc Cert.SsdDwRefIdeal.main_arg0)
      ∧ r.2.mem ((c.tc : Thread Cert.SsdDwRefIdeal.nD Cert.SsdDwRefIdeal.τ).loc Cert.SsdDwRefIdeal.main_arg1) = m ((c.tc : Thread Cert.SsdDwRefIdeal.nD Cert.SsdDwRefIdeal.τ).loc Cert.SsdDwRefIdeal.main_arg1))
      ∧ r.2.sem = fun _ => 0)

def quiescent_InPDw [hInPDw : Cert.InPDw.Facts] : Prop :=
  ∀ (m : (ℓ : Loc Cert.InPDw.nD Cert.InPDw.τ Cert.InPDw.sig) → Buf (Elt Bits) ℓ) (g : Dev Cert.InPDw.nD → PrngReg), Pre_InPDw m →
    θ_run (Cert.InPDw.defs (F := Bits)) (onTc (τ := Cert.InPDw.τ) (Cert.InPDw.main (F := Bits))) ⟨m, fun _ => 0, g⟩ (fun r => (∀ c : Dev Cert.InPDw.nD,
      r.2.mem ((c.tc : Thread Cert.InPDw.nD Cert.InPDw.τ).loc Cert.InPDw.main_arg0) = m ((c.tc : Thread Cert.InPDw.nD Cert.InPDw.τ).loc Cert.InPDw.main_arg0)
      ∧ r.2.mem ((c.tc : Thread Cert.InPDw.nD Cert.InPDw.τ).loc Cert.InPDw.main_arg1) = m ((c.tc : Thread Cert.InPDw.nD Cert.InPDw.τ).loc Cert.InPDw.main_arg1))
      ∧ r.2.sem = fun _ => 0)

def quiescent_InPDwIdeal [hInPDwIdeal : Cert.InPDwIdeal.Facts] : Prop :=
  ∀ (m : (ℓ : Loc Cert.InPDwIdeal.nD Cert.InPDwIdeal.τ Cert.InPDwIdeal.sig) → Buf (Elt Ideal) ℓ) (g : Dev Cert.InPDwIdeal.nD → PrngReg), Pre_InPDwIdeal m →
    θ_run (Cert.InPDwIdeal.defs (F := Ideal)) (onTc (τ := Cert.InPDwIdeal.τ) (Cert.InPDwIdeal.main (F := Ideal))) ⟨m, fun _ => 0, g⟩ (fun r => (∀ c : Dev Cert.InPDwIdeal.nD,
      r.2.mem ((c.tc : Thread Cert.InPDwIdeal.nD Cert.InPDwIdeal.τ).loc Cert.InPDwIdeal.main_arg0) = m ((c.tc : Thread Cert.InPDwIdeal.nD Cert.InPDwIdeal.τ).loc Cert.InPDwIdeal.main_arg0)
      ∧ r.2.mem ((c.tc : Thread Cert.InPDwIdeal.nD Cert.InPDwIdeal.τ).loc Cert.InPDwIdeal.main_arg1) = m ((c.tc : Thread Cert.InPDwIdeal.nD Cert.InPDwIdeal.τ).loc Cert.InPDwIdeal.main_arg1))
      ∧ r.2.sem = fun _ => 0)

def quiescent_InPDwRefIdeal [hInPDwRefIdeal : Cert.InPDwRefIdeal.Facts] : Prop :=
  ∀ (m : (ℓ : Loc Cert.InPDwRefIdeal.nD Cert.InPDwRefIdeal.τ Cert.InPDwRefIdeal.sig) → Buf (Elt Ideal) ℓ) (g : Dev Cert.InPDwRefIdeal.nD → PrngReg), Pre_InPDwRefIdeal m →
    θ_run (Cert.InPDwRefIdeal.defs (F := Ideal)) (onTc (τ := Cert.InPDwRefIdeal.τ) (Cert.InPDwRefIdeal.main (F := Ideal))) ⟨m, fun _ => 0, g⟩ (fun r => (∀ c : Dev Cert.InPDwRefIdeal.nD,
      r.2.mem ((c.tc : Thread Cert.InPDwRefIdeal.nD Cert.InPDwRefIdeal.τ).loc Cert.InPDwRefIdeal.main_arg0) = m ((c.tc : Thread Cert.InPDwRefIdeal.nD Cert.InPDwRefIdeal.τ).loc Cert.InPDwRefIdeal.main_arg0)
      ∧ r.2.mem ((c.tc : Thread Cert.InPDwRefIdeal.nD Cert.InPDwRefIdeal.τ).loc Cert.InPDwRefIdeal.main_arg1) = m ((c.tc : Thread Cert.InPDwRefIdeal.nD Cert.InPDwRefIdeal.τ).loc Cert.InPDwRefIdeal.main_arg1))
      ∧ r.2.sem = fun _ => 0)

def quiescent_InXDw [hInXDw : Cert.InXDw.Facts] : Prop :=
  ∀ (m : (ℓ : Loc Cert.InXDw.nD Cert.InXDw.τ Cert.InXDw.sig) → Buf (Elt Bits) ℓ) (g : Dev Cert.InXDw.nD → PrngReg), Pre_InXDw m →
    θ_run (Cert.InXDw.defs (F := Bits)) (onTc (τ := Cert.InXDw.τ) (Cert.InXDw.main (F := Bits))) ⟨m, fun _ => 0, g⟩ (fun r => (∀ c : Dev Cert.InXDw.nD,
      r.2.mem ((c.tc : Thread Cert.InXDw.nD Cert.InXDw.τ).loc Cert.InXDw.main_arg0) = m ((c.tc : Thread Cert.InXDw.nD Cert.InXDw.τ).loc Cert.InXDw.main_arg0)
      ∧ r.2.mem ((c.tc : Thread Cert.InXDw.nD Cert.InXDw.τ).loc Cert.InXDw.main_arg1) = m ((c.tc : Thread Cert.InXDw.nD Cert.InXDw.τ).loc Cert.InXDw.main_arg1))
      ∧ r.2.sem = fun _ => 0)

def quiescent_InXDwIdeal [hInXDwIdeal : Cert.InXDwIdeal.Facts] : Prop :=
  ∀ (m : (ℓ : Loc Cert.InXDwIdeal.nD Cert.InXDwIdeal.τ Cert.InXDwIdeal.sig) → Buf (Elt Ideal) ℓ) (g : Dev Cert.InXDwIdeal.nD → PrngReg), Pre_InXDwIdeal m →
    θ_run (Cert.InXDwIdeal.defs (F := Ideal)) (onTc (τ := Cert.InXDwIdeal.τ) (Cert.InXDwIdeal.main (F := Ideal))) ⟨m, fun _ => 0, g⟩ (fun r => (∀ c : Dev Cert.InXDwIdeal.nD,
      r.2.mem ((c.tc : Thread Cert.InXDwIdeal.nD Cert.InXDwIdeal.τ).loc Cert.InXDwIdeal.main_arg0) = m ((c.tc : Thread Cert.InXDwIdeal.nD Cert.InXDwIdeal.τ).loc Cert.InXDwIdeal.main_arg0)
      ∧ r.2.mem ((c.tc : Thread Cert.InXDwIdeal.nD Cert.InXDwIdeal.τ).loc Cert.InXDwIdeal.main_arg1) = m ((c.tc : Thread Cert.InXDwIdeal.nD Cert.InXDwIdeal.τ).loc Cert.InXDwIdeal.main_arg1))
      ∧ r.2.sem = fun _ => 0)

def quiescent_InXDwRefIdeal [hInXDwRefIdeal : Cert.InXDwRefIdeal.Facts] : Prop :=
  ∀ (m : (ℓ : Loc Cert.InXDwRefIdeal.nD Cert.InXDwRefIdeal.τ Cert.InXDwRefIdeal.sig) → Buf (Elt Ideal) ℓ) (g : Dev Cert.InXDwRefIdeal.nD → PrngReg), Pre_InXDwRefIdeal m →
    θ_run (Cert.InXDwRefIdeal.defs (F := Ideal)) (onTc (τ := Cert.InXDwRefIdeal.τ) (Cert.InXDwRefIdeal.main (F := Ideal))) ⟨m, fun _ => 0, g⟩ (fun r => (∀ c : Dev Cert.InXDwRefIdeal.nD,
      r.2.mem ((c.tc : Thread Cert.InXDwRefIdeal.nD Cert.InXDwRefIdeal.τ).loc Cert.InXDwRefIdeal.main_arg0) = m ((c.tc : Thread Cert.InXDwRefIdeal.nD Cert.InXDwRefIdeal.τ).loc Cert.InXDwRefIdeal.main_arg0)
      ∧ r.2.mem ((c.tc : Thread Cert.InXDwRefIdeal.nD Cert.InXDwRefIdeal.τ).loc Cert.InXDwRefIdeal.main_arg1) = m ((c.tc : Thread Cert.InXDwRefIdeal.nD Cert.InXDwRefIdeal.τ).loc Cert.InXDwRefIdeal.main_arg1))
      ∧ r.2.sem = fun _ => 0)

def quiescent_InGDw [hInGDw : Cert.InGDw.Facts] : Prop :=
  ∀ (m : (ℓ : Loc Cert.InGDw.nD Cert.InGDw.τ Cert.InGDw.sig) → Buf (Elt Bits) ℓ) (g : Dev Cert.InGDw.nD → PrngReg), Pre_InGDw m →
    θ_run (Cert.InGDw.defs (F := Bits)) (onTc (τ := Cert.InGDw.τ) (Cert.InGDw.main (F := Bits))) ⟨m, fun _ => 0, g⟩ (fun r => (∀ c : Dev Cert.InGDw.nD,
      r.2.mem ((c.tc : Thread Cert.InGDw.nD Cert.InGDw.τ).loc Cert.InGDw.main_arg0) = m ((c.tc : Thread Cert.InGDw.nD Cert.InGDw.τ).loc Cert.InGDw.main_arg0)
      ∧ r.2.mem ((c.tc : Thread Cert.InGDw.nD Cert.InGDw.τ).loc Cert.InGDw.main_arg1) = m ((c.tc : Thread Cert.InGDw.nD Cert.InGDw.τ).loc Cert.InGDw.main_arg1))
      ∧ r.2.sem = fun _ => 0)

def quiescent_InGDwIdeal [hInGDwIdeal : Cert.InGDwIdeal.Facts] : Prop :=
  ∀ (m : (ℓ : Loc Cert.InGDwIdeal.nD Cert.InGDwIdeal.τ Cert.InGDwIdeal.sig) → Buf (Elt Ideal) ℓ) (g : Dev Cert.InGDwIdeal.nD → PrngReg), Pre_InGDwIdeal m →
    θ_run (Cert.InGDwIdeal.defs (F := Ideal)) (onTc (τ := Cert.InGDwIdeal.τ) (Cert.InGDwIdeal.main (F := Ideal))) ⟨m, fun _ => 0, g⟩ (fun r => (∀ c : Dev Cert.InGDwIdeal.nD,
      r.2.mem ((c.tc : Thread Cert.InGDwIdeal.nD Cert.InGDwIdeal.τ).loc Cert.InGDwIdeal.main_arg0) = m ((c.tc : Thread Cert.InGDwIdeal.nD Cert.InGDwIdeal.τ).loc Cert.InGDwIdeal.main_arg0)
      ∧ r.2.mem ((c.tc : Thread Cert.InGDwIdeal.nD Cert.InGDwIdeal.τ).loc Cert.InGDwIdeal.main_arg1) = m ((c.tc : Thread Cert.InGDwIdeal.nD Cert.InGDwIdeal.τ).loc Cert.InGDwIdeal.main_arg1))
      ∧ r.2.sem = fun _ => 0)

def quiescent_InGDwRefIdeal [hInGDwRefIdeal : Cert.InGDwRefIdeal.Facts] : Prop :=
  ∀ (m : (ℓ : Loc Cert.InGDwRefIdeal.nD Cert.InGDwRefIdeal.τ Cert.InGDwRefIdeal.sig) → Buf (Elt Ideal) ℓ) (g : Dev Cert.InGDwRefIdeal.nD → PrngReg), Pre_InGDwRefIdeal m →
    θ_run (Cert.InGDwRefIdeal.defs (F := Ideal)) (onTc (τ := Cert.InGDwRefIdeal.τ) (Cert.InGDwRefIdeal.main (F := Ideal))) ⟨m, fun _ => 0, g⟩ (fun r => (∀ c : Dev Cert.InGDwRefIdeal.nD,
      r.2.mem ((c.tc : Thread Cert.InGDwRefIdeal.nD Cert.InGDwRefIdeal.τ).loc Cert.InGDwRefIdeal.main_arg0) = m ((c.tc : Thread Cert.InGDwRefIdeal.nD Cert.InGDwRefIdeal.τ).loc Cert.InGDwRefIdeal.main_arg0)
      ∧ r.2.mem ((c.tc : Thread Cert.InGDwRefIdeal.nD Cert.InGDwRefIdeal.τ).loc Cert.InGDwRefIdeal.main_arg1) = m ((c.tc : Thread Cert.InGDwRefIdeal.nD Cert.InGDwRefIdeal.τ).loc Cert.InGDwRefIdeal.main_arg1))
      ∧ r.2.sem = fun _ => 0)

def quiescent_InFDw [hInFDw : Cert.InFDw.Facts] : Prop :=
  ∀ (m : (ℓ : Loc Cert.InFDw.nD Cert.InFDw.τ Cert.InFDw.sig) → Buf (Elt Bits) ℓ) (g : Dev Cert.InFDw.nD → PrngReg), Pre_InFDw m →
    θ_run (Cert.InFDw.defs (F := Bits)) (onTc (τ := Cert.InFDw.τ) (Cert.InFDw.main (F := Bits))) ⟨m, fun _ => 0, g⟩ (fun r => (∀ c : Dev Cert.InFDw.nD,
      r.2.mem ((c.tc : Thread Cert.InFDw.nD Cert.InFDw.τ).loc Cert.InFDw.main_arg0) = m ((c.tc : Thread Cert.InFDw.nD Cert.InFDw.τ).loc Cert.InFDw.main_arg0)
      ∧ r.2.mem ((c.tc : Thread Cert.InFDw.nD Cert.InFDw.τ).loc Cert.InFDw.main_arg1) = m ((c.tc : Thread Cert.InFDw.nD Cert.InFDw.τ).loc Cert.InFDw.main_arg1))
      ∧ r.2.sem = fun _ => 0)

def quiescent_InFDwIdeal [hInFDwIdeal : Cert.InFDwIdeal.Facts] : Prop :=
  ∀ (m : (ℓ : Loc Cert.InFDwIdeal.nD Cert.InFDwIdeal.τ Cert.InFDwIdeal.sig) → Buf (Elt Ideal) ℓ) (g : Dev Cert.InFDwIdeal.nD → PrngReg), Pre_InFDwIdeal m →
    θ_run (Cert.InFDwIdeal.defs (F := Ideal)) (onTc (τ := Cert.InFDwIdeal.τ) (Cert.InFDwIdeal.main (F := Ideal))) ⟨m, fun _ => 0, g⟩ (fun r => (∀ c : Dev Cert.InFDwIdeal.nD,
      r.2.mem ((c.tc : Thread Cert.InFDwIdeal.nD Cert.InFDwIdeal.τ).loc Cert.InFDwIdeal.main_arg0) = m ((c.tc : Thread Cert.InFDwIdeal.nD Cert.InFDwIdeal.τ).loc Cert.InFDwIdeal.main_arg0)
      ∧ r.2.mem ((c.tc : Thread Cert.InFDwIdeal.nD Cert.InFDwIdeal.τ).loc Cert.InFDwIdeal.main_arg1) = m ((c.tc : Thread Cert.InFDwIdeal.nD Cert.InFDwIdeal.τ).loc Cert.InFDwIdeal.main_arg1))
      ∧ r.2.sem = fun _ => 0)

def quiescent_InFDwRefIdeal [hInFDwRefIdeal : Cert.InFDwRefIdeal.Facts] : Prop :=
  ∀ (m : (ℓ : Loc Cert.InFDwRefIdeal.nD Cert.InFDwRefIdeal.τ Cert.InFDwRefIdeal.sig) → Buf (Elt Ideal) ℓ) (g : Dev Cert.InFDwRefIdeal.nD → PrngReg), Pre_InFDwRefIdeal m →
    θ_run (Cert.InFDwRefIdeal.defs (F := Ideal)) (onTc (τ := Cert.InFDwRefIdeal.τ) (Cert.InFDwRefIdeal.main (F := Ideal))) ⟨m, fun _ => 0, g⟩ (fun r => (∀ c : Dev Cert.InFDwRefIdeal.nD,
      r.2.mem ((c.tc : Thread Cert.InFDwRefIdeal.nD Cert.InFDwRefIdeal.τ).loc Cert.InFDwRefIdeal.main_arg0) = m ((c.tc : Thread Cert.InFDwRefIdeal.nD Cert.InFDwRefIdeal.τ).loc Cert.InFDwRefIdeal.main_arg0)
      ∧ r.2.mem ((c.tc : Thread Cert.InFDwRefIdeal.nD Cert.InFDwRefIdeal.τ).loc Cert.InFDwRefIdeal.main_arg1) = m ((c.tc : Thread Cert.InFDwRefIdeal.nD Cert.InFDwRefIdeal.τ).loc Cert.InFDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_PoolDx [hPoolDx : Cert.PoolDx.Facts] : Prop :=
  ∀ (m : (ℓ : Loc Cert.PoolDx.nD Cert.PoolDx.τ Cert.PoolDx.sig) → Buf (Elt Bits) ℓ) (g : Dev Cert.PoolDx.nD → PrngReg), Pre_PoolDx m →
    θ_run (Cert.PoolDx.defs (F := Bits)) (onTc (τ := Cert.PoolDx.τ) (Cert.PoolDx.main (F := Bits))) ⟨m, fun _ => 0, g⟩ (fun r => (∀ c : Dev Cert.PoolDx.nD,
      r.2.mem ((c.tc : Thread Cert.PoolDx.nD Cert.PoolDx.τ).loc Cert.PoolDx.main_arg0) = m ((c.tc : Thread Cert.PoolDx.nD Cert.PoolDx.τ).loc Cert.PoolDx.main_arg0)
      ∧ r.2.mem ((c.tc : Thread Cert.PoolDx.nD Cert.PoolDx.τ).loc Cert.PoolDx.main_arg1) = m ((c.tc : Thread Cert.PoolDx.nD Cert.PoolDx.τ).loc Cert.PoolDx.main_arg1))
      ∧ r.2.sem = fun _ => 0)

def quiescent_PoolDxIdeal [hPoolDxIdeal : Cert.PoolDxIdeal.Facts] : Prop :=
  ∀ (m : (ℓ : Loc Cert.PoolDxIdeal.nD Cert.PoolDxIdeal.τ Cert.PoolDxIdeal.sig) → Buf (Elt Ideal) ℓ) (g : Dev Cert.PoolDxIdeal.nD → PrngReg), Pre_PoolDxIdeal m →
    θ_run (Cert.PoolDxIdeal.defs (F := Ideal)) (onTc (τ := Cert.PoolDxIdeal.τ) (Cert.PoolDxIdeal.main (F := Ideal))) ⟨m, fun _ => 0, g⟩ (fun r => (∀ c : Dev Cert.PoolDxIdeal.nD,
      r.2.mem ((c.tc : Thread Cert.PoolDxIdeal.nD Cert.PoolDxIdeal.τ).loc Cert.PoolDxIdeal.main_arg0) = m ((c.tc : Thread Cert.PoolDxIdeal.nD Cert.PoolDxIdeal.τ).loc Cert.PoolDxIdeal.main_arg0)
      ∧ r.2.mem ((c.tc : Thread Cert.PoolDxIdeal.nD Cert.PoolDxIdeal.τ).loc Cert.PoolDxIdeal.main_arg1) = m ((c.tc : Thread Cert.PoolDxIdeal.nD Cert.PoolDxIdeal.τ).loc Cert.PoolDxIdeal.main_arg1))
      ∧ r.2.sem = fun _ => 0)

def quiescent_PoolDxRefIdeal [hPoolDxRefIdeal : Cert.PoolDxRefIdeal.Facts] : Prop :=
  ∀ (m : (ℓ : Loc Cert.PoolDxRefIdeal.nD Cert.PoolDxRefIdeal.τ Cert.PoolDxRefIdeal.sig) → Buf (Elt Ideal) ℓ) (g : Dev Cert.PoolDxRefIdeal.nD → PrngReg), Pre_PoolDxRefIdeal m →
    θ_run (Cert.PoolDxRefIdeal.defs (F := Ideal)) (onTc (τ := Cert.PoolDxRefIdeal.τ) (Cert.PoolDxRefIdeal.main (F := Ideal))) ⟨m, fun _ => 0, g⟩ (fun r => (∀ c : Dev Cert.PoolDxRefIdeal.nD,
      r.2.mem ((c.tc : Thread Cert.PoolDxRefIdeal.nD Cert.PoolDxRefIdeal.τ).loc Cert.PoolDxRefIdeal.main_arg0) = m ((c.tc : Thread Cert.PoolDxRefIdeal.nD Cert.PoolDxRefIdeal.τ).loc Cert.PoolDxRefIdeal.main_arg0)
      ∧ r.2.mem ((c.tc : Thread Cert.PoolDxRefIdeal.nD Cert.PoolDxRefIdeal.τ).loc Cert.PoolDxRefIdeal.main_arg1) = m ((c.tc : Thread Cert.PoolDxRefIdeal.nD Cert.PoolDxRefIdeal.τ).loc Cert.PoolDxRefIdeal.main_arg1))
      ∧ r.2.sem = fun _ => 0)

def quiescent_SsdDx [hSsdDx : Cert.SsdDx.Facts] : Prop :=
  ∀ (m : (ℓ : Loc Cert.SsdDx.nD Cert.SsdDx.τ Cert.SsdDx.sig) → Buf (Elt Bits) ℓ) (g : Dev Cert.SsdDx.nD → PrngReg), Pre_SsdDx m →
    θ_run (Cert.SsdDx.defs (F := Bits)) (onTc (τ := Cert.SsdDx.τ) (Cert.SsdDx.main (F := Bits))) ⟨m, fun _ => 0, g⟩ (fun r => (∀ c : Dev Cert.SsdDx.nD,
      r.2.mem ((c.tc : Thread Cert.SsdDx.nD Cert.SsdDx.τ).loc Cert.SsdDx.main_arg0) = m ((c.tc : Thread Cert.SsdDx.nD Cert.SsdDx.τ).loc Cert.SsdDx.main_arg0)
      ∧ r.2.mem ((c.tc : Thread Cert.SsdDx.nD Cert.SsdDx.τ).loc Cert.SsdDx.main_arg1) = m ((c.tc : Thread Cert.SsdDx.nD Cert.SsdDx.τ).loc Cert.SsdDx.main_arg1))
      ∧ r.2.sem = fun _ => 0)

def quiescent_SsdDxIdeal [hSsdDxIdeal : Cert.SsdDxIdeal.Facts] : Prop :=
  ∀ (m : (ℓ : Loc Cert.SsdDxIdeal.nD Cert.SsdDxIdeal.τ Cert.SsdDxIdeal.sig) → Buf (Elt Ideal) ℓ) (g : Dev Cert.SsdDxIdeal.nD → PrngReg), Pre_SsdDxIdeal m →
    θ_run (Cert.SsdDxIdeal.defs (F := Ideal)) (onTc (τ := Cert.SsdDxIdeal.τ) (Cert.SsdDxIdeal.main (F := Ideal))) ⟨m, fun _ => 0, g⟩ (fun r => (∀ c : Dev Cert.SsdDxIdeal.nD,
      r.2.mem ((c.tc : Thread Cert.SsdDxIdeal.nD Cert.SsdDxIdeal.τ).loc Cert.SsdDxIdeal.main_arg0) = m ((c.tc : Thread Cert.SsdDxIdeal.nD Cert.SsdDxIdeal.τ).loc Cert.SsdDxIdeal.main_arg0)
      ∧ r.2.mem ((c.tc : Thread Cert.SsdDxIdeal.nD Cert.SsdDxIdeal.τ).loc Cert.SsdDxIdeal.main_arg1) = m ((c.tc : Thread Cert.SsdDxIdeal.nD Cert.SsdDxIdeal.τ).loc Cert.SsdDxIdeal.main_arg1))
      ∧ r.2.sem = fun _ => 0)

def quiescent_SsdDxRefIdeal [hSsdDxRefIdeal : Cert.SsdDxRefIdeal.Facts] : Prop :=
  ∀ (m : (ℓ : Loc Cert.SsdDxRefIdeal.nD Cert.SsdDxRefIdeal.τ Cert.SsdDxRefIdeal.sig) → Buf (Elt Ideal) ℓ) (g : Dev Cert.SsdDxRefIdeal.nD → PrngReg), Pre_SsdDxRefIdeal m →
    θ_run (Cert.SsdDxRefIdeal.defs (F := Ideal)) (onTc (τ := Cert.SsdDxRefIdeal.τ) (Cert.SsdDxRefIdeal.main (F := Ideal))) ⟨m, fun _ => 0, g⟩ (fun r => (∀ c : Dev Cert.SsdDxRefIdeal.nD,
      r.2.mem ((c.tc : Thread Cert.SsdDxRefIdeal.nD Cert.SsdDxRefIdeal.τ).loc Cert.SsdDxRefIdeal.main_arg0) = m ((c.tc : Thread Cert.SsdDxRefIdeal.nD Cert.SsdDxRefIdeal.τ).loc Cert.SsdDxRefIdeal.main_arg0)
      ∧ r.2.mem ((c.tc : Thread Cert.SsdDxRefIdeal.nD Cert.SsdDxRefIdeal.τ).loc Cert.SsdDxRefIdeal.main_arg1) = m ((c.tc : Thread Cert.SsdDxRefIdeal.nD Cert.SsdDxRefIdeal.τ).loc Cert.SsdDxRefIdeal.main_arg1))
      ∧ r.2.sem = fun _ => 0)

def quiescent_InPDx [hInPDx : Cert.InPDx.Facts] : Prop :=
  ∀ (m : (ℓ : Loc Cert.InPDx.nD Cert.InPDx.τ Cert.InPDx.sig) → Buf (Elt Bits) ℓ) (g : Dev Cert.InPDx.nD → PrngReg), Pre_InPDx m →
    θ_run (Cert.InPDx.defs (F := Bits)) (onTc (τ := Cert.InPDx.τ) (Cert.InPDx.main (F := Bits))) ⟨m, fun _ => 0, g⟩ (fun r => (∀ c : Dev Cert.InPDx.nD,
      r.2.mem ((c.tc : Thread Cert.InPDx.nD Cert.InPDx.τ).loc Cert.InPDx.main_arg0) = m ((c.tc : Thread Cert.InPDx.nD Cert.InPDx.τ).loc Cert.InPDx.main_arg0)
      ∧ r.2.mem ((c.tc : Thread Cert.InPDx.nD Cert.InPDx.τ).loc Cert.InPDx.main_arg1) = m ((c.tc : Thread Cert.InPDx.nD Cert.InPDx.τ).loc Cert.InPDx.main_arg1))
      ∧ r.2.sem = fun _ => 0)

def quiescent_InPDxIdeal [hInPDxIdeal : Cert.InPDxIdeal.Facts] : Prop :=
  ∀ (m : (ℓ : Loc Cert.InPDxIdeal.nD Cert.InPDxIdeal.τ Cert.InPDxIdeal.sig) → Buf (Elt Ideal) ℓ) (g : Dev Cert.InPDxIdeal.nD → PrngReg), Pre_InPDxIdeal m →
    θ_run (Cert.InPDxIdeal.defs (F := Ideal)) (onTc (τ := Cert.InPDxIdeal.τ) (Cert.InPDxIdeal.main (F := Ideal))) ⟨m, fun _ => 0, g⟩ (fun r => (∀ c : Dev Cert.InPDxIdeal.nD,
      r.2.mem ((c.tc : Thread Cert.InPDxIdeal.nD Cert.InPDxIdeal.τ).loc Cert.InPDxIdeal.main_arg0) = m ((c.tc : Thread Cert.InPDxIdeal.nD Cert.InPDxIdeal.τ).loc Cert.InPDxIdeal.main_arg0)
      ∧ r.2.mem ((c.tc : Thread Cert.InPDxIdeal.nD Cert.InPDxIdeal.τ).loc Cert.InPDxIdeal.main_arg1) = m ((c.tc : Thread Cert.InPDxIdeal.nD Cert.InPDxIdeal.τ).loc Cert.InPDxIdeal.main_arg1))
      ∧ r.2.sem = fun _ => 0)

def quiescent_InPDxRefIdeal [hInPDxRefIdeal : Cert.InPDxRefIdeal.Facts] : Prop :=
  ∀ (m : (ℓ : Loc Cert.InPDxRefIdeal.nD Cert.InPDxRefIdeal.τ Cert.InPDxRefIdeal.sig) → Buf (Elt Ideal) ℓ) (g : Dev Cert.InPDxRefIdeal.nD → PrngReg), Pre_InPDxRefIdeal m →
    θ_run (Cert.InPDxRefIdeal.defs (F := Ideal)) (onTc (τ := Cert.InPDxRefIdeal.τ) (Cert.InPDxRefIdeal.main (F := Ideal))) ⟨m, fun _ => 0, g⟩ (fun r => (∀ c : Dev Cert.InPDxRefIdeal.nD,
      r.2.mem ((c.tc : Thread Cert.InPDxRefIdeal.nD Cert.InPDxRefIdeal.τ).loc Cert.InPDxRefIdeal.main_arg0) = m ((c.tc : Thread Cert.InPDxRefIdeal.nD Cert.InPDxRefIdeal.τ).loc Cert.InPDxRefIdeal.main_arg0)
      ∧ r.2.mem ((c.tc : Thread Cert.InPDxRefIdeal.nD Cert.InPDxRefIdeal.τ).loc Cert.InPDxRefIdeal.main_arg1) = m ((c.tc : Thread Cert.InPDxRefIdeal.nD Cert.InPDxRefIdeal.τ).loc Cert.InPDxRefIdeal.main_arg1))
      ∧ r.2.sem = fun _ => 0)

def quiescent_InZDx [hInZDx : Cert.InZDx.Facts] : Prop :=
  ∀ (m : (ℓ : Loc Cert.InZDx.nD Cert.InZDx.τ Cert.InZDx.sig) → Buf (Elt Bits) ℓ) (g : Dev Cert.InZDx.nD → PrngReg), Pre_InZDx m →
    θ_run (Cert.InZDx.defs (F := Bits)) (onTc (τ := Cert.InZDx.τ) (Cert.InZDx.main (F := Bits))) ⟨m, fun _ => 0, g⟩ (fun r => (∀ c : Dev Cert.InZDx.nD,
      r.2.mem ((c.tc : Thread Cert.InZDx.nD Cert.InZDx.τ).loc Cert.InZDx.main_arg0) = m ((c.tc : Thread Cert.InZDx.nD Cert.InZDx.τ).loc Cert.InZDx.main_arg0)
      ∧ r.2.mem ((c.tc : Thread Cert.InZDx.nD Cert.InZDx.τ).loc Cert.InZDx.main_arg1) = m ((c.tc : Thread Cert.InZDx.nD Cert.InZDx.τ).loc Cert.InZDx.main_arg1)
      ∧ r.2.mem ((c.tc : Thread Cert.InZDx.nD Cert.InZDx.τ).loc Cert.InZDx.main_arg2) = m ((c.tc : Thread Cert.InZDx.nD Cert.InZDx.τ).loc Cert.InZDx.main_arg2))
      ∧ r.2.sem = fun _ => 0)

def quiescent_InZDxIdeal [hInZDxIdeal : Cert.InZDxIdeal.Facts] : Prop :=
  ∀ (m : (ℓ : Loc Cert.InZDxIdeal.nD Cert.InZDxIdeal.τ Cert.InZDxIdeal.sig) → Buf (Elt Ideal) ℓ) (g : Dev Cert.InZDxIdeal.nD → PrngReg), Pre_InZDxIdeal m →
    θ_run (Cert.InZDxIdeal.defs (F := Ideal)) (onTc (τ := Cert.InZDxIdeal.τ) (Cert.InZDxIdeal.main (F := Ideal))) ⟨m, fun _ => 0, g⟩ (fun r => (∀ c : Dev Cert.InZDxIdeal.nD,
      r.2.mem ((c.tc : Thread Cert.InZDxIdeal.nD Cert.InZDxIdeal.τ).loc Cert.InZDxIdeal.main_arg0) = m ((c.tc : Thread Cert.InZDxIdeal.nD Cert.InZDxIdeal.τ).loc Cert.InZDxIdeal.main_arg0)
      ∧ r.2.mem ((c.tc : Thread Cert.InZDxIdeal.nD Cert.InZDxIdeal.τ).loc Cert.InZDxIdeal.main_arg1) = m ((c.tc : Thread Cert.InZDxIdeal.nD Cert.InZDxIdeal.τ).loc Cert.InZDxIdeal.main_arg1)
      ∧ r.2.mem ((c.tc : Thread Cert.InZDxIdeal.nD Cert.InZDxIdeal.τ).loc Cert.InZDxIdeal.main_arg2) = m ((c.tc : Thread Cert.InZDxIdeal.nD Cert.InZDxIdeal.τ).loc Cert.InZDxIdeal.main_arg2))
      ∧ r.2.sem = fun _ => 0)

def quiescent_InZDxRefIdeal [hInZDxRefIdeal : Cert.InZDxRefIdeal.Facts] : Prop :=
  ∀ (m : (ℓ : Loc Cert.InZDxRefIdeal.nD Cert.InZDxRefIdeal.τ Cert.InZDxRefIdeal.sig) → Buf (Elt Ideal) ℓ) (g : Dev Cert.InZDxRefIdeal.nD → PrngReg), Pre_InZDxRefIdeal m →
    θ_run (Cert.InZDxRefIdeal.defs (F := Ideal)) (onTc (τ := Cert.InZDxRefIdeal.τ) (Cert.InZDxRefIdeal.main (F := Ideal))) ⟨m, fun _ => 0, g⟩ (fun r => (∀ c : Dev Cert.InZDxRefIdeal.nD,
      r.2.mem ((c.tc : Thread Cert.InZDxRefIdeal.nD Cert.InZDxRefIdeal.τ).loc Cert.InZDxRefIdeal.main_arg0) = m ((c.tc : Thread Cert.InZDxRefIdeal.nD Cert.InZDxRefIdeal.τ).loc Cert.InZDxRefIdeal.main_arg0)
      ∧ r.2.mem ((c.tc : Thread Cert.InZDxRefIdeal.nD Cert.InZDxRefIdeal.τ).loc Cert.InZDxRefIdeal.main_arg1) = m ((c.tc : Thread Cert.InZDxRefIdeal.nD Cert.InZDxRefIdeal.τ).loc Cert.InZDxRefIdeal.main_arg1)
      ∧ r.2.mem ((c.tc : Thread Cert.InZDxRefIdeal.nD Cert.InZDxRefIdeal.τ).loc Cert.InZDxRefIdeal.main_arg2) = m ((c.tc : Thread Cert.InZDxRefIdeal.nD Cert.InZDxRefIdeal.τ).loc Cert.InZDxRefIdeal.main_arg2))
      ∧ r.2.sem = fun _ => 0)

def quiescent_InXDx [hInXDx : Cert.InXDx.Facts] : Prop :=
  ∀ (m : (ℓ : Loc Cert.InXDx.nD Cert.InXDx.τ Cert.InXDx.sig) → Buf (Elt Bits) ℓ) (g : Dev Cert.InXDx.nD → PrngReg), Pre_InXDx m →
    θ_run (Cert.InXDx.defs (F := Bits)) (onTc (τ := Cert.InXDx.τ) (Cert.InXDx.main (F := Bits))) ⟨m, fun _ => 0, g⟩ (fun r => (∀ c : Dev Cert.InXDx.nD,
      r.2.mem ((c.tc : Thread Cert.InXDx.nD Cert.InXDx.τ).loc Cert.InXDx.main_arg0) = m ((c.tc : Thread Cert.InXDx.nD Cert.InXDx.τ).loc Cert.InXDx.main_arg0)
      ∧ r.2.mem ((c.tc : Thread Cert.InXDx.nD Cert.InXDx.τ).loc Cert.InXDx.main_arg1) = m ((c.tc : Thread Cert.InXDx.nD Cert.InXDx.τ).loc Cert.InXDx.main_arg1)
      ∧ r.2.mem ((c.tc : Thread Cert.InXDx.nD Cert.InXDx.τ).loc Cert.InXDx.main_arg2) = m ((c.tc : Thread Cert.InXDx.nD Cert.InXDx.τ).loc Cert.InXDx.main_arg2))
      ∧ r.2.sem = fun _ => 0)

def quiescent_InXDxIdeal [hInXDxIdeal : Cert.InXDxIdeal.Facts] : Prop :=
  ∀ (m : (ℓ : Loc Cert.InXDxIdeal.nD Cert.InXDxIdeal.τ Cert.InXDxIdeal.sig) → Buf (Elt Ideal) ℓ) (g : Dev Cert.InXDxIdeal.nD → PrngReg), Pre_InXDxIdeal m →
    θ_run (Cert.InXDxIdeal.defs (F := Ideal)) (onTc (τ := Cert.InXDxIdeal.τ) (Cert.InXDxIdeal.main (F := Ideal))) ⟨m, fun _ => 0, g⟩ (fun r => (∀ c : Dev Cert.InXDxIdeal.nD,
      r.2.mem ((c.tc : Thread Cert.InXDxIdeal.nD Cert.InXDxIdeal.τ).loc Cert.InXDxIdeal.main_arg0) = m ((c.tc : Thread Cert.InXDxIdeal.nD Cert.InXDxIdeal.τ).loc Cert.InXDxIdeal.main_arg0)
      ∧ r.2.mem ((c.tc : Thread Cert.InXDxIdeal.nD Cert.InXDxIdeal.τ).loc Cert.InXDxIdeal.main_arg1) = m ((c.tc : Thread Cert.InXDxIdeal.nD Cert.InXDxIdeal.τ).loc Cert.InXDxIdeal.main_arg1)
      ∧ r.2.mem ((c.tc : Thread Cert.InXDxIdeal.nD Cert.InXDxIdeal.τ).loc Cert.InXDxIdeal.main_arg2) = m ((c.tc : Thread Cert.InXDxIdeal.nD Cert.InXDxIdeal.τ).loc Cert.InXDxIdeal.main_arg2))
      ∧ r.2.sem = fun _ => 0)

def quiescent_InXDxRefIdeal [hInXDxRefIdeal : Cert.InXDxRefIdeal.Facts] : Prop :=
  ∀ (m : (ℓ : Loc Cert.InXDxRefIdeal.nD Cert.InXDxRefIdeal.τ Cert.InXDxRefIdeal.sig) → Buf (Elt Ideal) ℓ) (g : Dev Cert.InXDxRefIdeal.nD → PrngReg), Pre_InXDxRefIdeal m →
    θ_run (Cert.InXDxRefIdeal.defs (F := Ideal)) (onTc (τ := Cert.InXDxRefIdeal.τ) (Cert.InXDxRefIdeal.main (F := Ideal))) ⟨m, fun _ => 0, g⟩ (fun r => (∀ c : Dev Cert.InXDxRefIdeal.nD,
      r.2.mem ((c.tc : Thread Cert.InXDxRefIdeal.nD Cert.InXDxRefIdeal.τ).loc Cert.InXDxRefIdeal.main_arg0) = m ((c.tc : Thread Cert.InXDxRefIdeal.nD Cert.InXDxRefIdeal.τ).loc Cert.InXDxRefIdeal.main_arg0)
      ∧ r.2.mem ((c.tc : Thread Cert.InXDxRefIdeal.nD Cert.InXDxRefIdeal.τ).loc Cert.InXDxRefIdeal.main_arg1) = m ((c.tc : Thread Cert.InXDxRefIdeal.nD Cert.InXDxRefIdeal.τ).loc Cert.InXDxRefIdeal.main_arg1)
      ∧ r.2.mem ((c.tc : Thread Cert.InXDxRefIdeal.nD Cert.InXDxRefIdeal.τ).loc Cert.InXDxRefIdeal.main_arg2) = m ((c.tc : Thread Cert.InXDxRefIdeal.nD Cert.InXDxRefIdeal.τ).loc Cert.InXDxRefIdeal.main_arg2))
      ∧ r.2.sem = fun _ => 0)

def quiescent_InGDx [hInGDx : Cert.InGDx.Facts] : Prop :=
  ∀ (m : (ℓ : Loc Cert.InGDx.nD Cert.InGDx.τ Cert.InGDx.sig) → Buf (Elt Bits) ℓ) (g : Dev Cert.InGDx.nD → PrngReg), Pre_InGDx m →
    θ_run (Cert.InGDx.defs (F := Bits)) (onTc (τ := Cert.InGDx.τ) (Cert.InGDx.main (F := Bits))) ⟨m, fun _ => 0, g⟩ (fun r => (∀ c : Dev Cert.InGDx.nD,
      r.2.mem ((c.tc : Thread Cert.InGDx.nD Cert.InGDx.τ).loc Cert.InGDx.main_arg0) = m ((c.tc : Thread Cert.InGDx.nD Cert.InGDx.τ).loc Cert.InGDx.main_arg0)
      ∧ r.2.mem ((c.tc : Thread Cert.InGDx.nD Cert.InGDx.τ).loc Cert.InGDx.main_arg1) = m ((c.tc : Thread Cert.InGDx.nD Cert.InGDx.τ).loc Cert.InGDx.main_arg1)
      ∧ r.2.mem ((c.tc : Thread Cert.InGDx.nD Cert.InGDx.τ).loc Cert.InGDx.main_arg2) = m ((c.tc : Thread Cert.InGDx.nD Cert.InGDx.τ).loc Cert.InGDx.main_arg2))
      ∧ r.2.sem = fun _ => 0)

def quiescent_InGDxIdeal [hInGDxIdeal : Cert.InGDxIdeal.Facts] : Prop :=
  ∀ (m : (ℓ : Loc Cert.InGDxIdeal.nD Cert.InGDxIdeal.τ Cert.InGDxIdeal.sig) → Buf (Elt Ideal) ℓ) (g : Dev Cert.InGDxIdeal.nD → PrngReg), Pre_InGDxIdeal m →
    θ_run (Cert.InGDxIdeal.defs (F := Ideal)) (onTc (τ := Cert.InGDxIdeal.τ) (Cert.InGDxIdeal.main (F := Ideal))) ⟨m, fun _ => 0, g⟩ (fun r => (∀ c : Dev Cert.InGDxIdeal.nD,
      r.2.mem ((c.tc : Thread Cert.InGDxIdeal.nD Cert.InGDxIdeal.τ).loc Cert.InGDxIdeal.main_arg0) = m ((c.tc : Thread Cert.InGDxIdeal.nD Cert.InGDxIdeal.τ).loc Cert.InGDxIdeal.main_arg0)
      ∧ r.2.mem ((c.tc : Thread Cert.InGDxIdeal.nD Cert.InGDxIdeal.τ).loc Cert.InGDxIdeal.main_arg1) = m ((c.tc : Thread Cert.InGDxIdeal.nD Cert.InGDxIdeal.τ).loc Cert.InGDxIdeal.main_arg1)
      ∧ r.2.mem ((c.tc : Thread Cert.InGDxIdeal.nD Cert.InGDxIdeal.τ).loc Cert.InGDxIdeal.main_arg2) = m ((c.tc : Thread Cert.InGDxIdeal.nD Cert.InGDxIdeal.τ).loc Cert.InGDxIdeal.main_arg2))
      ∧ r.2.sem = fun _ => 0)

def quiescent_InGDxRefIdeal [hInGDxRefIdeal : Cert.InGDxRefIdeal.Facts] : Prop :=
  ∀ (m : (ℓ : Loc Cert.InGDxRefIdeal.nD Cert.InGDxRefIdeal.τ Cert.InGDxRefIdeal.sig) → Buf (Elt Ideal) ℓ) (g : Dev Cert.InGDxRefIdeal.nD → PrngReg), Pre_InGDxRefIdeal m →
    θ_run (Cert.InGDxRefIdeal.defs (F := Ideal)) (onTc (τ := Cert.InGDxRefIdeal.τ) (Cert.InGDxRefIdeal.main (F := Ideal))) ⟨m, fun _ => 0, g⟩ (fun r => (∀ c : Dev Cert.InGDxRefIdeal.nD,
      r.2.mem ((c.tc : Thread Cert.InGDxRefIdeal.nD Cert.InGDxRefIdeal.τ).loc Cert.InGDxRefIdeal.main_arg0) = m ((c.tc : Thread Cert.InGDxRefIdeal.nD Cert.InGDxRefIdeal.τ).loc Cert.InGDxRefIdeal.main_arg0)
      ∧ r.2.mem ((c.tc : Thread Cert.InGDxRefIdeal.nD Cert.InGDxRefIdeal.τ).loc Cert.InGDxRefIdeal.main_arg1) = m ((c.tc : Thread Cert.InGDxRefIdeal.nD Cert.InGDxRefIdeal.τ).loc Cert.InGDxRefIdeal.main_arg1)
      ∧ r.2.mem ((c.tc : Thread Cert.InGDxRefIdeal.nD Cert.InGDxRefIdeal.τ).loc Cert.InGDxRefIdeal.main_arg2) = m ((c.tc : Thread Cert.InGDxRefIdeal.nD Cert.InGDxRefIdeal.τ).loc Cert.InGDxRefIdeal.main_arg2))
      ∧ r.2.sem = fun _ => 0)

def quiescent_InFDx [hInFDx : Cert.InFDx.Facts] : Prop :=
  ∀ (m : (ℓ : Loc Cert.InFDx.nD Cert.InFDx.τ Cert.InFDx.sig) → Buf (Elt Bits) ℓ) (g : Dev Cert.InFDx.nD → PrngReg), Pre_InFDx m →
    θ_run (Cert.InFDx.defs (F := Bits)) (onTc (τ := Cert.InFDx.τ) (Cert.InFDx.main (F := Bits))) ⟨m, fun _ => 0, g⟩ (fun r => (∀ c : Dev Cert.InFDx.nD,
      r.2.mem ((c.tc : Thread Cert.InFDx.nD Cert.InFDx.τ).loc Cert.InFDx.main_arg0) = m ((c.tc : Thread Cert.InFDx.nD Cert.InFDx.τ).loc Cert.InFDx.main_arg0)
      ∧ r.2.mem ((c.tc : Thread Cert.InFDx.nD Cert.InFDx.τ).loc Cert.InFDx.main_arg1) = m ((c.tc : Thread Cert.InFDx.nD Cert.InFDx.τ).loc Cert.InFDx.main_arg1)
      ∧ r.2.mem ((c.tc : Thread Cert.InFDx.nD Cert.InFDx.τ).loc Cert.InFDx.main_arg2) = m ((c.tc : Thread Cert.InFDx.nD Cert.InFDx.τ).loc Cert.InFDx.main_arg2))
      ∧ r.2.sem = fun _ => 0)

def quiescent_InFDxIdeal [hInFDxIdeal : Cert.InFDxIdeal.Facts] : Prop :=
  ∀ (m : (ℓ : Loc Cert.InFDxIdeal.nD Cert.InFDxIdeal.τ Cert.InFDxIdeal.sig) → Buf (Elt Ideal) ℓ) (g : Dev Cert.InFDxIdeal.nD → PrngReg), Pre_InFDxIdeal m →
    θ_run (Cert.InFDxIdeal.defs (F := Ideal)) (onTc (τ := Cert.InFDxIdeal.τ) (Cert.InFDxIdeal.main (F := Ideal))) ⟨m, fun _ => 0, g⟩ (fun r => (∀ c : Dev Cert.InFDxIdeal.nD,
      r.2.mem ((c.tc : Thread Cert.InFDxIdeal.nD Cert.InFDxIdeal.τ).loc Cert.InFDxIdeal.main_arg0) = m ((c.tc : Thread Cert.InFDxIdeal.nD Cert.InFDxIdeal.τ).loc Cert.InFDxIdeal.main_arg0)
      ∧ r.2.mem ((c.tc : Thread Cert.InFDxIdeal.nD Cert.InFDxIdeal.τ).loc Cert.InFDxIdeal.main_arg1) = m ((c.tc : Thread Cert.InFDxIdeal.nD Cert.InFDxIdeal.τ).loc Cert.InFDxIdeal.main_arg1)
      ∧ r.2.mem ((c.tc : Thread Cert.InFDxIdeal.nD Cert.InFDxIdeal.τ).loc Cert.InFDxIdeal.main_arg2) = m ((c.tc : Thread Cert.InFDxIdeal.nD Cert.InFDxIdeal.τ).loc Cert.InFDxIdeal.main_arg2))
      ∧ r.2.sem = fun _ => 0)

def quiescent_InFDxRefIdeal [hInFDxRefIdeal : Cert.InFDxRefIdeal.Facts] : Prop :=
  ∀ (m : (ℓ : Loc Cert.InFDxRefIdeal.nD Cert.InFDxRefIdeal.τ Cert.InFDxRefIdeal.sig) → Buf (Elt Ideal) ℓ) (g : Dev Cert.InFDxRefIdeal.nD → PrngReg), Pre_InFDxRefIdeal m →
    θ_run (Cert.InFDxRefIdeal.defs (F := Ideal)) (onTc (τ := Cert.InFDxRefIdeal.τ) (Cert.InFDxRefIdeal.main (F := Ideal))) ⟨m, fun _ => 0, g⟩ (fun r => (∀ c : Dev Cert.InFDxRefIdeal.nD,
      r.2.mem ((c.tc : Thread Cert.InFDxRefIdeal.nD Cert.InFDxRefIdeal.τ).loc Cert.InFDxRefIdeal.main_arg0) = m ((c.tc : Thread Cert.InFDxRefIdeal.nD Cert.InFDxRefIdeal.τ).loc Cert.InFDxRefIdeal.main_arg0)
      ∧ r.2.mem ((c.tc : Thread Cert.InFDxRefIdeal.nD Cert.InFDxRefIdeal.τ).loc Cert.InFDxRefIdeal.main_arg1) = m ((c.tc : Thread Cert.InFDxRefIdeal.nD Cert.InFDxRefIdeal.τ).loc Cert.InFDxRefIdeal.main_arg1)
      ∧ r.2.mem ((c.tc : Thread Cert.InFDxRefIdeal.nD Cert.InFDxRefIdeal.τ).loc Cert.InFDxRefIdeal.main_arg2) = m ((c.tc : Thread Cert.InFDxRefIdeal.nD Cert.InFDxRefIdeal.τ).loc Cert.InFDxRefIdeal.main_arg2))
      ∧ r.2.sem = fun _ => 0)

def quiescent_InP [hInP : Cert.InP.Facts] : Prop :=
  ∀ (m : (ℓ : Loc Cert.InP.nD Cert.InP.τ Cert.InP.sig) → Buf (Elt Bits) ℓ) (g : Dev Cert.InP.nD → PrngReg), Pre_InP m →
    θ_run (Cert.InP.defs (F := Bits)) (onTc (τ := Cert.InP.τ) (Cert.InP.main (F := Bits))) ⟨m, fun _ => 0, g⟩ (fun r => (∀ c : Dev Cert.InP.nD,
      r.2.mem ((c.tc : Thread Cert.InP.nD Cert.InP.τ).loc Cert.InP.main_arg0) = m ((c.tc : Thread Cert.InP.nD Cert.InP.τ).loc Cert.InP.main_arg0)
      ∧ r.2.mem ((c.tc : Thread Cert.InP.nD Cert.InP.τ).loc Cert.InP.main_arg1) = m ((c.tc : Thread Cert.InP.nD Cert.InP.τ).loc Cert.InP.main_arg1))
      ∧ r.2.sem = fun _ => 0)

def quiescent_InPIdeal [hInPIdeal : Cert.InPIdeal.Facts] : Prop :=
  ∀ (m : (ℓ : Loc Cert.InPIdeal.nD Cert.InPIdeal.τ Cert.InPIdeal.sig) → Buf (Elt Ideal) ℓ) (g : Dev Cert.InPIdeal.nD → PrngReg), Pre_InPIdeal m →
    θ_run (Cert.InPIdeal.defs (F := Ideal)) (onTc (τ := Cert.InPIdeal.τ) (Cert.InPIdeal.main (F := Ideal))) ⟨m, fun _ => 0, g⟩ (fun r => (∀ c : Dev Cert.InPIdeal.nD,
      r.2.mem ((c.tc : Thread Cert.InPIdeal.nD Cert.InPIdeal.τ).loc Cert.InPIdeal.main_arg0) = m ((c.tc : Thread Cert.InPIdeal.nD Cert.InPIdeal.τ).loc Cert.InPIdeal.main_arg0)
      ∧ r.2.mem ((c.tc : Thread Cert.InPIdeal.nD Cert.InPIdeal.τ).loc Cert.InPIdeal.main_arg1) = m ((c.tc : Thread Cert.InPIdeal.nD Cert.InPIdeal.τ).loc Cert.InPIdeal.main_arg1))
      ∧ r.2.sem = fun _ => 0)

def quiescent_InPRefIdeal [hInPRefIdeal : Cert.InPRefIdeal.Facts] : Prop :=
  ∀ (m : (ℓ : Loc Cert.InPRefIdeal.nD Cert.InPRefIdeal.τ Cert.InPRefIdeal.sig) → Buf (Elt Ideal) ℓ) (g : Dev Cert.InPRefIdeal.nD → PrngReg), Pre_InPRefIdeal m →
    θ_run (Cert.InPRefIdeal.defs (F := Ideal)) (onTc (τ := Cert.InPRefIdeal.τ) (Cert.InPRefIdeal.main (F := Ideal))) ⟨m, fun _ => 0, g⟩ (fun r => (∀ c : Dev Cert.InPRefIdeal.nD,
      r.2.mem ((c.tc : Thread Cert.InPRefIdeal.nD Cert.InPRefIdeal.τ).loc Cert.InPRefIdeal.main_arg0) = m ((c.tc : Thread Cert.InPRefIdeal.nD Cert.InPRefIdeal.τ).loc Cert.InPRefIdeal.main_arg0)
      ∧ r.2.mem ((c.tc : Thread Cert.InPRefIdeal.nD Cert.InPRefIdeal.τ).loc Cert.InPRefIdeal.main_arg1) = m ((c.tc : Thread Cert.InPRefIdeal.nD Cert.InPRefIdeal.τ).loc Cert.InPRefIdeal.main_arg1))
      ∧ r.2.sem = fun _ => 0)

def quiescent_InZ [hInZ : Cert.InZ.Facts] : Prop :=
  ∀ (m : (ℓ : Loc Cert.InZ.nD Cert.InZ.τ Cert.InZ.sig) → Buf (Elt Bits) ℓ) (g : Dev Cert.InZ.nD → PrngReg), Pre_InZ m →
    θ_run (Cert.InZ.defs (F := Bits)) (onTc (τ := Cert.InZ.τ) (Cert.InZ.main (F := Bits))) ⟨m, fun _ => 0, g⟩ (fun r => (∀ c : Dev Cert.InZ.nD,
      r.2.mem ((c.tc : Thread Cert.InZ.nD Cert.InZ.τ).loc Cert.InZ.main_arg0) = m ((c.tc : Thread Cert.InZ.nD Cert.InZ.τ).loc Cert.InZ.main_arg0)
      ∧ r.2.mem ((c.tc : Thread Cert.InZ.nD Cert.InZ.τ).loc Cert.InZ.main_arg1) = m ((c.tc : Thread Cert.InZ.nD Cert.InZ.τ).loc Cert.InZ.main_arg1))
      ∧ r.2.sem = fun _ => 0)

def quiescent_InZIdeal [hInZIdeal : Cert.InZIdeal.Facts] : Prop :=
  ∀ (m : (ℓ : Loc Cert.InZIdeal.nD Cert.InZIdeal.τ Cert.InZIdeal.sig) → Buf (Elt Ideal) ℓ) (g : Dev Cert.InZIdeal.nD → PrngReg), Pre_InZIdeal m →
    θ_run (Cert.InZIdeal.defs (F := Ideal)) (onTc (τ := Cert.InZIdeal.τ) (Cert.InZIdeal.main (F := Ideal))) ⟨m, fun _ => 0, g⟩ (fun r => (∀ c : Dev Cert.InZIdeal.nD,
      r.2.mem ((c.tc : Thread Cert.InZIdeal.nD Cert.InZIdeal.τ).loc Cert.InZIdeal.main_arg0) = m ((c.tc : Thread Cert.InZIdeal.nD Cert.InZIdeal.τ).loc Cert.InZIdeal.main_arg0)
      ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ r.2.sem = fun _ => 0)

def quiescent_InZRefIdeal [hInZRefIdeal : Cert.InZRefIdeal.Facts] : Prop :=
  ∀ (m : (ℓ : Loc Cert.InZRefIdeal.nD Cert.InZRefIdeal.τ Cert.InZRefIdeal.sig) → Buf (Elt Ideal) ℓ) (g : Dev Cert.InZRefIdeal.nD → PrngReg), Pre_InZRefIdeal m →
    θ_run (Cert.InZRefIdeal.defs (F := Ideal)) (onTc (τ := Cert.InZRefIdeal.τ) (Cert.InZRefIdeal.main (F := Ideal))) ⟨m, fun _ => 0, g⟩ (fun r => (∀ c : Dev Cert.InZRefIdeal.nD,
      r.2.mem ((c.tc : Thread Cert.InZRefIdeal.nD Cert.InZRefIdeal.τ).loc Cert.InZRefIdeal.main_arg0) = m ((c.tc : Thread Cert.InZRefIdeal.nD Cert.InZRefIdeal.τ).loc Cert.InZRefIdeal.main_arg0)
      ∧ r.2.mem ((c.tc : Thread Cert.InZRefIdeal.nD Cert.InZRefIdeal.τ).loc Cert.InZRefIdeal.main_arg1) = m ((c.tc : Thread Cert.InZRefIdeal.nD Cert.InZRefIdeal.τ).loc Cert.InZRefIdeal.main_arg1))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1))
      ∧ r.2.sem = fun _ => 0)

def quiescent_InXRefIdeal [hInXRefIdeal : Cert.InXRefIdeal.Facts] : Prop :=
  ∀ (m : (ℓ : Loc Cert.InXRefIdeal.nD Cert.InXRefIdeal.τ Cert.InXRefIdeal.sig) → Buf (Elt Ideal) ℓ) (g : Dev Cert.InXRefIdeal.nD → PrngReg), Pre_InXRefIdeal m →
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1))
      ∧ r.2.sem = fun _ => 0)

def quiescent_InG [hInG : Cert.InG.Facts] : Prop :=
  ∀ (m : (ℓ : Loc Cert.InG.nD Cert.InG.τ Cert.InG.sig) → Buf (Elt Bits) ℓ) (g : Dev Cert.InG.nD → PrngReg), Pre_InG m →
    θ_run (Cert.InG.defs (F := Bits)) (onTc (τ := Cert.InG.τ) (Cert.InG.main (F := Bits))) ⟨m, fun _ => 0, g⟩ (fun r => (∀ c : Dev Cert.InG.nD,
      r.2.mem ((c.tc : Thread Cert.InG.nD Cert.InG.τ).loc Cert.InG.main_arg0) = m ((c.tc : Thread Cert.InG.nD Cert.InG.τ).loc Cert.InG.main_arg0)
      ∧ r.2.mem ((c.tc : Thread Cert.InG.nD Cert.InG.τ).loc Cert.InG.main_arg1) = m ((c.tc : Thread Cert.InG.nD Cert.InG.τ).loc Cert.InG.main_arg1))
      ∧ r.2.sem = fun _ => 0)

def quiescent_InGIdeal [hInGIdeal : Cert.InGIdeal.Facts] : Prop :=
  ∀ (m : (ℓ : Loc Cert.InGIdeal.nD Cert.InGIdeal.τ Cert.InGIdeal.sig) → Buf (Elt Ideal) ℓ) (g : Dev Cert.InGIdeal.nD → PrngReg), Pre_InGIdeal m →
    θ_run (Cert.InGIdeal.defs (F := Ideal)) (onTc (τ := Cert.InGIdeal.τ) (Cert.InGIdeal.main (F := Ideal))) ⟨m, fun _ => 0, g⟩ (fun r => (∀ c : Dev Cert.InGIdeal.nD,
      r.2.mem ((c.tc : Thread Cert.InGIdeal.nD Cert.InGIdeal.τ).loc Cert.InGIdeal.main_arg0) = m ((c.tc : Thread Cert.InGIdeal.nD Cert.InGIdeal.τ).loc Cert.InGIdeal.main_arg0)
      ∧ r.2.mem ((c.tc : Thread Cert.InGIdeal.nD Cert.InGIdeal.τ).loc Cert.InGIdeal.main_arg1) = m ((c.tc : Thread Cert.InGIdeal.nD Cert.InGIdeal.τ).loc Cert.InGIdeal.main_arg1))
      ∧ r.2.sem = fun _ => 0)

def quiescent_InGRefIdeal [hInGRefIdeal : Cert.InGRefIdeal.Facts] : Prop :=
  ∀ (m : (ℓ : Loc Cert.InGRefIdeal.nD Cert.InGRefIdeal.τ Cert.InGRefIdeal.sig) → Buf (Elt Ideal) ℓ) (g : Dev Cert.InGRefIdeal.nD → PrngReg), Pre_InGRefIdeal m →
    θ_run (Cert.InGRefIdeal.defs (F := Ideal)) (onTc (τ := Cert.InGRefIdeal.τ) (Cert.InGRefIdeal.main (F := Ideal))) ⟨m, fun _ => 0, g⟩ (fun r => (∀ c : Dev Cert.InGRefIdeal.nD,
      r.2.mem ((c.tc : Thread Cert.InGRefIdeal.nD Cert.InGRefIdeal.τ).loc Cert.InGRefIdeal.main_arg0) = m ((c.tc : Thread Cert.InGRefIdeal.nD Cert.InGRefIdeal.τ).loc Cert.InGRefIdeal.main_arg0)
      ∧ r.2.mem ((c.tc : Thread Cert.InGRefIdeal.nD Cert.InGRefIdeal.τ).loc Cert.InGRefIdeal.main_arg1) = m ((c.tc : Thread Cert.InGRefIdeal.nD Cert.InGRefIdeal.τ).loc Cert.InGRefIdeal.main_arg1))
      ∧ r.2.sem = fun _ => 0)

def quiescent_InF [hInF : Cert.InF.Facts] : Prop :=
  ∀ (m : (ℓ : Loc Cert.InF.nD Cert.InF.τ Cert.InF.sig) → Buf (Elt Bits) ℓ) (g : Dev Cert.InF.nD → PrngReg), Pre_InF m →
    θ_run (Cert.InF.defs (F := Bits)) (onTc (τ := Cert.InF.τ) (Cert.InF.main (F := Bits))) ⟨m, fun _ => 0, g⟩ (fun r => (∀ c : Dev Cert.InF.nD,
      r.2.mem ((c.tc : Thread Cert.InF.nD Cert.InF.τ).loc Cert.InF.main_arg0) = m ((c.tc : Thread Cert.InF.nD Cert.InF.τ).loc Cert.InF.main_arg0)
      ∧ r.2.mem ((c.tc : Thread Cert.InF.nD Cert.InF.τ).loc Cert.InF.main_arg1) = m ((c.tc : Thread Cert.InF.nD Cert.InF.τ).loc Cert.InF.main_arg1))
      ∧ r.2.sem = fun _ => 0)

def quiescent_InFIdeal [hInFIdeal : Cert.InFIdeal.Facts] : Prop :=
  ∀ (m : (ℓ : Loc Cert.InFIdeal.nD Cert.InFIdeal.τ Cert.InFIdeal.sig) → Buf (Elt Ideal) ℓ) (g : Dev Cert.InFIdeal.nD → PrngReg), Pre_InFIdeal m →
    θ_run (Cert.InFIdeal.defs (F := Ideal)) (onTc (τ := Cert.InFIdeal.τ) (Cert.InFIdeal.main (F := Ideal))) ⟨m, fun _ => 0, g⟩ (fun r => (∀ c : Dev Cert.InFIdeal.nD,
      r.2.mem ((c.tc : Thread Cert.InFIdeal.nD Cert.InFIdeal.τ).loc Cert.InFIdeal.main_arg0) = m ((c.tc : Thread Cert.InFIdeal.nD Cert.InFIdeal.τ).loc Cert.InFIdeal.main_arg0)
      ∧ r.2.mem ((c.tc : Thread Cert.InFIdeal.nD Cert.InFIdeal.τ).loc Cert.InFIdeal.main_arg1) = m ((c.tc : Thread Cert.InFIdeal.nD Cert.InFIdeal.τ).loc Cert.InFIdeal.main_arg1))
      ∧ r.2.sem = fun _ => 0)

def quiescent_InFRefIdeal [hInFRefIdeal : Cert.InFRefIdeal.Facts] : Prop :=
  ∀ (m : (ℓ : Loc Cert.InFRefIdeal.nD Cert.InFRefIdeal.τ Cert.InFRefIdeal.sig) → Buf (Elt Ideal) ℓ) (g : Dev Cert.InFRefIdeal.nD → PrngReg), Pre_InFRefIdeal m →
    θ_run (Cert.InFRefIdeal.defs (F := Ideal)) (onTc (τ := Cert.InFRefIdeal.τ) (Cert.InFRefIdeal.main (F := Ideal))) ⟨m, fun _ => 0, g⟩ (fun r => (∀ c : Dev Cert.InFRefIdeal.nD,
      r.2.mem ((c.tc : Thread Cert.InFRefIdeal.nD Cert.InFRefIdeal.τ).loc Cert.InFRefIdeal.main_arg0) = m ((c.tc : Thread Cert.InFRefIdeal.nD Cert.InFRefIdeal.τ).loc Cert.InFRefIdeal.main_arg0)
      ∧ r.2.mem ((c.tc : Thread Cert.InFRefIdeal.nD Cert.InFRefIdeal.τ).loc Cert.InFRefIdeal.main_arg1) = m ((c.tc : Thread Cert.InFRefIdeal.nD Cert.InFRefIdeal.τ).loc Cert.InFRefIdeal.main_arg1))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v4) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v5) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v4) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v4) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_PoolDw_PoolDwIdeal : Prop :=
  True

def algebraic_PoolDwIdeal_PoolDwRefIdeal [hPoolDwIdeal : Cert.PoolDwIdeal.Facts] [hPoolDwRefIdeal : Cert.PoolDwRefIdeal.Facts] : Prop :=
  ∀ (m : (ℓ : Loc Cert.PoolDwIdeal.nD Cert.PoolDwIdeal.τ Cert.PoolDwIdeal.sig) → Buf (Elt Ideal) ℓ) (g : Dev Cert.PoolDwIdeal.nD → PrngReg)
    (m' : (ℓ : Loc Cert.PoolDwRefIdeal.nD Cert.PoolDwRefIdeal.τ Cert.PoolDwRefIdeal.sig) → Buf (Elt Ideal) ℓ) (g' : Dev Cert.PoolDwRefIdeal.nD → PrngReg), Pre_PoolDwIdeal m →
    (∀ c : Dev Cert.PoolDwIdeal.nD,
      m' ((c.tc : Thread Cert.PoolDwRefIdeal.nD Cert.PoolDwRefIdeal.τ).loc Cert.PoolDwRefIdeal.main_arg0) = m ((c.tc : Thread Cert.PoolDwIdeal.nD Cert.PoolDwIdeal.τ).loc Cert.PoolDwIdeal.main_arg0)
      ∧ m' ((c.tc : Thread Cert.PoolDwRefIdeal.nD Cert.PoolDwRefIdeal.τ).loc Cert.PoolDwRefIdeal.main_arg1) = m ((c.tc : Thread Cert.PoolDwIdeal.nD Cert.PoolDwIdeal.τ).loc Cert.PoolDwIdeal.main_arg1)) →
    ∃ (v0 : (c : Dev Cert.PoolDwIdeal.nD) → Buf (Elt Ideal) ((c.tc : Thread Cert.PoolDwIdeal.nD Cert.PoolDwIdeal.τ).loc Cert.PoolDwIdeal.main_v0)),
      θ_run (Cert.PoolDwIdeal.defs (F := Ideal)) (onTc (τ := Cert.PoolDwIdeal.τ) (Cert.PoolDwIdeal.main (F := Ideal))) ⟨m, fun _ => 0, g⟩ (fun r => ∀ c : Dev Cert.PoolDwIdeal.nD,
          r.2.mem ((c.tc : Thread Cert.PoolDwIdeal.nD Cert.PoolDwIdeal.τ).loc Cert.PoolDwIdeal.main_v0) = v0 c
          ∧ r.2.mem ((c.tc : Thread Cert.PoolDwIdeal.nD Cert.PoolDwIdeal.τ).loc Cert.PoolDwIdeal.main_arg0) = m ((c.tc : Thread Cert.PoolDwIdeal.nD Cert.PoolDwIdeal.τ).loc Cert.PoolDwIdeal.main_arg0)
          ∧ r.2.mem ((c.tc : Thread Cert.PoolDwIdeal.nD Cert.PoolDwIdeal.τ).loc Cert.PoolDwIdeal.main_arg1) = m ((c.tc : Thread Cert.PoolDwIdeal.nD Cert.PoolDwIdeal.τ).loc Cert.PoolDwIdeal.main_arg1))
      ∧ θ_run (Cert.PoolDwRefIdeal.defs (F := Ideal)) (onTc (τ := Cert.PoolDwRefIdeal.τ) (Cert.PoolDwRefIdeal.main (F := Ideal))) ⟨m', fun _ => 0, g'⟩ (fun r => ∀ c : Dev Cert.PoolDwRefIdeal.nD,
          r.2.mem ((c.tc : Thread Cert.PoolDwRefIdeal.nD Cert.PoolDwRefIdeal.τ).loc Cert.PoolDwRefIdeal.main_v5) = v0 c
          ∧ r.2.mem ((c.tc : Thread Cert.PoolDwRefIdeal.nD Cert.PoolDwRefIdeal.τ).loc Cert.PoolDwRefIdeal.main_arg0) = m' ((c.tc : Thread Cert.PoolDwRefIdeal.nD Cert.PoolDwRefIdeal.τ).loc Cert.PoolDwRefIdeal.main_arg0)
          ∧ r.2.mem ((c.tc : Thread Cert.PoolDwRefIdeal.nD Cert.PoolDwRefIdeal.τ).loc Cert.PoolDwRefIdeal.main_arg1) = m' ((c.tc : Thread Cert.PoolDwRefIdeal.nD Cert.PoolDwRefIdeal.τ).loc Cert.PoolDwRefIdeal.main_arg1))

def preserves_AttnDw_AttnDwIdeal : Prop :=
  True

def algebraic_AttnDwIdeal_AttnDwRefIdeal [hAttnDwIdeal : Cert.AttnDwIdeal.Facts] [hAttnDwRefIdeal : Cert.AttnDwRefIdeal.Facts] : Prop :=
  ∀ (m : (ℓ : Loc Cert.AttnDwIdeal.nD Cert.AttnDwIdeal.τ Cert.AttnDwIdeal.sig) → Buf (Elt Ideal) ℓ) (g : Dev Cert.AttnDwIdeal.nD → PrngReg)
    (m' : (ℓ : Loc Cert.AttnDwRefIdeal.nD Cert.AttnDwRefIdeal.τ Cert.AttnDwRefIdeal.sig) → Buf (Elt Ideal) ℓ) (g' : Dev Cert.AttnDwRefIdeal.nD → PrngReg), Pre_AttnDwIdeal m →
    (∀ c : Dev Cert.AttnDwIdeal.nD,
      m' ((c.tc : Thread Cert.AttnDwRefIdeal.nD Cert.AttnDwRefIdeal.τ).loc Cert.AttnDwRefIdeal.main_arg0) = m ((c.tc : Thread Cert.AttnDwIdeal.nD Cert.AttnDwIdeal.τ).loc Cert.AttnDwIdeal.main_arg0)
      ∧ m' ((c.tc : Thread Cert.AttnDwRefIdeal.nD Cert.AttnDwRefIdeal.τ).loc Cert.AttnDwRefIdeal.main_arg1) = m ((c.tc : Thread Cert.AttnDwIdeal.nD Cert.AttnDwIdeal.τ).loc Cert.AttnDwIdeal.main_arg1)) →
    ∃ (v0 : (c : Dev Cert.AttnDwIdeal.nD) → Buf (Elt Ideal) ((c.tc : Thread Cert.AttnDwIdeal.nD Cert.AttnDwIdeal.τ).loc Cert.AttnDwIdeal.main_v0)),
      θ_run (Cert.AttnDwIdeal.defs (F := Ideal)) (onTc (τ := Cert.AttnDwIdeal.τ) (Cert.AttnDwIdeal.main (F := Ideal))) ⟨m, fun _ => 0, g⟩ (fun r => ∀ c : Dev Cert.AttnDwIdeal.nD,
          r.2.mem ((c.tc : Thread Cert.AttnDwIdeal.nD Cert.AttnDwIdeal.τ).loc Cert.AttnDwIdeal.main_v0) = v0 c
          ∧ r.2.mem ((c.tc : Thread Cert.AttnDwIdeal.nD Cert.AttnDwIdeal.τ).loc Cert.AttnDwIdeal.main_arg0) = m ((c.tc : Thread Cert.AttnDwIdeal.nD Cert.AttnDwIdeal.τ).loc Cert.AttnDwIdeal.main_arg0)
          ∧ r.2.mem ((c.tc : Thread Cert.AttnDwIdeal.nD Cert.AttnDwIdeal.τ).loc Cert.AttnDwIdeal.main_arg1) = m ((c.tc : Thread Cert.AttnDwIdeal.nD Cert.AttnDwIdeal.τ).loc Cert.AttnDwIdeal.main_arg1))
      ∧ θ_run (Cert.AttnDwRefIdeal.defs (F := Ideal)) (onTc (τ := Cert.AttnDwRefIdeal.τ) (Cert.AttnDwRefIdeal.main (F := Ideal))) ⟨m', fun _ => 0, g'⟩ (fun r => ∀ c : Dev Cert.AttnDwRefIdeal.nD,
          r.2.mem ((c.tc : Thread Cert.AttnDwRefIdeal.nD Cert.AttnDwRefIdeal.τ).loc Cert.AttnDwRefIdeal.main_v4) = v0 c
          ∧ r.2.mem ((c.tc : Thread Cert.AttnDwRefIdeal.nD Cert.AttnDwRefIdeal.τ).loc Cert.AttnDwRefIdeal.main_arg0) = m' ((c.tc : Thread Cert.AttnDwRefIdeal.nD Cert.AttnDwRefIdeal.τ).loc Cert.AttnDwRefIdeal.main_arg0)
          ∧ r.2.mem ((c.tc : Thread Cert.AttnDwRefIdeal.nD Cert.AttnDwRefIdeal.τ).loc Cert.AttnDwRefIdeal.main_arg1) = m' ((c.tc : Thread Cert.AttnDwRefIdeal.nD Cert.AttnDwRefIdeal.τ).loc Cert.AttnDwRefIdeal.main_arg1))

def preserves_SsdDw_SsdDwIdeal : Prop :=
  True

def algebraic_SsdDwIdeal_SsdDwRefIdeal [hSsdDwIdeal : Cert.SsdDwIdeal.Facts] [hSsdDwRefIdeal : Cert.SsdDwRefIdeal.Facts] : Prop :=
  ∀ (m : (ℓ : Loc Cert.SsdDwIdeal.nD Cert.SsdDwIdeal.τ Cert.SsdDwIdeal.sig) → Buf (Elt Ideal) ℓ) (g : Dev Cert.SsdDwIdeal.nD → PrngReg)
    (m' : (ℓ : Loc Cert.SsdDwRefIdeal.nD Cert.SsdDwRefIdeal.τ Cert.SsdDwRefIdeal.sig) → Buf (Elt Ideal) ℓ) (g' : Dev Cert.SsdDwRefIdeal.nD → PrngReg), Pre_SsdDwIdeal m →
    (∀ c : Dev Cert.SsdDwIdeal.nD,
      m' ((c.tc : Thread Cert.SsdDwRefIdeal.nD Cert.SsdDwRefIdeal.τ).loc Cert.SsdDwRefIdeal.main_arg0) = m ((c.tc : Thread Cert.SsdDwIdeal.nD Cert.SsdDwIdeal.τ).loc Cert.SsdDwIdeal.main_arg0)
      ∧ m' ((c.tc : Thread Cert.SsdDwRefIdeal.nD Cert.SsdDwRefIdeal.τ).loc Cert.SsdDwRefIdeal.main_arg1) = m ((c.tc : Thread Cert.SsdDwIdeal.nD Cert.SsdDwIdeal.τ).loc Cert.SsdDwIdeal.main_arg1)) →
    ∃ (v0 : (c : Dev Cert.SsdDwIdeal.nD) → Buf (Elt Ideal) ((c.tc : Thread Cert.SsdDwIdeal.nD Cert.SsdDwIdeal.τ).loc Cert.SsdDwIdeal.main_v0)),
      θ_run (Cert.SsdDwIdeal.defs (F := Ideal)) (onTc (τ := Cert.SsdDwIdeal.τ) (Cert.SsdDwIdeal.main (F := Ideal))) ⟨m, fun _ => 0, g⟩ (fun r => ∀ c : Dev Cert.SsdDwIdeal.nD,
          r.2.mem ((c.tc : Thread Cert.SsdDwIdeal.nD Cert.SsdDwIdeal.τ).loc Cert.SsdDwIdeal.main_v0) = v0 c
          ∧ r.2.mem ((c.tc : Thread Cert.SsdDwIdeal.nD Cert.SsdDwIdeal.τ).loc Cert.SsdDwIdeal.main_arg0) = m ((c.tc : Thread Cert.SsdDwIdeal.nD Cert.SsdDwIdeal.τ).loc Cert.SsdDwIdeal.main_arg0)
          ∧ r.2.mem ((c.tc : Thread Cert.SsdDwIdeal.nD Cert.SsdDwIdeal.τ).loc Cert.SsdDwIdeal.main_arg1) = m ((c.tc : Thread Cert.SsdDwIdeal.nD Cert.SsdDwIdeal.τ).loc Cert.SsdDwIdeal.main_arg1))
      ∧ θ_run (Cert.SsdDwRefIdeal.defs (F := Ideal)) (onTc (τ := Cert.SsdDwRefIdeal.τ) (Cert.SsdDwRefIdeal.main (F := Ideal))) ⟨m', fun _ => 0, g'⟩ (fun r => ∀ c : Dev Cert.SsdDwRefIdeal.nD,
          r.2.mem ((c.tc : Thread Cert.SsdDwRefIdeal.nD Cert.SsdDwRefIdeal.τ).loc Cert.SsdDwRefIdeal.main_v5) = v0 c
          ∧ r.2.mem ((c.tc : Thread Cert.SsdDwRefIdeal.nD Cert.SsdDwRefIdeal.τ).loc Cert.SsdDwRefIdeal.main_arg0) = m' ((c.tc : Thread Cert.SsdDwRefIdeal.nD Cert.SsdDwRefIdeal.τ).loc Cert.SsdDwRefIdeal.main_arg0)
          ∧ r.2.mem ((c.tc : Thread Cert.SsdDwRefIdeal.nD Cert.SsdDwRefIdeal.τ).loc Cert.SsdDwRefIdeal.main_arg1) = m' ((c.tc : Thread Cert.SsdDwRefIdeal.nD Cert.SsdDwRefIdeal.τ).loc Cert.SsdDwRefIdeal.main_arg1))

def preserves_InPDw_InPDwIdeal : Prop :=
  True

def algebraic_InPDwIdeal_InPDwRefIdeal [hInPDwIdeal : Cert.InPDwIdeal.Facts] [hInPDwRefIdeal : Cert.InPDwRefIdeal.Facts] : Prop :=
  ∀ (m : (ℓ : Loc Cert.InPDwIdeal.nD Cert.InPDwIdeal.τ Cert.InPDwIdeal.sig) → Buf (Elt Ideal) ℓ) (g : Dev Cert.InPDwIdeal.nD → PrngReg)
    (m' : (ℓ : Loc Cert.InPDwRefIdeal.nD Cert.InPDwRefIdeal.τ Cert.InPDwRefIdeal.sig) → Buf (Elt Ideal) ℓ) (g' : Dev Cert.InPDwRefIdeal.nD → PrngReg), Pre_InPDwIdeal m →
    (∀ c : Dev Cert.InPDwIdeal.nD,
      m' ((c.tc : Thread Cert.InPDwRefIdeal.nD Cert.InPDwRefIdeal.τ).loc Cert.InPDwRefIdeal.main_arg0) = m ((c.tc : Thread Cert.InPDwIdeal.nD Cert.InPDwIdeal.τ).loc Cert.InPDwIdeal.main_arg0)
      ∧ m' ((c.tc : Thread Cert.InPDwRefIdeal.nD Cert.InPDwRefIdeal.τ).loc Cert.InPDwRefIdeal.main_arg1) = m ((c.tc : Thread Cert.InPDwIdeal.nD Cert.InPDwIdeal.τ).loc Cert.InPDwIdeal.main_arg1)) →
    ∃ (v0 : (c : Dev Cert.InPDwIdeal.nD) → Buf (Elt Ideal) ((c.tc : Thread Cert.InPDwIdeal.nD Cert.InPDwIdeal.τ).loc Cert.InPDwIdeal.main_v0)),
      θ_run (Cert.InPDwIdeal.defs (F := Ideal)) (onTc (τ := Cert.InPDwIdeal.τ) (Cert.InPDwIdeal.main (F := Ideal))) ⟨m, fun _ => 0, g⟩ (fun r => ∀ c : Dev Cert.InPDwIdeal.nD,
          r.2.mem ((c.tc : Thread Cert.InPDwIdeal.nD Cert.InPDwIdeal.τ).loc Cert.InPDwIdeal.main_v0) = v0 c
          ∧ r.2.mem ((c.tc : Thread Cert.InPDwIdeal.nD Cert.InPDwIdeal.τ).loc Cert.InPDwIdeal.main_arg0) = m ((c.tc : Thread Cert.InPDwIdeal.nD Cert.InPDwIdeal.τ).loc Cert.InPDwIdeal.main_arg0)
          ∧ r.2.mem ((c.tc : Thread Cert.InPDwIdeal.nD Cert.InPDwIdeal.τ).loc Cert.InPDwIdeal.main_arg1) = m ((c.tc : Thread Cert.InPDwIdeal.nD Cert.InPDwIdeal.τ).loc Cert.InPDwIdeal.main_arg1))
      ∧ θ_run (Cert.InPDwRefIdeal.defs (F := Ideal)) (onTc (τ := Cert.InPDwRefIdeal.τ) (Cert.InPDwRefIdeal.main (F := Ideal))) ⟨m', fun _ => 0, g'⟩ (fun r => ∀ c : Dev Cert.InPDwRefIdeal.nD,
          r.2.mem ((c.tc : Thread Cert.InPDwRefIdeal.nD Cert.InPDwRefIdeal.τ).loc Cert.InPDwRefIdeal.main_v5) = v0 c
          ∧ r.2.mem ((c.tc : Thread Cert.InPDwRefIdeal.nD Cert.InPDwRefIdeal.τ).loc Cert.InPDwRefIdeal.main_arg0) = m' ((c.tc : Thread Cert.InPDwRefIdeal.nD Cert.InPDwRefIdeal.τ).loc Cert.InPDwRefIdeal.main_arg0)
          ∧ r.2.mem ((c.tc : Thread Cert.InPDwRefIdeal.nD Cert.InPDwRefIdeal.τ).loc Cert.InPDwRefIdeal.main_arg1) = m' ((c.tc : Thread Cert.InPDwRefIdeal.nD Cert.InPDwRefIdeal.τ).loc Cert.InPDwRefIdeal.main_arg1))

def preserves_InXDw_InXDwIdeal : Prop :=
  True

def algebraic_InXDwIdeal_InXDwRefIdeal [hInXDwIdeal : Cert.InXDwIdeal.Facts] [hInXDwRefIdeal : Cert.InXDwRefIdeal.Facts] : Prop :=
  ∀ (m : (ℓ : Loc Cert.InXDwIdeal.nD Cert.InXDwIdeal.τ Cert.InXDwIdeal.sig) → Buf (Elt Ideal) ℓ) (g : Dev Cert.InXDwIdeal.nD → PrngReg)
    (m' : (ℓ : Loc Cert.InXDwRefIdeal.nD Cert.InXDwRefIdeal.τ Cert.InXDwRefIdeal.sig) → Buf (Elt Ideal) ℓ) (g' : Dev Cert.InXDwRefIdeal.nD → PrngReg), Pre_InXDwIdeal m →
    (∀ c : Dev Cert.InXDwIdeal.nD,
      m' ((c.tc : Thread Cert.InXDwRefIdeal.nD Cert.InXDwRefIdeal.τ).loc Cert.InXDwRefIdeal.main_arg0) = m ((c.tc : Thread Cert.InXDwIdeal.nD Cert.InXDwIdeal.τ).loc Cert.InXDwIdeal.main_arg0)
      ∧ m' ((c.tc : Thread Cert.InXDwRefIdeal.nD Cert.InXDwRefIdeal.τ).loc Cert.InXDwRefIdeal.main_arg1) = m ((c.tc : Thread Cert.InXDwIdeal.nD Cert.InXDwIdeal.τ).loc Cert.InXDwIdeal.main_arg1)) →
    ∃ (v0 : (c : Dev Cert.InXDwIdeal.nD) → Buf (Elt Ideal) ((c.tc : Thread Cert.InXDwIdeal.nD Cert.InXDwIdeal.τ).loc Cert.InXDwIdeal.main_v0)),
      θ_run (Cert.InXDwIdeal.defs (F := Ideal)) (onTc (τ := Cert.InXDwIdeal.τ) (Cert.InXDwIdeal.main (F := Ideal))) ⟨m, fun _ => 0, g⟩ (fun r => ∀ c : Dev Cert.InXDwIdeal.nD,
          r.2.mem ((c.tc : Thread Cert.InXDwIdeal.nD Cert.InXDwIdeal.τ).loc Cert.InXDwIdeal.main_v0) = v0 c
          ∧ r.2.mem ((c.tc : Thread Cert.InXDwIdeal.nD Cert.InXDwIdeal.τ).loc Cert.InXDwIdeal.main_arg0) = m ((c.tc : Thread Cert.InXDwIdeal.nD Cert.InXDwIdeal.τ).loc Cert.InXDwIdeal.main_arg0)
          ∧ r.2.mem ((c.tc : Thread Cert.InXDwIdeal.nD Cert.InXDwIdeal.τ).loc Cert.InXDwIdeal.main_arg1) = m ((c.tc : Thread Cert.InXDwIdeal.nD Cert.InXDwIdeal.τ).loc Cert.InXDwIdeal.main_arg1))
      ∧ θ_run (Cert.InXDwRefIdeal.defs (F := Ideal)) (onTc (τ := Cert.InXDwRefIdeal.τ) (Cert.InXDwRefIdeal.main (F := Ideal))) ⟨m', fun _ => 0, g'⟩ (fun r => ∀ c : Dev Cert.InXDwRefIdeal.nD,
          r.2.mem ((c.tc : Thread Cert.InXDwRefIdeal.nD Cert.InXDwRefIdeal.τ).loc Cert.InXDwRefIdeal.main_v5) = v0 c
          ∧ r.2.mem ((c.tc : Thread Cert.InXDwRefIdeal.nD Cert.InXDwRefIdeal.τ).loc Cert.InXDwRefIdeal.main_arg0) = m' ((c.tc : Thread Cert.InXDwRefIdeal.nD Cert.InXDwRefIdeal.τ).loc Cert.InXDwRefIdeal.main_arg0)
          ∧ r.2.mem ((c.tc : Thread Cert.InXDwRefIdeal.nD Cert.InXDwRefIdeal.τ).loc Cert.InXDwRefIdeal.main_arg1) = m' ((c.tc : Thread Cert.InXDwRefIdeal.nD Cert.InXDwRefIdeal.τ).loc Cert.InXDwRefIdeal.main_arg1))

def preserves_InGDw_InGDwIdeal : Prop :=
  True

def algebraic_InGDwIdeal_InGDwRefIdeal [hInGDwIdeal : Cert.InGDwIdeal.Facts] [hInGDwRefIdeal : Cert.InGDwRefIdeal.Facts] : Prop :=
  ∀ (m : (ℓ : Loc Cert.InGDwIdeal.nD Cert.InGDwIdeal.τ Cert.InGDwIdeal.sig) → Buf (Elt Ideal) ℓ) (g : Dev Cert.InGDwIdeal.nD → PrngReg)
    (m' : (ℓ : Loc Cert.InGDwRefIdeal.nD Cert.InGDwRefIdeal.τ Cert.InGDwRefIdeal.sig) → Buf (Elt Ideal) ℓ) (g' : Dev Cert.InGDwRefIdeal.nD → PrngReg), Pre_InGDwIdeal m →
    (∀ c : Dev Cert.InGDwIdeal.nD,
      m' ((c.tc : Thread Cert.InGDwRefIdeal.nD Cert.InGDwRefIdeal.τ).loc Cert.InGDwRefIdeal.main_arg0) = m ((c.tc : Thread Cert.InGDwIdeal.nD Cert.InGDwIdeal.τ).loc Cert.InGDwIdeal.main_arg0)
      ∧ m' ((c.tc : Thread Cert.InGDwRefIdeal.nD Cert.InGDwRefIdeal.τ).loc Cert.InGDwRefIdeal.main_arg1) = m ((c.tc : Thread Cert.InGDwIdeal.nD Cert.InGDwIdeal.τ).loc Cert.InGDwIdeal.main_arg1)) →
    ∃ (v0 : (c : Dev Cert.InGDwIdeal.nD) → Buf (Elt Ideal) ((c.tc : Thread Cert.InGDwIdeal.nD Cert.InGDwIdeal.τ).loc Cert.InGDwIdeal.main_v0)),
      θ_run (Cert.InGDwIdeal.defs (F := Ideal)) (onTc (τ := Cert.InGDwIdeal.τ) (Cert.InGDwIdeal.main (F := Ideal))) ⟨m, fun _ => 0, g⟩ (fun r => ∀ c : Dev Cert.InGDwIdeal.nD,
          r.2.mem ((c.tc : Thread Cert.InGDwIdeal.nD Cert.InGDwIdeal.τ).loc Cert.InGDwIdeal.main_v0) = v0 c
          ∧ r.2.mem ((c.tc : Thread Cert.InGDwIdeal.nD Cert.InGDwIdeal.τ).loc Cert.InGDwIdeal.main_arg0) = m ((c.tc : Thread Cert.InGDwIdeal.nD Cert.InGDwIdeal.τ).loc Cert.InGDwIdeal.main_arg0)
          ∧ r.2.mem ((c.tc : Thread Cert.InGDwIdeal.nD Cert.InGDwIdeal.τ).loc Cert.InGDwIdeal.main_arg1) = m ((c.tc : Thread Cert.InGDwIdeal.nD Cert.InGDwIdeal.τ).loc Cert.InGDwIdeal.main_arg1))
      ∧ θ_run (Cert.InGDwRefIdeal.defs (F := Ideal)) (onTc (τ := Cert.InGDwRefIdeal.τ) (Cert.InGDwRefIdeal.main (F := Ideal))) ⟨m', fun _ => 0, g'⟩ (fun r => ∀ c : Dev Cert.InGDwRefIdeal.nD,
          r.2.mem ((c.tc : Thread Cert.InGDwRefIdeal.nD Cert.InGDwRefIdeal.τ).loc Cert.InGDwRefIdeal.main_v5) = v0 c
          ∧ r.2.mem ((c.tc : Thread Cert.InGDwRefIdeal.nD Cert.InGDwRefIdeal.τ).loc Cert.InGDwRefIdeal.main_arg0) = m' ((c.tc : Thread Cert.InGDwRefIdeal.nD Cert.InGDwRefIdeal.τ).loc Cert.InGDwRefIdeal.main_arg0)
          ∧ r.2.mem ((c.tc : Thread Cert.InGDwRefIdeal.nD Cert.InGDwRefIdeal.τ).loc Cert.InGDwRefIdeal.main_arg1) = m' ((c.tc : Thread Cert.InGDwRefIdeal.nD Cert.InGDwRefIdeal.τ).loc Cert.InGDwRefIdeal.main_arg1))

def preserves_InFDw_InFDwIdeal : Prop :=
  True

def algebraic_InFDwIdeal_InFDwRefIdeal [hInFDwIdeal : Cert.InFDwIdeal.Facts] [hInFDwRefIdeal : Cert.InFDwRefIdeal.Facts] : Prop :=
  ∀ (m : (ℓ : Loc Cert.InFDwIdeal.nD Cert.InFDwIdeal.τ Cert.InFDwIdeal.sig) → Buf (Elt Ideal) ℓ) (g : Dev Cert.InFDwIdeal.nD → PrngReg)
    (m' : (ℓ : Loc Cert.InFDwRefIdeal.nD Cert.InFDwRefIdeal.τ Cert.InFDwRefIdeal.sig) → Buf (Elt Ideal) ℓ) (g' : Dev Cert.InFDwRefIdeal.nD → PrngReg), Pre_InFDwIdeal m →
    (∀ c : Dev Cert.InFDwIdeal.nD,
      m' ((c.tc : Thread Cert.InFDwRefIdeal.nD Cert.InFDwRefIdeal.τ).loc Cert.InFDwRefIdeal.main_arg0) = m ((c.tc : Thread Cert.InFDwIdeal.nD Cert.InFDwIdeal.τ).loc Cert.InFDwIdeal.main_arg0)
      ∧ m' ((c.tc : Thread Cert.InFDwRefIdeal.nD Cert.InFDwRefIdeal.τ).loc Cert.InFDwRefIdeal.main_arg1) = m ((c.tc : Thread Cert.InFDwIdeal.nD Cert.InFDwIdeal.τ).loc Cert.InFDwIdeal.main_arg1)) →
    ∃ (v0 : (c : Dev Cert.InFDwIdeal.nD) → Buf (Elt Ideal) ((c.tc : Thread Cert.InFDwIdeal.nD Cert.InFDwIdeal.τ).loc Cert.InFDwIdeal.main_v0)),
      θ_run (Cert.InFDwIdeal.defs (F := Ideal)) (onTc (τ := Cert.InFDwIdeal.τ) (Cert.InFDwIdeal.main (F := Ideal))) ⟨m, fun _ => 0, g⟩ (fun r => ∀ c : Dev Cert.InFDwIdeal.nD,
          r.2.mem ((c.tc : Thread Cert.InFDwIdeal.nD Cert.InFDwIdeal.τ).loc Cert.InFDwIdeal.main_v0) = v0 c
          ∧ r.2.mem ((c.tc : Thread Cert.InFDwIdeal.nD Cert.InFDwIdeal.τ).loc Cert.InFDwIdeal.main_arg0) = m ((c.tc : Thread Cert.InFDwIdeal.nD Cert.InFDwIdeal.τ).loc Cert.InFDwIdeal.main_arg0)
          ∧ r.2.mem ((c.tc : Thread Cert.InFDwIdeal.nD Cert.InFDwIdeal.τ).loc Cert.InFDwIdeal.main_arg1) = m ((c.tc : Thread Cert.InFDwIdeal.nD Cert.InFDwIdeal.τ).loc Cert.InFDwIdeal.main_arg1))
      ∧ θ_run (Cert.InFDwRefIdeal.defs (F := Ideal)) (onTc (τ := Cert.InFDwRefIdeal.τ) (Cert.InFDwRefIdeal.main (F := Ideal))) ⟨m', fun _ => 0, g'⟩ (fun r => ∀ c : Dev Cert.InFDwRefIdeal.nD,
          r.2.mem ((c.tc : Thread Cert.InFDwRefIdeal.nD Cert.InFDwRefIdeal.τ).loc Cert.InFDwRefIdeal.main_v5) = v0 c
          ∧ r.2.mem ((c.tc : Thread Cert.InFDwRefIdeal.nD Cert.InFDwRefIdeal.τ).loc Cert.InFDwRefIdeal.main_arg0) = m' ((c.tc : Thread Cert.InFDwRefIdeal.nD Cert.InFDwRefIdeal.τ).loc Cert.InFDwRefIdeal.main_arg0)
          ∧ r.2.mem ((c.tc : Thread Cert.InFDwRefIdeal.nD Cert.InFDwRefIdeal.τ).loc Cert.InFDwRefIdeal.main_arg1) = m' ((c.tc : Thread Cert.InFDwRefIdeal.nD Cert.InFDwRefIdeal.τ).loc Cert.InFDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v3) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v3) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_PoolDx_PoolDxIdeal : Prop :=
  True

def algebraic_PoolDxIdeal_PoolDxRefIdeal [hPoolDxIdeal : Cert.PoolDxIdeal.Facts] [hPoolDxRefIdeal : Cert.PoolDxRefIdeal.Facts] : Prop :=
  ∀ (m : (ℓ : Loc Cert.PoolDxIdeal.nD Cert.PoolDxIdeal.τ Cert.PoolDxIdeal.sig) → Buf (Elt Ideal) ℓ) (g : Dev Cert.PoolDxIdeal.nD → PrngReg)
    (m' : (ℓ : Loc Cert.PoolDxRefIdeal.nD Cert.PoolDxRefIdeal.τ Cert.PoolDxRefIdeal.sig) → Buf (Elt Ideal) ℓ) (g' : Dev Cert.PoolDxRefIdeal.nD → PrngReg), Pre_PoolDxIdeal m →
    (∀ c : Dev Cert.PoolDxIdeal.nD,
      m' ((c.tc : Thread Cert.PoolDxRefIdeal.nD Cert.PoolDxRefIdeal.τ).loc Cert.PoolDxRefIdeal.main_arg0) = m ((c.tc : Thread Cert.PoolDxIdeal.nD Cert.PoolDxIdeal.τ).loc Cert.PoolDxIdeal.main_arg0)
      ∧ m' ((c.tc : Thread Cert.PoolDxRefIdeal.nD Cert.PoolDxRefIdeal.τ).loc Cert.PoolDxRefIdeal.main_arg1) = m ((c.tc : Thread Cert.PoolDxIdeal.nD Cert.PoolDxIdeal.τ).loc Cert.PoolDxIdeal.main_arg1)) →
    ∃ (v0 : (c : Dev Cert.PoolDxIdeal.nD) → Buf (Elt Ideal) ((c.tc : Thread Cert.PoolDxIdeal.nD Cert.PoolDxIdeal.τ).loc Cert.PoolDxIdeal.main_v0)),
      θ_run (Cert.PoolDxIdeal.defs (F := Ideal)) (onTc (τ := Cert.PoolDxIdeal.τ) (Cert.PoolDxIdeal.main (F := Ideal))) ⟨m, fun _ => 0, g⟩ (fun r => ∀ c : Dev Cert.PoolDxIdeal.nD,
          r.2.mem ((c.tc : Thread Cert.PoolDxIdeal.nD Cert.PoolDxIdeal.τ).loc Cert.PoolDxIdeal.main_v0) = v0 c
          ∧ r.2.mem ((c.tc : Thread Cert.PoolDxIdeal.nD Cert.PoolDxIdeal.τ).loc Cert.PoolDxIdeal.main_arg0) = m ((c.tc : Thread Cert.PoolDxIdeal.nD Cert.PoolDxIdeal.τ).loc Cert.PoolDxIdeal.main_arg0)
          ∧ r.2.mem ((c.tc : Thread Cert.PoolDxIdeal.nD Cert.PoolDxIdeal.τ).loc Cert.PoolDxIdeal.main_arg1) = m ((c.tc : Thread Cert.PoolDxIdeal.nD Cert.PoolDxIdeal.τ).loc Cert.PoolDxIdeal.main_arg1))
      ∧ θ_run (Cert.PoolDxRefIdeal.defs (F := Ideal)) (onTc (τ := Cert.PoolDxRefIdeal.τ) (Cert.PoolDxRefIdeal.main (F := Ideal))) ⟨m', fun _ => 0, g'⟩ (fun r => ∀ c : Dev Cert.PoolDxRefIdeal.nD,
          r.2.mem ((c.tc : Thread Cert.PoolDxRefIdeal.nD Cert.PoolDxRefIdeal.τ).loc Cert.PoolDxRefIdeal.main_v4) = v0 c
          ∧ r.2.mem ((c.tc : Thread Cert.PoolDxRefIdeal.nD Cert.PoolDxRefIdeal.τ).loc Cert.PoolDxRefIdeal.main_arg0) = m' ((c.tc : Thread Cert.PoolDxRefIdeal.nD Cert.PoolDxRefIdeal.τ).loc Cert.PoolDxRefIdeal.main_arg0)
          ∧ r.2.mem ((c.tc : Thread Cert.PoolDxRefIdeal.nD Cert.PoolDxRefIdeal.τ).loc Cert.PoolDxRefIdeal.main_arg1) = m' ((c.tc : Thread Cert.PoolDxRefIdeal.nD Cert.PoolDxRefIdeal.τ).loc Cert.PoolDxRefIdeal.main_arg1))

def preserves_SsdDx_SsdDxIdeal : Prop :=
  True

def algebraic_SsdDxIdeal_SsdDxRefIdeal [hSsdDxIdeal : Cert.SsdDxIdeal.Facts] [hSsdDxRefIdeal : Cert.SsdDxRefIdeal.Facts] : Prop :=
  ∀ (m : (ℓ : Loc Cert.SsdDxIdeal.nD Cert.SsdDxIdeal.τ Cert.SsdDxIdeal.sig) → Buf (Elt Ideal) ℓ) (g : Dev Cert.SsdDxIdeal.nD → PrngReg)
    (m' : (ℓ : Loc Cert.SsdDxRefIdeal.nD Cert.SsdDxRefIdeal.τ Cert.SsdDxRefIdeal.sig) → Buf (Elt Ideal) ℓ) (g' : Dev Cert.SsdDxRefIdeal.nD → PrngReg), Pre_SsdDxIdeal m →
    (∀ c : Dev Cert.SsdDxIdeal.nD,
      m' ((c.tc : Thread Cert.SsdDxRefIdeal.nD Cert.SsdDxRefIdeal.τ).loc Cert.SsdDxRefIdeal.main_arg0) = m ((c.tc : Thread Cert.SsdDxIdeal.nD Cert.SsdDxIdeal.τ).loc Cert.SsdDxIdeal.main_arg0)
      ∧ m' ((c.tc : Thread Cert.SsdDxRefIdeal.nD Cert.SsdDxRefIdeal.τ).loc Cert.SsdDxRefIdeal.main_arg1) = m ((c.tc : Thread Cert.SsdDxIdeal.nD Cert.SsdDxIdeal.τ).loc Cert.SsdDxIdeal.main_arg1)) →
    ∃ (v0 : (c : Dev Cert.SsdDxIdeal.nD) → Buf (Elt Ideal) ((c.tc : Thread Cert.SsdDxIdeal.nD Cert.SsdDxIdeal.τ).loc Cert.SsdDxIdeal.main_v0)),
      θ_run (Cert.SsdDxIdeal.defs (F := Ideal)) (onTc (τ := Cert.SsdDxIdeal.τ) (Cert.SsdDxIdeal.main (F := Ideal))) ⟨m, fun _ => 0, g⟩ (fun r => ∀ c : Dev Cert.SsdDxIdeal.nD,
          r.2.mem ((c.tc : Thread Cert.SsdDxIdeal.nD Cert.SsdDxIdeal.τ).loc Cert.SsdDxIdeal.main_v0) = v0 c
          ∧ r.2.mem ((c.tc : Thread Cert.SsdDxIdeal.nD Cert.SsdDxIdeal.τ).loc Cert.SsdDxIdeal.main_arg0) = m ((c.tc : Thread Cert.SsdDxIdeal.nD Cert.SsdDxIdeal.τ).loc Cert.SsdDxIdeal.main_arg0)
          ∧ r.2.mem ((c.tc : Thread Cert.SsdDxIdeal.nD Cert.SsdDxIdeal.τ).loc Cert.SsdDxIdeal.main_arg1) = m ((c.tc : Thread Cert.SsdDxIdeal.nD Cert.SsdDxIdeal.τ).loc Cert.SsdDxIdeal.main_arg1))
      ∧ θ_run (Cert.SsdDxRefIdeal.defs (F := Ideal)) (onTc (τ := Cert.SsdDxRefIdeal.τ) (Cert.SsdDxRefIdeal.main (F := Ideal))) ⟨m', fun _ => 0, g'⟩ (fun r => ∀ c : Dev Cert.SsdDxRefIdeal.nD,
          r.2.mem ((c.tc : Thread Cert.SsdDxRefIdeal.nD Cert.SsdDxRefIdeal.τ).loc Cert.SsdDxRefIdeal.main_v4) = v0 c
          ∧ r.2.mem ((c.tc : Thread Cert.SsdDxRefIdeal.nD Cert.SsdDxRefIdeal.τ).loc Cert.SsdDxRefIdeal.main_arg0) = m' ((c.tc : Thread Cert.SsdDxRefIdeal.nD Cert.SsdDxRefIdeal.τ).loc Cert.SsdDxRefIdeal.main_arg0)
          ∧ r.2.mem ((c.tc : Thread Cert.SsdDxRefIdeal.nD Cert.SsdDxRefIdeal.τ).loc Cert.SsdDxRefIdeal.main_arg1) = m' ((c.tc : Thread Cert.SsdDxRefIdeal.nD Cert.SsdDxRefIdeal.τ).loc Cert.SsdDxRefIdeal.main_arg1))

def preserves_InPDx_InPDxIdeal : Prop :=
  True

def algebraic_InPDxIdeal_InPDxRefIdeal [hInPDxIdeal : Cert.InPDxIdeal.Facts] [hInPDxRefIdeal : Cert.InPDxRefIdeal.Facts] : Prop :=
  ∀ (m : (ℓ : Loc Cert.InPDxIdeal.nD Cert.InPDxIdeal.τ Cert.InPDxIdeal.sig) → Buf (Elt Ideal) ℓ) (g : Dev Cert.InPDxIdeal.nD → PrngReg)
    (m' : (ℓ : Loc Cert.InPDxRefIdeal.nD Cert.InPDxRefIdeal.τ Cert.InPDxRefIdeal.sig) → Buf (Elt Ideal) ℓ) (g' : Dev Cert.InPDxRefIdeal.nD → PrngReg), Pre_InPDxIdeal m →
    (∀ c : Dev Cert.InPDxIdeal.nD,
      m' ((c.tc : Thread Cert.InPDxRefIdeal.nD Cert.InPDxRefIdeal.τ).loc Cert.InPDxRefIdeal.main_arg0) = m ((c.tc : Thread Cert.InPDxIdeal.nD Cert.InPDxIdeal.τ).loc Cert.InPDxIdeal.main_arg0)
      ∧ m' ((c.tc : Thread Cert.InPDxRefIdeal.nD Cert.InPDxRefIdeal.τ).loc Cert.InPDxRefIdeal.main_arg1) = m ((c.tc : Thread Cert.InPDxIdeal.nD Cert.InPDxIdeal.τ).loc Cert.InPDxIdeal.main_arg1)) →
    ∃ (v0 : (c : Dev Cert.InPDxIdeal.nD) → Buf (Elt Ideal) ((c.tc : Thread Cert.InPDxIdeal.nD Cert.InPDxIdeal.τ).loc Cert.InPDxIdeal.main_v0)),
      θ_run (Cert.InPDxIdeal.defs (F := Ideal)) (onTc (τ := Cert.InPDxIdeal.τ) (Cert.InPDxIdeal.main (F := Ideal))) ⟨m, fun _ => 0, g⟩ (fun r => ∀ c : Dev Cert.InPDxIdeal.nD,
          r.2.mem ((c.tc : Thread Cert.InPDxIdeal.nD Cert.InPDxIdeal.τ).loc Cert.InPDxIdeal.main_v0) = v0 c
          ∧ r.2.mem ((c.tc : Thread Cert.InPDxIdeal.nD Cert.InPDxIdeal.τ).loc Cert.InPDxIdeal.main_arg0) = m ((c.tc : Thread Cert.InPDxIdeal.nD Cert.InPDxIdeal.τ).loc Cert.InPDxIdeal.main_arg0)
          ∧ r.2.mem ((c.tc : Thread Cert.InPDxIdeal.nD Cert.InPDxIdeal.τ).loc Cert.InPDxIdeal.main_arg1) = m ((c.tc : Thread Cert.InPDxIdeal.nD Cert.InPDxIdeal.τ).loc Cert.InPDxIdeal.main_arg1))
      ∧ θ_run (Cert.InPDxRefIdeal.defs (F := Ideal)) (onTc (τ := Cert.InPDxRefIdeal.τ) (Cert.InPDxRefIdeal.main (F := Ideal))) ⟨m', fun _ => 0, g'⟩ (fun r => ∀ c : Dev Cert.InPDxRefIdeal.nD,
          r.2.mem ((c.tc : Thread Cert.InPDxRefIdeal.nD Cert.InPDxRefIdeal.τ).loc Cert.InPDxRefIdeal.main_v4) = v0 c
          ∧ r.2.mem ((c.tc : Thread Cert.InPDxRefIdeal.nD Cert.InPDxRefIdeal.τ).loc Cert.InPDxRefIdeal.main_arg0) = m' ((c.tc : Thread Cert.InPDxRefIdeal.nD Cert.InPDxRefIdeal.τ).loc Cert.InPDxRefIdeal.main_arg0)
          ∧ r.2.mem ((c.tc : Thread Cert.InPDxRefIdeal.nD Cert.InPDxRefIdeal.τ).loc Cert.InPDxRefIdeal.main_arg1) = m' ((c.tc : Thread Cert.InPDxRefIdeal.nD Cert.InPDxRefIdeal.τ).loc Cert.InPDxRefIdeal.main_arg1))

def preserves_InZDx_InZDxIdeal : Prop :=
  True

def algebraic_InZDxIdeal_InZDxRefIdeal [hInZDxIdeal : Cert.InZDxIdeal.Facts] [hInZDxRefIdeal : Cert.InZDxRefIdeal.Facts] : Prop :=
  ∀ (m : (ℓ : Loc Cert.InZDxIdeal.nD Cert.InZDxIdeal.τ Cert.InZDxIdeal.sig) → Buf (Elt Ideal) ℓ) (g : Dev Cert.InZDxIdeal.nD → PrngReg)
    (m' : (ℓ : Loc Cert.InZDxRefIdeal.nD Cert.InZDxRefIdeal.τ Cert.InZDxRefIdeal.sig) → Buf (Elt Ideal) ℓ) (g' : Dev Cert.InZDxRefIdeal.nD → PrngReg), Pre_InZDxIdeal m →
    (∀ c : Dev Cert.InZDxIdeal.nD,
      m' ((c.tc : Thread Cert.InZDxRefIdeal.nD Cert.InZDxRefIdeal.τ).loc Cert.InZDxRefIdeal.main_arg0) = m ((c.tc : Thread Cert.InZDxIdeal.nD Cert.InZDxIdeal.τ).loc Cert.InZDxIdeal.main_arg0)
      ∧ m' ((c.tc : Thread Cert.InZDxRefIdeal.nD Cert.InZDxRefIdeal.τ).loc Cert.InZDxRefIdeal.main_arg1) = m ((c.tc : Thread Cert.InZDxIdeal.nD Cert.InZDxIdeal.τ).loc Cert.InZDxIdeal.main_arg1)
      ∧ m' ((c.tc : Thread Cert.InZDxRefIdeal.nD Cert.InZDxRefIdeal.τ).loc Cert.InZDxRefIdeal.main_arg2) = m ((c.tc : Thread Cert.InZDxIdeal.nD Cert.InZDxIdeal.τ).loc Cert.InZDxIdeal.main_arg2)) →
    ∃ (v0 : (c : Dev Cert.InZDxIdeal.nD) → Buf (Elt Ideal) ((c.tc : Thread Cert.InZDxIdeal.nD Cert.InZDxIdeal.τ).loc Cert.InZDxIdeal.main_v0)),
      θ_run (Cert.InZDxIdeal.defs (F := Ideal)) (onTc (τ := Cert.InZDxIdeal.τ) (Cert.InZDxIdeal.main (F := Ideal))) ⟨m, fun _ => 0, g⟩ (fun r => ∀ c : Dev Cert.InZDxIdeal.nD,
          r.2.mem ((c.tc : Thread Cert.InZDxIdeal.nD Cert.InZDxIdeal.τ).loc Cert.InZDxIdeal.main_v0) = v0 c
          ∧ r.2.mem ((c.tc : Thread Cert.InZDxIdeal.nD Cert.InZDxIdeal.τ).loc Cert.InZDxIdeal.main_arg0) = m ((c.tc : Thread Cert.InZDxIdeal.nD Cert.InZDxIdeal.τ).loc Cert.InZDxIdeal.main_arg0)
          ∧ r.2.mem ((c.tc : Thread Cert.InZDxIdeal.nD Cert.InZDxIdeal.τ).loc Cert.InZDxIdeal.main_arg1) = m ((c.tc : Thread Cert.InZDxIdeal.nD Cert.InZDxIdeal.τ).loc Cert.InZDxIdeal.main_arg1)
          ∧ r.2.mem ((c.tc : Thread Cert.InZDxIdeal.nD Cert.InZDxIdeal.τ).loc Cert.InZDxIdeal.main_arg2) = m ((c.tc : Thread Cert.InZDxIdeal.nD Cert.InZDxIdeal.τ).loc Cert.InZDxIdeal.main_arg2))
      ∧ θ_run (Cert.InZDxRefIdeal.defs (F := Ideal)) (onTc (τ := Cert.InZDxRefIdeal.τ) (Cert.InZDxRefIdeal.main (F := Ideal))) ⟨m', fun _ => 0, g'⟩ (fun r => ∀ c : Dev Cert.InZDxRefIdeal.nD,
          r.2.mem ((c.tc : Thread Cert.InZDxRefIdeal.nD Cert.InZDxRefIdeal.τ).loc Cert.InZDxRefIdeal.main_v5) = v0 c
          ∧ r.2.mem ((c.tc : Thread Cert.InZDxRefIdeal.nD Cert.InZDxRefIdeal.τ).loc Cert.InZDxRefIdeal.main_arg0) = m' ((c.tc : Thread Cert.InZDxRefIdeal.nD Cert.InZDxRefIdeal.τ).loc Cert.InZDxRefIdeal.main_arg0)
          ∧ r.2.mem ((c.tc : Thread Cert.InZDxRefIdeal.nD Cert.InZDxRefIdeal.τ).loc Cert.InZDxRefIdeal.main_arg1) = m' ((c.tc : Thread Cert.InZDxRefIdeal.nD Cert.InZDxRefIdeal.τ).loc Cert.InZDxRefIdeal.main_arg1)
          ∧ r.2.mem ((c.tc : Thread Cert.InZDxRefIdeal.nD Cert.InZDxRefIdeal.τ).loc Cert.InZDxRefIdeal.main_arg2) = m' ((c.tc : Thread Cert.InZDxRefIdeal.nD Cert.InZDxRefIdeal.τ).loc Cert.InZDxRefIdeal.main_arg2))

def preserves_InXDx_InXDxIdeal : Prop :=
  True

def algebraic_InXDxIdeal_InXDxRefIdeal [hInXDxIdeal : Cert.InXDxIdeal.Facts] [hInXDxRefIdeal : Cert.InXDxRefIdeal.Facts] : Prop :=
  ∀ (m : (ℓ : Loc Cert.InXDxIdeal.nD Cert.InXDxIdeal.τ Cert.InXDxIdeal.sig) → Buf (Elt Ideal) ℓ) (g : Dev Cert.InXDxIdeal.nD → PrngReg)
    (m' : (ℓ : Loc Cert.InXDxRefIdeal.nD Cert.InXDxRefIdeal.τ Cert.InXDxRefIdeal.sig) → Buf (Elt Ideal) ℓ) (g' : Dev Cert.InXDxRefIdeal.nD → PrngReg), Pre_InXDxIdeal m →
    (∀ c : Dev Cert.InXDxIdeal.nD,
      m' ((c.tc : Thread Cert.InXDxRefIdeal.nD Cert.InXDxRefIdeal.τ).loc Cert.InXDxRefIdeal.main_arg0) = m ((c.tc : Thread Cert.InXDxIdeal.nD Cert.InXDxIdeal.τ).loc Cert.InXDxIdeal.main_arg0)
      ∧ m' ((c.tc : Thread Cert.InXDxRefIdeal.nD Cert.InXDxRefIdeal.τ).loc Cert.InXDxRefIdeal.main_arg1) = m ((c.tc : Thread Cert.InXDxIdeal.nD Cert.InXDxIdeal.τ).loc Cert.InXDxIdeal.main_arg1)
      ∧ m' ((c.tc : Thread Cert.InXDxRefIdeal.nD Cert.InXDxRefIdeal.τ).loc Cert.InXDxRefIdeal.main_arg2) = m ((c.tc : Thread Cert.InXDxIdeal.nD Cert.InXDxIdeal.τ).loc Cert.InXDxIdeal.main_arg2)) →
    ∃ (v0 : (c : Dev Cert.InXDxIdeal.nD) → Buf (Elt Ideal) ((c.tc : Thread Cert.InXDxIdeal.nD Cert.InXDxIdeal.τ).loc Cert.InXDxIdeal.main_v0)),
      θ_run (Cert.InXDxIdeal.defs (F := Ideal)) (onTc (τ := Cert.InXDxIdeal.τ) (Cert.InXDxIdeal.main (F := Ideal))) ⟨m, fun _ => 0, g⟩ (fun r => ∀ c : Dev Cert.InXDxIdeal.nD,
          r.2.mem ((c.tc : Thread Cert.InXDxIdeal.nD Cert.InXDxIdeal.τ).loc Cert.InXDxIdeal.main_v0) = v0 c
          ∧ r.2.mem ((c.tc : Thread Cert.InXDxIdeal.nD Cert.InXDxIdeal.τ).loc Cert.InXDxIdeal.main_arg0) = m ((c.tc : Thread Cert.InXDxIdeal.nD Cert.InXDxIdeal.τ).loc Cert.InXDxIdeal.main_arg0)
          ∧ r.2.mem ((c.tc : Thread Cert.InXDxIdeal.nD Cert.InXDxIdeal.τ).loc Cert.InXDxIdeal.main_arg1) = m ((c.tc : Thread Cert.InXDxIdeal.nD Cert.InXDxIdeal.τ).loc Cert.InXDxIdeal.main_arg1)
          ∧ r.2.mem ((c.tc : Thread Cert.InXDxIdeal.nD Cert.InXDxIdeal.τ).loc Cert.InXDxIdeal.main_arg2) = m ((c.tc : Thread Cert.InXDxIdeal.nD Cert.InXDxIdeal.τ).loc Cert.InXDxIdeal.main_arg2))
      ∧ θ_run (Cert.InXDxRefIdeal.defs (F := Ideal)) (onTc (τ := Cert.InXDxRefIdeal.τ) (Cert.InXDxRefIdeal.main (F := Ideal))) ⟨m', fun _ => 0, g'⟩ (fun r => ∀ c : Dev Cert.InXDxRefIdeal.nD,
          r.2.mem ((c.tc : Thread Cert.InXDxRefIdeal.nD Cert.InXDxRefIdeal.τ).loc Cert.InXDxRefIdeal.main_v5) = v0 c
          ∧ r.2.mem ((c.tc : Thread Cert.InXDxRefIdeal.nD Cert.InXDxRefIdeal.τ).loc Cert.InXDxRefIdeal.main_arg0) = m' ((c.tc : Thread Cert.InXDxRefIdeal.nD Cert.InXDxRefIdeal.τ).loc Cert.InXDxRefIdeal.main_arg0)
          ∧ r.2.mem ((c.tc : Thread Cert.InXDxRefIdeal.nD Cert.InXDxRefIdeal.τ).loc Cert.InXDxRefIdeal.main_arg1) = m' ((c.tc : Thread Cert.InXDxRefIdeal.nD Cert.InXDxRefIdeal.τ).loc Cert.InXDxRefIdeal.main_arg1)
          ∧ r.2.mem ((c.tc : Thread Cert.InXDxRefIdeal.nD Cert.InXDxRefIdeal.τ).loc Cert.InXDxRefIdeal.main_arg2) = m' ((c.tc : Thread Cert.InXDxRefIdeal.nD Cert.InXDxRefIdeal.τ).loc Cert.InXDxRefIdeal.main_arg2))

def preserves_InGDx_InGDxIdeal : Prop :=
  True

def algebraic_InGDxIdeal_InGDxRefIdeal [hInGDxIdeal : Cert.InGDxIdeal.Facts] [hInGDxRefIdeal : Cert.InGDxRefIdeal.Facts] : Prop :=
  ∀ (m : (ℓ : Loc Cert.InGDxIdeal.nD Cert.InGDxIdeal.τ Cert.InGDxIdeal.sig) → Buf (Elt Ideal) ℓ) (g : Dev Cert.InGDxIdeal.nD → PrngReg)
    (m' : (ℓ : Loc Cert.InGDxRefIdeal.nD Cert.InGDxRefIdeal.τ Cert.InGDxRefIdeal.sig) → Buf (Elt Ideal) ℓ) (g' : Dev Cert.InGDxRefIdeal.nD → PrngReg), Pre_InGDxIdeal m →
    (∀ c : Dev Cert.InGDxIdeal.nD,
      m' ((c.tc : Thread Cert.InGDxRefIdeal.nD Cert.InGDxRefIdeal.τ).loc Cert.InGDxRefIdeal.main_arg0) = m ((c.tc : Thread Cert.InGDxIdeal.nD Cert.InGDxIdeal.τ).loc Cert.InGDxIdeal.main_arg0)
      ∧ m' ((c.tc : Thread Cert.InGDxRefIdeal.nD Cert.InGDxRefIdeal.τ).loc Cert.InGDxRefIdeal.main_arg1) = m ((c.tc : Thread Cert.InGDxIdeal.nD Cert.InGDxIdeal.τ).loc Cert.InGDxIdeal.main_arg1)
      ∧ m' ((c.tc : Thread Cert.InGDxRefIdeal.nD Cert.InGDxRefIdeal.τ).loc Cert.InGDxRefIdeal.main_arg2) = m ((c.tc : Thread Cert.InGDxIdeal.nD Cert.InGDxIdeal.τ).loc Cert.InGDxIdeal.main_arg2)) →
    ∃ (v0 : (c : Dev Cert.InGDxIdeal.nD) → Buf (Elt Ideal) ((c.tc : Thread Cert.InGDxIdeal.nD Cert.InGDxIdeal.τ).loc Cert.InGDxIdeal.main_v0)),
      θ_run (Cert.InGDxIdeal.defs (F := Ideal)) (onTc (τ := Cert.InGDxIdeal.τ) (Cert.InGDxIdeal.main (F := Ideal))) ⟨m, fun _ => 0, g⟩ (fun r => ∀ c : Dev Cert.InGDxIdeal.nD,
          r.2.mem ((c.tc : Thread Cert.InGDxIdeal.nD Cert.InGDxIdeal.τ).loc Cert.InGDxIdeal.main_v0) = v0 c
          ∧ r.2.mem ((c.tc : Thread Cert.InGDxIdeal.nD Cert.InGDxIdeal.τ).loc Cert.InGDxIdeal.main_arg0) = m ((c.tc : Thread Cert.InGDxIdeal.nD Cert.InGDxIdeal.τ).loc Cert.InGDxIdeal.main_arg0)
          ∧ r.2.mem ((c.tc : Thread Cert.InGDxIdeal.nD Cert.InGDxIdeal.τ).loc Cert.InGDxIdeal.main_arg1) = m ((c.tc : Thread Cert.InGDxIdeal.nD Cert.InGDxIdeal.τ).loc Cert.InGDxIdeal.main_arg1)
          ∧ r.2.mem ((c.tc : Thread Cert.InGDxIdeal.nD Cert.InGDxIdeal.τ).loc Cert.InGDxIdeal.main_arg2) = m ((c.tc : Thread Cert.InGDxIdeal.nD Cert.InGDxIdeal.τ).loc Cert.InGDxIdeal.main_arg2))
      ∧ θ_run (Cert.InGDxRefIdeal.defs (F := Ideal)) (onTc (τ := Cert.InGDxRefIdeal.τ) (Cert.InGDxRefIdeal.main (F := Ideal))) ⟨m', fun _ => 0, g'⟩ (fun r => ∀ c : Dev Cert.InGDxRefIdeal.nD,
          r.2.mem ((c.tc : Thread Cert.InGDxRefIdeal.nD Cert.InGDxRefIdeal.τ).loc Cert.InGDxRefIdeal.main_v5) = v0 c
          ∧ r.2.mem ((c.tc : Thread Cert.InGDxRefIdeal.nD Cert.InGDxRefIdeal.τ).loc Cert.InGDxRefIdeal.main_arg0) = m' ((c.tc : Thread Cert.InGDxRefIdeal.nD Cert.InGDxRefIdeal.τ).loc Cert.InGDxRefIdeal.main_arg0)
          ∧ r.2.mem ((c.tc : Thread Cert.InGDxRefIdeal.nD Cert.InGDxRefIdeal.τ).loc Cert.InGDxRefIdeal.main_arg1) = m' ((c.tc : Thread Cert.InGDxRefIdeal.nD Cert.InGDxRefIdeal.τ).loc Cert.InGDxRefIdeal.main_arg1)
          ∧ r.2.mem ((c.tc : Thread Cert.InGDxRefIdeal.nD Cert.InGDxRefIdeal.τ).loc Cert.InGDxRefIdeal.main_arg2) = m' ((c.tc : Thread Cert.InGDxRefIdeal.nD Cert.InGDxRefIdeal.τ).loc Cert.InGDxRefIdeal.main_arg2))

def preserves_InFDx_InFDxIdeal : Prop :=
  True

def algebraic_InFDxIdeal_InFDxRefIdeal [hInFDxIdeal : Cert.InFDxIdeal.Facts] [hInFDxRefIdeal : Cert.InFDxRefIdeal.Facts] : Prop :=
  ∀ (m : (ℓ : Loc Cert.InFDxIdeal.nD Cert.InFDxIdeal.τ Cert.InFDxIdeal.sig) → Buf (Elt Ideal) ℓ) (g : Dev Cert.InFDxIdeal.nD → PrngReg)
    (m' : (ℓ : Loc Cert.InFDxRefIdeal.nD Cert.InFDxRefIdeal.τ Cert.InFDxRefIdeal.sig) → Buf (Elt Ideal) ℓ) (g' : Dev Cert.InFDxRefIdeal.nD → PrngReg), Pre_InFDxIdeal m →
    (∀ c : Dev Cert.InFDxIdeal.nD,
      m' ((c.tc : Thread Cert.InFDxRefIdeal.nD Cert.InFDxRefIdeal.τ).loc Cert.InFDxRefIdeal.main_arg0) = m ((c.tc : Thread Cert.InFDxIdeal.nD Cert.InFDxIdeal.τ).loc Cert.InFDxIdeal.main_arg0)
      ∧ m' ((c.tc : Thread Cert.InFDxRefIdeal.nD Cert.InFDxRefIdeal.τ).loc Cert.InFDxRefIdeal.main_arg1) = m ((c.tc : Thread Cert.InFDxIdeal.nD Cert.InFDxIdeal.τ).loc Cert.InFDxIdeal.main_arg1)
      ∧ m' ((c.tc : Thread Cert.InFDxRefIdeal.nD Cert.InFDxRefIdeal.τ).loc Cert.InFDxRefIdeal.main_arg2) = m ((c.tc : Thread Cert.InFDxIdeal.nD Cert.InFDxIdeal.τ).loc Cert.InFDxIdeal.main_arg2)) →
    ∃ (v0 : (c : Dev Cert.InFDxIdeal.nD) → Buf (Elt Ideal) ((c.tc : Thread Cert.InFDxIdeal.nD Cert.InFDxIdeal.τ).loc Cert.InFDxIdeal.main_v0)),
      θ_run (Cert.InFDxIdeal.defs (F := Ideal)) (onTc (τ := Cert.InFDxIdeal.τ) (Cert.InFDxIdeal.main (F := Ideal))) ⟨m, fun _ => 0, g⟩ (fun r => ∀ c : Dev Cert.InFDxIdeal.nD,
          r.2.mem ((c.tc : Thread Cert.InFDxIdeal.nD Cert.InFDxIdeal.τ).loc Cert.InFDxIdeal.main_v0) = v0 c
          ∧ r.2.mem ((c.tc : Thread Cert.InFDxIdeal.nD Cert.InFDxIdeal.τ).loc Cert.InFDxIdeal.main_arg0) = m ((c.tc : Thread Cert.InFDxIdeal.nD Cert.InFDxIdeal.τ).loc Cert.InFDxIdeal.main_arg0)
          ∧ r.2.mem ((c.tc : Thread Cert.InFDxIdeal.nD Cert.InFDxIdeal.τ).loc Cert.InFDxIdeal.main_arg1) = m ((c.tc : Thread Cert.InFDxIdeal.nD Cert.InFDxIdeal.τ).loc Cert.InFDxIdeal.main_arg1)
          ∧ r.2.mem ((c.tc : Thread Cert.InFDxIdeal.nD Cert.InFDxIdeal.τ).loc Cert.InFDxIdeal.main_arg2) = m ((c.tc : Thread Cert.InFDxIdeal.nD Cert.InFDxIdeal.τ).loc Cert.InFDxIdeal.main_arg2))
      ∧ θ_run (Cert.InFDxRefIdeal.defs (F := Ideal)) (onTc (τ := Cert.InFDxRefIdeal.τ) (Cert.InFDxRefIdeal.main (F := Ideal))) ⟨m', fun _ => 0, g'⟩ (fun r => ∀ c : Dev Cert.InFDxRefIdeal.nD,
          r.2.mem ((c.tc : Thread Cert.InFDxRefIdeal.nD Cert.InFDxRefIdeal.τ).loc Cert.InFDxRefIdeal.main_v5) = v0 c
          ∧ r.2.mem ((c.tc : Thread Cert.InFDxRefIdeal.nD Cert.InFDxRefIdeal.τ).loc Cert.InFDxRefIdeal.main_arg0) = m' ((c.tc : Thread Cert.InFDxRefIdeal.nD Cert.InFDxRefIdeal.τ).loc Cert.InFDxRefIdeal.main_arg0)
          ∧ r.2.mem ((c.tc : Thread Cert.InFDxRefIdeal.nD Cert.InFDxRefIdeal.τ).loc Cert.InFDxRefIdeal.main_arg1) = m' ((c.tc : Thread Cert.InFDxRefIdeal.nD Cert.InFDxRefIdeal.τ).loc Cert.InFDxRefIdeal.main_arg1)
          ∧ r.2.mem ((c.tc : Thread Cert.InFDxRefIdeal.nD Cert.InFDxRefIdeal.τ).loc Cert.InFDxRefIdeal.main_arg2) = m' ((c.tc : Thread Cert.InFDxRefIdeal.nD Cert.InFDxRefIdeal.τ).loc Cert.InFDxRefIdeal.main_arg2))

def preserves_InP_InPIdeal : Prop :=
  True

def algebraic_InPIdeal_InPRefIdeal [hInPIdeal : Cert.InPIdeal.Facts] [hInPRefIdeal : Cert.InPRefIdeal.Facts] : Prop :=
  ∀ (m : (ℓ : Loc Cert.InPIdeal.nD Cert.InPIdeal.τ Cert.InPIdeal.sig) → Buf (Elt Ideal) ℓ) (g : Dev Cert.InPIdeal.nD → PrngReg)
    (m' : (ℓ : Loc Cert.InPRefIdeal.nD Cert.InPRefIdeal.τ Cert.InPRefIdeal.sig) → Buf (Elt Ideal) ℓ) (g' : Dev Cert.InPRefIdeal.nD → PrngReg), Pre_InPIdeal m →
    (∀ c : Dev Cert.InPIdeal.nD,
      m' ((c.tc : Thread Cert.InPRefIdeal.nD Cert.InPRefIdeal.τ).loc Cert.InPRefIdeal.main_arg0) = m ((c.tc : Thread Cert.InPIdeal.nD Cert.InPIdeal.τ).loc Cert.InPIdeal.main_arg0)
      ∧ m' ((c.tc : Thread Cert.InPRefIdeal.nD Cert.InPRefIdeal.τ).loc Cert.InPRefIdeal.main_arg1) = m ((c.tc : Thread Cert.InPIdeal.nD Cert.InPIdeal.τ).loc Cert.InPIdeal.main_arg1)) →
    ∃ (v0 : (c : Dev Cert.InPIdeal.nD) → Buf (Elt Ideal) ((c.tc : Thread Cert.InPIdeal.nD Cert.InPIdeal.τ).loc Cert.InPIdeal.main_v0)),
      θ_run (Cert.InPIdeal.defs (F := Ideal)) (onTc (τ := Cert.InPIdeal.τ) (Cert.InPIdeal.main (F := Ideal))) ⟨m, fun _ => 0, g⟩ (fun r => ∀ c : Dev Cert.InPIdeal.nD,
          r.2.mem ((c.tc : Thread Cert.InPIdeal.nD Cert.InPIdeal.τ).loc Cert.InPIdeal.main_v0) = v0 c
          ∧ r.2.mem ((c.tc : Thread Cert.InPIdeal.nD Cert.InPIdeal.τ).loc Cert.InPIdeal.main_arg0) = m ((c.tc : Thread Cert.InPIdeal.nD Cert.InPIdeal.τ).loc Cert.InPIdeal.main_arg0)
          ∧ r.2.mem ((c.tc : Thread Cert.InPIdeal.nD Cert.InPIdeal.τ).loc Cert.InPIdeal.main_arg1) = m ((c.tc : Thread Cert.InPIdeal.nD Cert.InPIdeal.τ).loc Cert.InPIdeal.main_arg1))
      ∧ θ_run (Cert.InPRefIdeal.defs (F := Ideal)) (onTc (τ := Cert.InPRefIdeal.τ) (Cert.InPRefIdeal.main (F := Ideal))) ⟨m', fun _ => 0, g'⟩ (fun r => ∀ c : Dev Cert.InPRefIdeal.nD,
          r.2.mem ((c.tc : Thread Cert.InPRefIdeal.nD Cert.InPRefIdeal.τ).loc Cert.InPRefIdeal.main_v2) = v0 c
          ∧ r.2.mem ((c.tc : Thread Cert.InPRefIdeal.nD Cert.InPRefIdeal.τ).loc Cert.InPRefIdeal.main_arg0) = m' ((c.tc : Thread Cert.InPRefIdeal.nD Cert.InPRefIdeal.τ).loc Cert.InPRefIdeal.main_arg0)
          ∧ r.2.mem ((c.tc : Thread Cert.InPRefIdeal.nD Cert.InPRefIdeal.τ).loc Cert.InPRefIdeal.main_arg1) = m' ((c.tc : Thread Cert.InPRefIdeal.nD Cert.InPRefIdeal.τ).loc Cert.InPRefIdeal.main_arg1))

def preserves_InZ_InZIdeal : Prop :=
  True

def algebraic_InZIdeal_InZRefIdeal [hInZIdeal : Cert.InZIdeal.Facts] [hInZRefIdeal : Cert.InZRefIdeal.Facts] : Prop :=
  ∀ (m : (ℓ : Loc Cert.InZIdeal.nD Cert.InZIdeal.τ Cert.InZIdeal.sig) → Buf (Elt Ideal) ℓ) (g : Dev Cert.InZIdeal.nD → PrngReg)
    (m' : (ℓ : Loc Cert.InZRefIdeal.nD Cert.InZRefIdeal.τ Cert.InZRefIdeal.sig) → Buf (Elt Ideal) ℓ) (g' : Dev Cert.InZRefIdeal.nD → PrngReg), Pre_InZIdeal m →
    (∀ c : Dev Cert.InZIdeal.nD,
      m' ((c.tc : Thread Cert.InZRefIdeal.nD Cert.InZRefIdeal.τ).loc Cert.InZRefIdeal.main_arg0) = m ((c.tc : Thread Cert.InZIdeal.nD Cert.InZIdeal.τ).loc Cert.InZIdeal.main_arg0)
      ∧ m' ((c.tc : Thread Cert.InZRefIdeal.nD Cert.InZRefIdeal.τ).loc Cert.InZRefIdeal.main_arg1) = m ((c.tc : Thread Cert.InZIdeal.nD Cert.InZIdeal.τ).loc Cert.InZIdeal.main_arg1)) →
    ∃ (v0 : (c : Dev Cert.InZIdeal.nD) → Buf (Elt Ideal) ((c.tc : Thread Cert.InZIdeal.nD Cert.InZIdeal.τ).loc Cert.InZIdeal.main_v0)),
      θ_run (Cert.InZIdeal.defs (F := Ideal)) (onTc (τ := Cert.InZIdeal.τ) (Cert.InZIdeal.main (F := Ideal))) ⟨m, fun _ => 0, g⟩ (fun r => ∀ c : Dev Cert.InZIdeal.nD,
          r.2.mem ((c.tc : Thread Cert.InZIdeal.nD Cert.InZIdeal.τ).loc Cert.InZIdeal.main_v0) = v0 c
          ∧ r.2.mem ((c.tc : Thread Cert.InZIdeal.nD Cert.InZIdeal.τ).loc Cert.InZIdeal.main_arg0) = m ((c.tc : Thread Cert.InZIdeal.nD Cert.InZIdeal.τ).loc Cert.InZIdeal.main_arg0)
          ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ θ_run (Cert.InZRefIdeal.defs (F := Ideal)) (onTc (τ := Cert.InZRefIdeal.τ) (Cert.InZRefIdeal.main (F := Ideal))) ⟨m', fun _ => 0, g'⟩ (fun r => ∀ c : Dev Cert.InZRefIdeal.nD,
          r.2.mem ((c.tc : Thread Cert.InZRefIdeal.nD Cert.InZRefIdeal.τ).loc Cert.InZRefIdeal.main_v2) = v0 c
          ∧ r.2.mem ((c.tc : Thread Cert.InZRefIdeal.nD Cert.InZRefIdeal.τ).loc Cert.InZRefIdeal.main_arg0) = m' ((c.tc : Thread Cert.InZRefIdeal.nD Cert.InZRefIdeal.τ).loc Cert.InZRefIdeal.main_arg0)
          ∧ r.2.mem ((c.tc : Thread Cert.InZRefIdeal.nD Cert.InZRefIdeal.τ).loc Cert.InZRefIdeal.main_arg1) = m' ((c.tc : Thread Cert.InZRefIdeal.nD Cert.InZRefIdeal.τ).loc Cert.InZRefIdeal.main_arg1))

def preserves_InX_InXIdeal : Prop :=
  True

def algebraic_InXIdeal_InXRefIdeal [hInXIdeal : Cert.InXIdeal.Facts] [hInXRefIdeal : Cert.InXRefIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXRefIdeal.nD Cert.InXRefIdeal.τ Cert.InXRefIdeal.sig) → Buf (Elt Ideal) ℓ) (g' : Dev Cert.InXRefIdeal.nD → PrngReg), Pre_InXIdeal m →
    (∀ c : Dev Cert.InXIdeal.nD,
      m' ((c.tc : Thread Cert.InXRefIdeal.nD Cert.InXRefIdeal.τ).loc Cert.InXRefIdeal.main_arg0) = m ((c.tc : Thread Cert.InXIdeal.nD Cert.InXIdeal.τ).loc Cert.InXIdeal.main_arg0)
      ∧ m' ((c.tc : Thread Cert.InXRefIdeal.nD Cert.InXRefIdeal.τ).loc Cert.InXRefIdeal.main_arg1) = m ((c.tc : Thread Cert.InXIdeal.nD Cert.InXIdeal.τ).loc Cert.InXIdeal.main_arg1)) →
    ∃ (v0 : (c : Dev Cert.InXIdeal.nD) → Buf (Elt Ideal) ((c.tc : Thread Cert.InXIdeal.nD Cert.InXIdeal.τ).loc Cert.InXIdeal.main_v0)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v0) = v0 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1))
      ∧ θ_run (Cert.InXRefIdeal.defs (F := Ideal)) (onTc (τ := Cert.InXRefIdeal.τ) (Cert.InXRefIdeal.main (F := Ideal))) ⟨m', fun _ => 0, g'⟩ (fun r => ∀ c : Dev Cert.InXRefIdeal.nD,
          r.2.mem ((c.tc : Thread Cert.InXRefIdeal.nD Cert.InXRefIdeal.τ).loc Cert.InXRefIdeal.main_v2) = v0 c
          ∧ r.2.mem ((c.tc : Thread Cert.InXRefIdeal.nD Cert.InXRefIdeal.τ).loc Cert.InXRefIdeal.main_arg0) = m' ((c.tc : Thread Cert.InXRefIdeal.nD Cert.InXRefIdeal.τ).loc Cert.InXRefIdeal.main_arg0)
          ∧ r.2.mem ((c.tc : Thread Cert.InXRefIdeal.nD Cert.InXRefIdeal.τ).loc Cert.InXRefIdeal.main_arg1) = m' ((c.tc : Thread Cert.InXRefIdeal.nD Cert.InXRefIdeal.τ).loc Cert.InXRefIdeal.main_arg1))

def preserves_InG_InGIdeal : Prop :=
  True

def algebraic_InGIdeal_InGRefIdeal [hInGIdeal : Cert.InGIdeal.Facts] [hInGRefIdeal : Cert.InGRefIdeal.Facts] : Prop :=
  ∀ (m : (ℓ : Loc Cert.InGIdeal.nD Cert.InGIdeal.τ Cert.InGIdeal.sig) → Buf (Elt Ideal) ℓ) (g : Dev Cert.InGIdeal.nD → PrngReg)
    (m' : (ℓ : Loc Cert.InGRefIdeal.nD Cert.InGRefIdeal.τ Cert.InGRefIdeal.sig) → Buf (Elt Ideal) ℓ) (g' : Dev Cert.InGRefIdeal.nD → PrngReg), Pre_InGIdeal m →
    (∀ c : Dev Cert.InGIdeal.nD,
      m' ((c.tc : Thread Cert.InGRefIdeal.nD Cert.InGRefIdeal.τ).loc Cert.InGRefIdeal.main_arg0) = m ((c.tc : Thread Cert.InGIdeal.nD Cert.InGIdeal.τ).loc Cert.InGIdeal.main_arg0)
      ∧ m' ((c.tc : Thread Cert.InGRefIdeal.nD Cert.InGRefIdeal.τ).loc Cert.InGRefIdeal.main_arg1) = m ((c.tc : Thread Cert.InGIdeal.nD Cert.InGIdeal.τ).loc Cert.InGIdeal.main_arg1)) →
    ∃ (v0 : (c : Dev Cert.InGIdeal.nD) → Buf (Elt Ideal) ((c.tc : Thread Cert.InGIdeal.nD Cert.InGIdeal.τ).loc Cert.InGIdeal.main_v0)),
      θ_run (Cert.InGIdeal.defs (F := Ideal)) (onTc (τ := Cert.InGIdeal.τ) (Cert.InGIdeal.main (F := Ideal))) ⟨m, fun _ => 0, g⟩ (fun r => ∀ c : Dev Cert.InGIdeal.nD,
          r.2.mem ((c.tc : Thread Cert.InGIdeal.nD Cert.InGIdeal.τ).loc Cert.InGIdeal.main_v0) = v0 c
          ∧ r.2.mem ((c.tc : Thread Cert.InGIdeal.nD Cert.InGIdeal.τ).loc Cert.InGIdeal.main_arg0) = m ((c.tc : Thread Cert.InGIdeal.nD Cert.InGIdeal.τ).loc Cert.InGIdeal.main_arg0)
          ∧ r.2.mem ((c.tc : Thread Cert.InGIdeal.nD Cert.InGIdeal.τ).loc Cert.InGIdeal.main_arg1) = m ((c.tc : Thread Cert.InGIdeal.nD Cert.InGIdeal.τ).loc Cert.InGIdeal.main_arg1))
      ∧ θ_run (Cert.InGRefIdeal.defs (F := Ideal)) (onTc (τ := Cert.InGRefIdeal.τ) (Cert.InGRefIdeal.main (F := Ideal))) ⟨m', fun _ => 0, g'⟩ (fun r => ∀ c : Dev Cert.InGRefIdeal.nD,
          r.2.mem ((c.tc : Thread Cert.InGRefIdeal.nD Cert.InGRefIdeal.τ).loc Cert.InGRefIdeal.main_v2) = v0 c
          ∧ r.2.mem ((c.tc : Thread Cert.InGRefIdeal.nD Cert.InGRefIdeal.τ).loc Cert.InGRefIdeal.main_arg0) = m' ((c.tc : Thread Cert.InGRefIdeal.nD Cert.InGRefIdeal.τ).loc Cert.InGRefIdeal.main_arg0)
          ∧ r.2.mem ((c.tc : Thread Cert.InGRefIdeal.nD Cert.InGRefIdeal.τ).loc Cert.InGRefIdeal.main_arg1) = m' ((c.tc : Thread Cert.InGRefIdeal.nD Cert.InGRefIdeal.τ).loc Cert.InGRefIdeal.main_arg1))

def preserves_InF_InFIdeal : Prop :=
  True

def algebraic_InFIdeal_InFRefIdeal [hInFIdeal : Cert.InFIdeal.Facts] [hInFRefIdeal : Cert.InFRefIdeal.Facts] : Prop :=
  ∀ (m : (ℓ : Loc Cert.InFIdeal.nD Cert.InFIdeal.τ Cert.InFIdeal.sig) → Buf (Elt Ideal) ℓ) (g : Dev Cert.InFIdeal.nD → PrngReg)
    (m' : (ℓ : Loc Cert.InFRefIdeal.nD Cert.InFRefIdeal.τ Cert.InFRefIdeal.sig) → Buf (Elt Ideal) ℓ) (g' : Dev Cert.InFRefIdeal.nD → PrngReg), Pre_InFIdeal m →
    (∀ c : Dev Cert.InFIdeal.nD,
      m' ((c.tc : Thread Cert.InFRefIdeal.nD Cert.InFRefIdeal.τ).loc Cert.InFRefIdeal.main_arg0) = m ((c.tc : Thread Cert.InFIdeal.nD Cert.InFIdeal.τ).loc Cert.InFIdeal.main_arg0)
      ∧ m' ((c.tc : Thread Cert.InFRefIdeal.nD Cert.InFRefIdeal.τ).loc Cert.InFRefIdeal.main_arg1) = m ((c.tc : Thread Cert.InFIdeal.nD Cert.InFIdeal.τ).loc Cert.InFIdeal.main_arg1)) →
    ∃ (v0 : (c : Dev Cert.InFIdeal.nD) → Buf (Elt Ideal) ((c.tc : Thread Cert.InFIdeal.nD Cert.InFIdeal.τ).loc Cert.InFIdeal.main_v0)),
      θ_run (Cert.InFIdeal.defs (F := Ideal)) (onTc (τ := Cert.InFIdeal.τ) (Cert.InFIdeal.main (F := Ideal))) ⟨m, fun _ => 0, g⟩ (fun r => ∀ c : Dev Cert.InFIdeal.nD,
          r.2.mem ((c.tc : Thread Cert.InFIdeal.nD Cert.InFIdeal.τ).loc Cert.InFIdeal.main_v0) = v0 c
          ∧ r.2.mem ((c.tc : Thread Cert.InFIdeal.nD Cert.InFIdeal.τ).loc Cert.InFIdeal.main_arg0) = m ((c.tc : Thread Cert.InFIdeal.nD Cert.InFIdeal.τ).loc Cert.InFIdeal.main_arg0)
          ∧ r.2.mem ((c.tc : Thread Cert.InFIdeal.nD Cert.InFIdeal.τ).loc Cert.InFIdeal.main_arg1) = m ((c.tc : Thread Cert.InFIdeal.nD Cert.InFIdeal.τ).loc Cert.InFIdeal.main_arg1))
      ∧ θ_run (Cert.InFRefIdeal.defs (F := Ideal)) (onTc (τ := Cert.InFRefIdeal.τ) (Cert.InFRefIdeal.main (F := Ideal))) ⟨m', fun _ => 0, g'⟩ (fun r => ∀ c : Dev Cert.InFRefIdeal.nD,
          r.2.mem ((c.tc : Thread Cert.InFRefIdeal.nD Cert.InFRefIdeal.τ).loc Cert.InFRefIdeal.main_v2) = v0 c
          ∧ r.2.mem ((c.tc : Thread Cert.InFRefIdeal.nD Cert.InFRefIdeal.τ).loc Cert.InFRefIdeal.main_arg0) = m' ((c.tc : Thread Cert.InFRefIdeal.nD Cert.InFRefIdeal.τ).loc Cert.InFRefIdeal.main_arg0)
          ∧ r.2.mem ((c.tc : Thread Cert.InFRefIdeal.nD Cert.InFRefIdeal.τ).loc Cert.InFRefIdeal.main_arg1) = m' ((c.tc : Thread Cert.InFRefIdeal.nD Cert.InFRefIdeal.τ).loc Cert.InFRefIdeal.main_arg1))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)) →
    ∃ (v0 : (c : Dev Cert.PoolIdeal.nD) → Buf (Elt Ideal) ((c.tc : Thread Cert.PoolIdeal.nD Cert.PoolIdeal.τ).loc Cert.PoolIdeal.main_v0)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v0) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v2) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1))

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v1) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v39) = v0 c
          ∧ r.2.mem ((c.tc : Thread Cert.MergeBwdRefIdeal.nD Cert.MergeBwdRefIdeal.τ).loc Cert.MergeBwdRefIdeal.main_v40) = v1 c
          ∧ r.2.mem ((c.tc : Thread Cert.MergeBwdRefIdeal.nD Cert.MergeBwdRefIdeal.τ).loc Cert.MergeBwdRefIdeal.main_v41) = v2 c
          ∧ r.2.mem ((c.tc : Thread Cert.MergeBwdRefIdeal.nD Cert.MergeBwdRefIdeal.τ).loc Cert.MergeBwdRefIdeal.main_v42) = v3 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v18) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v14) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v37) = v0 c
          ∧ r.2.mem ((c.tc : Thread Cert.NormBwdRefIdeal.nD Cert.NormBwdRefIdeal.τ).loc Cert.NormBwdRefIdeal.main_v38) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v51) = v0 c
          ∧ r.2.mem ((c.tc : Thread Cert.LossHeadRefIdeal.nD Cert.LossHeadRefIdeal.τ).loc Cert.LossHeadRefIdeal.main_v52) = v1 c
          ∧ r.2.mem ((c.tc : Thread Cert.LossHeadRefIdeal.nD Cert.LossHeadRefIdeal.τ).loc Cert.LossHeadRefIdeal.main_v53) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def Claim : Prop :=
  ∃ (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hDownDw : Cert.DownDw.Facts) (hDownDwIdeal : Cert.DownDwIdeal.Facts) (hDownDwRefIdeal : Cert.DownDwRefIdeal.Facts) (hOutDw : Cert.OutDw.Facts) (hOutDwIdeal : Cert.OutDwIdeal.Facts) (hOutDwRefIdeal : Cert.OutDwRefIdeal.Facts) (hPoolDw : Cert.PoolDw.Facts) (hPoolDwIdeal : Cert.PoolDwIdeal.Facts) (hPoolDwRefIdeal : Cert.PoolDwRefIdeal.Facts) (hAttnDw : Cert.AttnDw.Facts) (hAttnDwIdeal : Cert.AttnDwIdeal.Facts) (hAttnDwRefIdeal : Cert.AttnDwRefIdeal.Facts) (hSsdDw : Cert.SsdDw.Facts) (hSsdDwIdeal : Cert.SsdDwIdeal.Facts) (hSsdDwRefIdeal : Cert.SsdDwRefIdeal.Facts) (hInPDw : Cert.InPDw.Facts) (hInPDwIdeal : Cert.InPDwIdeal.Facts) (hInPDwRefIdeal : Cert.InPDwRefIdeal.Facts) (hInXDw : Cert.InXDw.Facts) (hInXDwIdeal : Cert.InXDwIdeal.Facts) (hInXDwRefIdeal : Cert.InXDwRefIdeal.Facts) (hInGDw : Cert.InGDw.Facts) (hInGDwIdeal : Cert.InGDwIdeal.Facts) (hInGDwRefIdeal : Cert.InGDwRefIdeal.Facts) (hInFDw : Cert.InFDw.Facts) (hInFDwIdeal : Cert.InFDwIdeal.Facts) (hInFDwRefIdeal : Cert.InFDwRefIdeal.Facts) (hDownDx : Cert.DownDx.Facts) (hDownDxIdeal : Cert.DownDxIdeal.Facts) (hDownDxRefIdeal : Cert.DownDxRefIdeal.Facts) (hOutDx : Cert.OutDx.Facts) (hOutDxIdeal : Cert.OutDxIdeal.Facts) (hOutDxRefIdeal : Cert.OutDxRefIdeal.Facts) (hPoolDx : Cert.PoolDx.Facts) (hPoolDxIdeal : Cert.PoolDxIdeal.Facts) (hPoolDxRefIdeal : Cert.PoolDxRefIdeal.Facts) (hSsdDx : Cert.SsdDx.Facts) (hSsdDxIdeal : Cert.SsdDxIdeal.Facts) (hSsdDxRefIdeal : Cert.SsdDxRefIdeal.Facts) (hInPDx : Cert.InPDx.Facts) (hInPDxIdeal : Cert.InPDxIdeal.Facts) (hInPDxRefIdeal : Cert.InPDxRefIdeal.Facts) (hInZDx : Cert.InZDx.Facts) (hInZDxIdeal : Cert.InZDxIdeal.Facts) (hInZDxRefIdeal : Cert.InZDxRefIdeal.Facts) (hInXDx : Cert.InXDx.Facts) (hInXDxIdeal : Cert.InXDxIdeal.Facts) (hInXDxRefIdeal : Cert.InXDxRefIdeal.Facts) (hInGDx : Cert.InGDx.Facts) (hInGDxIdeal : Cert.InGDxIdeal.Facts) (hInGDxRefIdeal : Cert.InGDxRefIdeal.Facts) (hInFDx : Cert.InFDx.Facts) (hInFDxIdeal : Cert.InFDxIdeal.Facts) (hInFDxRefIdeal : Cert.InFDxRefIdeal.Facts) (hInP : Cert.InP.Facts) (hInPIdeal : Cert.InPIdeal.Facts) (hInPRefIdeal : Cert.InPRefIdeal.Facts) (hInZ : Cert.InZ.Facts) (hInZIdeal : Cert.InZIdeal.Facts) (hInZRefIdeal : Cert.InZRefIdeal.Facts) (hInX : Cert.InX.Facts) (hInXIdeal : Cert.InXIdeal.Facts) (hInXRefIdeal : Cert.InXRefIdeal.Facts) (hInG : Cert.InG.Facts) (hInGIdeal : Cert.InGIdeal.Facts) (hInGRefIdeal : Cert.InGRefIdeal.Facts) (hInF : Cert.InF.Facts) (hInFIdeal : Cert.InFIdeal.Facts) (hInFRefIdeal : Cert.InFRefIdeal.Facts) (hPool : Cert.Pool.Facts) (hPoolIdeal : Cert.PoolIdeal.Facts) (hPoolRefIdeal : Cert.PoolRefIdeal.Facts) (hAttn : Cert.Attn.Facts) (hAttnIdeal : Cert.AttnIdeal.Facts) (hAttnRefIdeal : Cert.AttnRefIdeal.Facts) (hOut : Cert.Out.Facts) (hOutIdeal : Cert.OutIdeal.Facts) (hOutRefIdeal : Cert.OutRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hMergeBwd : Cert.MergeBwd.Facts) (hMergeBwdIdeal : Cert.MergeBwdIdeal.Facts) (hMergeBwdRefIdeal : Cert.MergeBwdRefIdeal.Facts) (hMerge : Cert.Merge.Facts) (hMergeIdeal : Cert.MergeIdeal.Facts) (hMergeRefIdeal : Cert.MergeRefIdeal.Facts) (hNorm : Cert.Norm.Facts) (hNormIdeal : Cert.NormIdeal.Facts) (hNormRefIdeal : Cert.NormRefIdeal.Facts) (hAdam : Cert.Adam.Facts) (hAdamIdeal : Cert.AdamIdeal.Facts) (hAdamRefIdeal : Cert.AdamRefIdeal.Facts) (hNormBwd : Cert.NormBwd.Facts) (hNormBwdIdeal : Cert.NormBwdIdeal.Facts) (hNormBwdRefIdeal : Cert.NormBwdRefIdeal.Facts) (hLossHead : Cert.LossHead.Facts) (hLossHeadIdeal : Cert.LossHeadIdeal.Facts) (hLossHeadRefIdeal : Cert.LossHeadRefIdeal.Facts),
    quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_PoolDw (hPoolDw := hPoolDw)
    ∧ quiescent_PoolDwIdeal (hPoolDwIdeal := hPoolDwIdeal)
    ∧ quiescent_PoolDwRefIdeal (hPoolDwRefIdeal := hPoolDwRefIdeal)
    ∧ quiescent_AttnDw (hAttnDw := hAttnDw)
    ∧ quiescent_AttnDwIdeal (hAttnDwIdeal := hAttnDwIdeal)
    ∧ quiescent_AttnDwRefIdeal (hAttnDwRefIdeal := hAttnDwRefIdeal)
    ∧ quiescent_SsdDw (hSsdDw := hSsdDw)
    ∧ quiescent_SsdDwIdeal (hSsdDwIdeal := hSsdDwIdeal)
    ∧ quiescent_SsdDwRefIdeal (hSsdDwRefIdeal := hSsdDwRefIdeal)
    ∧ quiescent_InPDw (hInPDw := hInPDw)
    ∧ quiescent_InPDwIdeal (hInPDwIdeal := hInPDwIdeal)
    ∧ quiescent_InPDwRefIdeal (hInPDwRefIdeal := hInPDwRefIdeal)
    ∧ quiescent_InXDw (hInXDw := hInXDw)
    ∧ quiescent_InXDwIdeal (hInXDwIdeal := hInXDwIdeal)
    ∧ quiescent_InXDwRefIdeal (hInXDwRefIdeal := hInXDwRefIdeal)
    ∧ quiescent_InGDw (hInGDw := hInGDw)
    ∧ quiescent_InGDwIdeal (hInGDwIdeal := hInGDwIdeal)
    ∧ quiescent_InGDwRefIdeal (hInGDwRefIdeal := hInGDwRefIdeal)
    ∧ quiescent_InFDw (hInFDw := hInFDw)
    ∧ quiescent_InFDwIdeal (hInFDwIdeal := hInFDwIdeal)
    ∧ quiescent_InFDwRefIdeal (hInFDwRefIdeal := hInFDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_PoolDx (hPoolDx := hPoolDx)
    ∧ quiescent_PoolDxIdeal (hPoolDxIdeal := hPoolDxIdeal)
    ∧ quiescent_PoolDxRefIdeal (hPoolDxRefIdeal := hPoolDxRefIdeal)
    ∧ quiescent_SsdDx (hSsdDx := hSsdDx)
    ∧ quiescent_SsdDxIdeal (hSsdDxIdeal := hSsdDxIdeal)
    ∧ quiescent_SsdDxRefIdeal (hSsdDxRefIdeal := hSsdDxRefIdeal)
    ∧ quiescent_InPDx (hInPDx := hInPDx)
    ∧ quiescent_InPDxIdeal (hInPDxIdeal := hInPDxIdeal)
    ∧ quiescent_InPDxRefIdeal (hInPDxRefIdeal := hInPDxRefIdeal)
    ∧ quiescent_InZDx (hInZDx := hInZDx)
    ∧ quiescent_InZDxIdeal (hInZDxIdeal := hInZDxIdeal)
    ∧ quiescent_InZDxRefIdeal (hInZDxRefIdeal := hInZDxRefIdeal)
    ∧ quiescent_InXDx (hInXDx := hInXDx)
    ∧ quiescent_InXDxIdeal (hInXDxIdeal := hInXDxIdeal)
    ∧ quiescent_InXDxRefIdeal (hInXDxRefIdeal := hInXDxRefIdeal)
    ∧ quiescent_InGDx (hInGDx := hInGDx)
    ∧ quiescent_InGDxIdeal (hInGDxIdeal := hInGDxIdeal)
    ∧ quiescent_InGDxRefIdeal (hInGDxRefIdeal := hInGDxRefIdeal)
    ∧ quiescent_InFDx (hInFDx := hInFDx)
    ∧ quiescent_InFDxIdeal (hInFDxIdeal := hInFDxIdeal)
    ∧ quiescent_InFDxRefIdeal (hInFDxRefIdeal := hInFDxRefIdeal)
    ∧ quiescent_InP (hInP := hInP)
    ∧ quiescent_InPIdeal (hInPIdeal := hInPIdeal)
    ∧ quiescent_InPRefIdeal (hInPRefIdeal := hInPRefIdeal)
    ∧ quiescent_InZ (hInZ := hInZ)
    ∧ quiescent_InZIdeal (hInZIdeal := hInZIdeal)
    ∧ quiescent_InZRefIdeal (hInZRefIdeal := hInZRefIdeal)
    ∧ quiescent_InX (hInX := hInX)
    ∧ quiescent_InXIdeal (hInXIdeal := hInXIdeal)
    ∧ quiescent_InXRefIdeal (hInXRefIdeal := hInXRefIdeal)
    ∧ quiescent_InG (hInG := hInG)
    ∧ quiescent_InGIdeal (hInGIdeal := hInGIdeal)
    ∧ quiescent_InGRefIdeal (hInGRefIdeal := hInGRefIdeal)
    ∧ quiescent_InF (hInF := hInF)
    ∧ quiescent_InFIdeal (hInFIdeal := hInFIdeal)
    ∧ quiescent_InFRefIdeal (hInFRefIdeal := hInFRefIdeal)
    ∧ quiescent_Pool (hPool := hPool)
    ∧ quiescent_PoolIdeal (hPoolIdeal := hPoolIdeal)
    ∧ quiescent_PoolRefIdeal (hPoolRefIdeal := hPoolRefIdeal)
    ∧ quiescent_Attn (hAttn := hAttn)
    ∧ quiescent_AttnIdeal (hAttnIdeal := hAttnIdeal)
    ∧ quiescent_AttnRefIdeal (hAttnRefIdeal := hAttnRefIdeal)
    ∧ quiescent_Out (hOut := hOut)
    ∧ quiescent_OutIdeal (hOutIdeal := hOutIdeal)
    ∧ quiescent_OutRefIdeal (hOutRefIdeal := hOutRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_Merge (hMerge := hMerge)
    ∧ quiescent_MergeIdeal (hMergeIdeal := hMergeIdeal)
    ∧ quiescent_MergeRefIdeal (hMergeRefIdeal := hMergeRefIdeal)
    ∧ quiescent_Norm (hNorm := hNorm)
    ∧ quiescent_NormIdeal (hNormIdeal := hNormIdeal)
    ∧ quiescent_NormRefIdeal (hNormRefIdeal := hNormRefIdeal)
    ∧ quiescent_Adam (hAdam := hAdam)
    ∧ quiescent_AdamIdeal (hAdamIdeal := hAdamIdeal)
    ∧ quiescent_AdamRefIdeal (hAdamRefIdeal := hAdamRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_DownDw_DownDwIdeal
    ∧ algebraic_DownDwIdeal_DownDwRefIdeal (hDownDwIdeal := hDownDwIdeal) (hDownDwRefIdeal := hDownDwRefIdeal)
    ∧ preserves_OutDw_OutDwIdeal
    ∧ algebraic_OutDwIdeal_OutDwRefIdeal (hOutDwIdeal := hOutDwIdeal) (hOutDwRefIdeal := hOutDwRefIdeal)
    ∧ preserves_PoolDw_PoolDwIdeal
    ∧ algebraic_PoolDwIdeal_PoolDwRefIdeal (hPoolDwIdeal := hPoolDwIdeal) (hPoolDwRefIdeal := hPoolDwRefIdeal)
    ∧ preserves_AttnDw_AttnDwIdeal
    ∧ algebraic_AttnDwIdeal_AttnDwRefIdeal (hAttnDwIdeal := hAttnDwIdeal) (hAttnDwRefIdeal := hAttnDwRefIdeal)
    ∧ preserves_SsdDw_SsdDwIdeal
    ∧ algebraic_SsdDwIdeal_SsdDwRefIdeal (hSsdDwIdeal := hSsdDwIdeal) (hSsdDwRefIdeal := hSsdDwRefIdeal)
    ∧ preserves_InPDw_InPDwIdeal
    ∧ algebraic_InPDwIdeal_InPDwRefIdeal (hInPDwIdeal := hInPDwIdeal) (hInPDwRefIdeal := hInPDwRefIdeal)
    ∧ preserves_InXDw_InXDwIdeal
    ∧ algebraic_InXDwIdeal_InXDwRefIdeal (hInXDwIdeal := hInXDwIdeal) (hInXDwRefIdeal := hInXDwRefIdeal)
    ∧ preserves_InGDw_InGDwIdeal
    ∧ algebraic_InGDwIdeal_InGDwRefIdeal (hInGDwIdeal := hInGDwIdeal) (hInGDwRefIdeal := hInGDwRefIdeal)
    ∧ preserves_InFDw_InFDwIdeal
    ∧ algebraic_InFDwIdeal_InFDwRefIdeal (hInFDwIdeal := hInFDwIdeal) (hInFDwRefIdeal := hInFDwRefIdeal)
    ∧ preserves_DownDx_DownDxIdeal
    ∧ algebraic_DownDxIdeal_DownDxRefIdeal (hDownDxIdeal := hDownDxIdeal) (hDownDxRefIdeal := hDownDxRefIdeal)
    ∧ preserves_OutDx_OutDxIdeal
    ∧ algebraic_OutDxIdeal_OutDxRefIdeal (hOutDxIdeal := hOutDxIdeal) (hOutDxRefIdeal := hOutDxRefIdeal)
    ∧ preserves_PoolDx_PoolDxIdeal
    ∧ algebraic_PoolDxIdeal_PoolDxRefIdeal (hPoolDxIdeal := hPoolDxIdeal) (hPoolDxRefIdeal := hPoolDxRefIdeal)
    ∧ preserves_SsdDx_SsdDxIdeal
    ∧ algebraic_SsdDxIdeal_SsdDxRefIdeal (hSsdDxIdeal := hSsdDxIdeal) (hSsdDxRefIdeal := hSsdDxRefIdeal)
    ∧ preserves_InPDx_InPDxIdeal
    ∧ algebraic_InPDxIdeal_InPDxRefIdeal (hInPDxIdeal := hInPDxIdeal) (hInPDxRefIdeal := hInPDxRefIdeal)
    ∧ preserves_InZDx_InZDxIdeal
    ∧ algebraic_InZDxIdeal_InZDxRefIdeal (hInZDxIdeal := hInZDxIdeal) (hInZDxRefIdeal := hInZDxRefIdeal)
    ∧ preserves_InXDx_InXDxIdeal
    ∧ algebraic_InXDxIdeal_InXDxRefIdeal (hInXDxIdeal := hInXDxIdeal) (hInXDxRefIdeal := hInXDxRefIdeal)
    ∧ preserves_InGDx_InGDxIdeal
    ∧ algebraic_InGDxIdeal_InGDxRefIdeal (hInGDxIdeal := hInGDxIdeal) (hInGDxRefIdeal := hInGDxRefIdeal)
    ∧ preserves_InFDx_InFDxIdeal
    ∧ algebraic_InFDxIdeal_InFDxRefIdeal (hInFDxIdeal := hInFDxIdeal) (hInFDxRefIdeal := hInFDxRefIdeal)
    ∧ preserves_InP_InPIdeal
    ∧ algebraic_InPIdeal_InPRefIdeal (hInPIdeal := hInPIdeal) (hInPRefIdeal := hInPRefIdeal)
    ∧ preserves_InZ_InZIdeal
    ∧ algebraic_InZIdeal_InZRefIdeal (hInZIdeal := hInZIdeal) (hInZRefIdeal := hInZRefIdeal)
    ∧ preserves_InX_InXIdeal
    ∧ algebraic_InXIdeal_InXRefIdeal (hInXIdeal := hInXIdeal) (hInXRefIdeal := hInXRefIdeal)
    ∧ preserves_InG_InGIdeal
    ∧ algebraic_InGIdeal_InGRefIdeal (hInGIdeal := hInGIdeal) (hInGRefIdeal := hInGRefIdeal)
    ∧ preserves_InF_InFIdeal
    ∧ algebraic_InFIdeal_InFRefIdeal (hInFIdeal := hInFIdeal) (hInFRefIdeal := hInFRefIdeal)
    ∧ preserves_Pool_PoolIdeal
    ∧ algebraic_PoolIdeal_PoolRefIdeal (hPoolIdeal := hPoolIdeal) (hPoolRefIdeal := hPoolRefIdeal)
    ∧ preserves_Attn_AttnIdeal
    ∧ algebraic_AttnIdeal_AttnRefIdeal (hAttnIdeal := hAttnIdeal) (hAttnRefIdeal := hAttnRefIdeal)
    ∧ preserves_Out_OutIdeal
    ∧ algebraic_OutIdeal_OutRefIdeal (hOutIdeal := hOutIdeal) (hOutRefIdeal := hOutRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_Merge_MergeIdeal
    ∧ algebraic_MergeIdeal_MergeRefIdeal (hMergeIdeal := hMergeIdeal) (hMergeRefIdeal := hMergeRefIdeal)
    ∧ preserves_Norm_NormIdeal
    ∧ algebraic_NormIdeal_NormRefIdeal (hNormIdeal := hNormIdeal) (hNormRefIdeal := hNormRefIdeal)
    ∧ preserves_Adam_AdamIdeal
    ∧ algebraic_AdamIdeal_AdamRefIdeal (hAdamIdeal := hAdamIdeal) (hAdamRefIdeal := hAdamRefIdeal)
    ∧ preserves_NormBwd_NormBwdIdeal
    ∧ algebraic_NormBwdIdeal_NormBwdRefIdeal (hNormBwdIdeal := hNormBwdIdeal) (hNormBwdRefIdeal := hNormBwdRefIdeal)
    ∧ preserves_LossHead_LossHeadIdeal
    ∧ algebraic_LossHeadIdeal_LossHeadRefIdeal (hLossHeadIdeal := hLossHeadIdeal) (hLossHeadRefIdeal := hLossHeadRefIdeal)
-- ==== UpDx.lean ====
abbrev S8192x5632 : Shape := ⟨2, ![8192, 5632]⟩
abbrev S1024x5632 : Shape := ⟨2, ![1024, 5632]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxIdeal.lean ====
abbrev S8192x5632 : Shape := ⟨2, ![8192, 5632]⟩
abbrev S1024x5632 : Shape := ⟨2, ![1024, 5632]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S8192x5632 : Shape := ⟨2, ![8192, 5632]⟩
abbrev S1024x5632 : Shape := ⟨2, ![1024, 5632]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x5632, .f32⟩
  | .hbm, ⟨3, _⟩ => ⟨S1024x5632, .f32⟩
  | .hbm, ⟨4, _⟩ => ⟨S_, .f32⟩
  | .hbm, ⟨5, _⟩ => ⟨S8192x1024, .f32⟩
  | .hbm, ⟨6, _⟩ => ⟨S8192x5632, .f32⟩
  | .hbm, ⟨7, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDw.lean ====
abbrev S8192x1024 : Shape := ⟨2, ![8192, 1024]⟩
abbrev S8192x5632 : Shape := ⟨2, ![8192, 5632]⟩
abbrev S1024x5632 : Shape := ⟨2, ![1024, 5632]⟩
abbrev S512x1024 : Shape := ⟨2, ![512, 1024]⟩
abbrev S512x1408 : Shape := ⟨2, ![512, 1408]⟩
abbrev S1024x1408 : Shape := ⟨2, ![1024, 1408]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def k0_cond2 (i : grid0.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwIdeal.lean ====
abbrev S8192x1024 : Shape := ⟨2, ![8192, 1024]⟩
abbrev S8192x5632 : Shape := ⟨2, ![8192, 5632]⟩
abbrev S1024x5632 : Shape := ⟨2, ![1024, 5632]⟩
abbrev S512x1024 : Shape := ⟨2, ![512, 1024]⟩
abbrev S512x1408 : Shape := ⟨2, ![512, 1408]⟩
abbrev S1024x1408 : Shape := ⟨2, ![1024, 1408]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def k0_cond2 (i : grid0.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S8192x5632, .f32⟩
  | .hbm, ⟨4, _⟩ => ⟨S_, .f32⟩
  | .hbm, ⟨5, _⟩ => ⟨S1024x5632, .f32⟩
  | .hbm, ⟨6, _⟩ => ⟨S8192x5632, .f32⟩
  | .hbm, ⟨7, _⟩ => ⟨S5632x1024, .f32⟩
  | .hbm, ⟨8, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDw.lean ====
abbrev S8192x2816 : Shape := ⟨2, ![8192, 2816]⟩
abbrev S8192x1024 : Shape := ⟨2, ![8192, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S512x1408, .bf16⟩
  | .local _ .vmem, ⟨1, _⟩ => ⟨S512x1408, .bf16⟩
  | .local _ .vmem, ⟨2, _⟩ => ⟨S512x1024, .f32⟩
  | .local _ .vmem, ⟨3, _⟩ => ⟨S512x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v15 : BitVec 1 := Scalar.cmpi .eq arg2 c15_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwIdeal.lean ====
abbrev S8192x2816 : Shape := ⟨2, ![8192, 2816]⟩
abbrev S8192x1024 : Shape := ⟨2, ![8192, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S512x1408, .bf16⟩
  | .local _ .vmem, ⟨1, _⟩ => ⟨S512x1408, .bf16⟩
  | .local _ .vmem, ⟨2, _⟩ => ⟨S512x1024, .f32⟩
  | .local _ .vmem, ⟨3, _⟩ => ⟨S512x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v15 : BitVec 1 := Scalar.cmpi .eq arg2 c15_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S1024x2816, .f32⟩
  | .hbm, ⟨7, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S8192x1024 : Shape := ⟨2, ![8192, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v15 : BitVec 1 := Scalar.cmpi .eq arg2 c15_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwIdeal.lean ====
abbrev S8192x1024 : Shape := ⟨2, ![8192, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v15 : BitVec 1 := Scalar.cmpi .eq arg2 c15_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== PoolDw.lean ====
abbrev S8192x512 : Shape := ⟨2, ![8192, 512]⟩
abbrev S8192x1024 : Shape := ⟨2, ![8192, 1024]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PoolDwIdeal.lean ====
abbrev S8192x512 : Shape := ⟨2, ![8192, 512]⟩
abbrev S8192x1024 : Shape := ⟨2, ![8192, 1024]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PoolDwRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .f32⟩
  | .hbm, ⟨3, _⟩ => ⟨S8192x1024, .f32⟩
  | .hbm, ⟨4, _⟩ => ⟨S_, .f32⟩
  | .hbm, ⟨5, _⟩ => ⟨S512x1024, .f32⟩
  | .hbm, ⟨6, _⟩ => ⟨S8192x1024, .f32⟩
  | .hbm, ⟨7, _⟩ => ⟨S1024x512, .f32⟩
  | .hbm, ⟨8, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnDw.lean ====
abbrev S8192x512 : Shape := ⟨2, ![8192, 512]⟩
abbrev S8192x1024 : Shape := ⟨2, ![8192, 1024]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S512x1024, .f32⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AttnDwIdeal.lean ====
abbrev S8192x512 : Shape := ⟨2, ![8192, 512]⟩
abbrev S8192x1024 : Shape := ⟨2, ![8192, 1024]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S512x1024, .f32⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AttnDwRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S512x1024, .f32⟩
  | .hbm, ⟨5, _⟩ => ⟨S8192x1024, .f32⟩
  | .hbm, ⟨6, _⟩ => ⟨S1024x512, .f32⟩
  | .hbm, ⟨7, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SsdDw.lean ====
abbrev S8192x1024 : Shape := ⟨2, ![8192, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SsdDwIdeal.lean ====
abbrev S8192x1024 : Shape := ⟨2, ![8192, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SsdDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InPDw.lean ====
abbrev S8192x1024 : Shape := ⟨2, ![8192, 1024]⟩
abbrev S8192x2048 : Shape := ⟨2, ![8192, 2048]⟩
abbrev S1024x2048 : Shape := ⟨2, ![1024, 2048]⟩
abbrev S512x1024 : Shape := ⟨2, ![512, 1024]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InPDwIdeal.lean ====
abbrev S8192x1024 : Shape := ⟨2, ![8192, 1024]⟩
abbrev S8192x2048 : Shape := ⟨2, ![8192, 2048]⟩
abbrev S1024x2048 : Shape := ⟨2, ![1024, 2048]⟩
abbrev S512x1024 : Shape := ⟨2, ![512, 1024]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InPDwRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S8192x2048, .f32⟩
  | .hbm, ⟨4, _⟩ => ⟨S_, .f32⟩
  | .hbm, ⟨5, _⟩ => ⟨S1024x2048, .f32⟩
  | .hbm, ⟨6, _⟩ => ⟨S8192x2048, .f32⟩
  | .hbm, ⟨7, _⟩ => ⟨S2048x1024, .f32⟩
  | .hbm, ⟨8, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InXDw.lean ====
abbrev S8192x1024 : Shape := ⟨2, ![8192, 1024]⟩
abbrev S8192x1536 : Shape := ⟨2, ![8192, 1536]⟩
abbrev S1024x1536 : Shape := ⟨2, ![1024, 1536]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x1536, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 16], ![false, false, false]⟩

def k0_cond2 (i : grid0.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InXDwIdeal.lean ====
abbrev S8192x1024 : Shape := ⟨2, ![8192, 1024]⟩
abbrev S8192x1536 : Shape := ⟨2, ![8192, 1536]⟩
abbrev S1024x1536 : Shape := ⟨2, ![1024, 1536]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x1536, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 16], ![false, false, false]⟩

def k0_cond2 (i : grid0.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InXDwRefIdeal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x1024, .f32⟩
  | .hbm, ⟨3, _⟩ => ⟨S8192x1536, .f32⟩
  | .hbm, ⟨4, _⟩ => ⟨S_, .f32⟩
  | .hbm, ⟨5, _⟩ => ⟨S1024x1536, .f32⟩
  | .hbm, ⟨6, _⟩ => ⟨S8192x1536, .f32⟩
  | .hbm, ⟨7, _⟩ => ⟨S1536x1024, .f32⟩
  | .hbm, ⟨8, _⟩ => ⟨S1024x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InGDw.lean ====
abbrev S8192x1024 : Shape := ⟨2, ![8192, 1024]⟩
abbrev S8192x3072 : Shape := ⟨2, ![8192, 3072]⟩
abbrev S1024x3072 : Shape := ⟨2, ![1024, 3072]⟩
abbrev S512x1024 : Shape := ⟨2, ![512, 1024]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 16], ![false, false, false]⟩

def k0_cond2 (i : grid0.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGDwIdeal.lean ====
abbrev S8192x1024 : Shape := ⟨2, ![8192, 1024]⟩
abbrev S8192x3072 : Shape := ⟨2, ![8192, 3072]⟩
abbrev S1024x3072 : Shape := ⟨2, ![1024, 3072]⟩
abbrev S512x1024 : Shape := ⟨2, ![512, 1024]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 16], ![false, false, false]⟩

def k0_cond2 (i : grid0.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGDwRefIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x1024, .f32⟩
  | .hbm, ⟨3, _⟩ => ⟨S8192x3072, .f32⟩
  | .hbm, ⟨4, _⟩ => ⟨S_, .f32⟩
  | .hbm, ⟨5, _⟩ => ⟨S1024x3072, .f32⟩
  | .hbm, ⟨6, _⟩ => ⟨S8192x3072, .f32⟩
  | .hbm, ⟨7, _⟩ => ⟨S3072x1024, .f32⟩
  | .hbm, ⟨8, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InFDw.lean ====
abbrev S8192x1024 : Shape := ⟨2, ![8192, 1024]⟩
abbrev S8192x128 : Shape := ⟨2, ![8192, 128]⟩
abbrev S1024x128 : Shape := ⟨2, ![1024, 128]⟩
abbrev S512x1024 : Shape := ⟨2, ![512, 1024]⟩
abbrev S512x128 : Shape := ⟨2, ![512, 128]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x128, .f32⟩
  | .local _ .vmem, ⟨0, _⟩ => ⟨S512x1024, .bf16⟩
  | .local _ .vmem, ⟨1, _⟩ => ⟨S512x1024, .bf16⟩
  | .local _ .vmem, ⟨2, _⟩ => ⟨S512x128, .bf16⟩
  | .local _ .vmem, ⟨3, _⟩ => ⟨S512x128, .bf16⟩
  | .local _ .vmem, ⟨4, _⟩ => ⟨S1024x128, .f32⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InFDwIdeal.lean ====
abbrev S8192x1024 : Shape := ⟨2, ![8192, 1024]⟩
abbrev S8192x128 : Shape := ⟨2, ![8192, 128]⟩
abbrev S1024x128 : Shape := ⟨2, ![1024, 128]⟩
abbrev S512x1024 : Shape := ⟨2, ![512, 1024]⟩
abbrev S512x128 : Shape := ⟨2, ![512, 128]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x128, .f32⟩
  | .local _ .vmem, ⟨0, _⟩ => ⟨S512x1024, .bf16⟩
  | .local _ .vmem, ⟨1, _⟩ => ⟨S512x1024, .bf16⟩
  | .local _ .vmem, ⟨2, _⟩ => ⟨S512x128, .bf16⟩
  | .local _ .vmem, ⟨3, _⟩ => ⟨S512x128, .bf16⟩
  | .local _ .vmem, ⟨4, _⟩ => ⟨S1024x128, .f32⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InFDwRefIdeal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S8192x1024, .f32⟩
  | .hbm, ⟨3, _⟩ => ⟨S8192x128, .f32⟩
  | .hbm, ⟨4, _⟩ => ⟨S_, .f32⟩
  | .hbm, ⟨5, _⟩ => ⟨S1024x128, .f32⟩
  | .hbm, ⟨6, _⟩ => ⟨S8192x128, .f32⟩
  | .hbm, ⟨7, _⟩ => ⟨S128x1024, .f32⟩
  | .hbm, ⟨8, _⟩ => ⟨S1024x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDx.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxIdeal.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S2816x1024, .f32⟩
  | .hbm, ⟨3, _⟩ => ⟨S_, .f32⟩
  | .hbm, ⟨4, _⟩ => ⟨S8192x2816, .f32⟩
  | .hbm, ⟨5, _⟩ => ⟨S8192x1024, .f32⟩
  | .hbm, ⟨6, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDx.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxIdeal.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== PoolDx.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PoolDxIdeal.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PoolDxRefIdeal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x1024, .f32⟩
  | .hbm, ⟨3, _⟩ => ⟨S512x1024, .f32⟩
  | .hbm, ⟨4, _⟩ => ⟨S_, .f32⟩
  | .hbm, ⟨5, _⟩ => ⟨S8192x512, .f32⟩
  | .hbm, ⟨6, _⟩ => ⟨S8192x1024, .f32⟩
  | .hbm, ⟨7, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SsdDx.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdDxIdeal.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdDxRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InPDx.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InPDxIdeal.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InPDxRefIdeal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x2048, .f32⟩
  | .hbm, ⟨3, _⟩ => ⟨S1024x2048, .f32⟩
  | .hbm, ⟨4, _⟩ => ⟨S_, .f32⟩
  | .hbm, ⟨5, _⟩ => ⟨S8192x1024, .f32⟩
  | .hbm, ⟨6, _⟩ => ⟨S8192x2048, .f32⟩
  | .hbm, ⟨7, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InZDx.lean ====
abbrev S8192x1024 : Shape := ⟨2, ![8192, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InZDxIdeal.lean ====
abbrev S8192x1024 : Shape := ⟨2, ![8192, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InZDxRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InXDx.lean ====
abbrev S8192x1536 : Shape := ⟨2, ![8192, 1536]⟩
abbrev S1024x1536 : Shape := ⟨2, ![1024, 1536]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x1536, .bf16⟩
  | .hbm, ⟨1, _⟩ => ⟨S1024x1536, .bf16⟩
  | .hbm, ⟨2, _⟩ => ⟨S8192x1024, .f32⟩
  | .hbm, ⟨3, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InXDxIdeal.lean ====
abbrev S8192x1536 : Shape := ⟨2, ![8192, 1536]⟩
abbrev S1024x1536 : Shape := ⟨2, ![1024, 1536]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x1536, .bf16⟩
  | .hbm, ⟨1, _⟩ => ⟨S1024x1536, .bf16⟩
  | .hbm, ⟨2, _⟩ => ⟨S8192x1024, .f32⟩
  | .hbm, ⟨3, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InXDxRefIdeal.lean ====
abbrev S8192x1536 : Shape := ⟨2, ![8192, 1536]⟩
abbrev S1024x1536 : Shape := ⟨2, ![1024, 1536]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S1024x1536, .bf16⟩
  | .hbm, ⟨2, _⟩ => ⟨S8192x1024, .f32⟩
  | .hbm, ⟨3, _⟩ => ⟨S8192x1536, .f32⟩
  | .hbm, ⟨4, _⟩ => ⟨S1024x1536, .f32⟩
  | .hbm, ⟨5, _⟩ => ⟨S_, .f32⟩
  | .hbm, ⟨6, _⟩ => ⟨S8192x1024, .f32⟩
  | .hbm, ⟨7, _⟩ => ⟨S8192x1536, .f32⟩
  | .hbm, ⟨8, _⟩ => ⟨S8192x1024, .f32⟩
  | .hbm, ⟨9, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InGDx.lean ====
abbrev S8192x3072 : Shape := ⟨2, ![8192, 3072]⟩
abbrev S1024x3072 : Shape := ⟨2, ![1024, 3072]⟩
abbrev S8192x1024 : Shape := ⟨2, ![8192, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InGDxIdeal.lean ====
abbrev S8192x3072 : Shape := ⟨2, ![8192, 3072]⟩
abbrev S1024x3072 : Shape := ⟨2, ![1024, 3072]⟩
abbrev S8192x1024 : Shape := ⟨2, ![8192, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InGDxRefIdeal.lean ====
abbrev S8192x3072 : Shape := ⟨2, ![8192, 3072]⟩
abbrev S1024x3072 : Shape := ⟨2, ![1024, 3072]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S8192x3072, .f32⟩
  | .hbm, ⟨4, _⟩ => ⟨S1024x3072, .f32⟩
  | .hbm, ⟨5, _⟩ => ⟨S_, .f32⟩
  | .hbm, ⟨6, _⟩ => ⟨S8192x1024, .f32⟩
  | .hbm, ⟨7, _⟩ => ⟨S8192x3072, .f32⟩
  | .hbm, ⟨8, _⟩ => ⟨S8192x1024, .f32⟩
  | .hbm, ⟨9, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InFDx.lean ====
abbrev S8192x128 : Shape := ⟨2, ![8192, 128]⟩
abbrev S1024x128 : Shape := ⟨2, ![1024, 128]⟩
abbrev S8192x1024 : Shape := ⟨2, ![8192, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x128, .bf16⟩
  | .hbm, ⟨1, _⟩ => ⟨S1024x128, .bf16⟩
  | .hbm, ⟨2, _⟩ => ⟨S8192x1024, .f32⟩
  | .hbm, ⟨3, _⟩ => ⟨S8192x1024, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InFDxIdeal.lean ====
abbrev S8192x128 : Shape := ⟨2, ![8192, 128]⟩
abbrev S1024x128 : Shape := ⟨2, ![1024, 128]⟩
abbrev S8192x1024 : Shape := ⟨2, ![8192, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x128, .bf16⟩
  | .hbm, ⟨1, _⟩ => ⟨S1024x128, .bf16⟩
  | .hbm, ⟨2, _⟩ => ⟨S8192x1024, .f32⟩
  | .hbm, ⟨3, _⟩ => ⟨S8192x1024, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InFDxRefIdeal.lean ====
abbrev S8192x128 : Shape := ⟨2, ![8192, 128]⟩
abbrev S1024x128 : Shape := ⟨2, ![1024, 128]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S1024x128, .bf16⟩
  | .hbm, ⟨2, _⟩ => ⟨S8192x1024, .f32⟩
  | .hbm, ⟨3, _⟩ => ⟨S8192x128, .f32⟩
  | .hbm, ⟨4, _⟩ => ⟨S1024x128, .f32⟩
  | .hbm, ⟨5, _⟩ => ⟨S_, .f32⟩
  | .hbm, ⟨6, _⟩ => ⟨S8192x1024, .f32⟩
  | .hbm, ⟨7, _⟩ => ⟨S8192x128, .f32⟩
  | .hbm, ⟨8, _⟩ => ⟨S8192x1024, .f32⟩
  | .hbm, ⟨9, _⟩ => ⟨S8192x1024, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InP.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InPIdeal.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InPRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InZ.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InZIdeal.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InZRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InX.lean ====
abbrev S8192x1024 : Shape := ⟨2, ![8192, 1024]⟩
abbrev S1024x1536 : Shape := ⟨2, ![1024, 1536]⟩
abbrev S8192x1536 : Shape := ⟨2, ![8192, 1536]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InXIdeal.lean ====
abbrev S8192x1024 : Shape := ⟨2, ![8192, 1024]⟩
abbrev S1024x1536 : Shape := ⟨2, ![1024, 1536]⟩
abbrev S8192x1536 : Shape := ⟨2, ![8192, 1536]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InXRefIdeal.lean ====
abbrev S8192x1024 : Shape := ⟨2, ![8192, 1024]⟩
abbrev S1024x1536 : Shape := ⟨2, ![1024, 1536]⟩
abbrev S8192x1536 : Shape := ⟨2, ![8192, 1536]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1024, .f32⟩
  | .hbm, ⟨3, _⟩ => ⟨S1024x1536, .f32⟩
  | .hbm, ⟨4, _⟩ => ⟨S8192x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InG.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGIdeal.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGRefIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InF.lean ====
abbrev S8192x1024 : Shape := ⟨2, ![8192, 1024]⟩
abbrev S1024x128 : Shape := ⟨2, ![1024, 128]⟩
abbrev S8192x128 : Shape := ⟨2, ![8192, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFIdeal.lean ====
abbrev S8192x1024 : Shape := ⟨2, ![8192, 1024]⟩
abbrev S1024x128 : Shape := ⟨2, ![1024, 128]⟩
abbrev S8192x128 : Shape := ⟨2, ![8192, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFRefIdeal.lean ====
abbrev S8192x1024 : Shape := ⟨2, ![8192, 1024]⟩
abbrev S1024x128 : Shape := ⟨2, ![1024, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x1024, .f32⟩
  | .hbm, ⟨3, _⟩ => ⟨S1024x128, .f32⟩
  | .hbm, ⟨4, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Pool.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PoolIdeal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PoolRefIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .f32⟩
  | .hbm, ⟨3, _⟩ => ⟨S512x1024, .f32⟩
  | .hbm, ⟨4, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Attn.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1024, .bf16⟩
  | .hbm, ⟨2, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnIdeal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1024, .bf16⟩
  | .hbm, ⟨2, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnRefIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .bf16⟩
  | .hbm, ⟨2, _⟩ => ⟨S512x1024, .f32⟩
  | .hbm, ⟨3, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Out.lean ====
abbrev S8192x1024 : Shape := ⟨2, ![8192, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutIdeal.lean ====
abbrev S8192x1024 : Shape := ⟨2, ![8192, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Up.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpIdeal.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownIdeal.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MergeBwd.lean ====
abbrev S8192x3072 : Shape := ⟨2, ![8192, 3072]⟩
abbrev S8192x1024 : Shape := ⟨2, ![8192, 1024]⟩
abbrev S256x3072 : Shape := ⟨2, ![256, 3072]⟩
abbrev S256x1024 : Shape := ⟨2, ![256, 1024]⟩
abbrev S32x512 : Shape := ⟨2, ![32, 512]⟩

abbrev nBuf : Space → Nat
  | .hbm => 9
  | .vmem => 18
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x3072, .bf16⟩
  | .local _ .vmem, ⟨0, _⟩ => ⟨S256x3072, .f32⟩
  | .local _ .vmem, ⟨1, _⟩ => ⟨S256x3072, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x3072, .bf16⟩
  | .local _ .vmem, ⟨17, _⟩ => ⟨S256x3072, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

@[reducible] def k0_t1_loop : Scf.Loop 32 :=
  let c1_i32 : BitVec 32 := 1#32
  let c6_i32 : BitVec 32 := 6#32
  let v116 : BitVec 32 := Scalar.addi c1_i32 c6_i32
  let c1_i32_69 : BitVec 32 := 1#32
  ⟨c1_i32, v116, c1_i32_69⟩
def k0_mult1 (k0_t1 : Fin k0_t1_loop.trips) : BitVec 32 :=
  let c1_i32 : BitVec 32 := 1#32
  let c1_i32_69 : BitVec 32 := 1#32
  let arg10 : BitVec 32 := Scf.iv c1_i32 c1_i32_69 k0_t1
  let c32_i32 : BitVec 32 := 32#32
  let v233 : BitVec 32 := Scalar.muli arg10 c32_i32
  v233
def k0_off1 (k0_t1 : Fin k0_t1_loop.trips) : Fin 2 → Nat :=
  let c1_i32 : BitVec 32 := 1#32
  let c1_i32_69 : BitVec 32 := 1#32
  let arg10 : BitVec 32 := Scf.iv c1_i32 c1_i32_69 k0_t1
  let c32_i32 : BitVec 32 := 32#32
  let v233 : BitVec 32 := Scalar.muli arg10 c32_i32
  let v234 : BitVec 32 := v233
  let v235 : Index := Scalar.indexCast v234
  let c0_146 : Index := 0#32
  ![v235.toNat, 0]
def k0_off2 (k0_t1 : Fin k0_t1_loop.trips) : Fin 2 → Nat :=
  let c1_i32 : BitVec 32 := 1#32
  let c1_i32_69 : BitVec 32 := 1#32
  let arg10 : BitVec 32 := Scf.iv c1_i32 c1_i32_69 k0_t1
  let c32_i32 : BitVec 32 := 32#32
  let v233 : BitVec 32 := Scalar.muli arg10 c32_i32
  let v234 : BitVec 32 := v233
  let v237 : Index := Scalar.indexCast v234
  let c0_147 : Index := 0#32
  ![v237.toNat, 0]
def k0_off3 (k0_t1 : Fin k0_t1_loop.trips) : Fin 2 → Nat :=
  let c1_i32 : BitVec 32 := 1#32
  let c1_i32_69 : BitVec 32 := 1#32
  let arg10 : BitVec 32 := Scf.iv c1_i32 c1_i32_69 k0_t1
  let c32_i32 : BitVec 32 := 32#32
  let v233 : BitVec 32 := Scalar.muli arg10 c32_i32
  let v234 : BitVec 32 := v233
  let v260 : Index := Scalar.indexCast v234
  let c1024_155 : Index := 1024#32
  ![v260.toNat, 1024]
def k0_off4 (k0_t1 : Fin k0_t1_loop.trips) : Fin 2 → Nat :=
  let c1_i32 : BitVec 32 := 1#32
  let c1_i32_69 : BitVec 32 := 1#32
  let arg10 : BitVec 32 := Scf.iv c1_i32 c1_i32_69 k0_t1
  let c32_i32 : BitVec 32 := 32#32
  let v233 : BitVec 32 := Scalar.muli arg10 c32_i32
  let v234 : BitVec 32 := v233
  let v283 : Index := Scalar.indexCast v234
  let c2048_163 : Index := 2048#32
  ![v283.toNat, 2048]
def k0_off5 (k0_t1 : Fin k0_t1_loop.trips) : Fin 2 → Nat :=
  let c1_i32 : BitVec 32 := 1#32
  let c1_i32_69 : BitVec 32 := 1#32
  let arg10 : BitVec 32 := Scf.iv c1_i32 c1_i32_69 k0_t1
  let c32_i32 : BitVec 32 := 32#32
  let v233 : BitVec 32 := Scalar.muli arg10 c32_i32
  let v234 : BitVec 32 := v233
  let v306 : Index := Scalar.indexCast v234
  let c512_171 : Index := 512#32
  ![v306.toNat, 512]
def k0_off6 (k0_t1 : Fin k0_t1_loop.trips) : Fin 2 → Nat :=
  let c1_i32 : BitVec 32 := 1#32
  let c1_i32_69 : BitVec 32 := 1#32
  let arg10 : BitVec 32 := Scf.iv c1_i32 c1_i32_69 k0_t1
  let c32_i32 : BitVec 32 := 32#32
  let v233 : BitVec 32 := Scalar.muli arg10 c32_i32
  let v234 : BitVec 32 := v233
  let v308 : Index := Scalar.indexCast v234
  let c512_172 : Index := 512#32
  ![v308.toNat, 512]
def k0_off7 (k0_t1 : Fin k0_t1_loop.trips) : Fin 2 → Nat :=
  let c1_i32 : BitVec 32 := 1#32
  let c1_i32_69 : BitVec 32 := 1#32
  let arg10 : BitVec 32 := Scf.iv c1_i32 c1_i32_69 k0_t1
  let c32_i32 : BitVec 32 := 32#32
  let v233 : BitVec 32 := Scalar.muli arg10 c32_i32
  let v234 : BitVec 32 := v233
  let v331 : Index := Scalar.indexCast v234
  let c1536_180 : Index := 1536#32
  ![v331.toNat, 1536]
def k0_off8 (k0_t1 : Fin k0_t1_loop.trips) : Fin 2 → Nat :=
  let c1_i32 : BitVec 32 := 1#32
  let c1_i32_69 : BitVec 32 := 1#32
  let arg10 : BitVec 32 := Scf.iv c1_i32 c1_i32_69 k0_t1
  let c32_i32 : BitVec 32 := 32#32
  let v233 : BitVec 32 := Scalar.muli arg10 c32_i32
  let v234 : BitVec 32 := v233
  let v354 : Index := Scalar.indexCast v234
  let c2560_188 : Index := 2560#32
  ![v354.toNat, 2560]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeBwdIdeal.lean ====
abbrev S8192x3072 : Shape := ⟨2, ![8192, 3072]⟩
abbrev S8192x1024 : Shape := ⟨2, ![8192, 1024]⟩
abbrev S256x3072 : Shape := ⟨2, ![256, 3072]⟩
abbrev S256x1024 : Shape := ⟨2, ![256, 1024]⟩
abbrev S32x512 : Shape := ⟨2, ![32, 512]⟩

abbrev nBuf : Space → Nat
  | .hbm => 9
  | .vmem => 18
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x3072, .bf16⟩
  | .local _ .vmem, ⟨0, _⟩ => ⟨S256x3072, .f32⟩
  | .local _ .vmem, ⟨1, _⟩ => ⟨S256x3072, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x3072, .bf16⟩
  | .local _ .vmem, ⟨17, _⟩ => ⟨S256x3072, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

@[reducible] def k0_t1_loop : Scf.Loop 32 :=
  let c1_i32 : BitVec 32 := 1#32
  let c6_i32 : BitVec 32 := 6#32
  let v116 : BitVec 32 := Scalar.addi c1_i32 c6_i32
  let c1_i32_69 : BitVec 32 := 1#32
  ⟨c1_i32, v116, c1_i32_69⟩
def k0_mult1 (k0_t1 : Fin k0_t1_loop.trips) : BitVec 32 :=
  let c1_i32 : BitVec 32 := 1#32
  let c1_i32_69 : BitVec 32 := 1#32
  let arg10 : BitVec 32 := Scf.iv c1_i32 c1_i32_69 k0_t1
  let c32_i32 : BitVec 32 := 32#32
  let v233 : BitVec 32 := Scalar.muli arg10 c32_i32
  v233
def k0_off1 (k0_t1 : Fin k0_t1_loop.trips) : Fin 2 → Nat :=
  let c1_i32 : BitVec 32 := 1#32
  let c1_i32_69 : BitVec 32 := 1#32
  let arg10 : BitVec 32 := Scf.iv c1_i32 c1_i32_69 k0_t1
  let c32_i32 : BitVec 32 := 32#32
  let v233 : BitVec 32 := Scalar.muli arg10 c32_i32
  let v234 : BitVec 32 := v233
  let v235 : Index := Scalar.indexCast v234
  let c0_146 : Index := 0#32
  ![v235.toNat, 0]
def k0_off2 (k0_t1 : Fin k0_t1_loop.trips) : Fin 2 → Nat :=
  let c1_i32 : BitVec 32 := 1#32
  let c1_i32_69 : BitVec 32 := 1#32
  let arg10 : BitVec 32 := Scf.iv c1_i32 c1_i32_69 k0_t1
  let c32_i32 : BitVec 32 := 32#32
  let v233 : BitVec 32 := Scalar.muli arg10 c32_i32
  let v234 : BitVec 32 := v233
  let v237 : Index := Scalar.indexCast v234
  let c0_147 : Index := 0#32
  ![v237.toNat, 0]
def k0_off3 (k0_t1 : Fin k0_t1_loop.trips) : Fin 2 → Nat :=
  let c1_i32 : BitVec 32 := 1#32
  let c1_i32_69 : BitVec 32 := 1#32
  let arg10 : BitVec 32 := Scf.iv c1_i32 c1_i32_69 k0_t1
  let c32_i32 : BitVec 32 := 32#32
  let v233 : BitVec 32 := Scalar.muli arg10 c32_i32
  let v234 : BitVec 32 := v233
  let v260 : Index := Scalar.indexCast v234
  let c1024_155 : Index := 1024#32
  ![v260.toNat, 1024]
def k0_off4 (k0_t1 : Fin k0_t1_loop.trips) : Fin 2 → Nat :=
  let c1_i32 : BitVec 32 := 1#32
  let c1_i32_69 : BitVec 32 := 1#32
  let arg10 : BitVec 32 := Scf.iv c1_i32 c1_i32_69 k0_t1
  let c32_i32 : BitVec 32 := 32#32
  let v233 : BitVec 32 := Scalar.muli arg10 c32_i32
  let v234 : BitVec 32 := v233
  let v283 : Index := Scalar.indexCast v234
  let c2048_163 : Index := 2048#32
  ![v283.toNat, 2048]
def k0_off5 (k0_t1 : Fin k0_t1_loop.trips) : Fin 2 → Nat :=
  let c1_i32 : BitVec 32 := 1#32
  let c1_i32_69 : BitVec 32 := 1#32
  let arg10 : BitVec 32 := Scf.iv c1_i32 c1_i32_69 k0_t1
  let c32_i32 : BitVec 32 := 32#32
  let v233 : BitVec 32 := Scalar.muli arg10 c32_i32
  let v234 : BitVec 32 := v233
  let v306 : Index := Scalar.indexCast v234
  let c512_171 : Index := 512#32
  ![v306.toNat, 512]
def k0_off6 (k0_t1 : Fin k0_t1_loop.trips) : Fin 2 → Nat :=
  let c1_i32 : BitVec 32 := 1#32
  let c1_i32_69 : BitVec 32 := 1#32
  let arg10 : BitVec 32 := Scf.iv c1_i32 c1_i32_69 k0_t1
  let c32_i32 : BitVec 32 := 32#32
  let v233 : BitVec 32 := Scalar.muli arg10 c32_i32
  let v234 : BitVec 32 := v233
  let v308 : Index := Scalar.indexCast v234
  let c512_172 : Index := 512#32
  ![v308.toNat, 512]
def k0_off7 (k0_t1 : Fin k0_t1_loop.trips) : Fin 2 → Nat :=
  let c1_i32 : BitVec 32 := 1#32
  let c1_i32_69 : BitVec 32 := 1#32
  let arg10 : BitVec 32 := Scf.iv c1_i32 c1_i32_69 k0_t1
  let c32_i32 : BitVec 32 := 32#32
  let v233 : BitVec 32 := Scalar.muli arg10 c32_i32
  let v234 : BitVec 32 := v233
  let v331 : Index := Scalar.indexCast v234
  let c1536_180 : Index := 1536#32
  ![v331.toNat, 1536]
def k0_off8 (k0_t1 : Fin k0_t1_loop.trips) : Fin 2 → Nat :=
  let c1_i32 : BitVec 32 := 1#32
  let c1_i32_69 : BitVec 32 := 1#32
  let arg10 : BitVec 32 := Scf.iv c1_i32 c1_i32_69 k0_t1
  let c32_i32 : BitVec 32 := 32#32
  let v233 : BitVec 32 := Scalar.muli arg10 c32_i32
  let v234 : BitVec 32 := v233
  let v354 : Index := Scalar.indexCast v234
  let c2560_188 : Index := 2560#32
  ![v354.toNat, 2560]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeBwdRefIdeal.lean ====
abbrev S8192x3072 : Shape := ⟨2, ![8192, 3072]⟩
abbrev S8192x1024 : Shape := ⟨2, ![8192, 1024]⟩
abbrev S_ : Shape := ⟨0, ![]⟩
abbrev S8192x3x1024 : Shape := ⟨3, ![8192, 3, 1024]⟩
abbrev S8192x1x1024 : Shape := ⟨3, ![8192, 1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S_, .f32⟩
  | .hbm, ⟨8, _⟩ => ⟨S8192x3072, .f32⟩
  | .hbm, ⟨9, _⟩ => ⟨S8192x3072, .f32⟩
  | .hbm, ⟨10, _⟩ => ⟨S_, .f32⟩
  | .hbm, ⟨11, _⟩ => ⟨S8192x3072, .f32⟩
  | .hbm, ⟨12, _⟩ => ⟨S8192x3072, .f32⟩
  | .hbm, ⟨13, _⟩ => ⟨S_, .f32⟩
  | .hbm, ⟨14, _⟩ => ⟨S8192x3072, .f32⟩
  | .hbm, ⟨15, _⟩ => ⟨S8192x3072, .f32⟩
  | .hbm, ⟨16, _⟩ => ⟨S8192x3072, .f32⟩
  | .hbm, ⟨17, _⟩ => ⟨S8192x3x1024, .f32⟩
  | .hbm, ⟨18, _⟩ => ⟨S8192x1x1024, .f32⟩
  | .hbm, ⟨19, _⟩ => ⟨S8192x1024, .f32⟩
  | .hbm, ⟨20, _⟩ => ⟨S8192x1024, .f32⟩
  | .hbm, ⟨21, _⟩ => ⟨S8192x1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1x1024, .f32⟩
  | .hbm, ⟨34, _⟩ => ⟨S_, .f32⟩
  | .hbm, ⟨35, _⟩ => ⟨S8192x3x1024, .f32⟩
  | .hbm, ⟨36, _⟩ => ⟨S8192x1024, .f32⟩
  | .hbm, ⟨37, _⟩ => ⟨S8192x1024, .f32⟩
  | .hbm, ⟨38, _⟩ => ⟨S8192x1x1024, .f32⟩
  | .hbm, ⟨39, _⟩ => ⟨S_, .f32⟩
  | .hbm, ⟨40, _⟩ => ⟨S8192x3x1024, .f32⟩
  | .hbm, ⟨41, _⟩ => ⟨S8192x3x1024, .f32⟩
  | .hbm, ⟨42, _⟩ => ⟨S8192x1024, .f32⟩
  | .hbm, ⟨43, _⟩ => ⟨S8192x1024, .f32⟩
  | .hbm, ⟨44, _⟩ => ⟨S8192x1x1024, .f32⟩
  | .hbm, ⟨45, _⟩ => ⟨S_, .f32⟩
  | .hbm, ⟨46, _⟩ => ⟨S8192x3x1024, .f32⟩
  | .hbm, ⟨47, _⟩ => ⟨S8192x3x1024, .f32⟩
  | .hbm, ⟨48, _⟩ => ⟨S8192x3072, .f32⟩
  | .hbm, ⟨49, _⟩ => ⟨S8192x3072, .f32⟩
  | .hbm, ⟨50, _⟩ => ⟨S8192x1024, .bf16⟩
  | .hbm, ⟨51, _⟩ => ⟨S8192x1024, .bf16⟩
  | .hbm, ⟨52, _⟩ => ⟨S8192x1024, .bf16⟩
  | .hbm, ⟨53, _⟩ => ⟨S8192x3072, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Merge.lean ====
abbrev S8192x3072 : Shape := ⟨2, ![8192, 3072]⟩
abbrev S8192x1024 : Shape := ⟨2, ![8192, 1024]⟩
abbrev S256x3072 : Shape := ⟨2, ![256, 3072]⟩
abbrev S256x1024 : Shape := ⟨2, ![256, 1024]⟩
abbrev S32x512 : Shape := ⟨2, ![32, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .bf16⟩
  | .local _ .vmem, ⟨0, _⟩ => ⟨S256x3072, .f32⟩
  | .local _ .vmem, ⟨1, _⟩ => ⟨S256x3072, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c1_i32 : BitVec 32 := 1#32
  let c6_i32 : BitVec 32 := 6#32
  let v68 : BitVec 32 := Scalar.addi c1_i32 c6_i32
  let c1_i32_39 : BitVec 32 := 1#32
  ⟨c1_i32, v68, c1_i32_39⟩
def k0_mult1 (k0_t1 : Fin k0_t1_loop.trips) : BitVec 32 :=
  let c1_i32 : BitVec 32 := 1#32
  let c1_i32_39 : BitVec 32 := 1#32
  let arg6 : BitVec 32 := Scf.iv c1_i32 c1_i32_39 k0_t1
  let c32_i32 : BitVec 32 := 32#32
  let v137 : BitVec 32 := Scalar.muli arg6 c32_i32
  v137
def k0_off1 (k0_t1 : Fin k0_t1_loop.trips) : Fin 2 → Nat :=
  let c1_i32 : BitVec 32 := 1#32
  let c1_i32_39 : BitVec 32 := 1#32
  let arg6 : BitVec 32 := Scf.iv c1_i32 c1_i32_39 k0_t1
  let c32_i32 : BitVec 32 := 32#32
  let v137 : BitVec 32 := Scalar.muli arg6 c32_i32
  let v138 : BitVec 32 := v137
  let v139 : Index := Scalar.indexCast v138
  let c0_86 : Index := 0#32
  ![v139.toNat, 0]
def k0_off2 (k0_t1 : Fin k0_t1_loop.trips) : Fin 2 → Nat :=
  let c1_i32 : BitVec 32 := 1#32
  let c1_i32_39 : BitVec 32 := 1#32
  let arg6 : BitVec 32 := Scf.iv c1_i32 c1_i32_39 k0_t1
  let c32_i32 : BitVec 32 := 32#32
  let v137 : BitVec 32 := Scalar.muli arg6 c32_i32
  let v138 : BitVec 32 := v137
  let v148 : Index := Scalar.indexCast v138
  let c0_90 : Index := 0#32
  ![v148.toNat, 0]
def k0_off3 (k0_t1 : Fin k0_t1_loop.trips) : Fin 2 → Nat :=
  let c1_i32 : BitVec 32 := 1#32
  let c1_i32_39 : BitVec 32 := 1#32
  let arg6 : BitVec 32 := Scf.iv c1_i32 c1_i32_39 k0_t1
  let c32_i32 : BitVec 32 := 32#32
  let v137 : BitVec 32 := Scalar.muli arg6 c32_i32
  let v138 : BitVec 32 := v137
  let v151 : Index := Scalar.indexCast v138
  let c1024_91 : Index := 1024#32
  ![v151.toNat, 1024]
def k0_off4 (k0_t1 : Fin k0_t1_loop.trips) : Fin 2 → Nat :=
  let c1_i32 : BitVec 32 := 1#32
  let c1_i32_39 : BitVec 32 := 1#32
  let arg6 : BitVec 32 := Scf.iv c1_i32 c1_i32_39 k0_t1
  let c32_i32 : BitVec 32 := 32#32
  let v137 : BitVec 32 := Scalar.muli arg6 c32_i32
  let v138 : BitVec 32 := v137
  let v164 : Index := Scalar.indexCast v138
  let c2048_96 : Index := 2048#32
  ![v164.toNat, 2048]
def k0_off5 (k0_t1 : Fin k0_t1_loop.trips) : Fin 2 → Nat :=
  let c1_i32 : BitVec 32 := 1#32
  let c1_i32_39 : BitVec 32 := 1#32
  let arg6 : BitVec 32 := Scf.iv c1_i32 c1_i32_39 k0_t1
  let c32_i32 : BitVec 32 := 32#32
  let v137 : BitVec 32 := Scalar.muli arg6 c32_i32
  let v138 : BitVec 32 := v137
  let v180 : Index := Scalar.indexCast v138
  let c512_102 : Index := 512#32
  ![v180.toNat, 512]
def k0_off6 (k0_t1 : Fin k0_t1_loop.trips) : Fin 2 → Nat :=
  let c1_i32 : BitVec 32 := 1#32
  let c1_i32_39 : BitVec 32 := 1#32
  let arg6 : BitVec 32 := Scf.iv c1_i32 c1_i32_39 k0_t1
  let c32_i32 : BitVec 32 := 32#32
  let v137 : BitVec 32 := Scalar.muli arg6 c32_i32
  let v138 : BitVec 32 := v137
  let v189 : Index := Scalar.indexCast v138
  let c512_106 : Index := 512#32
  ![v189.toNat, 512]
def k0_off7 (k0_t1 : Fin k0_t1_loop.trips) : Fin 2 → Nat :=
  let c1_i32 : BitVec 32 := 1#32
  let c1_i32_39 : BitVec 32 := 1#32
  let arg6 : BitVec 32 := Scf.iv c1_i32 c1_i32_39 k0_t1
  let c32_i32 : BitVec 32 := 32#32
  let v137 : BitVec 32 := Scalar.muli arg6 c32_i32
  let v138 : BitVec 32 := v137
  let v192 : Index := Scalar.indexCast v138
  let c1536_107 : Index := 1536#32
  ![v192.toNat, 1536]
def k0_off8 (k0_t1 : Fin k0_t1_loop.trips) : Fin 2 → Nat :=
  let c1_i32 : BitVec 32 := 1#32
  let c1_i32_39 : BitVec 32 := 1#32
  let arg6 : BitVec 32 := Scf.iv c1_i32 c1_i32_39 k0_t1
  let c32_i32 : BitVec 32 := 32#32
  let v137 : BitVec 32 := Scalar.muli arg6 c32_i32
  let v138 : BitVec 32 := v137
  let v205 : Index := Scalar.indexCast v138
  let c2560_112 : Index := 2560#32
  ![v205.toNat, 2560]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeIdeal.lean ====
abbrev S8192x3072 : Shape := ⟨2, ![8192, 3072]⟩
abbrev S8192x1024 : Shape := ⟨2, ![8192, 1024]⟩
abbrev S256x3072 : Shape := ⟨2, ![256, 3072]⟩
abbrev S256x1024 : Shape := ⟨2, ![256, 1024]⟩
abbrev S32x512 : Shape := ⟨2, ![32, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .bf16⟩
  | .local _ .vmem, ⟨0, _⟩ => ⟨S256x3072, .f32⟩
  | .local _ .vmem, ⟨1, _⟩ => ⟨S256x3072, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c1_i32 : BitVec 32 := 1#32
  let c6_i32 : BitVec 32 := 6#32
  let v68 : BitVec 32 := Scalar.addi c1_i32 c6_i32
  let c1_i32_39 : BitVec 32 := 1#32
  ⟨c1_i32, v68, c1_i32_39⟩
def k0_mult1 (k0_t1 : Fin k0_t1_loop.trips) : BitVec 32 :=
  let c1_i32 : BitVec 32 := 1#32
  let c1_i32_39 : BitVec 32 := 1#32
  let arg6 : BitVec 32 := Scf.iv c1_i32 c1_i32_39 k0_t1
  let c32_i32 : BitVec 32 := 32#32
  let v137 : BitVec 32 := Scalar.muli arg6 c32_i32
  v137
def k0_off1 (k0_t1 : Fin k0_t1_loop.trips) : Fin 2 → Nat :=
  let c1_i32 : BitVec 32 := 1#32
  let c1_i32_39 : BitVec 32 := 1#32
  let arg6 : BitVec 32 := Scf.iv c1_i32 c1_i32_39 k0_t1
  let c32_i32 : BitVec 32 := 32#32
  let v137 : BitVec 32 := Scalar.muli arg6 c32_i32
  let v138 : BitVec 32 := v137
  let v139 : Index := Scalar.indexCast v138
  let c0_86 : Index := 0#32
  ![v139.toNat, 0]
def k0_off2 (k0_t1 : Fin k0_t1_loop.trips) : Fin 2 → Nat :=
  let c1_i32 : BitVec 32 := 1#32
  let c1_i32_39 : BitVec 32 := 1#32
  let arg6 : BitVec 32 := Scf.iv c1_i32 c1_i32_39 k0_t1
  let c32_i32 : BitVec 32 := 32#32
  let v137 : BitVec 32 := Scalar.muli arg6 c32_i32
  let v138 : BitVec 32 := v137
  let v148 : Index := Scalar.indexCast v138
  let c0_90 : Index := 0#32
  ![v148.toNat, 0]
def k0_off3 (k0_t1 : Fin k0_t1_loop.trips) : Fin 2 → Nat :=
  let c1_i32 : BitVec 32 := 1#32
  let c1_i32_39 : BitVec 32 := 1#32
  let arg6 : BitVec 32 := Scf.iv c1_i32 c1_i32_39 k0_t1
  let c32_i32 : BitVec 32 := 32#32
  let v137 : BitVec 32 := Scalar.muli arg6 c32_i32
  let v138 : BitVec 32 := v137
  let v151 : Index := Scalar.indexCast v138
  let c1024_91 : Index := 1024#32
  ![v151.toNat, 1024]
def k0_off4 (k0_t1 : Fin k0_t1_loop.trips) : Fin 2 → Nat :=
  let c1_i32 : BitVec 32 := 1#32
  let c1_i32_39 : BitVec 32 := 1#32
  let arg6 : BitVec 32 := Scf.iv c1_i32 c1_i32_39 k0_t1
  let c32_i32 : BitVec 32 := 32#32
  let v137 : BitVec 32 := Scalar.muli arg6 c32_i32
  let v138 : BitVec 32 := v137
  let v164 : Index := Scalar.indexCast v138
  let c2048_96 : Index := 2048#32
  ![v164.toNat, 2048]
def k0_off5 (k0_t1 : Fin k0_t1_loop.trips) : Fin 2 → Nat :=
  let c1_i32 : BitVec 32 := 1#32
  let c1_i32_39 : BitVec 32 := 1#32
  let arg6 : BitVec 32 := Scf.iv c1_i32 c1_i32_39 k0_t1
  let c32_i32 : BitVec 32 := 32#32
  let v137 : BitVec 32 := Scalar.muli arg6 c32_i32
  let v138 : BitVec 32 := v137
  let v180 : Index := Scalar.indexCast v138
  let c512_102 : Index := 512#32
  ![v180.toNat, 512]
def k0_off6 (k0_t1 : Fin k0_t1_loop.trips) : Fin 2 → Nat :=
  let c1_i32 : BitVec 32 := 1#32
  let c1_i32_39 : BitVec 32 := 1#32
  let arg6 : BitVec 32 := Scf.iv c1_i32 c1_i32_39 k0_t1
  let c32_i32 : BitVec 32 := 32#32
  let v137 : BitVec 32 := Scalar.muli arg6 c32_i32
  let v138 : BitVec 32 := v137
  let v189 : Index := Scalar.indexCast v138
  let c512_106 : Index := 512#32
  ![v189.toNat, 512]
def k0_off7 (k0_t1 : Fin k0_t1_loop.trips) : Fin 2 → Nat :=
  let c1_i32 : BitVec 32 := 1#32
  let c1_i32_39 : BitVec 32 := 1#32
  let arg6 : BitVec 32 := Scf.iv c1_i32 c1_i32_39 k0_t1
  let c32_i32 : BitVec 32 := 32#32
  let v137 : BitVec 32 := Scalar.muli arg6 c32_i32
  let v138 : BitVec 32 := v137
  let v192 : Index := Scalar.indexCast v138
  let c1536_107 : Index := 1536#32
  ![v192.toNat, 1536]
def k0_off8 (k0_t1 : Fin k0_t1_loop.trips) : Fin 2 → Nat :=
  let c1_i32 : BitVec 32 := 1#32
  let c1_i32_39 : BitVec 32 := 1#32
  let arg6 : BitVec 32 := Scf.iv c1_i32 c1_i32_39 k0_t1
  let c32_i32 : BitVec 32 := 32#32
  let v137 : BitVec 32 := Scalar.muli arg6 c32_i32
  let v138 : BitVec 32 := v137
  let v205 : Index := Scalar.indexCast v138
  let c2560_112 : Index := 2560#32
  ![v205.toNat, 2560]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeRefIdeal.lean ====
abbrev S8192x3072 : Shape := ⟨2, ![8192, 3072]⟩
abbrev S8192x1024 : Shape := ⟨2, ![8192, 1024]⟩
abbrev S_ : Shape := ⟨0, ![]⟩
abbrev S8192x3x1024 : Shape := ⟨3, ![8192, 3, 1024]⟩
abbrev S8192x1x1024 : Shape := ⟨3, ![8192, 1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x3072, .f32⟩
  | .hbm, ⟨5, _⟩ => ⟨S8192x3072, .f32⟩
  | .hbm, ⟨6, _⟩ => ⟨S_, .f32⟩
  | .hbm, ⟨7, _⟩ => ⟨S8192x3072, .f32⟩
  | .hbm, ⟨8, _⟩ => ⟨S8192x3072, .f32⟩
  | .hbm, ⟨9, _⟩ => ⟨S_, .f32⟩
  | .hbm, ⟨10, _⟩ => ⟨S8192x3072, .f32⟩
  | .hbm, ⟨11, _⟩ => ⟨S8192x3072, .f32⟩
  | .hbm, ⟨12, _⟩ => ⟨S8192x3x1024, .f32⟩
  | .hbm, ⟨13, _⟩ => ⟨S8192x1x1024, .f32⟩
  | .hbm, ⟨14, _⟩ => ⟨S8192x1024, .f32⟩
  | .hbm, ⟨15, _⟩ => ⟨S8192x1024, .f32⟩
  | .hbm, ⟨16, _⟩ => ⟨S8192x1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Norm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormIdeal.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Adam.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== NormBwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdIdeal.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== LossHead.lean ====
abbrev S8192x1024 : Shape := ⟨2, ![8192, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S1x1024, .f32⟩
  | .hbm, ⟨73, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Proof.Product.lean ====
/- Products by tiles, apart from any program: an entry of a product, and what a run of grid points accumulates. -/
module

public import Idealize.ShloMosaic.Lib.Pipeline.Value
public import Idealize.ShloMosaic.Lib.Pipeline.ValueKit
public import Idealize.ShloMosaic.Lib.MatmulPlain
public import Idealize.ShloMosaic.Lib.Pointwise

@[expose] public section

noncomputable section

open Idealize.ShloMosaic
open scoped BigOperators

namespace Cert.Product

/-- A matrix as a function of its row and its column. -/
def rows {m n : ℕ} (a : Shape.Idx ⟨2, ![m, n]⟩ → EReal) (i : Fin m) (j : Fin n) : EReal := a (ix2 i j)

/-- Its transpose. -/
def cols {m n : ℕ} (a : Shape.Idx ⟨2, ![m, n]⟩ → EReal) (i : Fin n) (j : Fin m) : EReal := a (ix2 j i)

/-- An entry of a product: a row by a column. -/
def entry {M K N : ℕ} (f : Fin M → Fin K → EReal) (g : Fin K → Fin N → EReal) (i : Fin M) (j : Fin N) : EReal :=
  ∑ k : Fin K, f i k * g k j

/-- The array that a product leaves, on top of `h`. -/
def onto {M K N : ℕ} (h : Fin M → Fin N → EReal) (f : Fin M → Fin K → EReal) (g : Fin K → Fin N → EReal)
    (i : Shape.Idx ⟨2, ![M, N]⟩) : EReal := h (i 0) (i 1) + entry f g (i 0) (i 1)

/-- The product of two matrices by tiles. The grid runs over the row blocks, the `nn` column blocks and the `J` blocks of
    the inner axis, the last fastest. At each point `o` gains the product of the point's tiles `x`, `y` of `f` and `g`; at
    the first point of a run of `J` it starts from the tile `st` of `h`. Then at the last point of the run `o` is the
    tile of `h + f g`. -/
theorem entry_of_run {P J tm tk tn nn M K N : ℕ} [NeZero J] (hK : K = J * tk)
    (o : (n : ℕ) → n < P → Fin tm → Fin tn → EReal)
    (st : Fin P → Fin tm → Fin tn → EReal) (x : Fin P → Fin tm → Fin tk → EReal) (y : Fin P → Fin tk → Fin tn → EReal)
    (h : Fin M → Fin N → EReal) (f : Fin M → Fin K → EReal) (g : Fin K → Fin N → EReal)
    (h0 : ∀ t : Fin P, t.val % J = 0 → ∀ r s, o t.val t.isLt r s = st t r s + entry (x t) (y t) r s)
    (hs : ∀ t : Fin P, ¬t.val % J = 0 → ∀ r s,
      o t.val t.isLt r s = o (t.val - 1) (Nat.lt_of_le_of_lt (Nat.sub_le _ _) t.isLt) r s + entry (x t) (y t) r s)
    (hst : ∀ (t : Fin P) (r : Fin tm) (s : Fin tn) (i : Fin M) (j : Fin N),
      i.val = t.val / J / nn * tm + r.val → j.val = t.val / J % nn * tn + s.val → st t r s = h i j)
    (hx : ∀ (t : Fin P) (r : Fin tm) (k : Fin tk) (i : Fin M) (l : Fin K),
      i.val = t.val / J / nn * tm + r.val → l.val = t.val % J * tk + k.val → x t r k = f i l)
    (hy : ∀ (t : Fin P) (k : Fin tk) (s : Fin tn) (l : Fin K) (j : Fin N),
      l.val = t.val % J * tk + k.val → j.val = t.val / J % nn * tn + s.val → y t k s = g l j)
    (t : Fin P) (ht : t.val % J = J - 1) (r : Fin tm) (s : Fin tn) (i : Fin M) (j : Fin N)
    (hi : i.val = t.val / J / nn * tm + r.val) (hj : j.val = t.val / J % nn * tn + s.val) :
    o t.val t.isLt r s = h i j + entry f g i j := by
  have hJ : 0 < J := Nat.pos_of_ne_zero (NeZero.ne J)
  have hd : ∀ u : Fin J, (J * (t.val / J) + u.val) / J = t.val / J := fun u => by
    rw [Nat.mul_add_div hJ, Nat.div_eq_of_lt u.isLt, Nat.add_zero]
  have hm : ∀ u : Fin J, (J * (t.val / J) + u.val) % J = u.val := fun u => by
    rw [Nat.mul_add_mod, Nat.mod_eq_of_lt u.isLt]
  have key := Pipeline.eq_sum_fin_of_reset_step_apply_of_flush (fun n hn (q : Fin tm × Fin tn) => o n hn q.1 q.2) J
    (fun _ => 0) (fun t q => (if t.val % J = 0 then st t q.1 q.2 else 0) + entry (x t) (y t) q.1 q.2)
    (fun t h q => by rw [if_pos h, zero_add]; exact h0 t h q.1 q.2)
    (fun t h q => by rw [if_neg h, zero_add]; exact hs t h q.1 q.2) t ht (r, s)
  refine key.trans ?_
  rw [zero_add, Finset.sum_add_distrib]
  congr 1
  · rw [Finset.sum_eq_single (0 : Fin J)]
    · refine (if_pos (hm 0)).trans (hst _ r s i j ?_ ?_)
      · show _ = (J * (t.val / J) + (0 : Fin J).val) / J / nn * tm + r.val; rw [hd]; exact hi
      · show _ = (J * (t.val / J) + (0 : Fin J).val) / J % nn * tn + s.val; rw [hd]; exact hj
    · exact fun u _ hu => if_neg fun e => hu (Fin.ext ((hm u).symm.trans e))
    · exact fun hn => absurd (Finset.mem_univ _) hn
  · unfold entry
    refine Fin.sum_mul_add_congr (fun u k hl => ?_) hK
    congr 1
    · refine hx _ r k i _ ?_ ?_
      · show _ = (J * (t.val / J) + u.val) / J / nn * tm + r.val; rw [hd]; exact hi
      · show _ = (J * (t.val / J) + u.val) % J * tk + k.val; rw [hm]
    · refine hy _ k s _ j ?_ ?_
      · show _ = (J * (t.val / J) + u.val) % J * tk + k.val; rw [hm]
      · show _ = (J * (t.val / J) + u.val) / J % nn * tn + s.val; rw [hd]; exact hj

end Cert.Product

end
-- ==== Proof.UpDx.lean ====
/- `UpDx`: the tiled product and the plain one agree over the extended reals. -/
module

public import proofs.«01_k».proof.Defs
public import proofs.«01_k».proof.Proof.Gen.UpDx
public import proofs.«01_k».proof.Proof.Gen.UpDx.Frame
public import proofs.«01_k».proof.Proof.Gen.UpDxIdeal
public import proofs.«01_k».proof.Proof.Gen.UpDxIdeal.Value
public import proofs.«01_k».proof.Proof.Gen.UpDxRefIdeal
public import proofs.«01_k».proof.Proof.Gen.UpDxRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.UpDxIdeal.Prod

open Cert.UpDxIdeal Cert.UpDxIdeal.Gen

/-- The blocks that grid point `t` works on. -/
theorem idx : ∀ t : Fin cfg0.N, win0_0.index t = ![t.val / 4 / 1, t.val % 4] ∧ win0_1.index t = ![t.val / 4 % 1, t.val % 4] ∧ win0_2.index t = ![t.val / 4 / 1, t.val / 4 % 1] :=
  (by decide +kernel : ∀ t : Fin grid0.N, _)

/-- One step adds the product of its two tiles to the accumulator. -/
theorem pay_apply (x : Vec Ideal S1024x1408 .bf16) (a : Vec Ideal S1024x1024 .f32) (y : Vec Ideal S1024x1408 .bf16) (r : Fin 1024) (s : Fin 1024) :
    k0_pay2 x a y (ix2 r s) = a (ix2 r s) + entry (rows x) (cols y) r s := by
  unfold k0_pay2 entry rows cols
  pointwise [shapeCast_self]

/-- The accumulator starts at zero. -/
theorem init_apply (r : Fin 1024) (s : Fin 1024) : k0_pay1 (F := Ideal) (ix2 r s) = 0 := by
  unfold k0_pay1
  pointwise [shapeCast_self]

variable (m : (ℓ : Loc nD τ sig) → Buf (Elt Ideal) ℓ) (ρ : Dev nD → PrngReg)

/-- The output tile is the accumulator of the last step. -/
theorem last_eq (c : Dev nD) (t : Fin cfg0.N) (h1 : t.val % 4 = 3) : (outsAt0 m c t.val t.isLt).1 = (outsAt0 m c t.val t.isLt).2 := by
  have h0 : ¬t.val % 4 = 0 := by omega
  rw [outsAt0_C m c t h0 h1]; dsimp only; unfold out0_C_2 sout0_C_0; frame_out

/-- The input gradient: a row of the gradient by a row of the weight. -/
theorem result_eq (c : Dev nD) : (dats m 0 c).arrAt 2 cfg0.N = onto (fun _ _ => 0) (rows (m ((c : Thread nD τ).loc main_arg0))) (cols (m ((c : Thread nD τ).loc main_arg1))) := by
  refine (dats m 0 c).arrAt_eq_of_covers 2 _ (by decide +kernel) fun t hf y => ?_
  have h1 : t.val % 4 = 3 := (flush0_2 t).mp hf
  have e := idx t
  have hy0 : (y 0).val < 1024 := (y 0).isLt
  have hy1 : (y 1).val < 1024 := (y 1).isLt
  blk_simp
  rw [after0_2]
  rw [last_eq m c t h1]
  refine Eq.trans ?_ ((entry_of_run (J := 4) (tm := 1024) (tk := 1408) (tn := 1024) (nn := 1) (by decide) (fun n hn r s => rows (outsAt0 m c n hn).2 r s)
    (fun _ _ _ => 0) (fun t => rows (iblk m c 0 t)) (fun t => cols (iblk m c 1 t)) (fun _ _ => 0) (rows (m ((c : Thread nD τ).loc main_arg0))) (cols (m ((c : Thread nD τ).loc main_arg1)))
    (fun t h0 r s => by
      have h1 : ¬t.val % 4 = 3 := by omega
      unfold rows; rw [outsAt0_A m c t h0 h1]; dsimp only; unfold sout0_A_0; frame_out; rw [pay_apply, init_apply]; rfl)
    (fun t h0 r s => by
      unfold rows
      by_cases h1 : t.val % 4 = 3
      · rw [outsAt0_C m c t h0 h1]; dsimp only; unfold sout0_C_0; frame_out; rw [pay_apply]; exact congrArg (· + _) (congrFun ((Memref.isWhole_whole cc0_scratch0).read_unread _) _)
      · rw [outsAt0_B m c t h0 h1]; dsimp only; unfold sout0_B_0; frame_out; rw [pay_apply]; exact congrArg (· + _) (congrFun ((Memref.isWhole_whole cc0_scratch0).read_unread _) _))
    (fun t r s i j hi hj => by rfl)
    (fun t r k i l hi hl => by unfold rows; blk_ext [iblk, V, idx t] <;> omega)
    (fun t k s l j hl hj => by unfold cols; blk_ext [iblk, V, idx t] <;> omega)
    t h1 ⟨(y 0).val, hy0⟩ ⟨(y 1).val, hy1⟩ _ _ ?_ ?_))
  · unfold rows; exact congrArg _ (ValueIdx.eq_ix2 _)
  · show win0_2.index t (0 : Fin 2) * 1024 + 1 * (y 0).val = t.val / 4 / 1 * 1024 + (y 0).val
    rw [e.2.2]; show t.val / 4 / 1 * 1024 + 1 * (y 0).val = _; omega
  · show win0_2.index t (1 : Fin 2) * 1024 + 1 * (y 1).val = t.val / 4 % 1 * 1024 + (y 1).val
    rw [e.2.2]; show t.val / 4 % 1 * 1024 + 1 * (y 1).val = _; omega

/-- The call runs and leaves its arguments and the counters as it found them, on the machine's floats … -/
theorem frame_bits : Cert.quiescent_UpDx (hUpDx := Cert.UpDx.Gen.facts) := fun m g _ => Cert.UpDx.Gen.frame (F := Bits) m g
/-- … and over the extended reals; -/
theorem frame_ideal : Cert.quiescent_UpDxIdeal (hUpDxIdeal := Cert.UpDxIdeal.Gen.facts) := fun m g _ => frame (F := Idealize.ShloMosaic.Ideal) m g
/-- the plain program too. -/
theorem frame_reference : Cert.quiescent_UpDxRefIdeal (hUpDxRefIdeal := Cert.UpDxRefIdeal.Gen.facts) := fun m g _ =>
  (θ_run Cert.UpDxRefIdeal.defs _ _).mono (fun r h => ⟨fun c => (h c).2, Idealize.ShloMosaic.sem_eq_zero_of_no_sems (by decide) r.2⟩)
    (Cert.UpDxRefIdeal.Value.run (F := Idealize.ShloMosaic.Ideal) m g)

/-- From the same arguments both leave the same array. -/
theorem agrees : Cert.algebraic_UpDxIdeal_UpDxRefIdeal (hUpDxIdeal := Cert.UpDxIdeal.Gen.facts) (hUpDxRefIdeal := Cert.UpDxRefIdeal.Gen.facts) := by
  intro m g m' g' _ hargs
  refine ⟨fun c => onto (fun _ _ => 0) (rows (m ((c : Thread nD τ).loc main_arg0))) (cols (m ((c : Thread nD τ).loc main_arg1))), ?_, ?_⟩
  · exact (θ_run defs _ _).mono (fun r h c => ⟨(h c).1.trans ((Value.final2 m c).symm.trans (result_eq m c)), (h c).2⟩) (Value.run m g)
  · exact (θ_run _ _ _).mono (fun r h c => ⟨(h c).1.trans (by
      rw [(hargs c).1, (hargs c).2]; funext i
      rw [show i = ix2 (i 0) (i 1) from ValueIdx.eq_ix2 i]
      unfold onto entry rows cols
      pointwise [zero_add]), (h c).2⟩) (Cert.UpDxRefIdeal.Value.run m' g')

end Cert.UpDxIdeal.Prod

end
-- ==== Proof.UpDw.lean ====
/- `UpDw`: the tiled product and the plain one agree over the extended reals. -/
module

public import proofs.«01_k».proof.Defs
public import proofs.«01_k».proof.Proof.Gen.UpDw
public import proofs.«01_k».proof.Proof.Gen.UpDw.Frame
public import proofs.«01_k».proof.Proof.Gen.UpDwIdeal
public import proofs.«01_k».proof.Proof.Gen.UpDwIdeal.Value
public import proofs.«01_k».proof.Proof.Gen.UpDwRefIdeal
public import proofs.«01_k».proof.Proof.Gen.UpDwRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.UpDwIdeal.Prod

open Cert.UpDwIdeal Cert.UpDwIdeal.Gen

/-- The blocks that grid point `t` works on. -/
theorem idx : ∀ t : Fin cfg0.N, win0_0.index t = ![t.val % 16, t.val / 16 / 4] ∧ win0_1.index t = ![t.val % 16, t.val / 16 % 4] ∧ win0_2.index t = ![t.val / 16 / 4, t.val / 16 % 4] :=
  (by decide +kernel : ∀ t : Fin grid0.N, _)

/-- One step adds the product of its two tiles to the accumulator. -/
theorem pay_apply (x : Vec Ideal S512x1024 .bf16) (a : Vec Ideal S1024x1408 .f32) (y : Vec Ideal S512x1408 .bf16) (r : Fin 1024) (s : Fin 1408) :
    k0_pay2 x a y (ix2 r s) = a (ix2 r s) + entry (cols x) (rows y) r s := by
  unfold k0_pay2 entry rows cols
  pointwise [shapeCast_self]

/-- The accumulator starts at zero. -/
theorem init_apply (r : Fin 1024) (s : Fin 1408) : k0_pay1 (F := Ideal) (ix2 r s) = 0 := by
  unfold k0_pay1
  pointwise [shapeCast_self]

variable (m : (ℓ : Loc nD τ sig) → Buf (Elt Ideal) ℓ) (ρ : Dev nD → PrngReg)

/-- The output tile is the accumulator of the last step. -/
theorem last_eq (c : Dev nD) (t : Fin cfg0.N) (h1 : t.val % 16 = 15) : (outsAt0 m c t.val t.isLt).1 = (outsAt0 m c t.val t.isLt).2 := by
  have h0 : ¬t.val % 16 = 0 := by omega
  rw [outsAt0_C m c t h0 h1]; dsimp only; unfold out0_C_2 sout0_C_0; frame_out

/-- The weight gradient: a column of the activations by a column of the gradient. -/
theorem result_eq (c : Dev nD) : (dats m 0 c).arrAt 2 cfg0.N = onto (fun _ _ => 0) (cols (m ((c : Thread nD τ).loc main_arg0))) (rows (m ((c : Thread nD τ).loc main_arg1))) := by
  refine (dats m 0 c).arrAt_eq_of_covers 2 _ (by decide +kernel) fun t hf y => ?_
  have h1 : t.val % 16 = 15 := (flush0_2 t).mp hf
  have e := idx t
  have hy0 : (y 0).val < 1024 := (y 0).isLt
  have hy1 : (y 1).val < 1408 := (y 1).isLt
  blk_simp
  rw [after0_2]
  rw [last_eq m c t h1]
  refine Eq.trans ?_ ((entry_of_run (J := 16) (tm := 1024) (tk := 512) (tn := 1408) (nn := 4) (by decide) (fun n hn r s => rows (outsAt0 m c n hn).2 r s)
    (fun _ _ _ => 0) (fun t => cols (iblk m c 0 t)) (fun t => rows (iblk m c 1 t)) (fun _ _ => 0) (cols (m ((c : Thread nD τ).loc main_arg0))) (rows (m ((c : Thread nD τ).loc main_arg1)))
    (fun t h0 r s => by
      have h1 : ¬t.val % 16 = 15 := by omega
      unfold rows; rw [outsAt0_A m c t h0 h1]; dsimp only; unfold sout0_A_0; frame_out; rw [pay_apply, init_apply]; rfl)
    (fun t h0 r s => by
      unfold rows
      by_cases h1 : t.val % 16 = 15
      · rw [outsAt0_C m c t h0 h1]; dsimp only; unfold sout0_C_0; frame_out; rw [pay_apply]; exact congrArg (· + _) (congrFun ((Memref.isWhole_whole cc0_scratch0).read_unread _) _)
      · rw [outsAt0_B m c t h0 h1]; dsimp only; unfold sout0_B_0; frame_out; rw [pay_apply]; exact congrArg (· + _) (congrFun ((Memref.isWhole_whole cc0_scratch0).read_unread _) _))
    (fun t r s i j hi hj => by rfl)
    (fun t r k i l hi hl => by unfold cols; blk_ext [iblk, V, idx t] <;> omega)
    (fun t k s l j hl hj => by unfold rows; blk_ext [iblk, V, idx t] <;> omega)
    t h1 ⟨(y 0).val, hy0⟩ ⟨(y 1).val, hy1⟩ _ _ ?_ ?_))
  · unfold rows; exact congrArg _ (ValueIdx.eq_ix2 _)
  · show win0_2.index t (0 : Fin 2) * 1024 + 1 * (y 0).val = t.val / 16 / 4 * 1024 + (y 0).val
    rw [e.2.2]; show t.val / 16 / 4 * 1024 + 1 * (y 0).val = _; omega
  · show win0_2.index t (1 : Fin 2) * 1408 + 1 * (y 1).val = t.val / 16 % 4 * 1408 + (y 1).val
    rw [e.2.2]; show t.val / 16 % 4 * 1408 + 1 * (y 1).val = _; omega

/-- The call runs and leaves its arguments and the counters as it found them, on the machine's floats … -/
theorem frame_bits : Cert.quiescent_UpDw (hUpDw := Cert.UpDw.Gen.facts) := fun m g _ => Cert.UpDw.Gen.frame (F := Bits) m g
/-- … and over the extended reals; -/
theorem frame_ideal : Cert.quiescent_UpDwIdeal (hUpDwIdeal := Cert.UpDwIdeal.Gen.facts) := fun m g _ => frame (F := Idealize.ShloMosaic.Ideal) m g
/-- the plain program too. -/
theorem frame_reference : Cert.quiescent_UpDwRefIdeal (hUpDwRefIdeal := Cert.UpDwRefIdeal.Gen.facts) := fun m g _ =>
  (θ_run Cert.UpDwRefIdeal.defs _ _).mono (fun r h => ⟨fun c => (h c).2, Idealize.ShloMosaic.sem_eq_zero_of_no_sems (by decide) r.2⟩)
    (Cert.UpDwRefIdeal.Value.run (F := Idealize.ShloMosaic.Ideal) m g)

/-- From the same arguments both leave the same array. -/
theorem agrees : Cert.algebraic_UpDwIdeal_UpDwRefIdeal (hUpDwIdeal := Cert.UpDwIdeal.Gen.facts) (hUpDwRefIdeal := Cert.UpDwRefIdeal.Gen.facts) := by
  intro m g m' g' _ hargs
  refine ⟨fun c => onto (fun _ _ => 0) (cols (m ((c : Thread nD τ).loc main_arg0))) (rows (m ((c : Thread nD τ).loc main_arg1))), ?_, ?_⟩
  · exact (θ_run defs _ _).mono (fun r h c => ⟨(h c).1.trans ((Value.final2 m c).symm.trans (result_eq m c)), (h c).2⟩) (Value.run m g)
  · exact (θ_run _ _ _).mono (fun r h c => ⟨(h c).1.trans (by
      rw [(hargs c).1, (hargs c).2]; funext i
      rw [show i = ix2 (i 0) (i 1) from ValueIdx.eq_ix2 i]
      unfold onto entry rows cols
      pointwise [zero_add]; exact Finset.sum_congr rfl fun k _ => mul_comm _ _), (h c).2⟩) (Cert.UpDwRefIdeal.Value.run m' g')

end Cert.UpDwIdeal.Prod

end
-- ==== Proof.DownDw.lean ====
/- `DownDw`: the tiled product and the plain one agree over the extended reals. -/
module

public import proofs.«01_k».proof.Defs
public import proofs.«01_k».proof.Proof.Gen.DownDw
public import proofs.«01_k».proof.Proof.Gen.DownDw.Frame
public import proofs.«01_k».proof.Proof.Gen.DownDwIdeal
public import proofs.«01_k».proof.Proof.Gen.DownDwIdeal.Value
public import proofs.«01_k».proof.Proof.Gen.DownDwRefIdeal
public import proofs.«01_k».proof.Proof.Gen.DownDwRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.DownDwIdeal.Prod

open Cert.DownDwIdeal Cert.DownDwIdeal.Gen

/-- The blocks that grid point `t` works on. -/
theorem idx : ∀ t : Fin cfg0.N, win0_0.index t = ![t.val % 16, t.val / 16 / 1] ∧ win0_1.index t = ![t.val % 16, t.val / 16 % 1] ∧ win0_2.index t = ![t.val / 16 / 1, t.val / 16 % 1] :=
  (by decide +kernel : ∀ t : Fin grid0.N, _)

/-- One step adds the product of its two tiles to the accumulator. -/
theorem pay_apply (x : Vec Ideal S512x1408 .bf16) (a : Vec Ideal S1408x1024 .f32) (y : Vec Ideal S512x1024 .f32) (r : Fin 1408) (s : Fin 1024) :
    k0_pay2 x a y (ix2 r s) = a (ix2 r s) + entry (cols x) (rows y) r s := by
  unfold k0_pay2 entry rows cols
  pointwise [shapeCast_self]

/-- The accumulator starts at zero. -/
theorem init_apply (r : Fin 1408) (s : Fin 1024) : k0_pay1 (F := Ideal) (ix2 r s) = 0 := by
  unfold k0_pay1
  pointwise [shapeCast_self]

variable (m : (ℓ : Loc nD τ sig) → Buf (Elt Ideal) ℓ) (ρ : Dev nD → PrngReg)

/-- The output tile is the accumulator of the last step. -/
theorem last_eq (c : Dev nD) (t : Fin cfg0.N) (h1 : t.val % 16 = 15) : (outsAt0 m c t.val t.isLt).1 = (outsAt0 m c t.val t.isLt).2 := by
  have h0 : ¬t.val % 16 = 0 := by omega
  rw [outsAt0_C m c t h0 h1]; dsimp only; unfold out0_C_2 sout0_C_0; frame_out

/-- The weight gradient: a column of the activations by a column of the gradient. -/
theorem result_eq (c : Dev nD) : (dats m 0 c).arrAt 2 cfg0.N = onto (fun _ _ => 0) (cols (m ((c : Thread nD τ).loc main_arg0))) (rows (m ((c : Thread nD τ).loc main_arg1))) := by
  refine (dats m 0 c).arrAt_eq_of_covers 2 _ (by decide +kernel) fun t hf y => ?_
  have h1 : t.val % 16 = 15 := (flush0_2 t).mp hf
  have e := idx t
  have hy0 : (y 0).val < 1408 := (y 0).isLt
  have hy1 : (y 1).val < 1024 := (y 1).isLt
  blk_simp
  rw [after0_2]
  rw [last_eq m c t h1]
  refine Eq.trans ?_ ((entry_of_run (J := 16) (tm := 1408) (tk := 512) (tn := 1024) (nn := 1) (by decide) (fun n hn r s => rows (outsAt0 m c n hn).2 r s)
    (fun _ _ _ => 0) (fun t => cols (iblk m c 0 t)) (fun t => rows (iblk m c 1 t)) (fun _ _ => 0) (cols (m ((c : Thread nD τ).loc main_arg0))) (rows (m ((c : Thread nD τ).loc main_arg1)))
    (fun t h0 r s => by
      have h1 : ¬t.val % 16 = 15 := by omega
      unfold rows; rw [outsAt0_A m c t h0 h1]; dsimp only; unfold sout0_A_0; frame_out; rw [pay_apply, init_apply]; rfl)
    (fun t h0 r s => by
      unfold rows
      by_cases h1 : t.val % 16 = 15
      · rw [outsAt0_C m c t h0 h1]; dsimp only; unfold sout0_C_0; frame_out; rw [pay_apply]; exact congrArg (· + _) (congrFun ((Memref.isWhole_whole cc0_scratch0).read_unread _) _)
      · rw [outsAt0_B m c t h0 h1]; dsimp only; unfold sout0_B_0; frame_out; rw [pay_apply]; exact congrArg (· + _) (congrFun ((Memref.isWhole_whole cc0_scratch0).read_unread _) _))
    (fun t r s i j hi hj => by rfl)
    (fun t r k i l hi hl => by unfold cols; blk_ext [iblk, V, idx t] <;> omega)
    (fun t k s l j hl hj => by unfold rows; blk_ext [iblk, V, idx t] <;> omega)
    t h1 ⟨(y 0).val, hy0⟩ ⟨(y 1).val, hy1⟩ _ _ ?_ ?_))
  · unfold rows; exact congrArg _ (ValueIdx.eq_ix2 _)
  · show win0_2.index t (0 : Fin 2) * 1408 + 1 * (y 0).val = t.val / 16 / 1 * 1408 + (y 0).val
    rw [e.2.2]; show t.val / 16 / 1 * 1408 + 1 * (y 0).val = _; omega
  · show win0_2.index t (1 : Fin 2) * 1024 + 1 * (y 1).val = t.val / 16 % 1 * 1024 + (y 1).val
    rw [e.2.2]; show t.val / 16 % 1 * 1024 + 1 * (y 1).val = _; omega

/-- The call runs and leaves its arguments and the counters as it found them, on the machine's floats … -/
theorem frame_bits : Cert.quiescent_DownDw (hDownDw := Cert.DownDw.Gen.facts) := fun m g _ => Cert.DownDw.Gen.frame (F := Bits) m g
/-- … and over the extended reals; -/
theorem frame_ideal : Cert.quiescent_DownDwIdeal (hDownDwIdeal := Cert.DownDwIdeal.Gen.facts) := fun m g _ => frame (F := Idealize.ShloMosaic.Ideal) m g
/-- the plain program too. -/
theorem frame_reference : Cert.quiescent_DownDwRefIdeal (hDownDwRefIdeal := Cert.DownDwRefIdeal.Gen.facts) := fun m g _ =>
  (θ_run Cert.DownDwRefIdeal.defs _ _).mono (fun r h => ⟨fun c => (h c).2, Idealize.ShloMosaic.sem_eq_zero_of_no_sems (by decide) r.2⟩)
    (Cert.DownDwRefIdeal.Value.run (F := Idealize.ShloMosaic.Ideal) m g)

/-- From the same arguments both leave the same array. -/
theorem agrees : Cert.algebraic_DownDwIdeal_DownDwRefIdeal (hDownDwIdeal := Cert.DownDwIdeal.Gen.facts) (hDownDwRefIdeal := Cert.DownDwRefIdeal.Gen.facts) := by
  intro m g m' g' _ hargs
  refine ⟨fun c => onto (fun _ _ => 0) (cols (m ((c : Thread nD τ).loc main_arg0))) (rows (m ((c : Thread nD τ).loc main_arg1))), ?_, ?_⟩
  · exact (θ_run defs _ _).mono (fun r h c => ⟨(h c).1.trans ((Value.final2 m c).symm.trans (result_eq m c)), (h c).2⟩) (Value.run m g)
  · exact (θ_run _ _ _).mono (fun r h c => ⟨(h c).1.trans (by
      rw [(hargs c).1, (hargs c).2]; funext i
      rw [show i = ix2 (i 0) (i 1) from ValueIdx.eq_ix2 i]
      unfold onto entry rows cols
      pointwise [zero_add]; exact Finset.sum_congr rfl fun k _ => mul_comm _ _), (h c).2⟩) (Cert.DownDwRefIdeal.Value.run m' g')

end Cert.DownDwIdeal.Prod

end
-- ==== Proof.OutDw.lean ====
/- `OutDw`: the tiled product and the plain one agree over the extended reals. -/
module

public import proofs.«01_k».proof.Defs
public import proofs.«01_k».proof.Proof.Gen.OutDw
public import proofs.«01_k».proof.Proof.Gen.OutDw.Frame
public import proofs.«01_k».proof.Proof.Gen.OutDwIdeal
public import proofs.«01_k».proof.Proof.Gen.OutDwIdeal.Value
public import proofs.«01_k».proof.Proof.Gen.OutDwRefIdeal
public import proofs.«01_k».proof.Proof.Gen.OutDwRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.OutDwIdeal.Prod

open Cert.OutDwIdeal Cert.OutDwIdeal.Gen

/-- The blocks that grid point `t` works on. -/
theorem idx : ∀ t : Fin cfg0.N, win0_0.index t = ![t.val % 16, t.val / 16 / 1] ∧ win0_1.index t = ![t.val % 16, t.val / 16 % 1] ∧ win0_2.index t = ![t.val / 16 / 1, t.val / 16 % 1] :=
  (by decide +kernel : ∀ t : Fin grid0.N, _)

/-- One step adds the product of its two tiles to the accumulator. -/
theorem pay_apply (x : Vec Ideal S512x1024 .bf16) (a : Vec Ideal S1024x1024 .f32) (y : Vec Ideal S512x1024 .f32) (r : Fin 1024) (s : Fin 1024) :
    k0_pay2 x a y (ix2 r s) = a (ix2 r s) + entry (cols x) (rows y) r s := by
  unfold k0_pay2 entry rows cols
  pointwise [shapeCast_self]

/-- The accumulator starts at zero. -/
theorem init_apply (r : Fin 1024) (s : Fin 1024) : k0_pay1 (F := Ideal) (ix2 r s) = 0 := by
  unfold k0_pay1
  pointwise [shapeCast_self]

variable (m : (ℓ : Loc nD τ sig) → Buf (Elt Ideal) ℓ) (ρ : Dev nD → PrngReg)

/-- The output tile is the accumulator of the last step. -/
theorem last_eq (c : Dev nD) (t : Fin cfg0.N) (h1 : t.val % 16 = 15) : (outsAt0 m c t.val t.isLt).1 = (outsAt0 m c t.val t.isLt).2 := by
  have h0 : ¬t.val % 16 = 0 := by omega
  rw [outsAt0_C m c t h0 h1]; dsimp only; unfold out0_C_2 sout0_C_0; frame_out

/-- The weight gradient: a column of the activations by a column of the gradient. -/
theorem result_eq (c : Dev nD) : (dats m 0 c).arrAt 2 cfg0.N = onto (fun _ _ => 0) (cols (m ((c : Thread nD τ).loc main_arg0))) (rows (m ((c : Thread nD τ).loc main_arg1))) := by
  refine (dats m 0 c).arrAt_eq_of_covers 2 _ (by decide +kernel) fun t hf y => ?_
  have h1 : t.val % 16 = 15 := (flush0_2 t).mp hf
  have e := idx t
  have hy0 : (y 0).val < 1024 := (y 0).isLt
  have hy1 : (y 1).val < 1024 := (y 1).isLt
  blk_simp
  rw [after0_2]
  rw [last_eq m c t h1]
  refine Eq.trans ?_ ((entry_of_run (J := 16) (tm := 1024) (tk := 512) (tn := 1024) (nn := 1) (by decide) (fun n hn r s => rows (outsAt0 m c n hn).2 r s)
    (fun _ _ _ => 0) (fun t => cols (iblk m c 0 t)) (fun t => rows (iblk m c 1 t)) (fun _ _ => 0) (cols (m ((c : Thread nD τ).loc main_arg0))) (rows (m ((c : Thread nD τ).loc main_arg1)))
    (fun t h0 r s => by
      have h1 : ¬t.val % 16 = 15 := by omega
      unfold rows; rw [outsAt0_A m c t h0 h1]; dsimp only; unfold sout0_A_0; frame_out; rw [pay_apply, init_apply]; rfl)
    (fun t h0 r s => by
      unfold rows
      by_cases h1 : t.val % 16 = 15
      · rw [outsAt0_C m c t h0 h1]; dsimp only; unfold sout0_C_0; frame_out; rw [pay_apply]; exact congrArg (· + _) (congrFun ((Memref.isWhole_whole cc0_scratch0).read_unread _) _)
      · rw [outsAt0_B m c t h0 h1]; dsimp only; unfold sout0_B_0; frame_out; rw [pay_apply]; exact congrArg (· + _) (congrFun ((Memref.isWhole_whole cc0_scratch0).read_unread _) _))
    (fun t r s i j hi hj => by rfl)
    (fun t r k i l hi hl => by unfold cols; blk_ext [iblk, V, idx t] <;> omega)
    (fun t k s l j hl hj => by unfold rows; blk_ext [iblk, V, idx t] <;> omega)
    t h1 ⟨(y 0).val, hy0⟩ ⟨(y 1).val, hy1⟩ _ _ ?_ ?_))
  · unfold rows; exact congrArg _ (ValueIdx.eq_ix2 _)
  · show win0_2.index t (0 : Fin 2) * 1024 + 1 * (y 0).val = t.val / 16 / 1 * 1024 + (y 0).val
    rw [e.2.2]; show t.val / 16 / 1 * 1024 + 1 * (y 0).val = _; omega
  · show win0_2.index t (1 : Fin 2) * 1024 + 1 * (y 1).val = t.val / 16 % 1 * 1024 + (y 1).val
    rw [e.2.2]; show t.val / 16 % 1 * 1024 + 1 * (y 1).val = _; omega

/-- The call runs and leaves its arguments and the counters as it found them, on the machine's floats … -/
theorem frame_bits : Cert.quiescent_OutDw (hOutDw := Cert.OutDw.Gen.facts) := fun m g _ => Cert.OutDw.Gen.frame (F := Bits) m g
/-- … and over the extended reals; -/
theorem frame_ideal : Cert.quiescent_OutDwIdeal (hOutDwIdeal := Cert.OutDwIdeal.Gen.facts) := fun m g _ => frame (F := Idealize.ShloMosaic.Ideal) m g
/-- the plain program too. -/
theorem frame_reference : Cert.quiescent_OutDwRefIdeal (hOutDwRefIdeal := Cert.OutDwRefIdeal.Gen.facts) := fun m g _ =>
  (θ_run Cert.OutDwRefIdeal.defs _ _).mono (fun r h => ⟨fun c => (h c).2, Idealize.ShloMosaic.sem_eq_zero_of_no_sems (by decide) r.2⟩)
    (Cert.OutDwRefIdeal.Value.run (F := Idealize.ShloMosaic.Ideal) m g)

/-- From the same arguments both leave the same array. -/
theorem agrees : Cert.algebraic_OutDwIdeal_OutDwRefIdeal (hOutDwIdeal := Cert.OutDwIdeal.Gen.facts) (hOutDwRefIdeal := Cert.OutDwRefIdeal.Gen.facts) := by
  intro m g m' g' _ hargs
  refine ⟨fun c => onto (fun _ _ => 0) (cols (m ((c : Thread nD τ).loc main_arg0))) (rows (m ((c : Thread nD τ).loc main_arg1))), ?_, ?_⟩
  · exact (θ_run defs _ _).mono (fun r h c => ⟨(h c).1.trans ((Value.final2 m c).symm.trans (result_eq m c)), (h c).2⟩) (Value.run m g)
  · exact (θ_run _ _ _).mono (fun r h c => ⟨(h c).1.trans (by
      rw [(hargs c).1, (hargs c).2]; funext i
      rw [show i = ix2 (i 0) (i 1) from ValueIdx.eq_ix2 i]
      unfold onto entry rows cols
      pointwise [zero_add]; exact Finset.sum_congr rfl fun k _ => mul_comm _ _), (h c).2⟩) (Cert.OutDwRefIdeal.Value.run m' g')

end Cert.OutDwIdeal.Prod

end
-- ==== Proof.PoolDw.lean ====
/- `PoolDw`: the tiled product and the plain one agree over the extended reals. -/
module

public import proofs.«01_k».proof.Defs
public import proofs.«01_k».proof.Proof.Gen.PoolDw
public import proofs.«01_k».proof.Proof.Gen.PoolDw.Frame
public import proofs.«01_k».proof.Proof.Gen.PoolDwIdeal
public import proofs.«01_k».proof.Proof.Gen.PoolDwIdeal.Value
public import proofs.«01_k».proof.Proof.Gen.PoolDwRefIdeal
public import proofs.«01_k».proof.Proof.Gen.PoolDwRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.PoolDwIdeal.Prod

open Cert.PoolDwIdeal Cert.PoolDwIdeal.Gen

/-- The blocks that grid point `t` works on. -/
theorem idx : ∀ t : Fin cfg0.N, win0_0.index t = ![t.val % 16, t.val / 16 / 1] ∧ win0_1.index t = ![t.val % 16, t.val / 16 % 1] ∧ win0_2.index t = ![t.val / 16 / 1, t.val / 16 % 1] :=
  (by decide +kernel : ∀ t : Fin grid0.N, _)

/-- One step adds the product of its two tiles to the accumulator. -/
theorem pay_apply (x : Vec Ideal S512x512 .bf16) (a : Vec Ideal S512x1024 .f32) (y : Vec Ideal S512x1024 .bf16) (r : Fin 512) (s : Fin 1024) :
    k0_pay2 x a y (ix2 r s) = a (ix2 r s) + entry (cols x) (rows y) r s := by
  unfold k0_pay2 entry rows cols
  pointwise [shapeCast_self]

/-- The accumulator starts at zero. -/
theorem init_apply (r : Fin 512) (s : Fin 1024) : k0_pay1 (F := Ideal) (ix2 r s) = 0 := by
  unfold k0_pay1
  pointwise [shapeCast_self]

variable (m : (ℓ : Loc nD τ sig) → Buf (Elt Ideal) ℓ) (ρ : Dev nD → PrngReg)

/-- The output tile is the accumulator of the last step. -/
theorem last_eq (c : Dev nD) (t : Fin cfg0.N) (h1 : t.val % 16 = 15) : (outsAt0 m c t.val t.isLt).1 = (outsAt0 m c t.val t.isLt).2 := by
  have h0 : ¬t.val % 16 = 0 := by omega
  rw [outsAt0_C m c t h0 h1]; dsimp only; unfold out0_C_2 sout0_C_0; frame_out

/-- The weight gradient: a column of the activations by a column of the gradient. -/
theorem result_eq (c : Dev nD) : (dats m 0 c).arrAt 2 cfg0.N = onto (fun _ _ => 0) (cols (m ((c : Thread nD τ).loc main_arg0))) (rows (m ((c : Thread nD τ).loc main_arg1))) := by
  refine (dats m 0 c).arrAt_eq_of_covers 2 _ (by decide +kernel) fun t hf y => ?_
  have h1 : t.val % 16 = 15 := (flush0_2 t).mp hf
  have e := idx t
  have hy0 : (y 0).val < 512 := (y 0).isLt
  have hy1 : (y 1).val < 1024 := (y 1).isLt
  blk_simp
  rw [after0_2]
  rw [last_eq m c t h1]
  refine Eq.trans ?_ ((entry_of_run (J := 16) (tm := 512) (tk := 512) (tn := 1024) (nn := 1) (by decide) (fun n hn r s => rows (outsAt0 m c n hn).2 r s)
    (fun _ _ _ => 0) (fun t => cols (iblk m c 0 t)) (fun t => rows (iblk m c 1 t)) (fun _ _ => 0) (cols (m ((c : Thread nD τ).loc main_arg0))) (rows (m ((c : Thread nD τ).loc main_arg1)))
    (fun t h0 r s => by
      have h1 : ¬t.val % 16 = 15 := by omega
      unfold rows; rw [outsAt0_A m c t h0 h1]; dsimp only; unfold sout0_A_0; frame_out; rw [pay_apply, init_apply]; rfl)
    (fun t h0 r s => by
      unfold rows
      by_cases h1 : t.val % 16 = 15
      · rw [outsAt0_C m c t h0 h1]; dsimp only; unfold sout0_C_0; frame_out; rw [pay_apply]; exact congrArg (· + _) (congrFun ((Memref.isWhole_whole cc0_scratch0).read_unread _) _)
      · rw [outsAt0_B m c t h0 h1]; dsimp only; unfold sout0_B_0; frame_out; rw [pay_apply]; exact congrArg (· + _) (congrFun ((Memref.isWhole_whole cc0_scratch0).read_unread _) _))
    (fun t r s i j hi hj => by rfl)
    (fun t r k i l hi hl => by unfold cols; blk_ext [iblk, V, idx t] <;> omega)
    (fun t k s l j hl hj => by unfold rows; blk_ext [iblk, V, idx t] <;> omega)
    t h1 ⟨(y 0).val, hy0⟩ ⟨(y 1).val, hy1⟩ _ _ ?_ ?_))
  · unfold rows; exact congrArg _ (ValueIdx.eq_ix2 _)
  · show win0_2.index t (0 : Fin 2) * 512 + 1 * (y 0).val = t.val / 16 / 1 * 512 + (y 0).val
    rw [e.2.2]; show t.val / 16 / 1 * 512 + 1 * (y 0).val = _; omega
  · show win0_2.index t (1 : Fin 2) * 1024 + 1 * (y 1).val = t.val / 16 % 1 * 1024 + (y 1).val
    rw [e.2.2]; show t.val / 16 % 1 * 1024 + 1 * (y 1).val = _; omega

/-- The call runs and leaves its arguments and the counters as it found them, on the machine's floats … -/
theorem frame_bits : Cert.quiescent_PoolDw (hPoolDw := Cert.PoolDw.Gen.facts) := fun m g _ => Cert.PoolDw.Gen.frame (F := Bits) m g
/-- … and over the extended reals; -/
theorem frame_ideal : Cert.quiescent_PoolDwIdeal (hPoolDwIdeal := Cert.PoolDwIdeal.Gen.facts) := fun m g _ => frame (F := Idealize.ShloMosaic.Ideal) m g
/-- the plain program too. -/
theorem frame_reference : Cert.quiescent_PoolDwRefIdeal (hPoolDwRefIdeal := Cert.PoolDwRefIdeal.Gen.facts) := fun m g _ =>
  (θ_run Cert.PoolDwRefIdeal.defs _ _).mono (fun r h => ⟨fun c => (h c).2, Idealize.ShloMosaic.sem_eq_zero_of_no_sems (by decide) r.2⟩)
    (Cert.PoolDwRefIdeal.Value.run (F := Idealize.ShloMosaic.Ideal) m g)

/-- From the same arguments both leave the same array. -/
theorem agrees : Cert.algebraic_PoolDwIdeal_PoolDwRefIdeal (hPoolDwIdeal := Cert.PoolDwIdeal.Gen.facts) (hPoolDwRefIdeal := Cert.PoolDwRefIdeal.Gen.facts) := by
  intro m g m' g' _ hargs
  refine ⟨fun c => onto (fun _ _ => 0) (cols (m ((c : Thread nD τ).loc main_arg0))) (rows (m ((c : Thread nD τ).loc main_arg1))), ?_, ?_⟩
  · exact (θ_run defs _ _).mono (fun r h c => ⟨(h c).1.trans ((Value.final2 m c).symm.trans (result_eq m c)), (h c).2⟩) (Value.run m g)
  · exact (θ_run _ _ _).mono (fun r h c => ⟨(h c).1.trans (by
      rw [(hargs c).1, (hargs c).2]; funext i
      rw [show i = ix2 (i 0) (i 1) from ValueIdx.eq_ix2 i]
      unfold onto entry rows cols
      pointwise [zero_add]; exact Finset.sum_congr rfl fun k _ => mul_comm _ _), (h c).2⟩) (Cert.PoolDwRefIdeal.Value.run m' g')

end Cert.PoolDwIdeal.Prod

end
-- ==== Proof.AttnDw.lean ====
/- `AttnDw`: the tiled product and the plain one agree over the extended reals. -/
module

public import proofs.«01_k».proof.Defs
public import proofs.«01_k».proof.Proof.Gen.AttnDw
public import proofs.«01_k».proof.Proof.Gen.AttnDw.Frame
public import proofs.«01_k».proof.Proof.Gen.AttnDwIdeal
public import proofs.«01_k».proof.Proof.Gen.AttnDwIdeal.Value
public import proofs.«01_k».proof.Proof.Gen.AttnDwRefIdeal
public import proofs.«01_k».proof.Proof.Gen.AttnDwRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.AttnDwIdeal.Prod

open Cert.AttnDwIdeal Cert.AttnDwIdeal.Gen

/-- The blocks that grid point `t` works on. -/
theorem idx : ∀ t : Fin cfg0.N, win0_0.index t = ![t.val % 16, t.val / 16 / 1] ∧ win0_1.index t = ![t.val % 16, t.val / 16 % 1] ∧ win0_2.index t = ![t.val / 16 / 1, t.val / 16 % 1] :=
  (by decide +kernel : ∀ t : Fin grid0.N, _)

/-- One step adds the product of its two tiles to the accumulator. -/
theorem pay_apply (x : Vec Ideal S512x512 .f32) (a : Vec Ideal S512x1024 .f32) (y : Vec Ideal S512x1024 .bf16) (r : Fin 512) (s : Fin 1024) :
    k0_pay2 x a y (ix2 r s) = a (ix2 r s) + entry (cols x) (rows y) r s := by
  unfold k0_pay2 entry rows cols
  pointwise [shapeCast_self]

/-- The accumulator starts at zero. -/
theorem init_apply (r : Fin 512) (s : Fin 1024) : k0_pay1 (F := Ideal) (ix2 r s) = 0 := by
  unfold k0_pay1
  pointwise [shapeCast_self]

variable (m : (ℓ : Loc nD τ sig) → Buf (Elt Ideal) ℓ) (ρ : Dev nD → PrngReg)

/-- The output tile is the accumulator of the last step. -/
theorem last_eq (c : Dev nD) (t : Fin cfg0.N) (h1 : t.val % 16 = 15) : (outsAt0 m c t.val t.isLt).1 = (outsAt0 m c t.val t.isLt).2 := by
  have h0 : ¬t.val % 16 = 0 := by omega
  rw [outsAt0_C m c t h0 h1]; dsimp only; unfold out0_C_2 sout0_C_0; frame_out

/-- The weight gradient: a column of the activations by a column of the gradient. -/
theorem result_eq (c : Dev nD) : (dats m 0 c).arrAt 2 cfg0.N = onto (fun _ _ => 0) (cols (m ((c : Thread nD τ).loc main_arg0))) (rows (m ((c : Thread nD τ).loc main_arg1))) := by
  refine (dats m 0 c).arrAt_eq_of_covers 2 _ (by decide +kernel) fun t hf y => ?_
  have h1 : t.val % 16 = 15 := (flush0_2 t).mp hf
  have e := idx t
  have hy0 : (y 0).val < 512 := (y 0).isLt
  have hy1 : (y 1).val < 1024 := (y 1).isLt
  blk_simp
  rw [after0_2]
  rw [last_eq m c t h1]
  refine Eq.trans ?_ ((entry_of_run (J := 16) (tm := 512) (tk := 512) (tn := 1024) (nn := 1) (by decide) (fun n hn r s => rows (outsAt0 m c n hn).2 r s)
    (fun _ _ _ => 0) (fun t => cols (iblk m c 0 t)) (fun t => rows (iblk m c 1 t)) (fun _ _ => 0) (cols (m ((c : Thread nD τ).loc main_arg0))) (rows (m ((c : Thread nD τ).loc main_arg1)))
    (fun t h0 r s => by
      have h1 : ¬t.val % 16 = 15 := by omega
      unfold rows; rw [outsAt0_A m c t h0 h1]; dsimp only; unfold sout0_A_0; frame_out; rw [pay_apply, init_apply]; rfl)
    (fun t h0 r s => by
      unfold rows
      by_cases h1 : t.val % 16 = 15
      · rw [outsAt0_C m c t h0 h1]; dsimp only; unfold sout0_C_0; frame_out; rw [pay_apply]; exact congrArg (· + _) (congrFun ((Memref.isWhole_whole cc0_scratch0).read_unread _) _)
      · rw [outsAt0_B m c t h0 h1]; dsimp only; unfold sout0_B_0; frame_out; rw [pay_apply]; exact congrArg (· + _) (congrFun ((Memref.isWhole_whole cc0_scratch0).read_unread _) _))
    (fun t r s i j hi hj => by rfl)
    (fun t r k i l hi hl => by unfold cols; blk_ext [iblk, V, idx t] <;> omega)
    (fun t k s l j hl hj => by unfold rows; blk_ext [iblk, V, idx t] <;> omega)
    t h1 ⟨(y 0).val, hy0⟩ ⟨(y 1).val, hy1⟩ _ _ ?_ ?_))
  · unfold rows; exact congrArg _ (ValueIdx.eq_ix2 _)
  · show win0_2.index t (0 : Fin 2) * 512 + 1 * (y 0).val = t.val / 16 / 1 * 512 + (y 0).val
    rw [e.2.2]; show t.val / 16 / 1 * 512 + 1 * (y 0).val = _; omega
  · show win0_2.index t (1 : Fin 2) * 1024 + 1 * (y 1).val = t.val / 16 % 1 * 1024 + (y 1).val
    rw [e.2.2]; show t.val / 16 % 1 * 1024 + 1 * (y 1).val = _; omega

/-- The call runs and leaves its arguments and the counters as it found them, on the machine's floats … -/
theorem frame_bits : Cert.quiescent_AttnDw (hAttnDw := Cert.AttnDw.Gen.facts) := fun m g _ => Cert.AttnDw.Gen.frame (F := Bits) m g
/-- … and over the extended reals; -/
theorem frame_ideal : Cert.quiescent_AttnDwIdeal (hAttnDwIdeal := Cert.AttnDwIdeal.Gen.facts) := fun m g _ => frame (F := Idealize.ShloMosaic.Ideal) m g
/-- the plain program too. -/
theorem frame_reference : Cert.quiescent_AttnDwRefIdeal (hAttnDwRefIdeal := Cert.AttnDwRefIdeal.Gen.facts) := fun m g _ =>
  (θ_run Cert.AttnDwRefIdeal.defs _ _).mono (fun r h => ⟨fun c => (h c).2, Idealize.ShloMosaic.sem_eq_zero_of_no_sems (by decide) r.2⟩)
    (Cert.AttnDwRefIdeal.Value.run (F := Idealize.ShloMosaic.Ideal) m g)

/-- From the same arguments both leave the same array. -/
theorem agrees : Cert.algebraic_AttnDwIdeal_AttnDwRefIdeal (hAttnDwIdeal := Cert.AttnDwIdeal.Gen.facts) (hAttnDwRefIdeal := Cert.AttnDwRefIdeal.Gen.facts) := by
  intro m g m' g' _ hargs
  refine ⟨fun c => onto (fun _ _ => 0) (cols (m ((c : Thread nD τ).loc main_arg0))) (rows (m ((c : Thread nD τ).loc main_arg1))), ?_, ?_⟩
  · exact (θ_run defs _ _).mono (fun r h c => ⟨(h c).1.trans ((Value.final2 m c).symm.trans (result_eq m c)), (h c).2⟩) (Value.run m g)
  · exact (θ_run _ _ _).mono (fun r h c => ⟨(h c).1.trans (by
      rw [(hargs c).1, (hargs c).2]; funext i
      rw [show i = ix2 (i 0) (i 1) from ValueIdx.eq_ix2 i]
      unfold onto entry rows cols
      pointwise [zero_add]; exact Finset.sum_congr rfl fun k _ => mul_comm _ _), (h c).2⟩) (Cert.AttnDwRefIdeal.Value.run m' g')

end Cert.AttnDwIdeal.Prod

end
-- ==== Proof.SsdDw.lean ====
/- `SsdDw`: the tiled product and the plain one agree over the extended reals. -/
module

public import proofs.«01_k».proof.Defs
public import proofs.«01_k».proof.Proof.Gen.SsdDw
public import proofs.«01_k».proof.Proof.Gen.SsdDw.Frame
public import proofs.«01_k».proof.Proof.Gen.SsdDwIdeal
public import proofs.«01_k».proof.Proof.Gen.SsdDwIdeal.Value
public import proofs.«01_k».proof.Proof.Gen.SsdDwRefIdeal
public import proofs.«01_k».proof.Proof.Gen.SsdDwRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.SsdDwIdeal.Prod

open Cert.SsdDwIdeal Cert.SsdDwIdeal.Gen

/-- The blocks that grid point `t` works on. -/
theorem idx : ∀ t : Fin cfg0.N, win0_0.index t = ![t.val % 16, t.val / 16 / 1] ∧ win0_1.index t = ![t.val % 16, t.val / 16 % 1] ∧ win0_2.index t = ![t.val / 16 / 1, t.val / 16 % 1] :=
  (by decide +kernel : ∀ t : Fin grid0.N, _)

/-- One step adds the product of its two tiles to the accumulator. -/
theorem pay_apply (x : Vec Ideal S512x1024 .bf16) (a : Vec Ideal S1024x1024 .f32) (y : Vec Ideal S512x1024 .bf16) (r : Fin 1024) (s : Fin 1024) :
    k0_pay2 x a y (ix2 r s) = a (ix2 r s) + entry (cols x) (rows y) r s := by
  unfold k0_pay2 entry rows cols
  pointwise [shapeCast_self]

/-- The accumulator starts at zero. -/
theorem init_apply (r : Fin 1024) (s : Fin 1024) : k0_pay1 (F := Ideal) (ix2 r s) = 0 := by
  unfold k0_pay1
  pointwise [shapeCast_self]

variable (m : (ℓ : Loc nD τ sig) → Buf (Elt Ideal) ℓ) (ρ : Dev nD → PrngReg)

/-- The output tile is the accumulator of the last step. -/
theorem last_eq (c : Dev nD) (t : Fin cfg0.N) (h1 : t.val % 16 = 15) : (outsAt0 m c t.val t.isLt).1 = (outsAt0 m c t.val t.isLt).2 := by
  have h0 : ¬t.val % 16 = 0 := by omega
  rw [outsAt0_C m c t h0 h1]; dsimp only; unfold out0_C_2 sout0_C_0; frame_out

/-- The weight gradient: a column of the activations by a column of the gradient. -/
theorem result_eq (c : Dev nD) : (dats m 0 c).arrAt 2 cfg0.N = onto (fun _ _ => 0) (cols (m ((c : Thread nD τ).loc main_arg0))) (rows (m ((c : Thread nD τ).loc main_arg1))) := by
  refine (dats m 0 c).arrAt_eq_of_covers 2 _ (by decide +kernel) fun t hf y => ?_
  have h1 : t.val % 16 = 15 := (flush0_2 t).mp hf
  have e := idx t
  have hy0 : (y 0).val < 1024 := (y 0).isLt
  have hy1 : (y 1).val < 1024 := (y 1).isLt
  blk_simp
  rw [after0_2]
  rw [last_eq m c t h1]
  refine Eq.trans ?_ ((entry_of_run (J := 16) (tm := 1024) (tk := 512) (tn := 1024) (nn := 1) (by decide) (fun n hn r s => rows (outsAt0 m c n hn).2 r s)
    (fun _ _ _ => 0) (fun t => cols (iblk m c 0 t)) (fun t => rows (iblk m c 1 t)) (fun _ _ => 0) (cols (m ((c : Thread nD τ).loc main_arg0))) (rows (m ((c : Thread nD τ).loc main_arg1)))
    (fun t h0 r s => by
      have h1 : ¬t.val % 16 = 15 := by omega
      unfold rows; rw [outsAt0_A m c t h0 h1]; dsimp only; unfold sout0_A_0; frame_out; rw [pay_apply, init_apply]; rfl)
    (fun t h0 r s => by
      unfold rows
      by_cases h1 : t.val % 16 = 15
      · rw [outsAt0_C m c t h0 h1]; dsimp only; unfold sout0_C_0; frame_out; rw [pay_apply]; exact congrArg (· + _) (congrFun ((Memref.isWhole_whole cc0_scratch0).read_unread _) _)
      · rw [outsAt0_B m c t h0 h1]; dsimp only; unfold sout0_B_0; frame_out; rw [pay_apply]; exact congrArg (· + _) (congrFun ((Memref.isWhole_whole cc0_scratch0).read_unread _) _))
    (fun t r s i j hi hj => by rfl)
    (fun t r k i l hi hl => by unfold cols; blk_ext [iblk, V, idx t] <;> omega)
    (fun t k s l j hl hj => by unfold rows; blk_ext [iblk, V, idx t] <;> omega)
    t h1 ⟨(y 0).val, hy0⟩ ⟨(y 1).val, hy1⟩ _ _ ?_ ?_))
  · unfold rows; exact congrArg _ (ValueIdx.eq_ix2 _)
  · show win0_2.index t (0 : Fin 2) * 1024 + 1 * (y 0).val = t.val / 16 / 1 * 1024 + (y 0).val
    rw [e.2.2]; show t.val / 16 / 1 * 1024 + 1 * (y 0).val = _; omega
  · show win0_2.index t (1 : Fin 2) * 1024 + 1 * (y 1).val = t.val / 16 % 1 * 1024 + (y 1).val
    rw [e.2.2]; show t.val / 16 % 1 * 1024 + 1 * (y 1).val = _; omega

/-- The call runs and leaves its arguments and the counters as it found them, on the machine's floats … -/
theorem frame_bits : Cert.quiescent_SsdDw (hSsdDw := Cert.SsdDw.Gen.facts) := fun m g _ => Cert.SsdDw.Gen.frame (F := Bits) m g
/-- … and over the extended reals; -/
theorem frame_ideal : Cert.quiescent_SsdDwIdeal (hSsdDwIdeal := Cert.SsdDwIdeal.Gen.facts) := fun m g _ => frame (F := Idealize.ShloMosaic.Ideal) m g
/-- the plain program too. -/
theorem frame_reference : Cert.quiescent_SsdDwRefIdeal (hSsdDwRefIdeal := Cert.SsdDwRefIdeal.Gen.facts) := fun m g _ =>
  (θ_run Cert.SsdDwRefIdeal.defs _ _).mono (fun r h => ⟨fun c => (h c).2, Idealize.ShloMosaic.sem_eq_zero_of_no_sems (by decide) r.2⟩)
    (Cert.SsdDwRefIdeal.Value.run (F := Idealize.ShloMosaic.Ideal) m g)

/-- From the same arguments both leave the same array. -/
theorem agrees : Cert.algebraic_SsdDwIdeal_SsdDwRefIdeal (hSsdDwIdeal := Cert.SsdDwIdeal.Gen.facts) (hSsdDwRefIdeal := Cert.SsdDwRefIdeal.Gen.facts) := by
  intro m g m' g' _ hargs
  refine ⟨fun c => onto (fun _ _ => 0) (cols (m ((c : Thread nD τ).loc main_arg0))) (rows (m ((c : Thread nD τ).loc main_arg1))), ?_, ?_⟩
  · exact (θ_run defs _ _).mono (fun r h c => ⟨(h c).1.trans ((Value.final2 m c).symm.trans (result_eq m c)), (h c).2⟩) (Value.run m g)
  · exact (θ_run _ _ _).mono (fun r h c => ⟨(h c).1.trans (by
      rw [(hargs c).1, (hargs c).2]; funext i
      rw [show i = ix2 (i 0) (i 1) from ValueIdx.eq_ix2 i]
      unfold onto entry rows cols
      pointwise [zero_add]; exact Finset.sum_congr rfl fun k _ => mul_comm _ _), (h c).2⟩) (Cert.SsdDwRefIdeal.Value.run m' g')

end Cert.SsdDwIdeal.Prod

end
-- ==== Proof.InPDw.lean ====
/- `InPDw`: the tiled product and the plain one agree over the extended reals. -/
module

public import proofs.«01_k».proof.Defs
public import proofs.«01_k».proof.Proof.Gen.InPDw
public import proofs.«01_k».proof.Proof.Gen.InPDw.Frame
public import proofs.«01_k».proof.Proof.Gen.InPDwIdeal
public import proofs.«01_k».proof.Proof.Gen.InPDwIdeal.Value
public import proofs.«01_k».proof.Proof.Gen.InPDwRefIdeal
public import proofs.«01_k».proof.Proof.Gen.InPDwRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.InPDwIdeal.Prod

open Cert.InPDwIdeal Cert.InPDwIdeal.Gen

/-- The blocks that grid point `t` works on. -/
theorem idx : ∀ t : Fin cfg0.N, win0_0.index t = ![t.val % 16, t.val / 16 / 2] ∧ win0_1.index t = ![t.val % 16, t.val / 16 % 2] ∧ win0_2.index t = ![t.val / 16 / 2, t.val / 16 % 2] :=
  (by decide +kernel : ∀ t : Fin grid0.N, _)

/-- One step adds the product of its two tiles to the accumulator. -/
theorem pay_apply (x : Vec Ideal S512x1024 .bf16) (a : Vec Ideal S1024x1024 .f32) (y : Vec Ideal S512x1024 .bf16) (r : Fin 1024) (s : Fin 1024) :
    k0_pay2 x a y (ix2 r s) = a (ix2 r s) + entry (cols x) (rows y) r s := by
  unfold k0_pay2 entry rows cols
  pointwise [shapeCast_self]

/-- The accumulator starts at zero. -/
theorem init_apply (r : Fin 1024) (s : Fin 1024) : k0_pay1 (F := Ideal) (ix2 r s) = 0 := by
  unfold k0_pay1
  pointwise [shapeCast_self]

variable (m : (ℓ : Loc nD τ sig) → Buf (Elt Ideal) ℓ) (ρ : Dev nD → PrngReg)

/-- The output tile is the accumulator of the last step. -/
theorem last_eq (c : Dev nD) (t : Fin cfg0.N) (h1 : t.val % 16 = 15) : (outsAt0 m c t.val t.isLt).1 = (outsAt0 m c t.val t.isLt).2 := by
  have h0 : ¬t.val % 16 = 0 := by omega
  rw [outsAt0_C m c t h0 h1]; dsimp only; unfold out0_C_2 sout0_C_0; frame_out

/-- The weight gradient: a column of the activations by a column of the gradient. -/
theorem result_eq (c : Dev nD) : (dats m 0 c).arrAt 2 cfg0.N = onto (fun _ _ => 0) (cols (m ((c : Thread nD τ).loc main_arg0))) (rows (m ((c : Thread nD τ).loc main_arg1))) := by
  refine (dats m 0 c).arrAt_eq_of_covers 2 _ (by decide +kernel) fun t hf y => ?_
  have h1 : t.val % 16 = 15 := (flush0_2 t).mp hf
  have e := idx t
  have hy0 : (y 0).val < 1024 := (y 0).isLt
  have hy1 : (y 1).val < 1024 := (y 1).isLt
  blk_simp
  rw [after0_2]
  rw [last_eq m c t h1]
  refine Eq.trans ?_ ((entry_of_run (J := 16) (tm := 1024) (tk := 512) (tn := 1024) (nn := 2) (by decide) (fun n hn r s => rows (outsAt0 m c n hn).2 r s)
    (fun _ _ _ => 0) (fun t => cols (iblk m c 0 t)) (fun t => rows (iblk m c 1 t)) (fun _ _ => 0) (cols (m ((c : Thread nD τ).loc main_arg0))) (rows (m ((c : Thread nD τ).loc main_arg1)))
    (fun t h0 r s => by
      have h1 : ¬t.val % 16 = 15 := by omega
      unfold rows; rw [outsAt0_A m c t h0 h1]; dsimp only; unfold sout0_A_0; frame_out; rw [pay_apply, init_apply]; rfl)
    (fun t h0 r s => by
      unfold rows
      by_cases h1 : t.val % 16 = 15
      · rw [outsAt0_C m c t h0 h1]; dsimp only; unfold sout0_C_0; frame_out; rw [pay_apply]; exact congrArg (· + _) (congrFun ((Memref.isWhole_whole cc0_scratch0).read_unread _) _)
      · rw [outsAt0_B m c t h0 h1]; dsimp only; unfold sout0_B_0; frame_out; rw [pay_apply]; exact congrArg (· + _) (congrFun ((Memref.isWhole_whole cc0_scratch0).read_unread _) _))
    (fun t r s i j hi hj => by rfl)
    (fun t r k i l hi hl => by unfold cols; blk_ext [iblk, V, idx t] <;> omega)
    (fun t k s l j hl hj => by unfold rows; blk_ext [iblk, V, idx t] <;> omega)
    t h1 ⟨(y 0).val, hy0⟩ ⟨(y 1).val, hy1⟩ _ _ ?_ ?_))
  · unfold rows; exact congrArg _ (ValueIdx.eq_ix2 _)
  · show win0_2.index t (0 : Fin 2) * 1024 + 1 * (y 0).val = t.val / 16 / 2 * 1024 + (y 0).val
    rw [e.2.2]; show t.val / 16 / 2 * 1024 + 1 * (y 0).val = _; omega
  · show win0_2.index t (1 : Fin 2) * 1024 + 1 * (y 1).val = t.val / 16 % 2 * 1024 + (y 1).val
    rw [e.2.2]; show t.val / 16 % 2 * 1024 + 1 * (y 1).val = _; omega

/-- The call runs and leaves its arguments and the counters as it found them, on the machine's floats … -/
theorem frame_bits : Cert.quiescent_InPDw (hInPDw := Cert.InPDw.Gen.facts) := fun m g _ => Cert.InPDw.Gen.frame (F := Bits) m g
/-- … and over the extended reals; -/
theorem frame_ideal : Cert.quiescent_InPDwIdeal (hInPDwIdeal := Cert.InPDwIdeal.Gen.facts) := fun m g _ => frame (F := Idealize.ShloMosaic.Ideal) m g
/-- the plain program too. -/
theorem frame_reference : Cert.quiescent_InPDwRefIdeal (hInPDwRefIdeal := Cert.InPDwRefIdeal.Gen.facts) := fun m g _ =>
  (θ_run Cert.InPDwRefIdeal.defs _ _).mono (fun r h => ⟨fun c => (h c).2, Idealize.ShloMosaic.sem_eq_zero_of_no_sems (by decide) r.2⟩)
    (Cert.InPDwRefIdeal.Value.run (F := Idealize.ShloMosaic.Ideal) m g)

/-- From the same arguments both leave the same array. -/
theorem agrees : Cert.algebraic_InPDwIdeal_InPDwRefIdeal (hInPDwIdeal := Cert.InPDwIdeal.Gen.facts) (hInPDwRefIdeal := Cert.InPDwRefIdeal.Gen.facts) := by
  intro m g m' g' _ hargs
  refine ⟨fun c => onto (fun _ _ => 0) (cols (m ((c : Thread nD τ).loc main_arg0))) (rows (m ((c : Thread nD τ).loc main_arg1))), ?_, ?_⟩
  · exact (θ_run defs _ _).mono (fun r h c => ⟨(h c).1.trans ((Value.final2 m c).symm.trans (result_eq m c)), (h c).2⟩) (Value.run m g)
  · exact (θ_run _ _ _).mono (fun r h c => ⟨(h c).1.trans (by
      rw [(hargs c).1, (hargs c).2]; funext i
      rw [show i = ix2 (i 0) (i 1) from ValueIdx.eq_ix2 i]
      unfold onto entry rows cols
      pointwise [zero_add]; exact Finset.sum_congr rfl fun k _ => mul_comm _ _), (h c).2⟩) (Cert.InPDwRefIdeal.Value.run m' g')

end Cert.InPDwIdeal.Prod

end
-- ==== Proof.InXDw.lean ====
/- `InXDw`: the tiled product and the plain one agree over the extended reals. -/
module

public import proofs.«01_k».proof.Defs
public import proofs.«01_k».proof.Proof.Gen.InXDw
public import proofs.«01_k».proof.Proof.Gen.InXDw.Frame
public import proofs.«01_k».proof.Proof.Gen.InXDwIdeal
public import proofs.«01_k».proof.Proof.Gen.InXDwIdeal.Value
public import proofs.«01_k».proof.Proof.Gen.InXDwRefIdeal
public import proofs.«01_k».proof.Proof.Gen.InXDwRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.InXDwIdeal.Prod

open Cert.InXDwIdeal Cert.InXDwIdeal.Gen

/-- The blocks that grid point `t` works on. -/
theorem idx : ∀ t : Fin cfg0.N, win0_0.index t = ![t.val % 16, t.val / 16 / 3] ∧ win0_1.index t = ![t.val % 16, t.val / 16 % 3] ∧ win0_2.index t = ![t.val / 16 / 3, t.val / 16 % 3] :=
  (by decide +kernel : ∀ t : Fin grid0.N, _)

/-- One step adds the product of its two tiles to the accumulator. -/
theorem pay_apply (x : Vec Ideal S512x1024 .bf16) (a : Vec Ideal S1024x512 .f32) (y : Vec Ideal S512x512 .bf16) (r : Fin 1024) (s : Fin 512) :
    k0_pay2 x a y (ix2 r s) = a (ix2 r s) + entry (cols x) (rows y) r s := by
  unfold k0_pay2 entry rows cols
  pointwise [shapeCast_self]

/-- The accumulator starts at zero. -/
theorem init_apply (r : Fin 1024) (s : Fin 512) : k0_pay1 (F := Ideal) (ix2 r s) = 0 := by
  unfold k0_pay1
  pointwise [shapeCast_self]

variable (m : (ℓ : Loc nD τ sig) → Buf (Elt Ideal) ℓ) (ρ : Dev nD → PrngReg)

/-- The output tile is the accumulator of the last step. -/
theorem last_eq (c : Dev nD) (t : Fin cfg0.N) (h1 : t.val % 16 = 15) : (outsAt0 m c t.val t.isLt).1 = (outsAt0 m c t.val t.isLt).2 := by
  have h0 : ¬t.val % 16 = 0 := by omega
  rw [outsAt0_C m c t h0 h1]; dsimp only; unfold out0_C_2 sout0_C_0; frame_out

/-- The weight gradient: a column of the activations by a column of the gradient. -/
theorem result_eq (c : Dev nD) : (dats m 0 c).arrAt 2 cfg0.N = onto (fun _ _ => 0) (cols (m ((c : Thread nD τ).loc main_arg0))) (rows (m ((c : Thread nD τ).loc main_arg1))) := by
  refine (dats m 0 c).arrAt_eq_of_covers 2 _ (by decide +kernel) fun t hf y => ?_
  have h1 : t.val % 16 = 15 := (flush0_2 t).mp hf
  have e := idx t
  have hy0 : (y 0).val < 1024 := (y 0).isLt
  have hy1 : (y 1).val < 512 := (y 1).isLt
  blk_simp
  rw [after0_2]
  rw [last_eq m c t h1]
  refine Eq.trans ?_ ((entry_of_run (J := 16) (tm := 1024) (tk := 512) (tn := 512) (nn := 3) (by decide) (fun n hn r s => rows (outsAt0 m c n hn).2 r s)
    (fun _ _ _ => 0) (fun t => cols (iblk m c 0 t)) (fun t => rows (iblk m c 1 t)) (fun _ _ => 0) (cols (m ((c : Thread nD τ).loc main_arg0))) (rows (m ((c : Thread nD τ).loc main_arg1)))
    (fun t h0 r s => by
      have h1 : ¬t.val % 16 = 15 := by omega
      unfold rows; rw [outsAt0_A m c t h0 h1]; dsimp only; unfold sout0_A_0; frame_out; rw [pay_apply, init_apply]; rfl)
    (fun t h0 r s => by
      unfold rows
      by_cases h1 : t.val % 16 = 15
      · rw [outsAt0_C m c t h0 h1]; dsimp only; unfold sout0_C_0; frame_out; rw [pay_apply]; exact congrArg (· + _) (congrFun ((Memref.isWhole_whole cc0_scratch0).read_unread _) _)
      · rw [outsAt0_B m c t h0 h1]; dsimp only; unfold sout0_B_0; frame_out; rw [pay_apply]; exact congrArg (· + _) (congrFun ((Memref.isWhole_whole cc0_scratch0).read_unread _) _))
    (fun t r s i j hi hj => by rfl)
    (fun t r k i l hi hl => by unfold cols; blk_ext [iblk, V, idx t] <;> omega)
    (fun t k s l j hl hj => by unfold rows; blk_ext [iblk, V, idx t] <;> omega)
    t h1 ⟨(y 0).val, hy0⟩ ⟨(y 1).val, hy1⟩ _ _ ?_ ?_))
  · unfold rows; exact congrArg _ (ValueIdx.eq_ix2 _)
  · show win0_2.index t (0 : Fin 2) * 1024 + 1 * (y 0).val = t.val / 16 / 3 * 1024 + (y 0).val
    rw [e.2.2]; show t.val / 16 / 3 * 1024 + 1 * (y 0).val = _; omega
  · show win0_2.index t (1 : Fin 2) * 512 + 1 * (y 1).val = t.val / 16 % 3 * 512 + (y 1).val
    rw [e.2.2]; show t.val / 16 % 3 * 512 + 1 * (y 1).val = _; omega

/-- The call runs and leaves its arguments and the counters as it found them, on the machine's floats … -/
theorem frame_bits : Cert.quiescent_InXDw (hInXDw := Cert.InXDw.Gen.facts) := fun m g _ => Cert.InXDw.Gen.frame (F := Bits) m g
/-- … and over the extended reals; -/
theorem frame_ideal : Cert.quiescent_InXDwIdeal (hInXDwIdeal := Cert.InXDwIdeal.Gen.facts) := fun m g _ => frame (F := Idealize.ShloMosaic.Ideal) m g
/-- the plain program too. -/
theorem frame_reference : Cert.quiescent_InXDwRefIdeal (hInXDwRefIdeal := Cert.InXDwRefIdeal.Gen.facts) := fun m g _ =>
  (θ_run Cert.InXDwRefIdeal.defs _ _).mono (fun r h => ⟨fun c => (h c).2, Idealize.ShloMosaic.sem_eq_zero_of_no_sems (by decide) r.2⟩)
    (Cert.InXDwRefIdeal.Value.run (F := Idealize.ShloMosaic.Ideal) m g)

/-- From the same arguments both leave the same array. -/
theorem agrees : Cert.algebraic_InXDwIdeal_InXDwRefIdeal (hInXDwIdeal := Cert.InXDwIdeal.Gen.facts) (hInXDwRefIdeal := Cert.InXDwRefIdeal.Gen.facts) := by
  intro m g m' g' _ hargs
  refine ⟨fun c => onto (fun _ _ => 0) (cols (m ((c : Thread nD τ).loc main_arg0))) (rows (m ((c : Thread nD τ).loc main_arg1))), ?_, ?_⟩
  · exact (θ_run defs _ _).mono (fun r h c => ⟨(h c).1.trans ((Value.final2 m c).symm.trans (result_eq m c)), (h c).2⟩) (Value.run m g)
  · exact (θ_run _ _ _).mono (fun r h c => ⟨(h c).1.trans (by
      rw [(hargs c).1, (hargs c).2]; funext i
      rw [show i = ix2 (i 0) (i 1) from ValueIdx.eq_ix2 i]
      unfold onto entry rows cols
      pointwise [zero_add]; exact Finset.sum_congr rfl fun k _ => mul_comm _ _), (h c).2⟩) (Cert.InXDwRefIdeal.Value.run m' g')

end Cert.InXDwIdeal.Prod

end
-- ==== Proof.InGDw.lean ====
/- `InGDw`: the tiled product and the plain one agree over the extended reals. -/
module

public import proofs.«01_k».proof.Defs
public import proofs.«01_k».proof.Proof.Gen.InGDw
public import proofs.«01_k».proof.Proof.Gen.InGDw.Frame
public import proofs.«01_k».proof.Proof.Gen.InGDwIdeal
public import proofs.«01_k».proof.Proof.Gen.InGDwIdeal.Value
public import proofs.«01_k».proof.Proof.Gen.InGDwRefIdeal
public import proofs.«01_k».proof.Proof.Gen.InGDwRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.InGDwIdeal.Prod

open Cert.InGDwIdeal Cert.InGDwIdeal.Gen

/-- The blocks that grid point `t` works on. -/
theorem idx : ∀ t : Fin cfg0.N, win0_0.index t = ![t.val % 16, t.val / 16 / 3] ∧ win0_1.index t = ![t.val % 16, t.val / 16 % 3] ∧ win0_2.index t = ![t.val / 16 / 3, t.val / 16 % 3] :=
  (by decide +kernel : ∀ t : Fin grid0.N, _)

/-- One step adds the product of its two tiles to the accumulator. -/
theorem pay_apply (x : Vec Ideal S512x1024 .bf16) (a : Vec Ideal S1024x1024 .f32) (y : Vec Ideal S512x1024 .bf16) (r : Fin 1024) (s : Fin 1024) :
    k0_pay2 x a y (ix2 r s) = a (ix2 r s) + entry (cols x) (rows y) r s := by
  unfold k0_pay2 entry rows cols
  pointwise [shapeCast_self]

/-- The accumulator starts at zero. -/
theorem init_apply (r : Fin 1024) (s : Fin 1024) : k0_pay1 (F := Ideal) (ix2 r s) = 0 := by
  unfold k0_pay1
  pointwise [shapeCast_self]

variable (m : (ℓ : Loc nD τ sig) → Buf (Elt Ideal) ℓ) (ρ : Dev nD → PrngReg)

/-- The output tile is the accumulator of the last step. -/
theorem last_eq (c : Dev nD) (t : Fin cfg0.N) (h1 : t.val % 16 = 15) : (outsAt0 m c t.val t.isLt).1 = (outsAt0 m c t.val t.isLt).2 := by
  have h0 : ¬t.val % 16 = 0 := by omega
  rw [outsAt0_C m c t h0 h1]; dsimp only; unfold out0_C_2 sout0_C_0; frame_out

/-- The weight gradient: a column of the activations by a column of the gradient. -/
theorem result_eq (c : Dev nD) : (dats m 0 c).arrAt 2 cfg0.N = onto (fun _ _ => 0) (cols (m ((c : Thread nD τ).loc main_arg0))) (rows (m ((c : Thread nD τ).loc main_arg1))) := by
  refine (dats m 0 c).arrAt_eq_of_covers 2 _ (by decide +kernel) fun t hf y => ?_
  have h1 : t.val % 16 = 15 := (flush0_2 t).mp hf
  have e := idx t
  have hy0 : (y 0).val < 1024 := (y 0).isLt
  have hy1 : (y 1).val < 1024 := (y 1).isLt
  blk_simp
  rw [after0_2]
  rw [last_eq m c t h1]
  refine Eq.trans ?_ ((entry_of_run (J := 16) (tm := 1024) (tk := 512) (tn := 1024) (nn := 3) (by decide) (fun n hn r s => rows (outsAt0 m c n hn).2 r s)
    (fun _ _ _ => 0) (fun t => cols (iblk m c 0 t)) (fun t => rows (iblk m c 1 t)) (fun _ _ => 0) (cols (m ((c : Thread nD τ).loc main_arg0))) (rows (m ((c : Thread nD τ).loc main_arg1)))
    (fun t h0 r s => by
      have h1 : ¬t.val % 16 = 15 := by omega
      unfold rows; rw [outsAt0_A m c t h0 h1]; dsimp only; unfold sout0_A_0; frame_out; rw [pay_apply, init_apply]; rfl)
    (fun t h0 r s => by
      unfold rows
      by_cases h1 : t.val % 16 = 15
      · rw [outsAt0_C m c t h0 h1]; dsimp only; unfold sout0_C_0; frame_out; rw [pay_apply]; exact congrArg (· + _) (congrFun ((Memref.isWhole_whole cc0_scratch0).read_unread _) _)
      · rw [outsAt0_B m c t h0 h1]; dsimp only; unfold sout0_B_0; frame_out; rw [pay_apply]; exact congrArg (· + _) (congrFun ((Memref.isWhole_whole cc0_scratch0).read_unread _) _))
    (fun t r s i j hi hj => by rfl)
    (fun t r k i l hi hl => by unfold cols; blk_ext [iblk, V, idx t] <;> omega)
    (fun t k s l j hl hj => by unfold rows; blk_ext [iblk, V, idx t] <;> omega)
    t h1 ⟨(y 0).val, hy0⟩ ⟨(y 1).val, hy1⟩ _ _ ?_ ?_))
  · unfold rows; exact congrArg _ (ValueIdx.eq_ix2 _)
  · show win0_2.index t (0 : Fin 2) * 1024 + 1 * (y 0).val = t.val / 16 / 3 * 1024 + (y 0).val
    rw [e.2.2]; show t.val / 16 / 3 * 1024 + 1 * (y 0).val = _; omega
  · show win0_2.index t (1 : Fin 2) * 1024 + 1 * (y 1).val = t.val / 16 % 3 * 1024 + (y 1).val
    rw [e.2.2]; show t.val / 16 % 3 * 1024 + 1 * (y 1).val = _; omega

/-- The call runs and leaves its arguments and the counters as it found them, on the machine's floats … -/
theorem frame_bits : Cert.quiescent_InGDw (hInGDw := Cert.InGDw.Gen.facts) := fun m g _ => Cert.InGDw.Gen.frame (F := Bits) m g
/-- … and over the extended reals; -/
theorem frame_ideal : Cert.quiescent_InGDwIdeal (hInGDwIdeal := Cert.InGDwIdeal.Gen.facts) := fun m g _ => frame (F := Idealize.ShloMosaic.Ideal) m g
/-- the plain program too. -/
theorem frame_reference : Cert.quiescent_InGDwRefIdeal (hInGDwRefIdeal := Cert.InGDwRefIdeal.Gen.facts) := fun m g _ =>
  (θ_run Cert.InGDwRefIdeal.defs _ _).mono (fun r h => ⟨fun c => (h c).2, Idealize.ShloMosaic.sem_eq_zero_of_no_sems (by decide) r.2⟩)
    (Cert.InGDwRefIdeal.Value.run (F := Idealize.ShloMosaic.Ideal) m g)

/-- From the same arguments both leave the same array. -/
theorem agrees : Cert.algebraic_InGDwIdeal_InGDwRefIdeal (hInGDwIdeal := Cert.InGDwIdeal.Gen.facts) (hInGDwRefIdeal := Cert.InGDwRefIdeal.Gen.facts) := by
  intro m g m' g' _ hargs
  refine ⟨fun c => onto (fun _ _ => 0) (cols (m ((c : Thread nD τ).loc main_arg0))) (rows (m ((c : Thread nD τ).loc main_arg1))), ?_, ?_⟩
  · exact (θ_run defs _ _).mono (fun r h c => ⟨(h c).1.trans ((Value.final2 m c).symm.trans (result_eq m c)), (h c).2⟩) (Value.run m g)
  · exact (θ_run _ _ _).mono (fun r h c => ⟨(h c).1.trans (by
      rw [(hargs c).1, (hargs c).2]; funext i
      rw [show i = ix2 (i 0) (i 1) from ValueIdx.eq_ix2 i]
      unfold onto entry rows cols
      pointwise [zero_add]; exact Finset.sum_congr rfl fun k _ => mul_comm _ _), (h c).2⟩) (Cert.InGDwRefIdeal.Value.run m' g')

end Cert.InGDwIdeal.Prod

end
-- ==== Proof.InFDw.lean ====
/- `InFDw`: the tiled product and the plain one agree over the extended reals. -/
module

public import proofs.«01_k».proof.Defs
public import proofs.«01_k».proof.Proof.Gen.InFDw
public import proofs.«01_k».proof.Proof.Gen.InFDw.Frame
public import proofs.«01_k».proof.Proof.Gen.InFDwIdeal
public import proofs.«01_k».proof.Proof.Gen.InFDwIdeal.Value
public import proofs.«01_k».proof.Proof.Gen.InFDwRefIdeal
public import proofs.«01_k».proof.Proof.Gen.InFDwRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.InFDwIdeal.Prod

open Cert.InFDwIdeal Cert.InFDwIdeal.Gen

/-- The blocks that grid point `t` works on. -/
theorem idx : ∀ t : Fin cfg0.N, win0_0.index t = ![t.val % 16, t.val / 16 / 1] ∧ win0_1.index t = ![t.val % 16, t.val / 16 % 1] ∧ win0_2.index t = ![t.val / 16 / 1, t.val / 16 % 1] :=
  (by decide +kernel : ∀ t : Fin grid0.N, _)

/-- One step adds the product of its two tiles to the accumulator. -/
theorem pay_apply (x : Vec Ideal S512x1024 .bf16) (a : Vec Ideal S1024x128 .f32) (y : Vec Ideal S512x128 .bf16) (r : Fin 1024) (s : Fin 128) :
    k0_pay2 x a y (ix2 r s) = a (ix2 r s) + entry (cols x) (rows y) r s := by
  unfold k0_pay2 entry rows cols
  pointwise [shapeCast_self]

/-- The accumulator starts at zero. -/
theorem init_apply (r : Fin 1024) (s : Fin 128) : k0_pay1 (F := Ideal) (ix2 r s) = 0 := by
  unfold k0_pay1
  pointwise [shapeCast_self]

variable (m : (ℓ : Loc nD τ sig) → Buf (Elt Ideal) ℓ) (ρ : Dev nD → PrngReg)

/-- The output tile is the accumulator of the last step. -/
theorem last_eq (c : Dev nD) (t : Fin cfg0.N) (h1 : t.val % 16 = 15) : (outsAt0 m c t.val t.isLt).1 = (outsAt0 m c t.val t.isLt).2 := by
  have h0 : ¬t.val % 16 = 0 := by omega
  rw [outsAt0_C m c t h0 h1]; dsimp only; unfold out0_C_2 sout0_C_0; frame_out

/-- The weight gradient: a column of the activations by a column of the gradient. -/
theorem result_eq (c : Dev nD) : (dats m 0 c).arrAt 2 cfg0.N = onto (fun _ _ => 0) (cols (m ((c : Thread nD τ).loc main_arg0))) (rows (m ((c : Thread nD τ).loc main_arg1))) := by
  refine (dats m 0 c).arrAt_eq_of_covers 2 _ (by decide +kernel) fun t hf y => ?_
  have h1 : t.val % 16 = 15 := (flush0_2 t).mp hf
  have e := idx t
  have hy0 : (y 0).val < 1024 := (y 0).isLt
  have hy1 : (y 1).val < 128 := (y 1).isLt
  blk_simp
  rw [after0_2]
  rw [last_eq m c t h1]
  refine Eq.trans ?_ ((entry_of_run (J := 16) (tm := 1024) (tk := 512) (tn := 128) (nn := 1) (by decide) (fun n hn r s => rows (outsAt0 m c n hn).2 r s)
    (fun _ _ _ => 0) (fun t => cols (iblk m c 0 t)) (fun t => rows (iblk m c 1 t)) (fun _ _ => 0) (cols (m ((c : Thread nD τ).loc main_arg0))) (rows (m ((c : Thread nD τ).loc main_arg1)))
    (fun t h0 r s => by
      have h1 : ¬t.val % 16 = 15 := by omega
      unfold rows; rw [outsAt0_A m c t h0 h1]; dsimp only; unfold sout0_A_0; frame_out; rw [pay_apply, init_apply]; rfl)
    (fun t h0 r s => by
      unfold rows
      by_cases h1 : t.val % 16 = 15
      · rw [outsAt0_C m c t h0 h1]; dsimp only; unfold sout0_C_0; frame_out; rw [pay_apply]; exact congrArg (· + _) (congrFun ((Memref.isWhole_whole cc0_scratch0).read_unread _) _)
      · rw [outsAt0_B m c t h0 h1]; dsimp only; unfold sout0_B_0; frame_out; rw [pay_apply]; exact congrArg (· + _) (congrFun ((Memref.isWhole_whole cc0_scratch0).read_unread _) _))
    (fun t r s i j hi hj => by rfl)
    (fun t r k i l hi hl => by unfold cols; blk_ext [iblk, V, idx t] <;> omega)
    (fun t k s l j hl hj => by unfold rows; blk_ext [iblk, V, idx t] <;> omega)
    t h1 ⟨(y 0).val, hy0⟩ ⟨(y 1).val, hy1⟩ _ _ ?_ ?_))
  · unfold rows; exact congrArg _ (ValueIdx.eq_ix2 _)
  · show win0_2.index t (0 : Fin 2) * 1024 + 1 * (y 0).val = t.val / 16 / 1 * 1024 + (y 0).val
    rw [e.2.2]; show t.val / 16 / 1 * 1024 + 1 * (y 0).val = _; omega
  · show win0_2.index t (1 : Fin 2) * 128 + 1 * (y 1).val = t.val / 16 % 1 * 128 + (y 1).val
    rw [e.2.2]; show t.val / 16 % 1 * 128 + 1 * (y 1).val = _; omega

/-- The call runs and leaves its arguments and the counters as it found them, on the machine's floats … -/
theorem frame_bits : Cert.quiescent_InFDw (hInFDw := Cert.InFDw.Gen.facts) := fun m g _ => Cert.InFDw.Gen.frame (F := Bits) m g
/-- … and over the extended reals; -/
theorem frame_ideal : Cert.quiescent_InFDwIdeal (hInFDwIdeal := Cert.InFDwIdeal.Gen.facts) := fun m g _ => frame (F := Idealize.ShloMosaic.Ideal) m g
/-- the plain program too. -/
theorem frame_reference : Cert.quiescent_InFDwRefIdeal (hInFDwRefIdeal := Cert.InFDwRefIdeal.Gen.facts) := fun m g _ =>
  (θ_run Cert.InFDwRefIdeal.defs _ _).mono (fun r h => ⟨fun c => (h c).2, Idealize.ShloMosaic.sem_eq_zero_of_no_sems (by decide) r.2⟩)
    (Cert.InFDwRefIdeal.Value.run (F := Idealize.ShloMosaic.Ideal) m g)

/-- From the same arguments both leave the same array. -/
theorem agrees : Cert.algebraic_InFDwIdeal_InFDwRefIdeal (hInFDwIdeal := Cert.InFDwIdeal.Gen.facts) (hInFDwRefIdeal := Cert.InFDwRefIdeal.Gen.facts) := by
  intro m g m' g' _ hargs
  refine ⟨fun c => onto (fun _ _ => 0) (cols (m ((c : Thread nD τ).loc main_arg0))) (rows (m ((c : Thread nD τ).loc main_arg1))), ?_, ?_⟩
  · exact (θ_run defs _ _).mono (fun r h c => ⟨(h c).1.trans ((Value.final2 m c).symm.trans (result_eq m c)), (h c).2⟩) (Value.run m g)
  · exact (θ_run _ _ _).mono (fun r h c => ⟨(h c).1.trans (by
      rw [(hargs c).1, (hargs c).2]; funext i
      rw [show i = ix2 (i 0) (i 1) from ValueIdx.eq_ix2 i]
      unfold onto entry rows cols
      pointwise [zero_add]; exact Finset.sum_congr rfl fun k _ => mul_comm _ _), (h c).2⟩) (Cert.InFDwRefIdeal.Value.run m' g')

end Cert.InFDwIdeal.Prod

end
-- ==== Proof.DownDx.lean ====
/- `DownDx`: the tiled product and the plain one agree over the extended reals. -/
module

public import proofs.«01_k».proof.Defs
public import proofs.«01_k».proof.Proof.Gen.DownDx
public import proofs.«01_k».proof.Proof.Gen.DownDx.Frame
public import proofs.«01_k».proof.Proof.Gen.DownDxIdeal
public import proofs.«01_k».proof.Proof.Gen.DownDxIdeal.Value
public import proofs.«01_k».proof.Proof.Gen.DownDxRefIdeal
public import proofs.«01_k».proof.Proof.Gen.DownDxRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.DownDxIdeal.Prod

open Cert.DownDxIdeal Cert.DownDxIdeal.Gen

/-- The blocks that grid point `t` works on. -/
theorem idx : ∀ t : Fin cfg0.N, win0_0.index t = ![t.val / 1 / 2, t.val % 1] ∧ win0_1.index t = ![t.val / 1 % 2, t.val % 1] ∧ win0_2.index t = ![t.val / 1 / 2, t.val / 1 % 2] :=
  (by decide +kernel : ∀ t : Fin grid0.N, _)

/-- One step adds the product of its two tiles to the accumulator. -/
theorem pay_apply (x : Vec Ideal S1024x1024 .f32) (a : Vec Ideal S1024x1408 .f32) (y : Vec Ideal S1408x1024 .bf16) (r : Fin 1024) (s : Fin 1408) :
    k0_pay2 x a y (ix2 r s) = a (ix2 r s) + entry (rows x) (cols y) r s := by
  unfold k0_pay2 entry rows cols
  pointwise [shapeCast_self]

/-- The accumulator starts at zero. -/
theorem init_apply (r : Fin 1024) (s : Fin 1408) : k0_pay1 (F := Ideal) (ix2 r s) = 0 := by
  unfold k0_pay1
  pointwise [shapeCast_self]

variable (m : (ℓ : Loc nD τ sig) → Buf (Elt Ideal) ℓ) (ρ : Dev nD → PrngReg)

/-- The input gradient: a row of the gradient by a row of the weight. -/
theorem result_eq (c : Dev nD) : (dats m 0 c).arrAt 2 cfg0.N = onto (fun _ _ => 0) (rows (m ((c : Thread nD τ).loc main_arg0))) (cols (m ((c : Thread nD τ).loc main_arg1))) := by
  refine (dats m 0 c).arrAt_eq_of_covers 2 _ (by decide +kernel) fun t hf y => ?_
  have h1 : t.val % 1 = 0 := Nat.mod_one _
  have e := idx t
  have hy0 : (y 0).val < 1024 := (y 0).isLt
  have hy1 : (y 1).val < 1408 := (y 1).isLt
  blk_simp
  rw [after0_2]
  refine Eq.trans ?_ ((entry_of_run (J := 1) (tm := 1024) (tk := 1024) (tn := 1408) (nn := 2) (by decide) (fun n hn r s => rows (outsAt0 m c ⟨n, hn⟩) r s)
    (fun _ _ _ => 0) (fun t => rows (iblk m c 0 t)) (fun t => cols (iblk m c 1 t)) (fun _ _ => 0) (rows (m ((c : Thread nD τ).loc main_arg0))) (cols (m ((c : Thread nD τ).loc main_arg1)))
    (fun t _ r s => by unfold rows outsAt0 out0_A_2; frame_out; rw [pay_apply, init_apply]; rfl)
    (fun t h0 => absurd (Nat.mod_one _) h0)
    (fun t r s i j hi hj => by rfl)
    (fun t r k i l hi hl => by unfold rows; blk_ext [iblk, V, idx t] <;> omega)
    (fun t k s l j hl hj => by unfold cols; blk_ext [iblk, V, idx t] <;> omega)
    t h1 ⟨(y 0).val, hy0⟩ ⟨(y 1).val, hy1⟩ _ _ ?_ ?_))
  · unfold rows; exact congrArg _ (ValueIdx.eq_ix2 _)
  · show win0_2.index t (0 : Fin 2) * 1024 + 1 * (y 0).val = t.val / 1 / 2 * 1024 + (y 0).val
    rw [e.2.2]; show t.val / 1 / 2 * 1024 + 1 * (y 0).val = _; omega
  · show win0_2.index t (1 : Fin 2) * 1408 + 1 * (y 1).val = t.val / 1 % 2 * 1408 + (y 1).val
    rw [e.2.2]; show t.val / 1 % 2 * 1408 + 1 * (y 1).val = _; omega

/-- The call runs and leaves its arguments and the counters as it found them, on the machine's floats … -/
theorem frame_bits : Cert.quiescent_DownDx (hDownDx := Cert.DownDx.Gen.facts) := fun m g _ => Cert.DownDx.Gen.frame (F := Bits) m g
/-- … and over the extended reals; -/
theorem frame_ideal : Cert.quiescent_DownDxIdeal (hDownDxIdeal := Cert.DownDxIdeal.Gen.facts) := fun m g _ => frame (F := Idealize.ShloMosaic.Ideal) m g
/-- the plain program too. -/
theorem frame_reference : Cert.quiescent_DownDxRefIdeal (hDownDxRefIdeal := Cert.DownDxRefIdeal.Gen.facts) := fun m g _ =>
  (θ_run Cert.DownDxRefIdeal.defs _ _).mono (fun r h => ⟨fun c => (h c).2, Idealize.ShloMosaic.sem_eq_zero_of_no_sems (by decide) r.2⟩)
    (Cert.DownDxRefIdeal.Value.run (F := Idealize.ShloMosaic.Ideal) m g)

/-- From the same arguments both leave the same array. -/
theorem agrees : Cert.algebraic_DownDxIdeal_DownDxRefIdeal (hDownDxIdeal := Cert.DownDxIdeal.Gen.facts) (hDownDxRefIdeal := Cert.DownDxRefIdeal.Gen.facts) := by
  intro m g m' g' _ hargs
  refine ⟨fun c => onto (fun _ _ => 0) (rows (m ((c : Thread nD τ).loc main_arg0))) (cols (m ((c : Thread nD τ).loc main_arg1))), ?_, ?_⟩
  · exact (θ_run defs _ _).mono (fun r h c => ⟨(h c).1.trans ((result_eq m c)), (h c).2⟩) (Value.run_blocks m g)
  · exact (θ_run _ _ _).mono (fun r h c => ⟨(h c).1.trans (by
      rw [(hargs c).1, (hargs c).2]; funext i
      rw [show i = ix2 (i 0) (i 1) from ValueIdx.eq_ix2 i]
      unfold onto entry rows cols
      pointwise [zero_add]), (h c).2⟩) (Cert.DownDxRefIdeal.Value.run m' g')

end Cert.DownDxIdeal.Prod

end
-- ==== Proof.OutDx.lean ====
/- `OutDx`: the tiled product and the plain one agree over the extended reals. -/
module

public import proofs.«01_k».proof.Defs
public import proofs.«01_k».proof.Proof.Gen.OutDx
public import proofs.«01_k».proof.Proof.Gen.OutDx.Frame
public import proofs.«01_k».proof.Proof.Gen.OutDxIdeal
public import proofs.«01_k».proof.Proof.Gen.OutDxIdeal.Value
public import proofs.«01_k».proof.Proof.Gen.OutDxRefIdeal
public import proofs.«01_k».proof.Proof.Gen.OutDxRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.OutDxIdeal.Prod

open Cert.OutDxIdeal Cert.OutDxIdeal.Gen

/-- The blocks that grid point `t` works on. -/
theorem idx : ∀ t : Fin cfg0.N, win0_0.index t = ![t.val / 1 / 1, t.val % 1] ∧ win0_1.index t = ![t.val / 1 % 1, t.val % 1] ∧ win0_2.index t = ![t.val / 1 / 1, t.val / 1 % 1] :=
  (by decide +kernel : ∀ t : Fin grid0.N, _)

/-- One step adds the product of its two tiles to the accumulator. -/
theorem pay_apply (x : Vec Ideal S1024x1024 .f32) (a : Vec Ideal S1024x1024 .f32) (y : Vec Ideal S1024x1024 .bf16) (r : Fin 1024) (s : Fin 1024) :
    k0_pay2 x a y (ix2 r s) = a (ix2 r s) + entry (rows x) (cols y) r s := by
  unfold k0_pay2 entry rows cols
  pointwise [shapeCast_self]

/-- The accumulator starts at zero. -/
theorem init_apply (r : Fin 1024) (s : Fin 1024) : k0_pay1 (F := Ideal) (ix2 r s) = 0 := by
  unfold k0_pay1
  pointwise [shapeCast_self]

variable (m : (ℓ : Loc nD τ sig) → Buf (Elt Ideal) ℓ) (ρ : Dev nD → PrngReg)

/-- The input gradient: a row of the gradient by a row of the weight. -/
theorem result_eq (c : Dev nD) : (dats m 0 c).arrAt 2 cfg0.N = onto (fun _ _ => 0) (rows (m ((c : Thread nD τ).loc main_arg0))) (cols (m ((c : Thread nD τ).loc main_arg1))) := by
  refine (dats m 0 c).arrAt_eq_of_covers 2 _ (by decide +kernel) fun t hf y => ?_
  have h1 : t.val % 1 = 0 := Nat.mod_one _
  have e := idx t
  have hy0 : (y 0).val < 1024 := (y 0).isLt
  have hy1 : (y 1).val < 1024 := (y 1).isLt
  blk_simp
  rw [after0_2]
  refine Eq.trans ?_ ((entry_of_run (J := 1) (tm := 1024) (tk := 1024) (tn := 1024) (nn := 1) (by decide) (fun n hn r s => rows (outsAt0 m c ⟨n, hn⟩) r s)
    (fun _ _ _ => 0) (fun t => rows (iblk m c 0 t)) (fun t => cols (iblk m c 1 t)) (fun _ _ => 0) (rows (m ((c : Thread nD τ).loc main_arg0))) (cols (m ((c : Thread nD τ).loc main_arg1)))
    (fun t _ r s => by unfold rows outsAt0 out0_A_2; frame_out; rw [pay_apply, init_apply]; rfl)
    (fun t h0 => absurd (Nat.mod_one _) h0)
    (fun t r s i j hi hj => by rfl)
    (fun t r k i l hi hl => by unfold rows; blk_ext [iblk, V, idx t] <;> omega)
    (fun t k s l j hl hj => by unfold cols; blk_ext [iblk, V, idx t] <;> omega)
    t h1 ⟨(y 0).val, hy0⟩ ⟨(y 1).val, hy1⟩ _ _ ?_ ?_))
  · unfold rows; exact congrArg _ (ValueIdx.eq_ix2 _)
  · show win0_2.index t (0 : Fin 2) * 1024 + 1 * (y 0).val = t.val / 1 / 1 * 1024 + (y 0).val
    rw [e.2.2]; show t.val / 1 / 1 * 1024 + 1 * (y 0).val = _; omega
  · show win0_2.index t (1 : Fin 2) * 1024 + 1 * (y 1).val = t.val / 1 % 1 * 1024 + (y 1).val
    rw [e.2.2]; show t.val / 1 % 1 * 1024 + 1 * (y 1).val = _; omega

/-- The call runs and leaves its arguments and the counters as it found them, on the machine's floats … -/
theorem frame_bits : Cert.quiescent_OutDx (hOutDx := Cert.OutDx.Gen.facts) := fun m g _ => Cert.OutDx.Gen.frame (F := Bits) m g
/-- … and over the extended reals; -/
theorem frame_ideal : Cert.quiescent_OutDxIdeal (hOutDxIdeal := Cert.OutDxIdeal.Gen.facts) := fun m g _ => frame (F := Idealize.ShloMosaic.Ideal) m g
/-- the plain program too. -/
theorem frame_reference : Cert.quiescent_OutDxRefIdeal (hOutDxRefIdeal := Cert.OutDxRefIdeal.Gen.facts) := fun m g _ =>
  (θ_run Cert.OutDxRefIdeal.defs _ _).mono (fun r h => ⟨fun c => (h c).2, Idealize.ShloMosaic.sem_eq_zero_of_no_sems (by decide) r.2⟩)
    (Cert.OutDxRefIdeal.Value.run (F := Idealize.ShloMosaic.Ideal) m g)

/-- From the same arguments both leave the same array. -/
theorem agrees : Cert.algebraic_OutDxIdeal_OutDxRefIdeal (hOutDxIdeal := Cert.OutDxIdeal.Gen.facts) (hOutDxRefIdeal := Cert.OutDxRefIdeal.Gen.facts) := by
  intro m g m' g' _ hargs
  refine ⟨fun c => onto (fun _ _ => 0) (rows (m ((c : Thread nD τ).loc main_arg0))) (cols (m ((c : Thread nD τ).loc main_arg1))), ?_, ?_⟩
  · exact (θ_run defs _ _).mono (fun r h c => ⟨(h c).1.trans ((result_eq m c)), (h c).2⟩) (Value.run_blocks m g)
  · exact (θ_run _ _ _).mono (fun r h c => ⟨(h c).1.trans (by
      rw [(hargs c).1, (hargs c).2]; funext i
      rw [show i = ix2 (i 0) (i 1) from ValueIdx.eq_ix2 i]
      unfold onto entry rows cols
      pointwise [zero_add]), (h c).2⟩) (Cert.OutDxRefIdeal.Value.run m' g')

end Cert.OutDxIdeal.Prod

end
-- ==== Proof.PoolDx.lean ====
/- `PoolDx`: the tiled product and the plain one agree over the extended reals. -/
module

public import proofs.«01_k».proof.Defs
public import proofs.«01_k».proof.Proof.Gen.PoolDx
public import proofs.«01_k».proof.Proof.Gen.PoolDx.Frame
public import proofs.«01_k».proof.Proof.Gen.PoolDxIdeal
public import proofs.«01_k».proof.Proof.Gen.PoolDxIdeal.Value
public import proofs.«01_k».proof.Proof.Gen.PoolDxRefIdeal
public import proofs.«01_k».proof.Proof.Gen.PoolDxRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.PoolDxIdeal.Prod

open Cert.PoolDxIdeal Cert.PoolDxIdeal.Gen

/-- The blocks that grid point `t` works on. -/
theorem idx : ∀ t : Fin cfg0.N, win0_0.index t = ![t.val / 1 / 1, t.val % 1] ∧ win0_1.index t = ![t.val / 1 % 1, t.val % 1] ∧ win0_2.index t = ![t.val / 1 / 1, t.val / 1 % 1] :=
  (by decide +kernel : ∀ t : Fin grid0.N, _)

/-- One step adds the product of its two tiles to the accumulator. -/
theorem pay_apply (x : Vec Ideal S1024x1024 .bf16) (a : Vec Ideal S1024x512 .f32) (y : Vec Ideal S512x1024 .bf16) (r : Fin 1024) (s : Fin 512) :
    k0_pay2 x a y (ix2 r s) = a (ix2 r s) + entry (rows x) (cols y) r s := by
  unfold k0_pay2 entry rows cols
  pointwise [shapeCast_self]

/-- The accumulator starts at zero. -/
theorem init_apply (r : Fin 1024) (s : Fin 512) : k0_pay1 (F := Ideal) (ix2 r s) = 0 := by
  unfold k0_pay1
  pointwise [shapeCast_self]

variable (m : (ℓ : Loc nD τ sig) → Buf (Elt Ideal) ℓ) (ρ : Dev nD → PrngReg)

/-- The input gradient: a row of the gradient by a row of the weight. -/
theorem result_eq (c : Dev nD) : (dats m 0 c).arrAt 2 cfg0.N = onto (fun _ _ => 0) (rows (m ((c : Thread nD τ).loc main_arg0))) (cols (m ((c : Thread nD τ).loc main_arg1))) := by
  refine (dats m 0 c).arrAt_eq_of_covers 2 _ (by decide +kernel) fun t hf y => ?_
  have h1 : t.val % 1 = 0 := Nat.mod_one _
  have e := idx t
  have hy0 : (y 0).val < 1024 := (y 0).isLt
  have hy1 : (y 1).val < 512 := (y 1).isLt
  blk_simp
  rw [after0_2]
  refine Eq.trans ?_ ((entry_of_run (J := 1) (tm := 1024) (tk := 1024) (tn := 512) (nn := 1) (by decide) (fun n hn r s => rows (outsAt0 m c ⟨n, hn⟩) r s)
    (fun _ _ _ => 0) (fun t => rows (iblk m c 0 t)) (fun t => cols (iblk m c 1 t)) (fun _ _ => 0) (rows (m ((c : Thread nD τ).loc main_arg0))) (cols (m ((c : Thread nD τ).loc main_arg1)))
    (fun t _ r s => by unfold rows outsAt0 out0_A_2; frame_out; rw [pay_apply, init_apply]; rfl)
    (fun t h0 => absurd (Nat.mod_one _) h0)
    (fun t r s i j hi hj => by rfl)
    (fun t r k i l hi hl => by unfold rows; blk_ext [iblk, V, idx t] <;> omega)
    (fun t k s l j hl hj => by unfold cols; blk_ext [iblk, V, idx t] <;> omega)
    t h1 ⟨(y 0).val, hy0⟩ ⟨(y 1).val, hy1⟩ _ _ ?_ ?_))
  · unfold rows; exact congrArg _ (ValueIdx.eq_ix2 _)
  · show win0_2.index t (0 : Fin 2) * 1024 + 1 * (y 0).val = t.val / 1 / 1 * 1024 + (y 0).val
    rw [e.2.2]; show t.val / 1 / 1 * 1024 + 1 * (y 0).val = _; omega
  · show win0_2.index t (1 : Fin 2) * 512 + 1 * (y 1).val = t.val / 1 % 1 * 512 + (y 1).val
    rw [e.2.2]; show t.val / 1 % 1 * 512 + 1 * (y 1).val = _; omega

/-- The call runs and leaves its arguments and the counters as it found them, on the machine's floats … -/
theorem frame_bits : Cert.quiescent_PoolDx (hPoolDx := Cert.PoolDx.Gen.facts) := fun m g _ => Cert.PoolDx.Gen.frame (F := Bits) m g
/-- … and over the extended reals; -/
theorem frame_ideal : Cert.quiescent_PoolDxIdeal (hPoolDxIdeal := Cert.PoolDxIdeal.Gen.facts) := fun m g _ => frame (F := Idealize.ShloMosaic.Ideal) m g
/-- the plain program too. -/
theorem frame_reference : Cert.quiescent_PoolDxRefIdeal (hPoolDxRefIdeal := Cert.PoolDxRefIdeal.Gen.facts) := fun m g _ =>
  (θ_run Cert.PoolDxRefIdeal.defs _ _).mono (fun r h => ⟨fun c => (h c).2, Idealize.ShloMosaic.sem_eq_zero_of_no_sems (by decide) r.2⟩)
    (Cert.PoolDxRefIdeal.Value.run (F := Idealize.ShloMosaic.Ideal) m g)

/-- From the same arguments both leave the same array. -/
theorem agrees : Cert.algebraic_PoolDxIdeal_PoolDxRefIdeal (hPoolDxIdeal := Cert.PoolDxIdeal.Gen.facts) (hPoolDxRefIdeal := Cert.PoolDxRefIdeal.Gen.facts) := by
  intro m g m' g' _ hargs
  refine ⟨fun c => onto (fun _ _ => 0) (rows (m ((c : Thread nD τ).loc main_arg0))) (cols (m ((c : Thread nD τ).loc main_arg1))), ?_, ?_⟩
  · exact (θ_run defs _ _).mono (fun r h c => ⟨(h c).1.trans ((result_eq m c)), (h c).2⟩) (Value.run_blocks m g)
  · exact (θ_run _ _ _).mono (fun r h c => ⟨(h c).1.trans (by
      rw [(hargs c).1, (hargs c).2]; funext i
      rw [show i = ix2 (i 0) (i 1) from ValueIdx.eq_ix2 i]
      unfold onto entry rows cols
      pointwise [zero_add]), (h c).2⟩) (Cert.PoolDxRefIdeal.Value.run m' g')

end Cert.PoolDxIdeal.Prod

end
-- ==== Proof.SsdDx.lean ====
/- `SsdDx`: the tiled product and the plain one agree over the extended reals. -/
module

public import proofs.«01_k».proof.Defs
public import proofs.«01_k».proof.Proof.Gen.SsdDx
public import proofs.«01_k».proof.Proof.Gen.SsdDx.Frame
public import proofs.«01_k».proof.Proof.Gen.SsdDxIdeal
public import proofs.«01_k».proof.Proof.Gen.SsdDxIdeal.Value
public import proofs.«01_k».proof.Proof.Gen.SsdDxRefIdeal
public import proofs.«01_k».proof.Proof.Gen.SsdDxRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.SsdDxIdeal.Prod

open Cert.SsdDxIdeal Cert.SsdDxIdeal.Gen

/-- The blocks that grid point `t` works on. -/
theorem idx : ∀ t : Fin cfg0.N, win0_0.index t = ![t.val / 1 / 1, t.val % 1] ∧ win0_1.index t = ![t.val / 1 % 1, t.val % 1] ∧ win0_2.index t = ![t.val / 1 / 1, t.val / 1 % 1] :=
  (by decide +kernel : ∀ t : Fin grid0.N, _)

/-- One step adds the product of its two tiles to the accumulator. -/
theorem pay_apply (x : Vec Ideal S1024x1024 .bf16) (a : Vec Ideal S1024x1024 .f32) (y : Vec Ideal S1024x1024 .bf16) (r : Fin 1024) (s : Fin 1024) :
    k0_pay2 x a y (ix2 r s) = a (ix2 r s) + entry (rows x) (cols y) r s := by
  unfold k0_pay2 entry rows cols
  pointwise [shapeCast_self]

/-- The accumulator starts at zero. -/
theorem init_apply (r : Fin 1024) (s : Fin 1024) : k0_pay1 (F := Ideal) (ix2 r s) = 0 := by
  unfold k0_pay1
  pointwise [shapeCast_self]

variable (m : (ℓ : Loc nD τ sig) → Buf (Elt Ideal) ℓ) (ρ : Dev nD → PrngReg)

/-- The input gradient: a row of the gradient by a row of the weight. -/
theorem result_eq (c : Dev nD) : (dats m 0 c).arrAt 2 cfg0.N = onto (fun _ _ => 0) (rows (m ((c : Thread nD τ).loc main_arg0))) (cols (m ((c : Thread nD τ).loc main_arg1))) := by
  refine (dats m 0 c).arrAt_eq_of_covers 2 _ (by decide +kernel) fun t hf y => ?_
  have h1 : t.val % 1 = 0 := Nat.mod_one _
  have e := idx t
  have hy0 : (y 0).val < 1024 := (y 0).isLt
  have hy1 : (y 1).val < 1024 := (y 1).isLt
  blk_simp
  rw [after0_2]
  refine Eq.trans ?_ ((entry_of_run (J := 1) (tm := 1024) (tk := 1024) (tn := 1024) (nn := 1) (by decide) (fun n hn r s => rows (outsAt0 m c ⟨n, hn⟩) r s)
    (fun _ _ _ => 0) (fun t => rows (iblk m c 0 t)) (fun t => cols (iblk m c 1 t)) (fun _ _ => 0) (rows (m ((c : Thread nD τ).loc main_arg0))) (cols (m ((c : Thread nD τ).loc main_arg1)))
    (fun t _ r s => by unfold rows outsAt0 out0_A_2; frame_out; rw [pay_apply, init_apply]; rfl)
    (fun t h0 => absurd (Nat.mod_one _) h0)
    (fun t r s i j hi hj => by rfl)
    (fun t r k i l hi hl => by unfold rows; blk_ext [iblk, V, idx t] <;> omega)
    (fun t k s l j hl hj => by unfold cols; blk_ext [iblk, V, idx t] <;> omega)
    t h1 ⟨(y 0).val, hy0⟩ ⟨(y 1).val, hy1⟩ _ _ ?_ ?_))
  · unfold rows; exact congrArg _ (ValueIdx.eq_ix2 _)
  · show win0_2.index t (0 : Fin 2) * 1024 + 1 * (y 0).val = t.val / 1 / 1 * 1024 + (y 0).val
    rw [e.2.2]; show t.val / 1 / 1 * 1024 + 1 * (y 0).val = _; omega
  · show win0_2.index t (1 : Fin 2) * 1024 + 1 * (y 1).val = t.val / 1 % 1 * 1024 + (y 1).val
    rw [e.2.2]; show t.val / 1 % 1 * 1024 + 1 * (y 1).val = _; omega

/-- The call runs and leaves its arguments and the counters as it found them, on the machine's floats … -/
theorem frame_bits : Cert.quiescent_SsdDx (hSsdDx := Cert.SsdDx.Gen.facts) := fun m g _ => Cert.SsdDx.Gen.frame (F := Bits) m g
/-- … and over the extended reals; -/
theorem frame_ideal : Cert.quiescent_SsdDxIdeal (hSsdDxIdeal := Cert.SsdDxIdeal.Gen.facts) := fun m g _ => frame (F := Idealize.ShloMosaic.Ideal) m g
/-- the plain program too. -/
theorem frame_reference : Cert.quiescent_SsdDxRefIdeal (hSsdDxRefIdeal := Cert.SsdDxRefIdeal.Gen.facts) := fun m g _ =>
  (θ_run Cert.SsdDxRefIdeal.defs _ _).mono (fun r h => ⟨fun c => (h c).2, Idealize.ShloMosaic.sem_eq_zero_of_no_sems (by decide) r.2⟩)
    (Cert.SsdDxRefIdeal.Value.run (F := Idealize.ShloMosaic.Ideal) m g)

/-- From the same arguments both leave the same array. -/
theorem agrees : Cert.algebraic_SsdDxIdeal_SsdDxRefIdeal (hSsdDxIdeal := Cert.SsdDxIdeal.Gen.facts) (hSsdDxRefIdeal := Cert.SsdDxRefIdeal.Gen.facts) := by
  intro m g m' g' _ hargs
  refine ⟨fun c => onto (fun _ _ => 0) (rows (m ((c : Thread nD τ).loc main_arg0))) (cols (m ((c : Thread nD τ).loc main_arg1))), ?_, ?_⟩
  · exact (θ_run defs _ _).mono (fun r h c => ⟨(h c).1.trans ((result_eq m c)), (h c).2⟩) (Value.run_blocks m g)
  · exact (θ_run _ _ _).mono (fun r h c => ⟨(h c).1.trans (by
      rw [(hargs c).1, (hargs c).2]; funext i
      rw [show i = ix2 (i 0) (i 1) from ValueIdx.eq_ix2 i]
      unfold onto entry rows cols
      pointwise [zero_add]), (h c).2⟩) (Cert.SsdDxRefIdeal.Value.run m' g')

end Cert.SsdDxIdeal.Prod

end
-- ==== Proof.InPDx.lean ====
/- `InPDx`: the tiled product and the plain one agree over the extended reals. -/
module

public import proofs.«01_k».proof.Defs
public import proofs.«01_k».proof.Proof.Gen.InPDx
public import proofs.«01_k».proof.Proof.Gen.InPDx.Frame
public import proofs.«01_k».proof.Proof.Gen.InPDxIdeal
public import proofs.«01_k».proof.Proof.Gen.InPDxIdeal.Value
public import proofs.«01_k».proof.Proof.Gen.InPDxRefIdeal
public import proofs.«01_k».proof.Proof.Gen.InPDxRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.InPDxIdeal.Prod

open Cert.InPDxIdeal Cert.InPDxIdeal.Gen

/-- The blocks that grid point `t` works on. -/
theorem idx : ∀ t : Fin cfg0.N, win0_0.index t = ![t.val / 2 / 1, t.val % 2] ∧ win0_1.index t = ![t.val / 2 % 1, t.val % 2] ∧ win0_2.index t = ![t.val / 2 / 1, t.val / 2 % 1] :=
  (by decide +kernel : ∀ t : Fin grid0.N, _)

/-- One step adds the product of its two tiles to the accumulator. -/
theorem pay_apply (x : Vec Ideal S1024x1024 .bf16) (a : Vec Ideal S1024x1024 .f32) (y : Vec Ideal S1024x1024 .bf16) (r : Fin 1024) (s : Fin 1024) :
    k0_pay2 x a y (ix2 r s) = a (ix2 r s) + entry (rows x) (cols y) r s := by
  unfold k0_pay2 entry rows cols
  pointwise [shapeCast_self]

/-- The accumulator starts at zero. -/
theorem init_apply (r : Fin 1024) (s : Fin 1024) : k0_pay1 (F := Ideal) (ix2 r s) = 0 := by
  unfold k0_pay1
  pointwise [shapeCast_self]

variable (m : (ℓ : Loc nD τ sig) → Buf (Elt Ideal) ℓ) (ρ : Dev nD → PrngReg)

/-- The output tile is the accumulator of the last step. -/
theorem last_eq (c : Dev nD) (t : Fin cfg0.N) (h1 : t.val % 2 = 1) : (outsAt0 m c t.val t.isLt).1 = (outsAt0 m c t.val t.isLt).2 := by
  have h0 : ¬t.val % 2 = 0 := by omega
  rw [outsAt0_B m c t h0 h1]; dsimp only; unfold out0_B_2 sout0_B_0; frame_out

/-- The input gradient: a row of the gradient by a row of the weight. -/
theorem result_eq (c : Dev nD) : (dats m 0 c).arrAt 2 cfg0.N = onto (fun _ _ => 0) (rows (m ((c : Thread nD τ).loc main_arg0))) (cols (m ((c : Thread nD τ).loc main_arg1))) := by
  refine (dats m 0 c).arrAt_eq_of_covers 2 _ (by decide +kernel) fun t hf y => ?_
  have h1 : t.val % 2 = 1 := (flush0_2 t).mp hf
  have e := idx t
  have hy0 : (y 0).val < 1024 := (y 0).isLt
  have hy1 : (y 1).val < 1024 := (y 1).isLt
  blk_simp
  rw [after0_2]
  rw [last_eq m c t h1]
  refine Eq.trans ?_ ((entry_of_run (J := 2) (tm := 1024) (tk := 1024) (tn := 1024) (nn := 1) (by decide) (fun n hn r s => rows (outsAt0 m c n hn).2 r s)
    (fun _ _ _ => 0) (fun t => rows (iblk m c 0 t)) (fun t => cols (iblk m c 1 t)) (fun _ _ => 0) (rows (m ((c : Thread nD τ).loc main_arg0))) (cols (m ((c : Thread nD τ).loc main_arg1)))
    (fun t h0 r s => by
      have h1 : ¬t.val % 2 = 1 := by omega
      unfold rows; rw [outsAt0_A m c t h0 h1]; dsimp only; unfold sout0_A_0; frame_out; rw [pay_apply, init_apply]; rfl)
    (fun t h0 r s => by
      unfold rows
      have h1 : t.val % 2 = 1 := by omega
      rw [outsAt0_B m c t h0 h1]; dsimp only; unfold sout0_B_0; frame_out; rw [pay_apply]; exact congrArg (· + _) (congrFun ((Memref.isWhole_whole cc0_scratch0).read_unread _) _))
    (fun t r s i j hi hj => by rfl)
    (fun t r k i l hi hl => by unfold rows; blk_ext [iblk, V, idx t] <;> omega)
    (fun t k s l j hl hj => by unfold cols; blk_ext [iblk, V, idx t] <;> omega)
    t h1 ⟨(y 0).val, hy0⟩ ⟨(y 1).val, hy1⟩ _ _ ?_ ?_))
  · unfold rows; exact congrArg _ (ValueIdx.eq_ix2 _)
  · show win0_2.index t (0 : Fin 2) * 1024 + 1 * (y 0).val = t.val / 2 / 1 * 1024 + (y 0).val
    rw [e.2.2]; show t.val / 2 / 1 * 1024 + 1 * (y 0).val = _; omega
  · show win0_2.index t (1 : Fin 2) * 1024 + 1 * (y 1).val = t.val / 2 % 1 * 1024 + (y 1).val
    rw [e.2.2]; show t.val / 2 % 1 * 1024 + 1 * (y 1).val = _; omega

/-- The call runs and leaves its arguments and the counters as it found them, on the machine's floats … -/
theorem frame_bits : Cert.quiescent_InPDx (hInPDx := Cert.InPDx.Gen.facts) := fun m g _ => Cert.InPDx.Gen.frame (F := Bits) m g
/-- … and over the extended reals; -/
theorem frame_ideal : Cert.quiescent_InPDxIdeal (hInPDxIdeal := Cert.InPDxIdeal.Gen.facts) := fun m g _ => frame (F := Idealize.ShloMosaic.Ideal) m g
/-- the plain program too. -/
theorem frame_reference : Cert.quiescent_InPDxRefIdeal (hInPDxRefIdeal := Cert.InPDxRefIdeal.Gen.facts) := fun m g _ =>
  (θ_run Cert.InPDxRefIdeal.defs _ _).mono (fun r h => ⟨fun c => (h c).2, Idealize.ShloMosaic.sem_eq_zero_of_no_sems (by decide) r.2⟩)
    (Cert.InPDxRefIdeal.Value.run (F := Idealize.ShloMosaic.Ideal) m g)

/-- From the same arguments both leave the same array. -/
theorem agrees : Cert.algebraic_InPDxIdeal_InPDxRefIdeal (hInPDxIdeal := Cert.InPDxIdeal.Gen.facts) (hInPDxRefIdeal := Cert.InPDxRefIdeal.Gen.facts) := by
  intro m g m' g' _ hargs
  refine ⟨fun c => onto (fun _ _ => 0) (rows (m ((c : Thread nD τ).loc main_arg0))) (cols (m ((c : Thread nD τ).loc main_arg1))), ?_, ?_⟩
  · exact (θ_run defs _ _).mono (fun r h c => ⟨(h c).1.trans ((Value.final2 m c).symm.trans (result_eq m c)), (h c).2⟩) (Value.run m g)
  · exact (θ_run _ _ _).mono (fun r h c => ⟨(h c).1.trans (by
      rw [(hargs c).1, (hargs c).2]; funext i
      rw [show i = ix2 (i 0) (i 1) from ValueIdx.eq_ix2 i]
      unfold onto entry rows cols
      pointwise [zero_add]), (h c).2⟩) (Cert.InPDxRefIdeal.Value.run m' g')

end Cert.InPDxIdeal.Prod

end
-- ==== Proof.InZDx.lean ====
/- `InZDx`: the tiled product and the plain one agree over the extended reals. -/
module

public import proofs.«01_k».proof.Defs
public import proofs.«01_k».proof.Proof.Gen.InZDx
public import proofs.«01_k».proof.Proof.Gen.InZDx.Frame
public import proofs.«01_k».proof.Proof.Gen.InZDxIdeal
public import proofs.«01_k».proof.Proof.Gen.InZDxIdeal.Value
public import proofs.«01_k».proof.Proof.Gen.InZDxRefIdeal
public import proofs.«01_k».proof.Proof.Gen.InZDxRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.InZDxIdeal.Prod

open Cert.InZDxIdeal Cert.InZDxIdeal.Gen

/-- The blocks that grid point `t` works on. -/
theorem idx : ∀ t : Fin cfg0.N, win0_0.index t = ![t.val / 1 / 1, t.val % 1] ∧ win0_1.index t = ![t.val / 1 % 1, t.val % 1] ∧ win0_2.index t = ![t.val / 1 / 1, t.val / 1 % 1] ∧ win0_3.index t = ![t.val / 1 / 1, t.val / 1 % 1] :=
  (by decide +kernel : ∀ t : Fin grid0.N, _)

/-- One step adds the product of its two tiles to the accumulator. -/
theorem pay_apply (x : Vec Ideal S1024x1024 .bf16) (a : Vec Ideal S1024x1024 .f32) (y : Vec Ideal S1024x1024 .bf16) (r : Fin 1024) (s : Fin 1024) :
    k0_pay2 x a y (ix2 r s) = a (ix2 r s) + entry (rows x) (cols y) r s := by
  unfold k0_pay2 entry rows cols
  pointwise [shapeCast_self]

/-- The accumulator starts at the tile handed in. -/
theorem init_apply (h : Vec Ideal S1024x1024 .f32) (r : Fin 1024) (s : Fin 1024) : k0_pay1 h (ix2 r s) = rows h r s := by
  unfold k0_pay1 rows
  pointwise [shapeCast_self]

variable (m : (ℓ : Loc nD τ sig) → Buf (Elt Ideal) ℓ) (ρ : Dev nD → PrngReg)

/-- The input gradient: a row of the gradient by a row of the weight, on top of the array handed in. -/
theorem result_eq (c : Dev nD) : (dats m 0 c).arrAt 3 cfg0.N = onto (rows (m ((c : Thread nD τ).loc main_arg2))) (rows (m ((c : Thread nD τ).loc main_arg0))) (cols (m ((c : Thread nD τ).loc main_arg1))) := by
  refine (dats m 0 c).arrAt_eq_of_covers 3 _ (by decide +kernel) fun t hf y => ?_
  have h1 : t.val % 1 = 0 := Nat.mod_one _
  have e := idx t
  have hy0 : (y 0).val < 1024 := (y 0).isLt
  have hy1 : (y 1).val < 1024 := (y 1).isLt
  blk_simp
  rw [after0_3]
  refine Eq.trans ?_ ((entry_of_run (J := 1) (tm := 1024) (tk := 1024) (tn := 1024) (nn := 1) (by decide) (fun n hn r s => rows (outsAt0 m c ⟨n, hn⟩) r s)
    (fun t r s => rows (iblk m c 2 t) r s) (fun t => rows (iblk m c 0 t)) (fun t => cols (iblk m c 1 t)) (rows (m ((c : Thread nD τ).loc main_arg2))) (rows (m ((c : Thread nD τ).loc main_arg0))) (cols (m ((c : Thread nD τ).loc main_arg1)))
    (fun t _ r s => by unfold rows outsAt0 out0_A_3; frame_out; rw [pay_apply, init_apply]; rfl)
    (fun t h0 => absurd (Nat.mod_one _) h0)
    (fun t r s i j hi hj => by unfold rows; blk_ext [iblk, V, idx t] <;> omega)
    (fun t r k i l hi hl => by unfold rows; blk_ext [iblk, V, idx t] <;> omega)
    (fun t k s l j hl hj => by unfold cols; blk_ext [iblk, V, idx t] <;> omega)
    t h1 ⟨(y 0).val, hy0⟩ ⟨(y 1).val, hy1⟩ _ _ ?_ ?_))
  · unfold rows; exact congrArg _ (ValueIdx.eq_ix2 _)
  · show win0_3.index t (0 : Fin 2) * 1024 + 1 * (y 0).val = t.val / 1 / 1 * 1024 + (y 0).val
    rw [e.2.2.2]; show t.val / 1 / 1 * 1024 + 1 * (y 0).val = _; omega
  · show win0_3.index t (1 : Fin 2) * 1024 + 1 * (y 1).val = t.val / 1 % 1 * 1024 + (y 1).val
    rw [e.2.2.2]; show t.val / 1 % 1 * 1024 + 1 * (y 1).val = _; omega

/-- The call runs and leaves its arguments and the counters as it found them, on the machine's floats … -/
theorem frame_bits : Cert.quiescent_InZDx (hInZDx := Cert.InZDx.Gen.facts) := fun m g _ => Cert.InZDx.Gen.frame (F := Bits) m g
/-- … and over the extended reals; -/
theorem frame_ideal : Cert.quiescent_InZDxIdeal (hInZDxIdeal := Cert.InZDxIdeal.Gen.facts) := fun m g _ => frame (F := Idealize.ShloMosaic.Ideal) m g
/-- the plain program too. -/
theorem frame_reference : Cert.quiescent_InZDxRefIdeal (hInZDxRefIdeal := Cert.InZDxRefIdeal.Gen.facts) := fun m g _ =>
  (θ_run Cert.InZDxRefIdeal.defs _ _).mono (fun r h => ⟨fun c => (h c).2, Idealize.ShloMosaic.sem_eq_zero_of_no_sems (by decide) r.2⟩)
    (Cert.InZDxRefIdeal.Value.run (F := Idealize.ShloMosaic.Ideal) m g)

/-- From the same arguments both leave the same array. -/
theorem agrees : Cert.algebraic_InZDxIdeal_InZDxRefIdeal (hInZDxIdeal := Cert.InZDxIdeal.Gen.facts) (hInZDxRefIdeal := Cert.InZDxRefIdeal.Gen.facts) := by
  intro m g m' g' _ hargs
  refine ⟨fun c => onto (rows (m ((c : Thread nD τ).loc main_arg2))) (rows (m ((c : Thread nD τ).loc main_arg0))) (cols (m ((c : Thread nD τ).loc main_arg1))), ?_, ?_⟩
  · exact (θ_run defs _ _).mono (fun r h c => ⟨(h c).1.trans ((result_eq m c)), (h c).2⟩) (Value.run_blocks m g)
  · exact (θ_run _ _ _).mono (fun r h c => ⟨(h c).1.trans (by
      rw [(hargs c).1, (hargs c).2.1, (hargs c).2.2]; funext i
      rw [show i = ix2 (i 0) (i 1) from ValueIdx.eq_ix2 i]
      unfold onto entry rows cols
      pointwise), (h c).2⟩) (Cert.InZDxRefIdeal.Value.run m' g')

end Cert.InZDxIdeal.Prod

end
-- ==== Proof.InXDx.lean ====
/- `InXDx`: the tiled product and the plain one agree over the extended reals. -/
module

public import proofs.«01_k».proof.Defs
public import proofs.«01_k».proof.Proof.Gen.InXDx
public import proofs.«01_k».proof.Proof.Gen.InXDx.Frame
public import proofs.«01_k».proof.Proof.Gen.InXDxIdeal
public import proofs.«01_k».proof.Proof.Gen.InXDxIdeal.Value
public import proofs.«01_k».proof.Proof.Gen.InXDxRefIdeal
public import proofs.«01_k».proof.Proof.Gen.InXDxRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.InXDxIdeal.Prod

open Cert.InXDxIdeal Cert.InXDxIdeal.Gen

/-- The blocks that grid point `t` works on. -/
theorem idx : ∀ t : Fin cfg0.N, win0_0.index t = ![t.val / 3 / 1, t.val % 3] ∧ win0_1.index t = ![t.val / 3 % 1, t.val % 3] ∧ win0_2.index t = ![t.val / 3 / 1, t.val / 3 % 1] ∧ win0_3.index t = ![t.val / 3 / 1, t.val / 3 % 1] :=
  (by decide +kernel : ∀ t : Fin grid0.N, _)

/-- One step adds the product of its two tiles to the accumulator. -/
theorem pay_apply (x : Vec Ideal S1024x512 .bf16) (a : Vec Ideal S1024x1024 .f32) (y : Vec Ideal S1024x512 .bf16) (r : Fin 1024) (s : Fin 1024) :
    k0_pay2 x a y (ix2 r s) = a (ix2 r s) + entry (rows x) (cols y) r s := by
  unfold k0_pay2 entry rows cols
  pointwise [shapeCast_self]

/-- The accumulator starts at the tile handed in. -/
theorem init_apply (h : Vec Ideal S1024x1024 .f32) (r : Fin 1024) (s : Fin 1024) : k0_pay1 h (ix2 r s) = rows h r s := by
  unfold k0_pay1 rows
  pointwise [shapeCast_self]

variable (m : (ℓ : Loc nD τ sig) → Buf (Elt Ideal) ℓ) (ρ : Dev nD → PrngReg)

/-- The output tile is the accumulator of the last step. -/
theorem last_eq (c : Dev nD) (t : Fin cfg0.N) (h1 : t.val % 3 = 2) : (outsAt0 m c t.val t.isLt).1 = (outsAt0 m c t.val t.isLt).2 := by
  have h0 : ¬t.val % 3 = 0 := by omega
  rw [outsAt0_C m c t h0 h1]; dsimp only; unfold out0_C_3 sout0_C_0; frame_out

/-- The input gradient: a row of the gradient by a row of the weight, on top of the array handed in. -/
theorem result_eq (c : Dev nD) : (dats m 0 c).arrAt 3 cfg0.N = onto (rows (m ((c : Thread nD τ).loc main_arg2))) (rows (m ((c : Thread nD τ).loc main_arg0))) (cols (m ((c : Thread nD τ).loc main_arg1))) := by
  refine (dats m 0 c).arrAt_eq_of_covers 3 _ (by decide +kernel) fun t hf y => ?_
  have h1 : t.val % 3 = 2 := (flush0_3 t).mp hf
  have e := idx t
  have hy0 : (y 0).val < 1024 := (y 0).isLt
  have hy1 : (y 1).val < 1024 := (y 1).isLt
  blk_simp
  rw [after0_3]
  rw [last_eq m c t h1]
  refine Eq.trans ?_ ((entry_of_run (J := 3) (tm := 1024) (tk := 512) (tn := 1024) (nn := 1) (by decide) (fun n hn r s => rows (outsAt0 m c n hn).2 r s)
    (fun t r s => rows (iblk m c 2 t) r s) (fun t => rows (iblk m c 0 t)) (fun t => cols (iblk m c 1 t)) (rows (m ((c : Thread nD τ).loc main_arg2))) (rows (m ((c : Thread nD τ).loc main_arg0))) (cols (m ((c : Thread nD τ).loc main_arg1)))
    (fun t h0 r s => by
      have h1 : ¬t.val % 3 = 2 := by omega
      unfold rows; rw [outsAt0_A m c t h0 h1]; dsimp only; unfold sout0_A_0; frame_out; rw [pay_apply, init_apply]; rfl)
    (fun t h0 r s => by
      unfold rows
      by_cases h1 : t.val % 3 = 2
      · rw [outsAt0_C m c t h0 h1]; dsimp only; unfold sout0_C_0; frame_out; rw [pay_apply]; exact congrArg (· + _) (congrFun ((Memref.isWhole_whole cc0_scratch0).read_unread _) _)
      · rw [outsAt0_B m c t h0 h1]; dsimp only; unfold sout0_B_0; frame_out; rw [pay_apply]; exact congrArg (· + _) (congrFun ((Memref.isWhole_whole cc0_scratch0).read_unread _) _))
    (fun t r s i j hi hj => by unfold rows; blk_ext [iblk, V, idx t] <;> omega)
    (fun t r k i l hi hl => by unfold rows; blk_ext [iblk, V, idx t] <;> omega)
    (fun t k s l j hl hj => by unfold cols; blk_ext [iblk, V, idx t] <;> omega)
    t h1 ⟨(y 0).val, hy0⟩ ⟨(y 1).val, hy1⟩ _ _ ?_ ?_))
  · unfold rows; exact congrArg _ (ValueIdx.eq_ix2 _)
  · show win0_3.index t (0 : Fin 2) * 1024 + 1 * (y 0).val = t.val / 3 / 1 * 1024 + (y 0).val
    rw [e.2.2.2]; show t.val / 3 / 1 * 1024 + 1 * (y 0).val = _; omega
  · show win0_3.index t (1 : Fin 2) * 1024 + 1 * (y 1).val = t.val / 3 % 1 * 1024 + (y 1).val
    rw [e.2.2.2]; show t.val / 3 % 1 * 1024 + 1 * (y 1).val = _; omega

/-- The call runs and leaves its arguments and the counters as it found them, on the machine's floats … -/
theorem frame_bits : Cert.quiescent_InXDx (hInXDx := Cert.InXDx.Gen.facts) := fun m g _ => Cert.InXDx.Gen.frame (F := Bits) m g
/-- … and over the extended reals; -/
theorem frame_ideal : Cert.quiescent_InXDxIdeal (hInXDxIdeal := Cert.InXDxIdeal.Gen.facts) := fun m g _ => frame (F := Idealize.ShloMosaic.Ideal) m g
/-- the plain program too. -/
theorem frame_reference : Cert.quiescent_InXDxRefIdeal (hInXDxRefIdeal := Cert.InXDxRefIdeal.Gen.facts) := fun m g _ =>
  (θ_run Cert.InXDxRefIdeal.defs _ _).mono (fun r h => ⟨fun c => (h c).2, Idealize.ShloMosaic.sem_eq_zero_of_no_sems (by decide) r.2⟩)
    (Cert.InXDxRefIdeal.Value.run (F := Idealize.ShloMosaic.Ideal) m g)

/-- From the same arguments both leave the same array. -/
theorem agrees : Cert.algebraic_InXDxIdeal_InXDxRefIdeal (hInXDxIdeal := Cert.InXDxIdeal.Gen.facts) (hInXDxRefIdeal := Cert.InXDxRefIdeal.Gen.facts) := by
  intro m g m' g' _ hargs
  refine ⟨fun c => onto (rows (m ((c : Thread nD τ).loc main_arg2))) (rows (m ((c : Thread nD τ).loc main_arg0))) (cols (m ((c : Thread nD τ).loc main_arg1))), ?_, ?_⟩
  · exact (θ_run defs _ _).mono (fun r h c => ⟨(h c).1.trans ((Value.final3 m c).symm.trans (result_eq m c)), (h c).2⟩) (Value.run m g)
  · exact (θ_run _ _ _).mono (fun r h c => ⟨(h c).1.trans (by
      rw [(hargs c).1, (hargs c).2.1, (hargs c).2.2]; funext i
      rw [show i = ix2 (i 0) (i 1) from ValueIdx.eq_ix2 i]
      unfold onto entry rows cols
      pointwise), (h c).2⟩) (Cert.InXDxRefIdeal.Value.run m' g')

end Cert.InXDxIdeal.Prod

end
-- ==== Proof.InGDx.lean ====
/- `InGDx`: the tiled product and the plain one agree over the extended reals. -/
module

public import proofs.«01_k».proof.Defs
public import proofs.«01_k».proof.Proof.Gen.InGDx
public import proofs.«01_k».proof.Proof.Gen.InGDx.Frame
public import proofs.«01_k».proof.Proof.Gen.InGDxIdeal
public import proofs.«01_k».proof.Proof.Gen.InGDxIdeal.Value
public import proofs.«01_k».proof.Proof.Gen.InGDxRefIdeal
public import proofs.«01_k».proof.Proof.Gen.InGDxRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.InGDxIdeal.Prod

open Cert.InGDxIdeal Cert.InGDxIdeal.Gen

/-- The blocks that grid point `t` works on. -/
theorem idx : ∀ t : Fin cfg0.N, win0_0.index t = ![t.val / 3 / 1, t.val % 3] ∧ win0_1.index t = ![t.val / 3 % 1, t.val % 3] ∧ win0_2.index t = ![t.val / 3 / 1, t.val / 3 % 1] ∧ win0_3.index t = ![t.val / 3 / 1, t.val / 3 % 1] :=
  (by decide +kernel : ∀ t : Fin grid0.N, _)

/-- One step adds the product of its two tiles to the accumulator. -/
theorem pay_apply (x : Vec Ideal S1024x1024 .bf16) (a : Vec Ideal S1024x1024 .f32) (y : Vec Ideal S1024x1024 .bf16) (r : Fin 1024) (s : Fin 1024) :
    k0_pay2 x a y (ix2 r s) = a (ix2 r s) + entry (rows x) (cols y) r s := by
  unfold k0_pay2 entry rows cols
  pointwise [shapeCast_self]

/-- The accumulator starts at the tile handed in. -/
theorem init_apply (h : Vec Ideal S1024x1024 .f32) (r : Fin 1024) (s : Fin 1024) : k0_pay1 h (ix2 r s) = rows h r s := by
  unfold k0_pay1 rows
  pointwise [shapeCast_self]

variable (m : (ℓ : Loc nD τ sig) → Buf (Elt Ideal) ℓ) (ρ : Dev nD → PrngReg)

/-- The output tile is the accumulator of the last step. -/
theorem last_eq (c : Dev nD) (t : Fin cfg0.N) (h1 : t.val % 3 = 2) : (outsAt0 m c t.val t.isLt).1 = (outsAt0 m c t.val t.isLt).2 := by
  have h0 : ¬t.val % 3 = 0 := by omega
  rw [outsAt0_C m c t h0 h1]; dsimp only; unfold out0_C_3 sout0_C_0; frame_out

/-- The input gradient: a row of the gradient by a row of the weight, on top of the array handed in. -/
theorem result_eq (c : Dev nD) : (dats m 0 c).arrAt 3 cfg0.N = onto (rows (m ((c : Thread nD τ).loc main_arg2))) (rows (m ((c : Thread nD τ).loc main_arg0))) (cols (m ((c : Thread nD τ).loc main_arg1))) := by
  refine (dats m 0 c).arrAt_eq_of_covers 3 _ (by decide +kernel) fun t hf y => ?_
  have h1 : t.val % 3 = 2 := (flush0_3 t).mp hf
  have e := idx t
  have hy0 : (y 0).val < 1024 := (y 0).isLt
  have hy1 : (y 1).val < 1024 := (y 1).isLt
  blk_simp
  rw [after0_3]
  rw [last_eq m c t h1]
  refine Eq.trans ?_ ((entry_of_run (J := 3) (tm := 1024) (tk := 1024) (tn := 1024) (nn := 1) (by decide) (fun n hn r s => rows (outsAt0 m c n hn).2 r s)
    (fun t r s => rows (iblk m c 2 t) r s) (fun t => rows (iblk m c 0 t)) (fun t => cols (iblk m c 1 t)) (rows (m ((c : Thread nD τ).loc main_arg2))) (rows (m ((c : Thread nD τ).loc main_arg0))) (cols (m ((c : Thread nD τ).loc main_arg1)))
    (fun t h0 r s => by
      have h1 : ¬t.val % 3 = 2 := by omega
      unfold rows; rw [outsAt0_A m c t h0 h1]; dsimp only; unfold sout0_A_0; frame_out; rw [pay_apply, init_apply]; rfl)
    (fun t h0 r s => by
      unfold rows
      by_cases h1 : t.val % 3 = 2
      · rw [outsAt0_C m c t h0 h1]; dsimp only; unfold sout0_C_0; frame_out; rw [pay_apply]; exact congrArg (· + _) (congrFun ((Memref.isWhole_whole cc0_scratch0).read_unread _) _)
      · rw [outsAt0_B m c t h0 h1]; dsimp only; unfold sout0_B_0; frame_out; rw [pay_apply]; exact congrArg (· + _) (congrFun ((Memref.isWhole_whole cc0_scratch0).read_unread _) _))
    (fun t r s i j hi hj => by unfold rows; blk_ext [iblk, V, idx t] <;> omega)
    (fun t r k i l hi hl => by unfold rows; blk_ext [iblk, V, idx t] <;> omega)
    (fun t k s l j hl hj => by unfold cols; blk_ext [iblk, V, idx t] <;> omega)
    t h1 ⟨(y 0).val, hy0⟩ ⟨(y 1).val, hy1⟩ _ _ ?_ ?_))
  · unfold rows; exact congrArg _ (ValueIdx.eq_ix2 _)
  · show win0_3.index t (0 : Fin 2) * 1024 + 1 * (y 0).val = t.val / 3 / 1 * 1024 + (y 0).val
    rw [e.2.2.2]; show t.val / 3 / 1 * 1024 + 1 * (y 0).val = _; omega
  · show win0_3.index t (1 : Fin 2) * 1024 + 1 * (y 1).val = t.val / 3 % 1 * 1024 + (y 1).val
    rw [e.2.2.2]; show t.val / 3 % 1 * 1024 + 1 * (y 1).val = _; omega

/-- The call runs and leaves its arguments and the counters as it found them, on the machine's floats … -/
theorem frame_bits : Cert.quiescent_InGDx (hInGDx := Cert.InGDx.Gen.facts) := fun m g _ => Cert.InGDx.Gen.frame (F := Bits) m g
/-- … and over the extended reals; -/
theorem frame_ideal : Cert.quiescent_InGDxIdeal (hInGDxIdeal := Cert.InGDxIdeal.Gen.facts) := fun m g _ => frame (F := Idealize.ShloMosaic.Ideal) m g
/-- the plain program too. -/
theorem frame_reference : Cert.quiescent_InGDxRefIdeal (hInGDxRefIdeal := Cert.InGDxRefIdeal.Gen.facts) := fun m g _ =>
  (θ_run Cert.InGDxRefIdeal.defs _ _).mono (fun r h => ⟨fun c => (h c).2, Idealize.ShloMosaic.sem_eq_zero_of_no_sems (by decide) r.2⟩)
    (Cert.InGDxRefIdeal.Value.run (F := Idealize.ShloMosaic.Ideal) m g)

/-- From the same arguments both leave the same array. -/
theorem agrees : Cert.algebraic_InGDxIdeal_InGDxRefIdeal (hInGDxIdeal := Cert.InGDxIdeal.Gen.facts) (hInGDxRefIdeal := Cert.InGDxRefIdeal.Gen.facts) := by
  intro m g m' g' _ hargs
  refine ⟨fun c => onto (rows (m ((c : Thread nD τ).loc main_arg2))) (rows (m ((c : Thread nD τ).loc main_arg0))) (cols (m ((c : Thread nD τ).loc main_arg1))), ?_, ?_⟩
  · exact (θ_run defs _ _).mono (fun r h c => ⟨(h c).1.trans ((Value.final3 m c).symm.trans (result_eq m c)), (h c).2⟩) (Value.run m g)
  · exact (θ_run _ _ _).mono (fun r h c => ⟨(h c).1.trans (by
      rw [(hargs c).1, (hargs c).2.1, (hargs c).2.2]; funext i
      rw [show i = ix2 (i 0) (i 1) from ValueIdx.eq_ix2 i]
      unfold onto entry rows cols
      pointwise), (h c).2⟩) (Cert.InGDxRefIdeal.Value.run m' g')

end Cert.InGDxIdeal.Prod

end
-- ==== Proof.InFDx.lean ====
/- `InFDx`: the tiled product and the plain one agree over the extended reals. -/
module

public import proofs.«01_k».proof.Defs
public import proofs.«01_k».proof.Proof.Gen.InFDx
public import proofs.«01_k».proof.Proof.Gen.InFDx.Frame
public import proofs.«01_k».proof.Proof.Gen.InFDxIdeal
public import proofs.«01_k».proof.Proof.Gen.InFDxIdeal.Value
public import proofs.«01_k».proof.Proof.Gen.InFDxRefIdeal
public import proofs.«01_k».proof.Proof.Gen.InFDxRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.InFDxIdeal.Prod

open Cert.InFDxIdeal Cert.InFDxIdeal.Gen

/-- The blocks that grid point `t` works on. -/
theorem idx : ∀ t : Fin cfg0.N, win0_0.index t = ![t.val / 1 / 1, t.val % 1] ∧ win0_1.index t = ![t.val / 1 % 1, t.val % 1] ∧ win0_2.index t = ![t.val / 1 / 1, t.val / 1 % 1] ∧ win0_3.index t = ![t.val / 1 / 1, t.val / 1 % 1] :=
  (by decide +kernel : ∀ t : Fin grid0.N, _)

/-- One step adds the product of its two tiles to the accumulator. -/
theorem pay_apply (x : Vec Ideal S1024x128 .bf16) (a : Vec Ideal S1024x1024 .f32) (y : Vec Ideal S1024x128 .bf16) (r : Fin 1024) (s : Fin 1024) :
    k0_pay2 x a y (ix2 r s) = a (ix2 r s) + entry (rows x) (cols y) r s := by
  unfold k0_pay2 entry rows cols
  pointwise [shapeCast_self]

/-- The accumulator starts at the tile handed in. -/
theorem init_apply (h : Vec Ideal S1024x1024 .f32) (r : Fin 1024) (s : Fin 1024) : k0_pay1 h (ix2 r s) = rows h r s := by
  unfold k0_pay1 rows
  pointwise [shapeCast_self]

variable (m : (ℓ : Loc nD τ sig) → Buf (Elt Ideal) ℓ) (ρ : Dev nD → PrngReg)

/-- The input gradient: a row of the gradient by a row of the weight, on top of the array handed in. -/
theorem result_eq (c : Dev nD) : (dats m 0 c).arrAt 3 cfg0.N = onto (rows (m ((c : Thread nD τ).loc main_arg2))) (rows (m ((c : Thread nD τ).loc main_arg0))) (cols (m ((c : Thread nD τ).loc main_arg1))) := by
  refine (dats m 0 c).arrAt_eq_of_covers 3 _ (by decide +kernel) fun t hf y => ?_
  have h1 : t.val % 1 = 0 := Nat.mod_one _
  have e := idx t
  have hy0 : (y 0).val < 1024 := (y 0).isLt
  have hy1 : (y 1).val < 1024 := (y 1).isLt
  blk_simp
  rw [after0_3]
  refine Eq.trans ?_ ((entry_of_run (J := 1) (tm := 1024) (tk := 128) (tn := 1024) (nn := 1) (by decide) (fun n hn r s => rows (outsAt0 m c ⟨n, hn⟩) r s)
    (fun t r s => rows (iblk m c 2 t) r s) (fun t => rows (iblk m c 0 t)) (fun t => cols (iblk m c 1 t)) (rows (m ((c : Thread nD τ).loc main_arg2))) (rows (m ((c : Thread nD τ).loc main_arg0))) (cols (m ((c : Thread nD τ).loc main_arg1)))
    (fun t _ r s => by unfold rows outsAt0 out0_A_3; frame_out; rw [pay_apply, init_apply]; rfl)
    (fun t h0 => absurd (Nat.mod_one _) h0)
    (fun t r s i j hi hj => by unfold rows; blk_ext [iblk, V, idx t] <;> omega)
    (fun t r k i l hi hl => by unfold rows; blk_ext [iblk, V, idx t] <;> omega)
    (fun t k s l j hl hj => by unfold cols; blk_ext [iblk, V, idx t] <;> omega)
    t h1 ⟨(y 0).val, hy0⟩ ⟨(y 1).val, hy1⟩ _ _ ?_ ?_))
  · unfold rows; exact congrArg _ (ValueIdx.eq_ix2 _)
  · show win0_3.index t (0 : Fin 2) * 1024 + 1 * (y 0).val = t.val / 1 / 1 * 1024 + (y 0).val
    rw [e.2.2.2]; show t.val / 1 / 1 * 1024 + 1 * (y 0).val = _; omega
  · show win0_3.index t (1 : Fin 2) * 1024 + 1 * (y 1).val = t.val / 1 % 1 * 1024 + (y 1).val
    rw [e.2.2.2]; show t.val / 1 % 1 * 1024 + 1 * (y 1).val = _; omega

/-- The call runs and leaves its arguments and the counters as it found them, on the machine's floats … -/
theorem frame_bits : Cert.quiescent_InFDx (hInFDx := Cert.InFDx.Gen.facts) := fun m g _ => Cert.InFDx.Gen.frame (F := Bits) m g
/-- … and over the extended reals; -/
theorem frame_ideal : Cert.quiescent_InFDxIdeal (hInFDxIdeal := Cert.InFDxIdeal.Gen.facts) := fun m g _ => frame (F := Idealize.ShloMosaic.Ideal) m g
/-- the plain program too. -/
theorem frame_reference : Cert.quiescent_InFDxRefIdeal (hInFDxRefIdeal := Cert.InFDxRefIdeal.Gen.facts) := fun m g _ =>
  (θ_run Cert.InFDxRefIdeal.defs _ _).mono (fun r h => ⟨fun c => (h c).2, Idealize.ShloMosaic.sem_eq_zero_of_no_sems (by decide) r.2⟩)
    (Cert.InFDxRefIdeal.Value.run (F := Idealize.ShloMosaic.Ideal) m g)

/-- From the same arguments both leave the same array. -/
theorem agrees : Cert.algebraic_InFDxIdeal_InFDxRefIdeal (hInFDxIdeal := Cert.InFDxIdeal.Gen.facts) (hInFDxRefIdeal := Cert.InFDxRefIdeal.Gen.facts) := by
  intro m g m' g' _ hargs
  refine ⟨fun c => onto (rows (m ((c : Thread nD τ).loc main_arg2))) (rows (m ((c : Thread nD τ).loc main_arg0))) (cols (m ((c : Thread nD τ).loc main_arg1))), ?_, ?_⟩
  · exact (θ_run defs _ _).mono (fun r h c => ⟨(h c).1.trans ((result_eq m c)), (h c).2⟩) (Value.run_blocks m g)
  · exact (θ_run _ _ _).mono (fun r h c => ⟨(h c).1.trans (by
      rw [(hargs c).1, (hargs c).2.1, (hargs c).2.2]; funext i
      rw [show i = ix2 (i 0) (i 1) from ValueIdx.eq_ix2 i]
      unfold onto entry rows cols
      pointwise), (h c).2⟩) (Cert.InFDxRefIdeal.Value.run m' g')

end Cert.InFDxIdeal.Prod

end
-- ==== Proof.InP.lean ====
/- `InP`: the tiled product and the plain one agree over the extended reals. -/
module

public import proofs.«01_k».proof.Defs
public import proofs.«01_k».proof.Proof.Gen.InP
public import proofs.«01_k».proof.Proof.Gen.InP.Frame
public import proofs.«01_k».proof.Proof.Gen.InPIdeal
public import proofs.«01_k».proof.Proof.Gen.InPIdeal.Value
public import proofs.«01_k».proof.Proof.Gen.InPRefIdeal
public import proofs.«01_k».proof.Proof.Gen.InPRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.InPIdeal.Prod

open Cert.InPIdeal Cert.InPIdeal.Gen

/-- The blocks that grid point `t` works on. -/
theorem idx : ∀ t : Fin cfg0.N, win0_0.index t = ![t.val / 1 / 2, t.val % 1] ∧ win0_1.index t = ![t.val % 1, t.val / 1 % 2] ∧ win0_2.index t = ![t.val / 1 / 2, t.val / 1 % 2] :=
  (by decide +kernel : ∀ t : Fin grid0.N, _)

/-- One step adds the product of its two tiles to the accumulator. -/
theorem pay_apply (x : Vec Ideal S1024x1024 .bf16) (a : Vec Ideal S1024x1024 .f32) (y : Vec Ideal S1024x1024 .bf16) (r : Fin 1024) (s : Fin 1024) :
    k0_pay2 x a y (ix2 r s) = a (ix2 r s) + entry (rows x) (rows y) r s := by
  unfold k0_pay2 entry rows
  pointwise [shapeCast_self]

/-- The accumulator starts at zero. -/
theorem init_apply (r : Fin 1024) (s : Fin 1024) : k0_pay1 (F := Ideal) (ix2 r s) = 0 := by
  unfold k0_pay1
  pointwise [shapeCast_self]

variable (m : (ℓ : Loc nD τ sig) → Buf (Elt Ideal) ℓ) (ρ : Dev nD → PrngReg)

/-- The product: a row of the activations by a column of the weight. -/
theorem result_eq (c : Dev nD) : (dats m 0 c).arrAt 2 cfg0.N = onto (fun _ _ => 0) (rows (m ((c : Thread nD τ).loc main_arg0))) (rows (m ((c : Thread nD τ).loc main_arg1))) := by
  refine (dats m 0 c).arrAt_eq_of_covers 2 _ (by decide +kernel) fun t hf y => ?_
  have h1 : t.val % 1 = 0 := Nat.mod_one _
  have e := idx t
  have hy0 : (y 0).val < 1024 := (y 0).isLt
  have hy1 : (y 1).val < 1024 := (y 1).isLt
  blk_simp
  rw [after0_2]
  refine Eq.trans ?_ ((entry_of_run (J := 1) (tm := 1024) (tk := 1024) (tn := 1024) (nn := 2) (by decide) (fun n hn r s => rows (outsAt0 m c ⟨n, hn⟩) r s)
    (fun _ _ _ => 0) (fun t => rows (iblk m c 0 t)) (fun t => rows (iblk m c 1 t)) (fun _ _ => 0) (rows (m ((c : Thread nD τ).loc main_arg0))) (rows (m ((c : Thread nD τ).loc main_arg1)))
    (fun t _ r s => by unfold rows outsAt0 out0_A_2; frame_out; rw [pay_apply, init_apply]; rfl)
    (fun t h0 => absurd (Nat.mod_one _) h0)
    (fun t r s i j hi hj => by rfl)
    (fun t r k i l hi hl => by unfold rows; blk_ext [iblk, V, idx t] <;> omega)
    (fun t k s l j hl hj => by unfold rows; blk_ext [iblk, V, idx t] <;> omega)
    t h1 ⟨(y 0).val, hy0⟩ ⟨(y 1).val, hy1⟩ _ _ ?_ ?_))
  · unfold rows; exact congrArg _ (ValueIdx.eq_ix2 _)
  · show win0_2.index t (0 : Fin 2) * 1024 + 1 * (y 0).val = t.val / 1 / 2 * 1024 + (y 0).val
    rw [e.2.2]; show t.val / 1 / 2 * 1024 + 1 * (y 0).val = _; omega
  · show win0_2.index t (1 : Fin 2) * 1024 + 1 * (y 1).val = t.val / 1 % 2 * 1024 + (y 1).val
    rw [e.2.2]; show t.val / 1 % 2 * 1024 + 1 * (y 1).val = _; omega

/-- The call runs and leaves its arguments and the counters as it found them, on the machine's floats … -/
theorem frame_bits : Cert.quiescent_InP (hInP := Cert.InP.Gen.facts) := fun m g _ => Cert.InP.Gen.frame (F := Bits) m g
/-- … and over the extended reals; -/
theorem frame_ideal : Cert.quiescent_InPIdeal (hInPIdeal := Cert.InPIdeal.Gen.facts) := fun m g _ => frame (F := Idealize.ShloMosaic.Ideal) m g
/-- the plain program too. -/
theorem frame_reference : Cert.quiescent_InPRefIdeal (hInPRefIdeal := Cert.InPRefIdeal.Gen.facts) := fun m g _ =>
  (θ_run Cert.InPRefIdeal.defs _ _).mono (fun r h => ⟨fun c => (h c).2, Idealize.ShloMosaic.sem_eq_zero_of_no_sems (by decide) r.2⟩)
    (Cert.InPRefIdeal.Value.run (F := Idealize.ShloMosaic.Ideal) m g)

/-- From the same arguments both leave the same array. -/
theorem agrees : Cert.algebraic_InPIdeal_InPRefIdeal (hInPIdeal := Cert.InPIdeal.Gen.facts) (hInPRefIdeal := Cert.InPRefIdeal.Gen.facts) := by
  intro m g m' g' _ hargs
  refine ⟨fun c => onto (fun _ _ => 0) (rows (m ((c : Thread nD τ).loc main_arg0))) (rows (m ((c : Thread nD τ).loc main_arg1))), ?_, ?_⟩
  · exact (θ_run defs _ _).mono (fun r h c => ⟨(h c).1.trans ((result_eq m c)), (h c).2⟩) (Value.run_blocks m g)
  · exact (θ_run _ _ _).mono (fun r h c => ⟨(h c).1.trans (by
      rw [(hargs c).1, (hargs c).2]; funext i
      rw [show i = ix2 (i 0) (i 1) from ValueIdx.eq_ix2 i]
      unfold onto entry rows
      pointwise [zero_add]), (h c).2⟩) (Cert.InPRefIdeal.Value.run m' g')

end Cert.InPIdeal.Prod

end
-- ==== Proof.InZ.lean ====
/- `InZ`: the tiled product and the plain one agree over the extended reals. -/
module

public import proofs.«01_k».proof.Defs
public import proofs.«01_k».proof.Proof.Gen.InZ
public import proofs.«01_k».proof.Proof.Gen.InZ.Frame
public import proofs.«01_k».proof.Proof.Gen.InZIdeal
public import proofs.«01_k».proof.Proof.Gen.InZIdeal.Value
public import proofs.«01_k».proof.Proof.Gen.InZRefIdeal
public import proofs.«01_k».proof.Proof.Gen.InZRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.InZIdeal.Prod

open Cert.InZIdeal Cert.InZIdeal.Gen

/-- The blocks that grid point `t` works on. -/
theorem idx : ∀ t : Fin cfg0.N, win0_0.index t = ![t.val / 1 / 1, t.val % 1] ∧ win0_1.index t = ![t.val % 1, t.val / 1 % 1] ∧ win0_2.index t = ![t.val / 1 / 1, t.val / 1 % 1] :=
  (by decide +kernel : ∀ t : Fin grid0.N, _)

/-- One step adds the product of its two tiles to the accumulator. -/
theorem pay_apply (x : Vec Ideal S1024x1024 .bf16) (a : Vec Ideal S1024x1024 .f32) (y : Vec Ideal S1024x1024 .bf16) (r : Fin 1024) (s : Fin 1024) :
    k0_pay2 x a y (ix2 r s) = a (ix2 r s) + entry (rows x) (rows y) r s := by
  unfold k0_pay2 entry rows
  pointwise [shapeCast_self]

/-- The accumulator starts at zero. -/
theorem init_apply (r : Fin 1024) (s : Fin 1024) : k0_pay1 (F := Ideal) (ix2 r s) = 0 := by
  unfold k0_pay1
  pointwise [shapeCast_self]

variable (m : (ℓ : Loc nD τ sig) → Buf (Elt Ideal) ℓ) (ρ : Dev nD → PrngReg)

/-- The product: a row of the activations by a column of the weight. -/
theorem result_eq (c : Dev nD) : (dats m 0 c).arrAt 2 cfg0.N = onto (fun _ _ => 0) (rows (m ((c : Thread nD τ).loc main_arg0))) (rows (m ((c : Thread nD τ).loc main_arg1))) := by
  refine (dats m 0 c).arrAt_eq_of_covers 2 _ (by decide +kernel) fun t hf y => ?_
  have h1 : t.val % 1 = 0 := Nat.mod_one _
  have e := idx t
  have hy0 : (y 0).val < 1024 := (y 0).isLt
  have hy1 : (y 1).val < 1024 := (y 1).isLt
  blk_simp
  rw [after0_2]
  refine Eq.trans ?_ ((entry_of_run (J := 1) (tm := 1024) (tk := 1024) (tn := 1024) (nn := 1) (by decide) (fun n hn r s => rows (outsAt0 m c ⟨n, hn⟩) r s)
    (fun _ _ _ => 0) (fun t => rows (iblk m c 0 t)) (fun t => rows (iblk m c 1 t)) (fun _ _ => 0) (rows (m ((c : Thread nD τ).loc main_arg0))) (rows (m ((c : Thread nD τ).loc main_arg1)))
    (fun t _ r s => by unfold rows outsAt0 out0_A_2; frame_out; rw [pay_apply, init_apply]; rfl)
    (fun t h0 => absurd (Nat.mod_one _) h0)
    (fun t r s i j hi hj => by rfl)
    (fun t r k i l hi hl => by unfold rows; blk_ext [iblk, V, idx t] <;> omega)
    (fun t k s l j hl hj => by unfold rows; blk_ext [iblk, V, idx t] <;> omega)
    t h1 ⟨(y 0).val, hy0⟩ ⟨(y 1).val, hy1⟩ _ _ ?_ ?_))
  · unfold rows; exact congrArg _ (ValueIdx.eq_ix2 _)
  · show win0_2.index t (0 : Fin 2) * 1024 + 1 * (y 0).val = t.val / 1 / 1 * 1024 + (y 0).val
    rw [e.2.2]; show t.val / 1 / 1 * 1024 + 1 * (y 0).val = _; omega
  · show win0_2.index t (1 : Fin 2) * 1024 + 1 * (y 1).val = t.val / 1 % 1 * 1024 + (y 1).val
    rw [e.2.2]; show t.val / 1 % 1 * 1024 + 1 * (y 1).val = _; omega

/-- The call runs and leaves its arguments and the counters as it found them, on the machine's floats … -/
theorem frame_bits : Cert.quiescent_InZ (hInZ := Cert.InZ.Gen.facts) := fun m g _ => Cert.InZ.Gen.frame (F := Bits) m g
/-- … and over the extended reals; -/
theorem frame_ideal : Cert.quiescent_InZIdeal (hInZIdeal := Cert.InZIdeal.Gen.facts) := fun m g _ => frame (F := Idealize.ShloMosaic.Ideal) m g
/-- the plain program too. -/
theorem frame_reference : Cert.quiescent_InZRefIdeal (hInZRefIdeal := Cert.InZRefIdeal.Gen.facts) := fun m g _ =>
  (θ_run Cert.InZRefIdeal.defs _ _).mono (fun r h => ⟨fun c => (h c).2, Idealize.ShloMosaic.sem_eq_zero_of_no_sems (by decide) r.2⟩)
    (Cert.InZRefIdeal.Value.run (F := Idealize.ShloMosaic.Ideal) m g)

/-- From the same arguments both leave the same array. -/
theorem agrees : Cert.algebraic_InZIdeal_InZRefIdeal (hInZIdeal := Cert.InZIdeal.Gen.facts) (hInZRefIdeal := Cert.InZRefIdeal.Gen.facts) := by
  intro m g m' g' _ hargs
  refine ⟨fun c => onto (fun _ _ => 0) (rows (m ((c : Thread nD τ).loc main_arg0))) (rows (m ((c : Thread nD τ).loc main_arg1))), ?_, ?_⟩
  · exact (θ_run defs _ _).mono (fun r h c => ⟨(h c).1.trans ((result_eq m c)), (h c).2⟩) (Value.run_blocks m g)
  · exact (θ_run _ _ _).mono (fun r h c => ⟨(h c).1.trans (by
      rw [(hargs c).1, (hargs c).2]; funext i
      rw [show i = ix2 (i 0) (i 1) from ValueIdx.eq_ix2 i]
      unfold onto entry rows
      pointwise [zero_add]), (h c).2⟩) (Cert.InZRefIdeal.Value.run m' g')

end Cert.InZIdeal.Prod

end
-- ==== Proof.InX.lean ====
/- `InX`: the tiled product and the plain one agree over the extended reals. -/
module

public import proofs.«01_k».proof.Defs
public import proofs.«01_k».proof.Proof.Gen.InX
public import proofs.«01_k».proof.Proof.Gen.InX.Frame
public import proofs.«01_k».proof.Proof.Gen.InXIdeal
public import proofs.«01_k».proof.Proof.Gen.InXIdeal.Value
public import proofs.«01_k».proof.Proof.Gen.InXRefIdeal
public import proofs.«01_k».proof.Proof.Gen.InXRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.InXIdeal.Prod

open Cert.InXIdeal Cert.InXIdeal.Gen

/-- The blocks that grid point `t` works on. -/
theorem idx : ∀ t : Fin cfg0.N, win0_0.index t = ![t.val / 1 / 3, t.val % 1] ∧ win0_1.index t = ![t.val % 1, t.val / 1 % 3] ∧ win0_2.index t = ![t.val / 1 / 3, t.val / 1 % 3] :=
  (by decide +kernel : ∀ t : Fin grid0.N, _)

/-- One step adds the product of its two tiles to the accumulator. -/
theorem pay_apply (x : Vec Ideal S1024x1024 .bf16) (a : Vec Ideal S1024x512 .f32) (y : Vec Ideal S1024x512 .bf16) (r : Fin 1024) (s : Fin 512) :
    k0_pay2 x a y (ix2 r s) = a (ix2 r s) + entry (rows x) (rows y) r s := by
  unfold k0_pay2 entry rows
  pointwise [shapeCast_self]

/-- The accumulator starts at zero. -/
theorem init_apply (r : Fin 1024) (s : Fin 512) : k0_pay1 (F := Ideal) (ix2 r s) = 0 := by
  unfold k0_pay1
  pointwise [shapeCast_self]

variable (m : (ℓ : Loc nD τ sig) → Buf (Elt Ideal) ℓ) (ρ : Dev nD → PrngReg)

/-- The product: a row of the activations by a column of the weight. -/
theorem result_eq (c : Dev nD) : (dats m 0 c).arrAt 2 cfg0.N = onto (fun _ _ => 0) (rows (m ((c : Thread nD τ).loc main_arg0))) (rows (m ((c : Thread nD τ).loc main_arg1))) := by
  refine (dats m 0 c).arrAt_eq_of_covers 2 _ (by decide +kernel) fun t hf y => ?_
  have h1 : t.val % 1 = 0 := Nat.mod_one _
  have e := idx t
  have hy0 : (y 0).val < 1024 := (y 0).isLt
  have hy1 : (y 1).val < 512 := (y 1).isLt
  blk_simp
  rw [after0_2]
  refine Eq.trans ?_ ((entry_of_run (J := 1) (tm := 1024) (tk := 1024) (tn := 512) (nn := 3) (by decide) (fun n hn r s => rows (outsAt0 m c ⟨n, hn⟩) r s)
    (fun _ _ _ => 0) (fun t => rows (iblk m c 0 t)) (fun t => rows (iblk m c 1 t)) (fun _ _ => 0) (rows (m ((c : Thread nD τ).loc main_arg0))) (rows (m ((c : Thread nD τ).loc main_arg1)))
    (fun t _ r s => by unfold rows outsAt0 out0_A_2; frame_out; rw [pay_apply, init_apply]; rfl)
    (fun t h0 => absurd (Nat.mod_one _) h0)
    (fun t r s i j hi hj => by rfl)
    (fun t r k i l hi hl => by unfold rows; blk_ext [iblk, V, idx t] <;> omega)
    (fun t k s l j hl hj => by unfold rows; blk_ext [iblk, V, idx t] <;> omega)
    t h1 ⟨(y 0).val, hy0⟩ ⟨(y 1).val, hy1⟩ _ _ ?_ ?_))
  · unfold rows; exact congrArg _ (ValueIdx.eq_ix2 _)
  · show win0_2.index t (0 : Fin 2) * 1024 + 1 * (y 0).val = t.val / 1 / 3 * 1024 + (y 0).val
    rw [e.2.2]; show t.val / 1 / 3 * 1024 + 1 * (y 0).val = _; omega
  · show win0_2.index t (1 : Fin 2) * 512 + 1 * (y 1).val = t.val / 1 % 3 * 512 + (y 1).val
    rw [e.2.2]; show t.val / 1 % 3 * 512 + 1 * (y 1).val = _; omega

/-- The call runs and leaves its arguments and the counters as it found them, on the machine's floats … -/
theorem frame_bits : Cert.quiescent_InX (hInX := Cert.InX.Gen.facts) := fun m g _ => Cert.InX.Gen.frame (F := Bits) m g
/-- … and over the extended reals; -/
theorem frame_ideal : Cert.quiescent_InXIdeal (hInXIdeal := Cert.InXIdeal.Gen.facts) := fun m g _ => frame (F := Idealize.ShloMosaic.Ideal) m g
/-- the plain program too. -/
theorem frame_reference : Cert.quiescent_InXRefIdeal (hInXRefIdeal := Cert.InXRefIdeal.Gen.facts) := fun m g _ =>
  (θ_run Cert.InXRefIdeal.defs _ _).mono (fun r h => ⟨fun c => (h c).2, Idealize.ShloMosaic.sem_eq_zero_of_no_sems (by decide) r.2⟩)
    (Cert.InXRefIdeal.Value.run (F := Idealize.ShloMosaic.Ideal) m g)

/-- From the same arguments both leave the same array. -/
theorem agrees : Cert.algebraic_InXIdeal_InXRefIdeal (hInXIdeal := Cert.InXIdeal.Gen.facts) (hInXRefIdeal := Cert.InXRefIdeal.Gen.facts) := by
  intro m g m' g' _ hargs
  refine ⟨fun c => onto (fun _ _ => 0) (rows (m ((c : Thread nD τ).loc main_arg0))) (rows (m ((c : Thread nD τ).loc main_arg1))), ?_, ?_⟩
  · exact (θ_run defs _ _).mono (fun r h c => ⟨(h c).1.trans ((result_eq m c)), (h c).2⟩) (Value.run_blocks m g)
  · exact (θ_run _ _ _).mono (fun r h c => ⟨(h c).1.trans (by
      rw [(hargs c).1, (hargs c).2]; funext i
      rw [show i = ix2 (i 0) (i 1) from ValueIdx.eq_ix2 i]
      unfold onto entry rows
      pointwise [zero_add]), (h c).2⟩) (Cert.InXRefIdeal.Value.run m' g')

end Cert.InXIdeal.Prod

end
-- ==== Proof.InG.lean ====
/- `InG`: the tiled product and the plain one agree over the extended reals. -/
module

public import proofs.«01_k».proof.Defs
public import proofs.«01_k».proof.Proof.Gen.InG
public import proofs.«01_k».proof.Proof.Gen.InG.Frame
public import proofs.«01_k».proof.Proof.Gen.InGIdeal
public import proofs.«01_k».proof.Proof.Gen.InGIdeal.Value
public import proofs.«01_k».proof.Proof.Gen.InGRefIdeal
public import proofs.«01_k».proof.Proof.Gen.InGRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.InGIdeal.Prod

open Cert.InGIdeal Cert.InGIdeal.Gen

/-- The blocks that grid point `t` works on. -/
theorem idx : ∀ t : Fin cfg0.N, win0_0.index t = ![t.val / 1 / 3, t.val % 1] ∧ win0_1.index t = ![t.val % 1, t.val / 1 % 3] ∧ win0_2.index t = ![t.val / 1 / 3, t.val / 1 % 3] :=
  (by decide +kernel : ∀ t : Fin grid0.N, _)

/-- One step adds the product of its two tiles to the accumulator. -/
theorem pay_apply (x : Vec Ideal S1024x1024 .bf16) (a : Vec Ideal S1024x1024 .f32) (y : Vec Ideal S1024x1024 .bf16) (r : Fin 1024) (s : Fin 1024) :
    k0_pay2 x a y (ix2 r s) = a (ix2 r s) + entry (rows x) (rows y) r s := by
  unfold k0_pay2 entry rows
  pointwise [shapeCast_self]

/-- The accumulator starts at zero. -/
theorem init_apply (r : Fin 1024) (s : Fin 1024) : k0_pay1 (F := Ideal) (ix2 r s) = 0 := by
  unfold k0_pay1
  pointwise [shapeCast_self]

variable (m : (ℓ : Loc nD τ sig) → Buf (Elt Ideal) ℓ) (ρ : Dev nD → PrngReg)

/-- The product: a row of the activations by a column of the weight. -/
theorem result_eq (c : Dev nD) : (dats m 0 c).arrAt 2 cfg0.N = onto (fun _ _ => 0) (rows (m ((c : Thread nD τ).loc main_arg0))) (rows (m ((c : Thread nD τ).loc main_arg1))) := by
  refine (dats m 0 c).arrAt_eq_of_covers 2 _ (by decide +kernel) fun t hf y => ?_
  have h1 : t.val % 1 = 0 := Nat.mod_one _
  have e := idx t
  have hy0 : (y 0).val < 1024 := (y 0).isLt
  have hy1 : (y 1).val < 1024 := (y 1).isLt
  blk_simp
  rw [after0_2]
  refine Eq.trans ?_ ((entry_of_run (J := 1) (tm := 1024) (tk := 1024) (tn := 1024) (nn := 3) (by decide) (fun n hn r s => rows (outsAt0 m c ⟨n, hn⟩) r s)
    (fun _ _ _ => 0) (fun t => rows (iblk m c 0 t)) (fun t => rows (iblk m c 1 t)) (fun _ _ => 0) (rows (m ((c : Thread nD τ).loc main_arg0))) (rows (m ((c : Thread nD τ).loc main_arg1)))
    (fun t _ r s => by unfold rows outsAt0 out0_A_2; frame_out; rw [pay_apply, init_apply]; rfl)
    (fun t h0 => absurd (Nat.mod_one _) h0)
    (fun t r s i j hi hj => by rfl)
    (fun t r k i l hi hl => by unfold rows; blk_ext [iblk, V, idx t] <;> omega)
    (fun t k s l j hl hj => by unfold rows; blk_ext [iblk, V, idx t] <;> omega)
    t h1 ⟨(y 0).val, hy0⟩ ⟨(y 1).val, hy1⟩ _ _ ?_ ?_))
  · unfold rows; exact congrArg _ (ValueIdx.eq_ix2 _)
  · show win0_2.index t (0 : Fin 2) * 1024 + 1 * (y 0).val = t.val / 1 / 3 * 1024 + (y 0).val
    rw [e.2.2]; show t.val / 1 / 3 * 1024 + 1 * (y 0).val = _; omega
  · show win0_2.index t (1 : Fin 2) * 1024 + 1 * (y 1).val = t.val / 1 % 3 * 1024 + (y 1).val
    rw [e.2.2]; show t.val / 1 % 3 * 1024 + 1 * (y 1).val = _; omega

/-- The call runs and leaves its arguments and the counters as it found them, on the machine's floats … -/
theorem frame_bits : Cert.quiescent_InG (hInG := Cert.InG.Gen.facts) := fun m g _ => Cert.InG.Gen.frame (F := Bits) m g
/-- … and over the extended reals; -/
theorem frame_ideal : Cert.quiescent_InGIdeal (hInGIdeal := Cert.InGIdeal.Gen.facts) := fun m g _ => frame (F := Idealize.ShloMosaic.Ideal) m g
/-- the plain program too. -/
theorem frame_reference : Cert.quiescent_InGRefIdeal (hInGRefIdeal := Cert.InGRefIdeal.Gen.facts) := fun m g _ =>
  (θ_run Cert.InGRefIdeal.defs _ _).mono (fun r h => ⟨fun c => (h c).2, Idealize.ShloMosaic.sem_eq_zero_of_no_sems (by decide) r.2⟩)
    (Cert.InGRefIdeal.Value.run (F := Idealize.ShloMosaic.Ideal) m g)

/-- From the same arguments both leave the same array. -/
theorem agrees : Cert.algebraic_InGIdeal_InGRefIdeal (hInGIdeal := Cert.InGIdeal.Gen.facts) (hInGRefIdeal := Cert.InGRefIdeal.Gen.facts) := by
  intro m g m' g' _ hargs
  refine ⟨fun c => onto (fun _ _ => 0) (rows (m ((c : Thread nD τ).loc main_arg0))) (rows (m ((c : Thread nD τ).loc main_arg1))), ?_, ?_⟩
  · exact (θ_run defs _ _).mono (fun r h c => ⟨(h c).1.trans ((result_eq m c)), (h c).2⟩) (Value.run_blocks m g)
  · exact (θ_run _ _ _).mono (fun r h c => ⟨(h c).1.trans (by
      rw [(hargs c).1, (hargs c).2]; funext i
      rw [show i = ix2 (i 0) (i 1) from ValueIdx.eq_ix2 i]
      unfold onto entry rows
      pointwise [zero_add]), (h c).2⟩) (Cert.InGRefIdeal.Value.run m' g')

end Cert.InGIdeal.Prod

end
-- ==== Proof.InF.lean ====
/- `InF`: the tiled product and the plain one agree over the extended reals. -/
module

public import proofs.«01_k».proof.Defs
public import proofs.«01_k».proof.Proof.Gen.InF
public import proofs.«01_k».proof.Proof.Gen.InF.Frame
public import proofs.«01_k».proof.Proof.Gen.InFIdeal
public import proofs.«01_k».proof.Proof.Gen.InFIdeal.Value
public import proofs.«01_k».proof.Proof.Gen.InFRefIdeal
public import proofs.«01_k».proof.Proof.Gen.InFRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.InFIdeal.Prod

open Cert.InFIdeal Cert.InFIdeal.Gen

/-- The blocks that grid point `t` works on. -/
theorem idx : ∀ t : Fin cfg0.N, win0_0.index t = ![t.val / 1 / 1, t.val % 1] ∧ win0_1.index t = ![t.val % 1, t.val / 1 % 1] ∧ win0_2.index t = ![t.val / 1 / 1, t.val / 1 % 1] :=
  (by decide +kernel : ∀ t : Fin grid0.N, _)

/-- One step adds the product of its two tiles to the accumulator. -/
theorem pay_apply (x : Vec Ideal S1024x1024 .bf16) (a : Vec Ideal S1024x128 .f32) (y : Vec Ideal S1024x128 .bf16) (r : Fin 1024) (s : Fin 128) :
    k0_pay2 x a y (ix2 r s) = a (ix2 r s) + entry (rows x) (rows y) r s := by
  unfold k0_pay2 entry rows
  pointwise [shapeCast_self]

/-- The accumulator starts at zero. -/
theorem init_apply (r : Fin 1024) (s : Fin 128) : k0_pay1 (F := Ideal) (ix2 r s) = 0 := by
  unfold k0_pay1
  pointwise [shapeCast_self]

variable (m : (ℓ : Loc nD τ sig) → Buf (Elt Ideal) ℓ) (ρ : Dev nD → PrngReg)

/-- The product: a row of the activations by a column of the weight. -/
theorem result_eq (c : Dev nD) : (dats m 0 c).arrAt 2 cfg0.N = onto (fun _ _ => 0) (rows (m ((c : Thread nD τ).loc main_arg0))) (rows (m ((c : Thread nD τ).loc main_arg1))) := by
  refine (dats m 0 c).arrAt_eq_of_covers 2 _ (by decide +kernel) fun t hf y => ?_
  have h1 : t.val % 1 = 0 := Nat.mod_one _
  have e := idx t
  have hy0 : (y 0).val < 1024 := (y 0).isLt
  have hy1 : (y 1).val < 128 := (y 1).isLt
  blk_simp
  rw [after0_2]
  refine Eq.trans ?_ ((entry_of_run (J := 1) (tm := 1024) (tk := 1024) (tn := 128) (nn := 1) (by decide) (fun n hn r s => rows (outsAt0 m c ⟨n, hn⟩) r s)
    (fun _ _ _ => 0) (fun t => rows (iblk m c 0 t)) (fun t => rows (iblk m c 1 t)) (fun _ _ => 0) (rows (m ((c : Thread nD τ).loc main_arg0))) (rows (m ((c : Thread nD τ).loc main_arg1)))
    (fun t _ r s => by unfold rows outsAt0 out0_A_2; frame_out; rw [pay_apply, init_apply]; rfl)
    (fun t h0 => absurd (Nat.mod_one _) h0)
    (fun t r s i j hi hj => by rfl)
    (fun t r k i l hi hl => by unfold rows; blk_ext [iblk, V, idx t] <;> omega)
    (fun t k s l j hl hj => by unfold rows; blk_ext [iblk, V, idx t] <;> omega)
    t h1 ⟨(y 0).val, hy0⟩ ⟨(y 1).val, hy1⟩ _ _ ?_ ?_))
  · unfold rows; exact congrArg _ (ValueIdx.eq_ix2 _)
  · show win0_2.index t (0 : Fin 2) * 1024 + 1 * (y 0).val = t.val / 1 / 1 * 1024 + (y 0).val
    rw [e.2.2]; show t.val / 1 / 1 * 1024 + 1 * (y 0).val = _; omega
  · show win0_2.index t (1 : Fin 2) * 128 + 1 * (y 1).val = t.val / 1 % 1 * 128 + (y 1).val
    rw [e.2.2]; show t.val / 1 % 1 * 128 + 1 * (y 1).val = _; omega

/-- The call runs and leaves its arguments and the counters as it found them, on the machine's floats … -/
theorem frame_bits : Cert.quiescent_InF (hInF := Cert.InF.Gen.facts) := fun m g _ => Cert.InF.Gen.frame (F := Bits) m g
/-- … and over the extended reals; -/
theorem frame_ideal : Cert.quiescent_InFIdeal (hInFIdeal := Cert.InFIdeal.Gen.facts) := fun m g _ => frame (F := Idealize.ShloMosaic.Ideal) m g
/-- the plain program too. -/
theorem frame_reference : Cert.quiescent_InFRefIdeal (hInFRefIdeal := Cert.InFRefIdeal.Gen.facts) := fun m g _ =>
  (θ_run Cert.InFRefIdeal.defs _ _).mono (fun r h => ⟨fun c => (h c).2, Idealize.ShloMosaic.sem_eq_zero_of_no_sems (by decide) r.2⟩)
    (Cert.InFRefIdeal.Value.run (F := Idealize.ShloMosaic.Ideal) m g)

/-- From the same arguments both leave the same array. -/
theorem agrees : Cert.algebraic_InFIdeal_InFRefIdeal (hInFIdeal := Cert.InFIdeal.Gen.facts) (hInFRefIdeal := Cert.InFRefIdeal.Gen.facts) := by
  intro m g m' g' _ hargs
  refine ⟨fun c => onto (fun _ _ => 0) (rows (m ((c : Thread nD τ).loc main_arg0))) (rows (m ((c : Thread nD τ).loc main_arg1))), ?_, ?_⟩
  · exact (θ_run defs _ _).mono (fun r h c => ⟨(h c).1.trans ((result_eq m c)), (h c).2⟩) (Value.run_blocks m g)
  · exact (θ_run _ _ _).mono (fun r h c => ⟨(h c).1.trans (by
      rw [(hargs c).1, (hargs c).2]; funext i
      rw [show i = ix2 (i 0) (i 1) from ValueIdx.eq_ix2 i]
      unfold onto entry rows
      pointwise [zero_add]), (h c).2⟩) (Cert.InFRefIdeal.Value.run m' g')

end Cert.InFIdeal.Prod

end
-- ==== Proof.Pool.lean ====
/- `Pool`: the tiled product and the plain one agree over the extended reals. -/
module

public import proofs.«01_k».proof.Defs
public import proofs.«01_k».proof.Proof.Gen.Pool
public import proofs.«01_k».proof.Proof.Gen.Pool.Frame
public import proofs.«01_k».proof.Proof.Gen.PoolIdeal
public import proofs.«01_k».proof.Proof.Gen.PoolIdeal.Value
public import proofs.«01_k».proof.Proof.Gen.PoolRefIdeal
public import proofs.«01_k».proof.Proof.Gen.PoolRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.PoolIdeal.Prod

open Cert.PoolIdeal Cert.PoolIdeal.Gen

/-- The blocks that grid point `t` works on. -/
theorem idx : ∀ t : Fin cfg0.N, win0_0.index t = ![t.val / 1 / 1, t.val % 1] ∧ win0_1.index t = ![t.val % 1, t.val / 1 % 1] ∧ win0_2.index t = ![t.val / 1 / 1, t.val / 1 % 1] :=
  (by decide +kernel : ∀ t : Fin grid0.N, _)

/-- One step adds the product of its two tiles to the accumulator. -/
theorem pay_apply (x : Vec Ideal S1024x512 .bf16) (a : Vec Ideal S1024x1024 .f32) (y : Vec Ideal S512x1024 .bf16) (r : Fin 1024) (s : Fin 1024) :
    k0_pay2 x a y (ix2 r s) = a (ix2 r s) + entry (rows x) (rows y) r s := by
  unfold k0_pay2 entry rows
  pointwise [shapeCast_self]

/-- The accumulator starts at zero. -/
theorem init_apply (r : Fin 1024) (s : Fin 1024) : k0_pay1 (F := Ideal) (ix2 r s) = 0 := by
  unfold k0_pay1
  pointwise [shapeCast_self]

variable (m : (ℓ : Loc nD τ sig) → Buf (Elt Ideal) ℓ) (ρ : Dev nD → PrngReg)

/-- The product: a row of the activations by a column of the weight. -/
theorem result_eq (c : Dev nD) : (dats m 0 c).arrAt 2 cfg0.N = onto (fun _ _ => 0) (rows (m ((c : Thread nD τ).loc main_arg0))) (rows (m ((c : Thread nD τ).loc main_arg1))) := by
  refine (dats m 0 c).arrAt_eq_of_covers 2 _ (by decide +kernel) fun t hf y => ?_
  have h1 : t.val % 1 = 0 := Nat.mod_one _
  have e := idx t
  have hy0 : (y 0).val < 1024 := (y 0).isLt
  have hy1 : (y 1).val < 1024 := (y 1).isLt
  blk_simp
  rw [after0_2]
  refine Eq.trans ?_ ((entry_of_run (J := 1) (tm := 1024) (tk := 512) (tn := 1024) (nn := 1) (by decide) (fun n hn r s => rows (outsAt0 m c ⟨n, hn⟩) r s)
    (fun _ _ _ => 0) (fun t => rows (iblk m c 0 t)) (fun t => rows (iblk m c 1 t)) (fun _ _ => 0) (rows (m ((c : Thread nD τ).loc main_arg0))) (rows (m ((c : Thread nD τ).loc main_arg1)))
    (fun t _ r s => by unfold rows outsAt0 out0_A_2; frame_out; rw [pay_apply, init_apply]; rfl)
    (fun t h0 => absurd (Nat.mod_one _) h0)
    (fun t r s i j hi hj => by rfl)
    (fun t r k i l hi hl => by unfold rows; blk_ext [iblk, V, idx t] <;> omega)
    (fun t k s l j hl hj => by unfold rows; blk_ext [iblk, V, idx t] <;> omega)
    t h1 ⟨(y 0).val, hy0⟩ ⟨(y 1).val, hy1⟩ _ _ ?_ ?_))
  · unfold rows; exact congrArg _ (ValueIdx.eq_ix2 _)
  · show win0_2.index t (0 : Fin 2) * 1024 + 1 * (y 0).val = t.val / 1 / 1 * 1024 + (y 0).val
    rw [e.2.2]; show t.val / 1 / 1 * 1024 + 1 * (y 0).val = _; omega
  · show win0_2.index t (1 : Fin 2) * 1024 + 1 * (y 1).val = t.val / 1 % 1 * 1024 + (y 1).val
    rw [e.2.2]; show t.val / 1 % 1 * 1024 + 1 * (y 1).val = _; omega

/-- The call runs and leaves its arguments and the counters as it found them, on the machine's floats … -/
theorem frame_bits : Cert.quiescent_Pool (hPool := Cert.Pool.Gen.facts) := fun m g _ => Cert.Pool.Gen.frame (F := Bits) m g
/-- … and over the extended reals; -/
theorem frame_ideal : Cert.quiescent_PoolIdeal (hPoolIdeal := Cert.PoolIdeal.Gen.facts) := fun m g _ => frame (F := Idealize.ShloMosaic.Ideal) m g
/-- the plain program too. -/
theorem frame_reference : Cert.quiescent_PoolRefIdeal (hPoolRefIdeal := Cert.PoolRefIdeal.Gen.facts) := fun m g _ =>
  (θ_run Cert.PoolRefIdeal.defs _ _).mono (fun r h => ⟨fun c => (h c).2, Idealize.ShloMosaic.sem_eq_zero_of_no_sems (by decide) r.2⟩)
    (Cert.PoolRefIdeal.Value.run (F := Idealize.ShloMosaic.Ideal) m g)

/-- From the same arguments both leave the same array. -/
theorem agrees : Cert.algebraic_PoolIdeal_PoolRefIdeal (hPoolIdeal := Cert.PoolIdeal.Gen.facts) (hPoolRefIdeal := Cert.PoolRefIdeal.Gen.facts) := by
  intro m g m' g' _ hargs
  refine ⟨fun c => onto (fun _ _ => 0) (rows (m ((c : Thread nD τ).loc main_arg0))) (rows (m ((c : Thread nD τ).loc main_arg1))), ?_, ?_⟩
  · exact (θ_run defs _ _).mono (fun r h c => ⟨(h c).1.trans ((result_eq m c)), (h c).2⟩) (Value.run_blocks m g)
  · exact (θ_run _ _ _).mono (fun r h c => ⟨(h c).1.trans (by
      rw [(hargs c).1, (hargs c).2]; funext i
      rw [show i = ix2 (i 0) (i 1) from ValueIdx.eq_ix2 i]
      unfold onto entry rows
      pointwise [zero_add]), (h c).2⟩) (Cert.PoolRefIdeal.Value.run m' g')

end Cert.PoolIdeal.Prod

end
-- ==== Proof.Attn.lean ====
/- `Attn`: the tiled product and the plain one agree over the extended reals. -/
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Value
public import proofs.«01_k».proof.Proof.Gen.AttnRefIdeal
public import proofs.«01_k».proof.Proof.Gen.AttnRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.AttnIdeal.Prod

open Cert.AttnIdeal Cert.AttnIdeal.Gen

/-- The blocks that grid point `t` works on. -/
theorem idx : ∀ t : Fin cfg0.N, win0_0.index t = ![t.val / 1 / 1, t.val % 1] ∧ win0_1.index t = ![t.val % 1, t.val / 1 % 1] ∧ win0_2.index t = ![t.val / 1 / 1, t.val / 1 % 1] :=
  (by decide +kernel : ∀ t : Fin grid0.N, _)

/-- One step adds the product of its two tiles to the accumulator. -/
theorem pay_apply (x : Vec Ideal S1024x512 .f32) (a : Vec Ideal S1024x1024 .f32) (y : Vec Ideal S512x1024 .bf16) (r : Fin 1024) (s : Fin 1024) :
    k0_pay2 x a y (ix2 r s) = a (ix2 r s) + entry (rows x) (rows y) r s := by
  unfold k0_pay2 entry rows
  pointwise [shapeCast_self]

/-- The accumulator starts at zero. -/
theorem init_apply (r : Fin 1024) (s : Fin 1024) : k0_pay1 (F := Ideal) (ix2 r s) = 0 := by
  unfold k0_pay1
  pointwise [shapeCast_self]

variable (m : (ℓ : Loc nD τ sig) → Buf (Elt Ideal) ℓ) (ρ : Dev nD → PrngReg)

/-- The product: a row of the activations by a column of the weight. -/
theorem result_eq (c : Dev nD) : (dats m 0 c).arrAt 2 cfg0.N = onto (fun _ _ => 0) (rows (m ((c : Thread nD τ).loc main_arg0))) (rows (m ((c : Thread nD τ).loc main_arg1))) := by
  refine (dats m 0 c).arrAt_eq_of_covers 2 _ (by decide +kernel) fun t hf y => ?_
  have h1 : t.val % 1 = 0 := Nat.mod_one _
  have e := idx t
  have hy0 : (y 0).val < 1024 := (y 0).isLt
  have hy1 : (y 1).val < 1024 := (y 1).isLt
  blk_simp
  rw [after0_2]
  refine Eq.trans ?_ ((entry_of_run (J := 1) (tm := 1024) (tk := 512) (tn := 1024) (nn := 1) (by decide) (fun n hn r s => rows (outsAt0 m c ⟨n, hn⟩) r s)
    (fun _ _ _ => 0) (fun t => rows (iblk m c 0 t)) (fun t => rows (iblk m c 1 t)) (fun _ _ => 0) (rows (m ((c : Thread nD τ).loc main_arg0))) (rows (m ((c : Thread nD τ).loc main_arg1)))
    (fun t _ r s => by unfold rows outsAt0 out0_A_2; frame_out; rw [pay_apply, init_apply]; rfl)
    (fun t h0 => absurd (Nat.mod_one _) h0)
    (fun t r s i j hi hj => by rfl)
    (fun t r k i l hi hl => by unfold rows; blk_ext [iblk, V, idx t] <;> omega)
    (fun t k s l j hl hj => by unfold rows; blk_ext [iblk, V, idx t] <;> omega)
    t h1 ⟨(y 0).val, hy0⟩ ⟨(y 1).val, hy1⟩ _ _ ?_ ?_))
  · unfold rows; exact congrArg _ (ValueIdx.eq_ix2 _)
  · show win0_2.index t (0 : Fin 2) * 1024 + 1 * (y 0).val = t.val / 1 / 1 * 1024 + (y 0).val
    rw [e.2.2]; show t.val / 1 / 1 * 1024 + 1 * (y 0).val = _; omega
  · show win0_2.index t (1 : Fin 2) * 1024 + 1 * (y 1).val = t.val / 1 % 1 * 1024 + (y 1).val
    rw [e.2.2]; show t.val / 1 % 1 * 1024 + 1 * (y 1).val = _; omega

/-- The call runs and leaves its arguments and the counters as it found them, on the machine's floats … -/
theorem frame_bits : Cert.quiescent_Attn (hAttn := Cert.Attn.Gen.facts) := fun m g _ => Cert.Attn.Gen.frame (F := Bits) m g
/-- … and over the extended reals; -/
theorem frame_ideal : Cert.quiescent_AttnIdeal (hAttnIdeal := Cert.AttnIdeal.Gen.facts) := fun m g _ => frame (F := Idealize.ShloMosaic.Ideal) m g
/-- the plain program too. -/
theorem frame_reference : Cert.quiescent_AttnRefIdeal (hAttnRefIdeal := Cert.AttnRefIdeal.Gen.facts) := fun m g _ =>
  (θ_run Cert.AttnRefIdeal.defs _ _).mono (fun r h => ⟨fun c => (h c).2, Idealize.ShloMosaic.sem_eq_zero_of_no_sems (by decide) r.2⟩)
    (Cert.AttnRefIdeal.Value.run (F := Idealize.ShloMosaic.Ideal) m g)

/-- From the same arguments both leave the same array. -/
theorem agrees : Cert.algebraic_AttnIdeal_AttnRefIdeal (hAttnIdeal := Cert.AttnIdeal.Gen.facts) (hAttnRefIdeal := Cert.AttnRefIdeal.Gen.facts) := by
  intro m g m' g' _ hargs
  refine ⟨fun c => onto (fun _ _ => 0) (rows (m ((c : Thread nD τ).loc main_arg0))) (rows (m ((c : Thread nD τ).loc main_arg1))), ?_, ?_⟩
  · exact (θ_run defs _ _).mono (fun r h c => ⟨(h c).1.trans ((result_eq m c)), (h c).2⟩) (Value.run_blocks m g)
  · exact (θ_run _ _ _).mono (fun r h c => ⟨(h c).1.trans (by
      rw [(hargs c).1, (hargs c).2]; funext i
      rw [show i = ix2 (i 0) (i 1) from ValueIdx.eq_ix2 i]
      unfold onto entry rows
      pointwise [zero_add]), (h c).2⟩) (Cert.AttnRefIdeal.Value.run m' g')

end Cert.AttnIdeal.Prod

end
-- ==== Proof.Out.lean ====
/- `Out`: the tiled product and the plain one agree over the extended reals. -/
module

public import proofs.«01_k».proof.Defs
public import proofs.«01_k».proof.Proof.Gen.Out
public import proofs.«01_k».proof.Proof.Gen.Out.Frame
public import proofs.«01_k».proof.Proof.Gen.OutIdeal
public import proofs.«01_k».proof.Proof.Gen.OutIdeal.Value
public import proofs.«01_k».proof.Proof.Gen.OutRefIdeal
public import proofs.«01_k».proof.Proof.Gen.OutRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.OutIdeal.Prod

open Cert.OutIdeal Cert.OutIdeal.Gen

/-- The blocks that grid point `t` works on. -/
theorem idx : ∀ t : Fin cfg0.N, win0_0.index t = ![t.val / 1 / 1, t.val % 1] ∧ win0_1.index t = ![t.val % 1, t.val / 1 % 1] ∧ win0_2.index t = ![t.val / 1 / 1, t.val / 1 % 1] ∧ win0_3.index t = ![t.val / 1 / 1, t.val / 1 % 1] :=
  (by decide +kernel : ∀ t : Fin grid0.N, _)

/-- One step adds the product of its two tiles to the accumulator. -/
theorem pay_apply (x : Vec Ideal S1024x1024 .bf16) (a : Vec Ideal S1024x1024 .f32) (y : Vec Ideal S1024x1024 .bf16) (r : Fin 1024) (s : Fin 1024) :
    k0_pay2 x a y (ix2 r s) = a (ix2 r s) + entry (rows x) (rows y) r s := by
  unfold k0_pay2 entry rows
  pointwise [shapeCast_self]

/-- The accumulator starts at the tile handed in. -/
theorem init_apply (h : Vec Ideal S1024x1024 .f32) (r : Fin 1024) (s : Fin 1024) : k0_pay1 h (ix2 r s) = rows h r s := by
  unfold k0_pay1 rows
  pointwise [shapeCast_self]

variable (m : (ℓ : Loc nD τ sig) → Buf (Elt Ideal) ℓ) (ρ : Dev nD → PrngReg)

/-- The product: a row of the activations by a column of the weight, on top of the array handed in. -/
theorem result_eq (c : Dev nD) : (dats m 0 c).arrAt 3 cfg0.N = onto (rows (m ((c : Thread nD τ).loc main_arg2))) (rows (m ((c : Thread nD τ).loc main_arg0))) (rows (m ((c : Thread nD τ).loc main_arg1))) := by
  refine (dats m 0 c).arrAt_eq_of_covers 3 _ (by decide +kernel) fun t hf y => ?_
  have h1 : t.val % 1 = 0 := Nat.mod_one _
  have e := idx t
  have hy0 : (y 0).val < 1024 := (y 0).isLt
  have hy1 : (y 1).val < 1024 := (y 1).isLt
  blk_simp
  rw [after0_3]
  refine Eq.trans ?_ ((entry_of_run (J := 1) (tm := 1024) (tk := 1024) (tn := 1024) (nn := 1) (by decide) (fun n hn r s => rows (outsAt0 m c ⟨n, hn⟩) r s)
    (fun t r s => rows (iblk m c 2 t) r s) (fun t => rows (iblk m c 0 t)) (fun t => rows (iblk m c 1 t)) (rows (m ((c : Thread nD τ).loc main_arg2))) (rows (m ((c : Thread nD τ).loc main_arg0))) (rows (m ((c : Thread nD τ).loc main_arg1)))
    (fun t _ r s => by unfold rows outsAt0 out0_A_3; frame_out; rw [pay_apply, init_apply]; rfl)
    (fun t h0 => absurd (Nat.mod_one _) h0)
    (fun t r s i j hi hj => by unfold rows; blk_ext [iblk, V, idx t] <;> omega)
    (fun t r k i l hi hl => by unfold rows; blk_ext [iblk, V, idx t] <;> omega)
    (fun t k s l j hl hj => by unfold rows; blk_ext [iblk, V, idx t] <;> omega)
    t h1 ⟨(y 0).val, hy0⟩ ⟨(y 1).val, hy1⟩ _ _ ?_ ?_))
  · unfold rows; exact congrArg _ (ValueIdx.eq_ix2 _)
  · show win0_3.index t (0 : Fin 2) * 1024 + 1 * (y 0).val = t.val / 1 / 1 * 1024 + (y 0).val
    rw [e.2.2.2]; show t.val / 1 / 1 * 1024 + 1 * (y 0).val = _; omega
  · show win0_3.index t (1 : Fin 2) * 1024 + 1 * (y 1).val = t.val / 1 % 1 * 1024 + (y 1).val
    rw [e.2.2.2]; show t.val / 1 % 1 * 1024 + 1 * (y 1).val = _; omega

/-- The call runs and leaves its arguments and the counters as it found them, on the machine's floats … -/
theorem frame_bits : Cert.quiescent_Out (hOut := Cert.Out.Gen.facts) := fun m g _ => Cert.Out.Gen.frame (F := Bits) m g
/-- … and over the extended reals; -/
theorem frame_ideal : Cert.quiescent_OutIdeal (hOutIdeal := Cert.OutIdeal.Gen.facts) := fun m g _ => frame (F := Idealize.ShloMosaic.Ideal) m g
/-- the plain program too. -/
theorem frame_reference : Cert.quiescent_OutRefIdeal (hOutRefIdeal := Cert.OutRefIdeal.Gen.facts) := fun m g _ =>
  (θ_run Cert.OutRefIdeal.defs _ _).mono (fun r h => ⟨fun c => (h c).2, Idealize.ShloMosaic.sem_eq_zero_of_no_sems (by decide) r.2⟩)
    (Cert.OutRefIdeal.Value.run (F := Idealize.ShloMosaic.Ideal) m g)

/-- From the same arguments both leave the same array. -/
theorem agrees : Cert.algebraic_OutIdeal_OutRefIdeal (hOutIdeal := Cert.OutIdeal.Gen.facts) (hOutRefIdeal := Cert.OutRefIdeal.Gen.facts) := by
  intro m g m' g' _ hargs
  refine ⟨fun c => onto (rows (m ((c : Thread nD τ).loc main_arg2))) (rows (m ((c : Thread nD τ).loc main_arg0))) (rows (m ((c : Thread nD τ).loc main_arg1))), ?_, ?_⟩
  · exact (θ_run defs _ _).mono (fun r h c => ⟨(h c).1.trans ((result_eq m c)), (h c).2⟩) (Value.run_blocks m g)
  · exact (θ_run _ _ _).mono (fun r h c => ⟨(h c).1.trans (by
      rw [(hargs c).1, (hargs c).2.1, (hargs c).2.2]; funext i
      rw [show i = ix2 (i 0) (i 1) from ValueIdx.eq_ix2 i]
      unfold onto entry rows
      pointwise), (h c).2⟩) (Cert.OutRefIdeal.Value.run m' g')

end Cert.OutIdeal.Prod

end
-- ==== Proof.Up.lean ====
/- `Up`: the tiled product and the plain one agree over the extended reals. -/
module

public import proofs.«01_k».proof.Defs
public import proofs.«01_k».proof.Proof.Gen.Up
public import proofs.«01_k».proof.Proof.Gen.Up.Frame
public import proofs.«01_k».proof.Proof.Gen.UpIdeal
public import proofs.«01_k».proof.Proof.Gen.UpIdeal.Value
public import proofs.«01_k».proof.Proof.Gen.UpRefIdeal
public import proofs.«01_k».proof.Proof.Gen.UpRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.UpIdeal.Prod

open Cert.UpIdeal Cert.UpIdeal.Gen

/-- The blocks that grid point `t` works on. -/
theorem idx : ∀ t : Fin cfg0.N, win0_0.index t = ![t.val / 1 / 4, t.val % 1] ∧ win0_1.index t = ![t.val % 1, t.val / 1 % 4] ∧ win0_2.index t = ![t.val / 1 / 4, t.val / 1 % 4] :=
  (by decide +kernel : ∀ t : Fin grid0.N, _)

/-- One step adds the product of its two tiles to the accumulator. -/
theorem pay_apply (x : Vec Ideal S1024x1024 .bf16) (a : Vec Ideal S1024x1408 .f32) (y : Vec Ideal S1024x1408 .bf16) (r : Fin 1024) (s : Fin 1408) :
    k0_pay2 x a y (ix2 r s) = a (ix2 r s) + entry (rows x) (rows y) r s := by
  unfold k0_pay2 entry rows
  pointwise [shapeCast_self]

/-- The accumulator starts at zero. -/
theorem init_apply (r : Fin 1024) (s : Fin 1408) : k0_pay1 (F := Ideal) (ix2 r s) = 0 := by
  unfold k0_pay1
  pointwise [shapeCast_self]

variable (m : (ℓ : Loc nD τ sig) → Buf (Elt Ideal) ℓ) (ρ : Dev nD → PrngReg)

/-- The product: a row of the activations by a column of the weight. -/
theorem result_eq (c : Dev nD) : (dats m 0 c).arrAt 2 cfg0.N = onto (fun _ _ => 0) (rows (m ((c : Thread nD τ).loc main_arg0))) (rows (m ((c : Thread nD τ).loc main_arg1))) := by
  refine (dats m 0 c).arrAt_eq_of_covers 2 _ (by decide +kernel) fun t hf y => ?_
  have h1 : t.val % 1 = 0 := Nat.mod_one _
  have e := idx t
  have hy0 : (y 0).val < 1024 := (y 0).isLt
  have hy1 : (y 1).val < 1408 := (y 1).isLt
  blk_simp
  rw [after0_2]
  refine Eq.trans ?_ ((entry_of_run (J := 1) (tm := 1024) (tk := 1024) (tn := 1408) (nn := 4) (by decide) (fun n hn r s => rows (outsAt0 m c ⟨n, hn⟩) r s)
    (fun _ _ _ => 0) (fun t => rows (iblk m c 0 t)) (fun t => rows (iblk m c 1 t)) (fun _ _ => 0) (rows (m ((c : Thread nD τ).loc main_arg0))) (rows (m ((c : Thread nD τ).loc main_arg1)))
    (fun t _ r s => by unfold rows outsAt0 out0_A_2; frame_out; rw [pay_apply, init_apply]; rfl)
    (fun t h0 => absurd (Nat.mod_one _) h0)
    (fun t r s i j hi hj => by rfl)
    (fun t r k i l hi hl => by unfold rows; blk_ext [iblk, V, idx t] <;> omega)
    (fun t k s l j hl hj => by unfold rows; blk_ext [iblk, V, idx t] <;> omega)
    t h1 ⟨(y 0).val, hy0⟩ ⟨(y 1).val, hy1⟩ _ _ ?_ ?_))
  · unfold rows; exact congrArg _ (ValueIdx.eq_ix2 _)
  · show win0_2.index t (0 : Fin 2) * 1024 + 1 * (y 0).val = t.val / 1 / 4 * 1024 + (y 0).val
    rw [e.2.2]; show t.val / 1 / 4 * 1024 + 1 * (y 0).val = _; omega
  · show win0_2.index t (1 : Fin 2) * 1408 + 1 * (y 1).val = t.val / 1 % 4 * 1408 + (y 1).val
    rw [e.2.2]; show t.val / 1 % 4 * 1408 + 1 * (y 1).val = _; omega

/-- The call runs and leaves its arguments and the counters as it found them, on the machine's floats … -/
theorem frame_bits : Cert.quiescent_Up (hUp := Cert.Up.Gen.facts) := fun m g _ => Cert.Up.Gen.frame (F := Bits) m g
/-- … and over the extended reals; -/
theorem frame_ideal : Cert.quiescent_UpIdeal (hUpIdeal := Cert.UpIdeal.Gen.facts) := fun m g _ => frame (F := Idealize.ShloMosaic.Ideal) m g
/-- the plain program too. -/
theorem frame_reference : Cert.quiescent_UpRefIdeal (hUpRefIdeal := Cert.UpRefIdeal.Gen.facts) := fun m g _ =>
  (θ_run Cert.UpRefIdeal.defs _ _).mono (fun r h => ⟨fun c => (h c).2, Idealize.ShloMosaic.sem_eq_zero_of_no_sems (by decide) r.2⟩)
    (Cert.UpRefIdeal.Value.run (F := Idealize.ShloMosaic.Ideal) m g)

/-- From the same arguments both leave the same array. -/
theorem agrees : Cert.algebraic_UpIdeal_UpRefIdeal (hUpIdeal := Cert.UpIdeal.Gen.facts) (hUpRefIdeal := Cert.UpRefIdeal.Gen.facts) := by
  intro m g m' g' _ hargs
  refine ⟨fun c => onto (fun _ _ => 0) (rows (m ((c : Thread nD τ).loc main_arg0))) (rows (m ((c : Thread nD τ).loc main_arg1))), ?_, ?_⟩
  · exact (θ_run defs _ _).mono (fun r h c => ⟨(h c).1.trans ((result_eq m c)), (h c).2⟩) (Value.run_blocks m g)
  · exact (θ_run _ _ _).mono (fun r h c => ⟨(h c).1.trans (by
      rw [(hargs c).1, (hargs c).2]; funext i
      rw [show i = ix2 (i 0) (i 1) from ValueIdx.eq_ix2 i]
      unfold onto entry rows
      pointwise [zero_add]), (h c).2⟩) (Cert.UpRefIdeal.Value.run m' g')

end Cert.UpIdeal.Prod

end
-- ==== Proof.Down.lean ====
/- `Down`: the tiled product and the plain one agree over the extended reals. -/
module

public import proofs.«01_k».proof.Defs
public import proofs.«01_k».proof.Proof.Gen.Down
public import proofs.«01_k».proof.Proof.Gen.Down.Frame
public import proofs.«01_k».proof.Proof.Gen.DownIdeal
public import proofs.«01_k».proof.Proof.Gen.DownIdeal.Value
public import proofs.«01_k».proof.Proof.Gen.DownRefIdeal
public import proofs.«01_k».proof.Proof.Gen.DownRefIdeal.Run
public import proofs.«01_k».proof.Proof.Product
public import Idealize.ShloMosaic.Lib.Tactic
public import Idealize.ShloMosaic.Lib.Quiescent

@[expose] public section

noncomputable section

open Idealize.ShloMosaic Idealize.ShloMosaic.TcCoe Idealize.SL.Sem Cert.Product
open scoped BigOperators

namespace Cert.DownIdeal.Prod

open Cert.DownIdeal Cert.DownIdeal.Gen

/-- The blocks that grid point `t` works on. -/
theorem idx : ∀ t : Fin cfg0.N, win0_0.index t = ![t.val / 2 / 1, t.val % 2] ∧ win0_1.index t = ![t.val % 2, t.val / 2 % 1] ∧ win0_2.index t = ![t.val / 2 / 1, t.val / 2 % 1] ∧ win0_3.index t = ![t.val / 2 / 1, t.val / 2 % 1] :=
  (by decide +kernel : ∀ t : Fin grid0.N, _)

/-- One step adds the product of its two tiles to the accumulator. -/
theorem pay_apply (x : Vec Ideal S1024x1408 .bf16) (a : Vec Ideal S1024x1024 .f32) (y : Vec Ideal S1408x1024 .bf16) (r : Fin 1024) (s : Fin 1024) :
    k0_pay2 x a y (ix2 r s) = a (ix2 r s) + entry (rows x) (rows y) r s := by
  unfold k0_pay2 entry rows
  pointwise [shapeCast_self]

/-- The accumulator starts at the tile handed in. -/
theorem init_apply (h : Vec Ideal S1024x1024 .f32) (r : Fin 1024) (s : Fin 1024) : k0_pay1 h (ix2 r s) = rows h r s := by
  unfold k0_pay1 rows
  pointwise [shapeCast_self]

variable (m : (ℓ : Loc nD τ sig) → Buf (Elt Ideal) ℓ) (ρ : Dev nD → PrngReg)

/-- The output tile is the accumulator of the last step. -/
theorem last_eq (c : Dev nD) (t : Fin cfg0.N) (h1 : t.val % 2 = 1) : (outsAt0 m c t.val t.isLt).1 = (outsAt0 m c t.val t.isLt).2 := by
  have h0 : ¬t.val % 2 = 0 := by omega
  rw [outsAt0_B m c t h0 h1]; dsimp only; unfold out0_B_3 sout0_B_0; frame_out

/-- The product: a row of the activations by a column of the weight, on top of the array handed in. -/
theorem result_eq (c : Dev nD) : (dats m 0 c).arrAt 3 cfg0.N = onto (rows (m ((c : Thread nD τ).loc main_arg2))) (rows (m ((c : Thread nD τ).loc main_arg0))) (rows (m ((c : Thread nD τ).loc main_arg1))) := by
  refine (dats m 0 c).arrAt_eq_of_covers 3 _ (by decide +kernel) fun t hf y => ?_
  have h1 : t.val % 2 = 1 := (flush0_3 t).mp hf
  have e := idx t
  have hy0 : (y 0).val < 1024 := (y 0).isLt
  have hy1 : (y 1).val < 1024 := (y 1).isLt
  blk_simp
  rw [after0_3]
  rw [last_eq m c t h1]
  refine Eq.trans ?_ ((entry_of_run (J := 2) (tm := 1024) (tk := 1408) (tn := 1024) (nn := 1) (by decide) (fun n hn r s => rows (outsAt0 m c n hn).2 r s)
    (fun t r s => rows (iblk m c 2 t) r s) (fun t => rows (iblk m c 0 t)) (fun t => rows (iblk m c 1 t)) (rows (m ((c : Thread nD τ).loc main_arg2))) (rows (m ((c : Thread nD τ).loc main_arg0))) (rows (m ((c : Thread nD τ).loc main_arg1)))
    (fun t h0 r s => by
      have h1 : ¬t.val % 2 = 1 := by omega
      unfold rows; rw [outsAt0_A m c t h0 h1]; dsimp only; unfold sout0_A_0; frame_out; rw [pay_apply, init_apply]; rfl)
    (fun t h0 r s => by
      unfold rows
      have h1 : t.val % 2 = 1 := by omega
      rw [outsAt0_B m c t h0 h1]; dsimp only; unfold sout0_B_0; frame_out; rw [pay_apply]; exact congrArg (· + _) (congrFun ((Memref.isWhole_whole cc0_scratch0).read_unread _) _))
    (fun t r s i j hi hj => by unfold rows; blk_ext [iblk, V, idx t] <;> omega)
    (fun t r k i l hi hl => by unfold rows; blk_ext [iblk, V, idx t] <;> omega)
    (fun t k s l j hl hj => by unfold rows; blk_ext [iblk, V, idx t] <;> omega)
    t h1 ⟨(y 0).val, hy0⟩ ⟨(y 1).val, hy1⟩ _ _ ?_ ?_))
  · unfold rows; exact congrArg _ (ValueIdx.eq_ix2 _)
  · show win0_3.index t (0 : Fin 2) * 1024 + 1 * (y 0).val = t.val / 2 / 1 * 1024 + (y 0).val
    rw [e.2.2.2]; show t.val / 2 / 1 * 1024 + 1 * (y 0).val = _; omega
  · show win0_3.index t (1 : Fin 2) * 1024 + 1 * (y 1).val = t.val / 2 % 1 * 1024 + (y 1).val
    rw [e.2.2.2]; show t.val / 2 % 1 * 1024 + 1 * (y 1).val = _; omega

/-- The call runs and leaves its arguments and the counters as it found them, on the machine's floats … -/
theorem frame_bits : Cert.quiescent_Down (hDown := Cert.Down.Gen.facts) := fun m g _ => Cert.Down.Gen.frame (F := Bits) m g
/-- … and over the extended reals; -/
theorem frame_ideal : Cert.quiescent_DownIdeal (hDownIdeal := Cert.DownIdeal.Gen.facts) := fun m g _ => frame (F := Idealize.ShloMosaic.Ideal) m g
/-- the plain program too. -/
theorem frame_reference : Cert.quiescent_DownRefIdeal (hDownRefIdeal := Cert.DownRefIdeal.Gen.facts) := fun m g _ =>
  (θ_run Cert.DownRefIdeal.defs _ _).mono (fun r h => ⟨fun c => (h c).2, Idealize.ShloMosaic.sem_eq_zero_of_no_sems (by decide) r.2⟩)
    (Cert.DownRefIdeal.Value.run (F := Idealize.ShloMosaic.Ideal) m g)

/-- From the same arguments both leave the same array. -/
theorem agrees : Cert.algebraic_DownIdeal_DownRefIdeal (hDownIdeal := Cert.DownIdeal.Gen.facts) (hDownRefIdeal := Cert.DownRefIdeal.Gen.facts) := by
  intro m g m' g' _ hargs
  refine ⟨fun c => onto (rows (m ((c : Thread nD τ).loc main_arg2))) (rows (m ((c : Thread nD τ).loc main_arg0))) (rows (m ((c : Thread nD τ).loc main_arg1))), ?_, ?_⟩
  · exact (θ_run defs _ _).mono (fun r h c => ⟨(h c).1.trans ((Value.final3 m c).symm.trans (result_eq m c)), (h c).2⟩) (Value.run m g)
  · exact (θ_run _ _ _).mono (fun r h c => ⟨(h c).1.trans (by
      rw [(hargs c).1, (hargs c).2.1, (hargs c).2.2]; funext i
      rw [show i = ix2 (i 0) (i 1) from ValueIdx.eq_ix2 i]
      unfold onto entry rows
      pointwise), (h c).2⟩) (Cert.DownRefIdeal.Value.run m' g')

end Cert.DownIdeal.Prod

end
-- ==== Proof.Gate.lean ====
/- The gate of the merge over the extended reals, and reading a tile of a buffer by rows and columns. -/
module

public import Idealize.ShloMosaic.Lib.Tactic
public import Idealize.ShloMosaic.Lib.WholeRead
public import Idealize.ShloMosaic.Lib.Pipeline.Value
public import Idealize.ShloMosaic.Lib.Pipeline.ValueKit.Geometry
public import Idealize.ShloMosaic.Lib.Pointwise

@[expose] public section

noncomputable section

open Idealize.ShloMosaic Idealize.ShloMosaic.TcCoe Idealize.SL.Sem

namespace Cert.Gate

/-- The sigmoid as the kernel computes it, through the hyperbolic tangent. -/
def gate (g : EReal) : EReal :=
  Ideal.ofBits .f32 0x3F000000#32 * Ideal.tanh (Ideal.ofBits .f32 0x3F000000#32 * g) + Ideal.ofBits .f32 0x3F000000#32

theorem half_eq : Ideal.ofBits .f32 0x3F000000#32 = ((1 / 2 : ℝ) : EReal) := by
  simp [Ideal.ofBits, Ideal.ieee, -EReal.coe_mul]; norm_num

/-- It is the sigmoid, at every extended real. -/
theorem gate_eq (g : EReal) : gate g = Ideal.logistic g := by
  unfold gate
  rw [half_eq]
  induction g with
  | bot =>
    rw [EReal.coe_mul_bot_of_pos (by norm_num), Ideal.tanh_bot, Ideal.logistic_bot, mul_neg, mul_one]
    rw [← EReal.coe_neg, ← EReal.coe_add]; norm_num
  | top =>
    rw [EReal.coe_mul_top_of_pos (by norm_num), Ideal.tanh_top, Ideal.logistic_top, mul_one]
    rw [← EReal.coe_add]; norm_num
  | coe r =>
    rw [← EReal.coe_mul, Ideal.tanh_coe, Ideal.logistic_coe, ← EReal.coe_mul, ← EReal.coe_add]
    congr 1
    have h : Real.exp (-r) = Real.exp (-(1 / 2 * r)) * Real.exp (-(1 / 2 * r)) := by rw [← Real.exp_add]; congr 1; ring
    have e : Real.exp (1 / 2 * r) * Real.exp (-(1 / 2 * r)) = 1 := by rw [← Real.exp_add]; simp
    have p := Real.exp_pos (1 / 2 * r)
    have q := Real.exp_pos (-(1 / 2 * r))
    rw [Real.tanh_eq_sinh_div_cosh, Real.sinh_eq, Real.cosh_eq, h]
    generalize Real.exp (1 / 2 * r) = u at *
    generalize Real.exp (-(1 / 2 * r)) = v at *
    have w : u = v⁻¹ := eq_inv_of_mul_eq_one_left e
    subst w
    field_simp
    ring

variable {R C : ℕ}

/-- The entry in row `r` and column `s` of an array of extended reals, both natural numbers (zero outside). -/
def cell (X : (⟨2, ![R, C]⟩ : Shape).Idx → EReal) (r s : ℕ) : EReal :=
  if h : r < R ∧ s < C then X (ix2 ⟨r, h.1⟩ ⟨s, h.2⟩) else 0

theorem cell_eq (X : (⟨2, ![R, C]⟩ : Shape).Idx → EReal) (i : (⟨2, ![R, C]⟩ : Shape).Idx) (r s : ℕ) (hr : (i 0).val = r) (hs : (i 1).val = s) :
    X i = cell X r s := by
  subst hr hs
  unfold cell
  rw [dif_pos ⟨(i 0).isLt, (i 1).isLt⟩]
  exact congrArg X (ValueIdx.eq_ix2 i)

theorem cell_of_lt (X : (⟨2, ![R, C]⟩ : Shape).Idx → EReal) {r s : ℕ} (hr : r < R) (hs : s < C) : cell X r s = X (ix2 ⟨r, hr⟩ ⟨s, hs⟩) :=
  dif_pos ⟨hr, hs⟩

/-- A block of rows reads the array's rows from the block's first one on. -/
theorem cell_block {B : ℕ} {X : (⟨2, ![B, C]⟩ : Shape).Idx → EReal} {Y : (⟨2, ![R, C]⟩ : Shape).Idx → EReal} {o : ℕ} (hB : o + B ≤ R)
    (h : ∀ (r : Fin B) (s : Fin C) (i : Fin R), i.val = o + r.val → X (ix2 r s) = Y (ix2 i s)) {r s : ℕ} (hr : r < B) : cell X r s = cell Y (o + r) s := by
  unfold cell
  by_cases hs : s < C
  · rw [dif_pos ⟨hr, hs⟩, dif_pos ⟨by omega, hs⟩]; exact h _ _ _ rfl
  · rw [dif_neg (fun h => hs h.2), dif_neg (fun h => hs h.2)]

/-- A load of a rectangle of a whole buffer reads the entry at the rectangle's corner plus the index. -/
theorem load_apply {sig : RefSig} {κ : Kind} {sp : Space} {m : Memref sig κ sp ⟨2, ![R, C]⟩ .f32} (h : m.IsWhole)
    (X : Vec Ideal ⟨2, ![R, C]⟩ .f32) {off size : Fin 2 → ℕ} (inb) (x : (Rect.unit (s := ⟨2, ![R, C]⟩) off size inb).toLoadRect.shape.Idx) :
    View.readAt (Elt Ideal) m.view (Rect.unit off size inb).toLoadRect (h.unread X) x = cell X (off 0 + (x 0).val) (off 1 + (x 1).val) := by
  rw [h.readAt_unread]
  exact cell_eq X _ _ _ (by show off 0 + 1 * (x 0).val = _; omega) (by show off 1 + 1 * (x 1).val = _; omega)

/-- What holds of every piece of every trip of a loop holds of all the pieces of its first trips. -/
theorem forall_pieces {α : Type*} {P : α → Prop} {n : ℕ} (L : ℕ → List α) (T : Fin n → List α) (h0 : L 0 = [])
    (hs : ∀ k : Fin n, L (k.val + 1) = T k ++ L k.val) (hT : ∀ k, ∀ p ∈ T k, P p) : ∀ k, k ≤ n → ∀ p ∈ L k, P p
  | 0, _, p, hp => absurd (h0 ▸ hp) List.not_mem_nil
  | k + 1, hk, p, hp => by
    rw [hs ⟨k, hk⟩] at hp
    rcases List.mem_append.mp hp with h | h
    · exact hT _ p h
    · exact forall_pieces L T h0 hs hT k (Nat.le_of_succ_le hk) p h

end Cert.Gate

end
-- ==== Proof.MergeBwd.lean ====
/- `MergeBwd`: the gradients of the gated sum, tile by tile and as a whole. -/
module

public import proofs.«01_k».proof.Defs
public import proofs.«01_k».proof.Proof.Gen.MergeBwd
public import proofs.«01_k».proof.Proof.Gen.MergeBwd.Frame
public import proofs.«01_k».proof.Proof.Gen.MergeBwdIdeal
public import proofs.«01_k».proof.Proof.Gen.MergeBwdIdeal.Value
public import proofs.«01_k».proof.Proof.Gen.MergeBwdRefIdeal
public import proofs.«01_k».proof.Proof.Gen.MergeBwdRefIdeal.Run
public import proofs.«01_k».proof.Proof.Gate
public import Idealize.ShloMosaic.Lib.Tactic
public import Idealize.ShloMosaic.Lib.Quiescent

@[expose] public section

noncomputable section

open Idealize.ShloMosaic Idealize.ShloMosaic.TcCoe Idealize.SL.Sem Cert.Gate
open scoped BigOperators

namespace Cert.Gate

variable {R : ℕ} (g : (⟨2, ![R, 3072]⟩ : Shape).Idx → EReal) (p a q d : (⟨2, ![R, 1024]⟩ : Shape).Idx → EReal)

/-- The gradient of mixer `b`'s output: its gate times the gradient of the sum. -/
def scaled (b r s : ℕ) : EReal := gate (cell g r (1024 * b + s)) * cell d r s

/-- The outputs of the three mixers, by number. -/
def mixer : ℕ → (⟨2, ![R, 1024]⟩ : Shape).Idx → EReal
  | 0 => p
  | 1 => a
  | _ => q

/-- The gradient of the gate in column `j`: the gradient of the sum, times the output gated, times the sigmoid's slope. -/
def gateGrad (r j : ℕ) : EReal :=
  cell d r (j % 1024) * cell (mixer p a q (j / 1024)) r (j % 1024) * gate (cell g r j) * (Ideal.ofBits .f32 0x3F800000#32 - gate (cell g r j))

theorem scaled_of {b r s j r' s' : ℕ} (hj : j = 1024 * b + s) (hr : r = r') (hs : s = s') : gate (cell g r j) * cell d r s = scaled g d b r' s' := by
  subst hj hr hs; rfl

theorem gateGrad_of (b : ℕ) {r s j r' j' : ℕ} (hs : s < 1024) (hj : j = 1024 * b + s) (hr : r = r') (hj' : j = j') :
    cell d r s * cell (mixer p a q b) r s * gate (cell g r j) * (Ideal.ofBits .f32 0x3F800000#32 - gate (cell g r j)) = gateGrad g p a q d r' j' := by
  subst hr hj'
  unfold gateGrad
  rw [show j / 1024 = b by omega, show j % 1024 = s by omega]

/-- The same with the array read at an index, and the slope as the sigmoid's. -/
theorem gateGrad_at (i : (⟨2, ![R, 3072]⟩ : Shape).Idx) (b : ℕ) (h : (i 1).val / 1024 = b) (k : Fin 1024) (hk : k.val = (i 1).val % 1024) :
    gateGrad g p a q d (i 0).val (i 1).val = d (ix2 (i 0) k) * mixer p a q b (ix2 (i 0) k) * (Ideal.logistic (g i) * (1 - Ideal.logistic (g i))) := by
  unfold gateGrad
  rw [h, ← hk, ← cell_eq g i _ _ rfl rfl, cell_of_lt d (i 0).isLt k.isLt, cell_of_lt (mixer p a q b) (i 0).isLt k.isLt, gate_eq, Ideal.ofBits_one_f32, mul_assoc]
  rfl

/-- A sum of three terms of which exactly one is there. -/
theorem one_of_three {c2 c1 c0 : Prop} [Decidable c2] [Decidable c1] [Decidable c0] {A : c2 → EReal} {B : c1 → EReal} {C : c0 → EReal} {v w : EReal}
    (hc : c2 ∨ c1 ∨ c0) (h2 : ∀ h : c2, ¬c1 ∧ ¬c0 ∧ A h * v = w) (h1 : ∀ h : c1, ¬c2 ∧ ¬c0 ∧ B h * v = w) (h0 : ∀ h : c0, ¬c2 ∧ ¬c1 ∧ C h * v = w) :
    ((if h : c2 then A h else 0) + (if h : c1 then B h else 0) + (if h : c0 then C h else 0)) * v = w := by
  rcases hc with h | h | h
  · rw [dif_pos h, dif_neg (h2 h).1, dif_neg (h2 h).2.1, add_zero, add_zero, (h2 h).2.2]
  · rw [dif_neg (h1 h).1, dif_pos h, dif_neg (h1 h).2.1, add_zero, zero_add, (h1 h).2.2]
  · rw [dif_neg (h0 h).1, dif_neg (h0 h).2.1, dif_pos h, add_zero, zero_add, (h0 h).2.2]

end Cert.Gate

namespace Cert.MergeBwdRefIdeal.Gates

open Cert.MergeBwdRefIdeal Cert.MergeBwdRefIdeal.Gen

/-- The plain program's gradient of the gates: each of its three padded products fills one block of columns. -/
theorem gateGrad_eq (X0 : Vec Ideal S8192x3072 .f32) (X1 X2 X3 X4 : Vec Ideal S8192x1024 .f32) :
    truncf (F := Ideal) .bf16 (mulf (shapeCast S8192x3072 (addf (addf (pad S8192x3x1024 ![0, 2, 0] ![0, 0, 0] ![0, 0, 0] (broadcastInDim S8192x1x1024 ![0, 2] bcast_S8192x1024_S8192x1x1024_0_2 (mulf (shapeCast S8192x1024 X4 shapeCasts_S8192x1024_S8192x1024) X3)) (constant S_ .f32 0x00000000#32) pads_S8192x1x1024_S8192x3x1024_000_200_000 h_S_) (pad S8192x3x1024 ![0, 1, 0] ![0, 1, 0] ![0, 0, 0] (broadcastInDim S8192x1x1024 ![0, 2] bcast_S8192x1024_S8192x1x1024_0_2 (mulf (shapeCast S8192x1024 X4 shapeCasts_S8192x1024_S8192x1024) X2)) (constant S_ .f32 0x00000000#32) pads_S8192x1x1024_S8192x3x1024_000_110_000 h_S_)) (pad S8192x3x1024 ![0, 0, 0] ![0, 2, 0] ![0, 0, 0] (broadcastInDim S8192x1x1024 ![0, 2] bcast_S8192x1024_S8192x1x1024_0_2 (mulf (shapeCast S8192x1024 X4 shapeCasts_S8192x1024_S8192x1024) X1)) (constant S_ .f32 0x00000000#32) pads_S8192x1x1024_S8192x3x1024_000_020_000 h_S_)) shapeCasts_S8192x3x1024_S8192x3072) (mulf (Host.divf (broadcastInDim S8192x3072 ![] bcast_S_S8192x3072 (constant S_ .f32 0x3F800000#32)) (addf (broadcastInDim S8192x3072 ![] bcast_S_S8192x3072 (constant S_ .f32 0x3F800000#32)) (Host.exp (Host.negf X0)))) (subf (broadcastInDim S8192x3072 ![] bcast_S_S8192x3072 (constant S_ .f32 0x3F800000#32)) (Host.divf (broadcastInDim S8192x3072 ![] bcast_S_S8192x3072 (constant S_ .f32 0x3F800000#32)) (addf (broadcastInDim S8192x3072 ![] bcast_S_S8192x3072 (constant S_ .f32 0x3F800000#32)) (Host.exp (Host.negf X0))))))) bitsLt_bf16_f32
      = (fun i => gateGrad X0 X1 X2 X3 X4 (i 0).val (i 1).val : Vec Ideal S8192x3072 .bf16) := by
  funext i
  pointwise
  have h1 : (i 1).val < 3072 := (i 1).isLt
  have hs : (i 1).val % 1024 < 1024 := Nat.mod_lt _ (by decide)
  refine one_of_three (by omega) (fun h => ⟨by omega, by omega, ?_⟩) (fun h => ⟨by omega, by omega, ?_⟩) (fun h => ⟨by omega, by omega, ?_⟩)
  · exact (gateGrad_at X0 X1 X2 X3 X4 i 2 (by omega) ⟨_, hs⟩ rfl).symm
  · exact (gateGrad_at X0 X1 X2 X3 X4 i 1 (by omega) ⟨_, hs⟩ rfl).symm
  · exact (gateGrad_at X0 X1 X2 X3 X4 i 0 (by omega) ⟨_, hs⟩ rfl).symm

end Cert.MergeBwdRefIdeal.Gates

namespace Cert.MergeBwdIdeal.Gates

open Cert.MergeBwdIdeal Cert.MergeBwdIdeal.Gen

variable (m : (ℓ : Loc nD τ sig) → Buf (Elt Ideal) ℓ) (ρ : Dev nD → PrngReg)

section Point

variable (𝒱 : Variants) (c : Dev nD) (bd : Option 𝒱.V) (i : grid0.Coords) (arg1 : Memref sig .tc .vmem S256x3072 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x3072 .bf16) (harg9 : arg9.IsWhole)
  (x0 : Vec Ideal S256x3072 .f32) (x1 x2 x3 x4 : Vec Ideal S256x1024 .f32)

theorem trip_pieces (v58 v100 : Vec Ideal S32x512 .f32) (w : EReal) (k : Fin k0_t1_loop.trips) :
    (∀ p ∈ (tripL_k0_t1 (F := Ideal) 𝒱 c bd i arg1 harg1 arg2 harg2 arg3 harg3 arg4 harg4 arg5 harg5 arg6 harg6 arg7 harg7 arg8 harg8 arg9 harg9 v58 v100 w (harg1.unread x0) (harg2.unread x1) (harg3.unread x2) (harg4.unread x3) (harg5.unread x4) k).1, ∀ x, p.2 x = scaled x0 x4 0 (p.1.emb x 0).val (p.1.emb x 1).val)
    ∧ (∀ p ∈ (tripL_k0_t1 (F := Ideal) 𝒱 c bd i arg1 harg1 arg2 harg2 arg3 harg3 arg4 harg4 arg5 harg5 arg6 harg6 arg7 harg7 arg8 harg8 arg9 harg9 v58 v100 w (harg1.unread x0) (harg2.unread x1) (harg3.unread x2) (harg4.unread x3) (harg5.unread x4) k).2.1, ∀ x, p.2 x = scaled x0 x4 1 (p.1.emb x 0).val (p.1.emb x 1).val)
    ∧ (∀ p ∈ (tripL_k0_t1 (F := Ideal) 𝒱 c bd i arg1 harg1 arg2 harg2 arg3 harg3 arg4 harg4 arg5 harg5 arg6 harg6 arg7 harg7 arg8 harg8 arg9 harg9 v58 v100 w (harg1.unread x0) (harg2.unread x1) (harg3.unread x2) (harg4.unread x3) (harg5.unread x4) k).2.2.1, ∀ x, p.2 x = scaled x0 x4 2 (p.1.emb x 0).val (p.1.emb x 1).val)
    ∧ ∀ p ∈ (tripL_k0_t1 (F := Ideal) 𝒱 c bd i arg1 harg1 arg2 harg2 arg3 harg3 arg4 harg4 arg5 harg5 arg6 harg6 arg7 harg7 arg8 harg8 arg9 harg9 v58 v100 w (harg1.unread x0) (harg2.unread x1) (harg3.unread x2) (harg4.unread x3) (harg5.unread x4) k).2.2.2, ∀ x, p.2 x = gateGrad x0 x1 x2 x3 x4 (p.1.emb x 0).val (p.1.emb x 1).val := by
  unfold tripL_k0_t1 trip_k0_t1
  dsimp only
  sl_unfold_run_names
  refine ⟨List.forall_mem_cons.mpr ⟨fun x => ?_, List.forall_mem_cons.mpr ⟨fun x => ?_, fun _ h => absurd h List.not_mem_nil⟩⟩,
    List.forall_mem_cons.mpr ⟨fun x => ?_, List.forall_mem_cons.mpr ⟨fun x => ?_, fun _ h => absurd h List.not_mem_nil⟩⟩,
    List.forall_mem_cons.mpr ⟨fun x => ?_, List.forall_mem_cons.mpr ⟨fun x => ?_, fun _ h => absurd h List.not_mem_nil⟩⟩,
    List.forall_mem_cons.mpr ⟨fun x => ?_, List.forall_mem_cons.mpr ⟨fun x => ?_, List.forall_mem_cons.mpr ⟨fun x => ?_, List.forall_mem_cons.mpr ⟨fun x => ?_,
      List.forall_mem_cons.mpr ⟨fun x => ?_, List.forall_mem_cons.mpr ⟨fun x => ?_, fun _ h => absurd h List.not_mem_nil⟩⟩⟩⟩⟩⟩⟩
  iterate 6
    · have hx : (x 1).val < 512 := (x 1).isLt
      rw [ValueKit.rect_emb_unit_val, ValueKit.rect_emb_unit_val]
      change gate _ * _ = scaled x0 x4 _ _ _
      rw [load_apply, load_apply]
      simp only [k0_off1_eq, k0_off2_eq, k0_off3_eq, k0_off4_eq, k0_off5_eq, k0_off6_eq, k0_off7_eq, k0_off8_eq, Matrix.cons_val_zero, Matrix.cons_val_one, zero_add]
      exact scaled_of _ _ (by omega) rfl rfl
  iterate 6
    · have hx : (x 1).val < 512 := (x 1).isLt
      rw [ValueKit.rect_emb_unit_val, ValueKit.rect_emb_unit_val]
      change _ * _ * gate _ * (_ - gate _) = gateGrad x0 x1 x2 x3 x4 _ _
      rw [load_apply, load_apply, load_apply]
      simp only [k0_off1_eq, k0_off2_eq, k0_off3_eq, k0_off4_eq, k0_off5_eq, k0_off6_eq, k0_off7_eq, k0_off8_eq, Matrix.cons_val_zero, Matrix.cons_val_one, zero_add]
      first
        | exact gateGrad_of x0 x1 x2 x3 x4 0 (by omega) (by omega) rfl rfl
        | exact gateGrad_of x0 x1 x2 x3 x4 1 (by omega) (by omega) rfl rfl
        | exact gateGrad_of x0 x1 x2 x3 x4 2 (by omega) (by omega) rfl rfl

/-- What a trip leaves in each output, all the trips leave. -/
theorem loop_pieces (v58 v100 : Vec Ideal S32x512 .f32) (w : EReal) :
    (∀ p ∈ (pb_k0_t1 (F := Ideal) 𝒱 c bd i arg1 harg1 arg2 harg2 arg3 harg3 arg4 harg4 arg5 harg5 arg6 harg6 arg7 harg7 arg8 harg8 arg9 harg9 v58 v100 w (harg1.unread x0) (harg2.unread x1) (harg3.unread x2) (harg4.unread x3) (harg5.unread x4) k0_t1_loop.trips).1, ∀ x, p.2 x = scaled x0 x4 0 (p.1.emb x 0).val (p.1.emb x 1).val)
    ∧ (∀ p ∈ (pb_k0_t1 (F := Ideal) 𝒱 c bd i arg1 harg1 arg2 harg2 arg3 harg3 arg4 harg4 arg5 harg5 arg6 harg6 arg7 harg7 arg8 harg8 arg9 harg9 v58 v100 w (harg1.unread x0) (harg2.unread x1) (harg3.unread x2) (harg4.unread x3) (harg5.unread x4) k0_t1_loop.trips).2.1, ∀ x, p.2 x = scaled x0 x4 1 (p.1.emb x 0).val (p.1.emb x 1).val)
    ∧ (∀ p ∈ (pb_k0_t1 (F := Ideal) 𝒱 c bd i arg1 harg1 arg2 harg2 arg3 harg3 arg4 harg4 arg5 harg5 arg6 harg6 arg7 harg7 arg8 harg8 arg9 harg9 v58 v100 w (harg1.unread x0) (harg2.unread x1) (harg3.unread x2) (harg4.unread x3) (harg5.unread x4) k0_t1_loop.trips).2.2.1, ∀ x, p.2 x = scaled x0 x4 2 (p.1.emb x 0).val (p.1.emb x 1).val)
    ∧ ∀ p ∈ (pb_k0_t1 (F := Ideal) 𝒱 c bd i arg1 harg1 arg2 harg2 arg3 harg3 arg4 harg4 arg5 harg5 arg6 harg6 arg7 harg7 arg8 harg8 arg9 harg9 v58 v100 w (harg1.unread x0) (harg2.unread x1) (harg3.unread x2) (harg4.unread x3) (harg5.unread x4) k0_t1_loop.trips).2.2.2, ∀ x, p.2 x = gateGrad x0 x1 x2 x3 x4 (p.1.emb x 0).val (p.1.emb x 1).val := by
  have h0 := pb_k0_t1.eq_1 (F := Ideal) 𝒱 c bd i arg1 harg1 arg2 harg2 arg3 harg3 arg4 harg4 arg5 harg5 arg6 harg6 arg7 harg7 arg8 harg8 arg9 harg9 v58 v100 w (harg1.unread x0) (harg2.unread x1) (harg3.unread x2) (harg4.unread x3) (harg5.unread x4)
  have hs := pb_k0_t1_succ (F := Ideal) 𝒱 c bd i arg1 harg1 arg2 harg2 arg3 harg3 arg4 harg4 arg5 harg5 arg6 harg6 arg7 harg7 arg8 harg8 arg9 harg9 v58 v100 w (harg1.unread x0) (harg2.unread x1) (harg3.unread x2) (harg4.unread x3) (harg5.unread x4)
  have ht := trip_pieces 𝒱 c bd i arg1 harg1 arg2 harg2 arg3 harg3 arg4 harg4 arg5 harg5 arg6 harg6 arg7 harg7 arg8 harg8 arg9 harg9 x0 x1 x2 x3 x4 v58 v100 w
  exact ⟨forall_pieces (fun k => (pb_k0_t1 (F := Ideal) 𝒱 c bd i arg1 harg1 arg2 harg2 arg3 harg3 arg4 harg4 arg5 harg5 arg6 harg6 arg7 harg7 arg8 harg8 arg9 harg9 v58 v100 w (harg1.unread x0) (harg2.unread x1) (harg3.unread x2) (harg4.unread x3) (harg5.unread x4) k).1) _ (congrArg (·.1) h0) (fun k => congrArg (·.1) (hs k)) (fun k => (ht k).1) _ le_rfl,
    forall_pieces (fun k => (pb_k0_t1 (F := Ideal) 𝒱 c bd i arg1 harg1 arg2 harg2 arg3 harg3 arg4 harg4 arg5 harg5 arg6 harg6 arg7 harg7 arg8 harg8 arg9 harg9 v58 v100 w (harg1.unread x0) (harg2.unread x1) (harg3.unread x2) (harg4.unread x3) (harg5.unread x4) k).2.1) _ (congrArg (·.2.1) h0) (fun k => congrArg (·.2.1) (hs k)) (fun k => (ht k).2.1) _ le_rfl,
    forall_pieces (fun k => (pb_k0_t1 (F := Ideal) 𝒱 c bd i arg1 harg1 arg2 harg2 arg3 harg3 arg4 harg4 arg5 harg5 arg6 harg6 arg7 harg7 arg8 harg8 arg9 harg9 v58 v100 w (harg1.unread x0) (harg2.unread x1) (harg3.unread x2) (harg4.unread x3) (harg5.unread x4) k).2.2.1) _ (congrArg (·.2.2.1) h0) (fun k => congrArg (·.2.2.1) (hs k)) (fun k => (ht k).2.2.1) _ le_rfl,
    forall_pieces (fun k => (pb_k0_t1 (F := Ideal) 𝒱 c bd i arg1 harg1 arg2 harg2 arg3 harg3 arg4 harg4 arg5 harg5 arg6 harg6 arg7 harg7 arg8 harg8 arg9 harg9 v58 v100 w (harg1.unread x0) (harg2.unread x1) (harg3.unread x2) (harg4.unread x3) (harg5.unread x4) k).2.2.2) _ (congrArg (·.2.2.2) h0) (fun k => congrArg (·.2.2.2) (hs k)) (fun k => (ht k).2.2.2) _ le_rfl⟩

/-- … and so do all the stores of a grid point. -/
theorem run_pieces :
    (∀ p ∈ (kernelRun0_A (F := Ideal) c i arg1 harg1 arg2 harg2 arg3 harg3 arg4 harg4 arg5 harg5 arg6 harg6 arg7 harg7 arg8 harg8 arg9 harg9 x0 x1 x2 x3 x4).1, ∀ x, p.2 x = scaled x0 x4 0 (p.1.emb x 0).val (p.1.emb x 1).val)
    ∧ (∀ p ∈ (kernelRun0_A (F := Ideal) c i arg1 harg1 arg2 harg2 arg3 harg3 arg4 harg4 arg5 harg5 arg6 harg6 arg7 harg7 arg8 harg8 arg9 harg9 x0 x1 x2 x3 x4).2.1, ∀ x, p.2 x = scaled x0 x4 1 (p.1.emb x 0).val (p.1.emb x 1).val)
    ∧ (∀ p ∈ (kernelRun0_A (F := Ideal) c i arg1 harg1 arg2 harg2 arg3 harg3 arg4 harg4 arg5 harg5 arg6 harg6 arg7 harg7 arg8 harg8 arg9 harg9 x0 x1 x2 x3 x4).2.2.1, ∀ x, p.2 x = scaled x0 x4 2 (p.1.emb x 0).val (p.1.emb x 1).val)
    ∧ ∀ p ∈ (kernelRun0_A (F := Ideal) c i arg1 harg1 arg2 harg2 arg3 harg3 arg4 harg4 arg5 harg5 arg6 harg6 arg7 harg7 arg8 harg8 arg9 harg9 x0 x1 x2 x3 x4).2.2.2.1, ∀ x, p.2 x = gateGrad x0 x1 x2 x3 x4 (p.1.emb x 0).val (p.1.emb x 1).val := by
  unfold kernelRun0_A
  dsimp only
  sl_unfold_run_names
  refine ⟨List.forall_mem_cons.mpr ⟨fun x => ?_, List.forall_mem_cons.mpr ⟨fun x => ?_, List.forall_mem_append.mpr ⟨(loop_pieces _ _ _ _ _ _ _ _ _ _ _ _ _ _ _ _ _ _ _ _ _ _ _ _ _ _ _ _ _ _).1, List.forall_mem_cons.mpr ⟨fun x => ?_, List.forall_mem_cons.mpr ⟨fun x => ?_, fun _ h => absurd h List.not_mem_nil⟩⟩⟩⟩⟩,
    List.forall_mem_cons.mpr ⟨fun x => ?_, List.forall_mem_cons.mpr ⟨fun x => ?_, List.forall_mem_append.mpr ⟨(loop_pieces _ _ _ _ _ _ _ _ _ _ _ _ _ _ _ _ _ _ _ _ _ _ _ _ _ _ _ _ _ _).2.1, List.forall_mem_cons.mpr ⟨fun x => ?_, List.forall_mem_cons.mpr ⟨fun x => ?_, fun _ h => absurd h List.not_mem_nil⟩⟩⟩⟩⟩,
    List.forall_mem_cons.mpr ⟨fun x => ?_, List.forall_mem_cons.mpr ⟨fun x => ?_, List.forall_mem_append.mpr ⟨(loop_pieces _ _ _ _ _ _ _ _ _ _ _ _ _ _ _ _ _ _ _ _ _ _ _ _ _ _ _ _ _ _).2.2.1, List.forall_mem_cons.mpr ⟨fun x => ?_, List.forall_mem_cons.mpr ⟨fun x => ?_, fun _ h => absurd h List.not_mem_nil⟩⟩⟩⟩⟩,
    List.forall_mem_cons.mpr ⟨fun x => ?_, List.forall_mem_cons.mpr ⟨fun x => ?_, List.forall_mem_cons.mpr ⟨fun x => ?_, List.forall_mem_cons.mpr ⟨fun x => ?_, List.forall_mem_cons.mpr ⟨fun x => ?_, List.forall_mem_cons.mpr ⟨fun x => ?_, List.forall_mem_append.mpr ⟨(loop_pieces _ _ _ _ _ _ _ _ _ _ _ _ _ _ _ _ _ _ _ _ _ _ _ _ _ _ _ _ _ _).2.2.2, List.forall_mem_cons.mpr ⟨fun x => ?_, List.forall_mem_cons.mpr ⟨fun x => ?_, List.forall_mem_cons.mpr ⟨fun x => ?_, List.forall_mem_cons.mpr ⟨fun x => ?_, List.forall_mem_cons.mpr ⟨fun x => ?_, List.forall_mem_cons.mpr ⟨fun x => ?_, fun _ h => absurd h List.not_mem_nil⟩⟩⟩⟩⟩⟩⟩⟩⟩⟩⟩⟩⟩⟩
  iterate 12
    · have hx : (x 1).val < 512 := (x 1).isLt
      rw [ValueKit.rect_emb_unit_val, ValueKit.rect_emb_unit_val]
      change gate _ * _ = scaled x0 x4 _ _ _
      rw [load_apply, load_apply]
      simp only [Matrix.cons_val_zero, Matrix.cons_val_one, zero_add]
      exact scaled_of _ _ (by omega) rfl rfl
  iterate 12
    · have hx : (x 1).val < 512 := (x 1).isLt
      rw [ValueKit.rect_emb_unit_val, ValueKit.rect_emb_unit_val]
      change _ * _ * gate _ * (_ - gate _) = gateGrad x0 x1 x2 x3 x4 _ _
      rw [load_apply, load_apply, load_apply]
      simp only [Matrix.cons_val_zero, Matrix.cons_val_one, zero_add]
      first
        | exact gateGrad_of x0 x1 x2 x3 x4 0 (by omega) (by omega) rfl rfl
        | exact gateGrad_of x0 x1 x2 x3 x4 1 (by omega) (by omega) rfl rfl
        | exact gateGrad_of x0 x1 x2 x3 x4 2 (by omega) (by omega) rfl rfl

theorem out5_eq : out0_A_5 (F := Ideal) c i arg1 harg1 arg2 harg2 arg3 harg3 arg4 harg4 arg5 harg5 arg6 harg6 arg7 harg7 arg8 harg8 arg9 harg9 x0 x1 x2 x3 x4 = fun y => scaled x0 x4 0 (y 0).val (y 1).val := by
  unfold out0_A_5
  exact funext fun y => View.read_writes_apply_of_pieces _ _ (fun y => scaled x0 x4 0 (y 0).val (y 1).val) _ (run_pieces c i arg1 harg1 arg2 harg2 arg3 harg3 arg4 harg4 arg5 harg5 arg6 harg6 arg7 harg7 arg8 harg8 arg9 harg9 x0 x1 x2 x3 x4).1 y (cover0_A_5 c i arg1 harg1 arg2 harg2 arg3 harg3 arg4 harg4 arg5 harg5 arg6 harg6 arg7 harg7 arg8 harg8 arg9 harg9 x0 x1 x2 x3 x4 y)

theorem out6_eq : out0_A_6 (F := Ideal) c i arg1 harg1 arg2 harg2 arg3 harg3 arg4 harg4 arg5 harg5 arg6 harg6 arg7 harg7 arg8 harg8 arg9 harg9 x0 x1 x2 x3 x4 = fun y => scaled x0 x4 1 (y 0).val (y 1).val := by
  unfold out0_A_6
  exact funext fun y => View.read_writes_apply_of_pieces _ _ (fun y => scaled x0 x4 1 (y 0).val (y 1).val) _ (run_pieces c i arg1 harg1 arg2 harg2 arg3 harg3 arg4 harg4 arg5 harg5 arg6 harg6 arg7 harg7 arg8 harg8 arg9 harg9 x0 x1 x2 x3 x4).2.1 y (cover0_A_6 c i arg1 harg1 arg2 harg2 arg3 harg3 arg4 harg4 arg5 harg5 arg6 harg6 arg7 harg7 arg8 harg8 arg9 harg9 x0 x1 x2 x3 x4 y)

theorem out7_eq : out0_A_7 (F := Ideal) c i arg1 harg1 arg2 harg2 arg3 harg3 arg4 harg4 arg5 harg5 arg6 harg6 arg7 harg7 arg8 harg8 arg9 harg9 x0 x1 x2 x3 x4 = fun y => scaled x0 x4 2 (y 0).val (y 1).val := by
  unfold out0_A_7
  exact funext fun y => View.read_writes_apply_of_pieces _ _ (fun y => scaled x0 x4 2 (y 0).val (y 1).val) _ (run_pieces c i arg1 harg1 arg2 harg2 arg3 harg3 arg4 harg4 arg5 harg5 arg6 harg6 arg7 harg7 arg8 harg8 arg9 harg9 x0 x1 x2 x3 x4).2.2.1 y (cover0_A_7 c i arg1 harg1 arg2 harg2 arg3 harg3 arg4 harg4 arg5 harg5 arg6 harg6 arg7 harg7 arg8 harg8 arg9 harg9 x0 x1 x2 x3 x4 y)

theorem out8_eq : out0_A_8 (F := Ideal) c i arg1 harg1 arg2 harg2 arg3 harg3 arg4 harg4 arg5 harg5 arg6 harg6 arg7 harg7 arg8 harg8 arg9 harg9 x0 x1 x2 x3 x4 = fun y => gateGrad x0 x1 x2 x3 x4 (y 0).val (y 1).val := by
  unfold out0_A_8
  exact funext fun y => View.read_writes_apply_of_pieces _ _ (fun y => gateGrad x0 x1 x2 x3 x4 (y 0).val (y 1).val) _ (run_pieces c i arg1 harg1 arg2 harg2 arg3 harg3 arg4 harg4 arg5 harg5 arg6 harg6 arg7 harg7 arg8 harg8 arg9 harg9 x0 x1 x2 x3 x4).2.2.2 y (cover0_A_8 c i arg1 harg1 arg2 harg2 arg3 harg3 arg4 harg4 arg5 harg5 arg6 harg6 arg7 harg7 arg8 harg8 arg9 harg9 x0 x1 x2 x3 x4 y)

end Point

/-- The rows that grid point `t` works on. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

theorem row0 (c : Dev nD) (t : Fin cfg0.N) {r : ℕ} (hr : r < 256) (s : ℕ) : cell (iblk m c 0 t) r s = cell (m ((c : Thread nD τ).loc main_arg0)) (t.val * 256 + r) s := by
  have ht : t.val < 32 := t.isLt
  exact cell_block (by omega) (fun r s i hi => by blk_ext [iblk, V, idx t] <;> omega) hr

theorem row1 (c : Dev nD) (t : Fin cfg0.N) {r : ℕ} (hr : r < 256) (s : ℕ) : cell (iblk m c 1 t) r s = cell (m ((c : Thread nD τ).loc main_arg1)) (t.val * 256 + r) s := by
  have ht : t.val < 32 := t.isLt
  exact cell_block (by omega) (fun r s i hi => by blk_ext [iblk, V, idx t] <;> omega) hr

theorem row2 (c : Dev nD) (t : Fin cfg0.N) {r : ℕ} (hr : r < 256) (s : ℕ) : cell (iblk m c 2 t) r s = cell (m ((c : Thread nD τ).loc main_arg2)) (t.val * 256 + r) s := by
  have ht : t.val < 32 := t.isLt
  exact cell_block (by omega) (fun r s i hi => by blk_ext [iblk, V, idx t] <;> omega) hr

theorem row3 (c : Dev nD) (t : Fin cfg0.N) {r : ℕ} (hr : r < 256) (s : ℕ) : cell (iblk m c 3 t) r s = cell (m ((c : Thread nD τ).loc main_arg3)) (t.val * 256 + r) s := by
  have ht : t.val < 32 := t.isLt
  exact cell_block (by omega) (fun r s i hi => by blk_ext [iblk, V, idx t] <;> omega) hr

theorem row4 (c : Dev nD) (t : Fin cfg0.N) {r : ℕ} (hr : r < 256) (s : ℕ) : cell (iblk m c 4 t) r s = cell (m ((c : Thread nD τ).loc main_arg4)) (t.val * 256 + r) s := by
  have ht : t.val < 32 := t.isLt
  exact cell_block (by omega) (fun r s i hi => by blk_ext [iblk, V, idx t] <;> omega) hr

variable {m} in
theorem scaled_block (c : Dev nD) (t : Fin cfg0.N) {r : ℕ} (hr : r < 256) (b s : ℕ) :
    scaled (iblk m c 0 t) (iblk m c 4 t) b r s = scaled (m ((c : Thread nD τ).loc main_arg0)) (m ((c : Thread nD τ).loc main_arg4)) b (t.val * 256 + r) (0 * 1024 + s) := by
  unfold scaled
  rw [row0 m c t hr, row4 m c t hr, zero_mul, zero_add]

variable {m} in
theorem mixer_block (c : Dev nD) (t : Fin cfg0.N) {r : ℕ} (hr : r < 256) (s : ℕ) : ∀ b : ℕ,
    cell (mixer (iblk m c 1 t) (iblk m c 2 t) (iblk m c 3 t) b) r s = cell (mixer (m ((c : Thread nD τ).loc main_arg1)) (m ((c : Thread nD τ).loc main_arg2)) (m ((c : Thread nD τ).loc main_arg3)) b) (t.val * 256 + r) s
  | 0 => row1 m c t hr s
  | 1 => row2 m c t hr s
  | _ + 2 => row3 m c t hr s

variable {m} in
theorem gateGrad_block (c : Dev nD) (t : Fin cfg0.N) {r : ℕ} (hr : r < 256) (j : ℕ) :
    gateGrad (iblk m c 0 t) (iblk m c 1 t) (iblk m c 2 t) (iblk m c 3 t) (iblk m c 4 t) r j = gateGrad (m ((c : Thread nD τ).loc main_arg0)) (m ((c : Thread nD τ).loc main_arg1)) (m ((c : Thread nD τ).loc main_arg2)) (m ((c : Thread nD τ).loc main_arg3)) (m ((c : Thread nD τ).loc main_arg4)) (t.val * 256 + r) (0 * 3072 + j) := by
  unfold gateGrad
  rw [row0 m c t hr, row4 m c t hr, mixer_block c t hr, zero_mul, zero_add]

theorem result5_eq (c : Dev nD) : (dats m 0 c).arrAt 5 cfg0.N = fun i => scaled (m ((c : Thread nD τ).loc main_arg0)) (m ((c : Thread nD τ).loc main_arg4)) 0 (i 0).val (i 1).val := by
  refine (dats m 0 c).arrAt_eq_of_covers 5 _ (by decide +kernel) fun t hf y => ?_
  have e := idx t
  have hy0 : (y 0).val < 256 := (y 0).isLt
  blk_simp
  rw [after0_5]
  unfold outsAt0
  dsimp only
  rw [out5_eq, e.2.2.2.2.2.1]
  exact scaled_block c t hy0 _ _

theorem result6_eq (c : Dev nD) : (dats m 0 c).arrAt 6 cfg0.N = fun i => scaled (m ((c : Thread nD τ).loc main_arg0)) (m ((c : Thread nD τ).loc main_arg4)) 1 (i 0).val (i 1).val := by
  refine (dats m 0 c).arrAt_eq_of_covers 6 _ (by decide +kernel) fun t hf y => ?_
  have e := idx t
  have hy0 : (y 0).val < 256 := (y 0).isLt
  blk_simp
  rw [after0_6]
  unfold outsAt0
  dsimp only
  rw [out6_eq, e.2.2.2.2.2.2.1]
  exact scaled_block c t hy0 _ _

theorem result7_eq (c : Dev nD) : (dats m 0 c).arrAt 7 cfg0.N = fun i => scaled (m ((c : Thread nD τ).loc main_arg0)) (m ((c : Thread nD τ).loc main_arg4)) 2 (i 0).val (i 1).val := by
  refine (dats m 0 c).arrAt_eq_of_covers 7 _ (by decide +kernel) fun t hf y => ?_
  have e := idx t
  have hy0 : (y 0).val < 256 := (y 0).isLt
  blk_simp
  rw [after0_7]
  unfold outsAt0
  dsimp only
  rw [out7_eq, e.2.2.2.2.2.2.2.1]
  exact scaled_block c t hy0 _ _

theorem result8_eq (c : Dev nD) : (dats m 0 c).arrAt 8 cfg0.N = fun i => gateGrad (m ((c : Thread nD τ).loc main_arg0)) (m ((c : Thread nD τ).loc main_arg1)) (m ((c : Thread nD τ).loc main_arg2)) (m ((c : Thread nD τ).loc main_arg3)) (m ((c : Thread nD τ).loc main_arg4)) (i 0).val (i 1).val := by
  refine (dats m 0 c).arrAt_eq_of_covers 8 _ (by decide +kernel) fun t hf y => ?_
  have e := idx t
  have hy0 : (y 0).val < 256 := (y 0).isLt
  blk_simp
  rw [after0_8]
  unfold outsAt0
  dsimp only
  rw [out8_eq, e.2.2.2.2.2.2.2.2]
  exact gateGrad_block c t hy0 _

/-- The call runs and leaves its arguments and the counters as it found them, on the machine's floats … -/
theorem frame_bits : Cert.quiescent_MergeBwd (hMergeBwd := Cert.MergeBwd.Gen.facts) := fun m g _ => Cert.MergeBwd.Gen.frame (F := Bits) m g
/-- … and over the extended reals; -/
theorem frame_ideal : Cert.quiescent_MergeBwdIdeal (hMergeBwdIdeal := Cert.MergeBwdIdeal.Gen.facts) := fun m g _ => frame (F := Idealize.ShloMosaic.Ideal) m g
/-- the plain program too. -/
theorem frame_reference : Cert.quiescent_MergeBwdRefIdeal (hMergeBwdRefIdeal := Cert.MergeBwdRefIdeal.Gen.facts) := fun m g _ =>
  (θ_run Cert.MergeBwdRefIdeal.defs _ _).mono (fun r h => ⟨fun c => (h c).2.2.2.2, Idealize.ShloMosaic.sem_eq_zero_of_no_sems (by decide) r.2⟩)
    (Cert.MergeBwdRefIdeal.Value.run (F := Idealize.ShloMosaic.Ideal) m g)

/-- From the same arguments both leave the same arrays. -/
theorem agrees : Cert.algebraic_MergeBwdIdeal_MergeBwdRefIdeal (hMergeBwdIdeal := Cert.MergeBwdIdeal.Gen.facts) (hMergeBwdRefIdeal := Cert.MergeBwdRefIdeal.Gen.facts) := by
  intro m g m' g' _ hargs
  refine ⟨fun c i => scaled (m ((c : Thread nD τ).loc main_arg0)) (m ((c : Thread nD τ).loc main_arg4)) 0 (i 0).val (i 1).val,
    fun c i => scaled (m ((c : Thread nD τ).loc main_arg0)) (m ((c : Thread nD τ).loc main_arg4)) 1 (i 0).val (i 1).val,
    fun c i => scaled (m ((c : Thread nD τ).loc main_arg0)) (m ((c : Thread nD τ).loc main_arg4)) 2 (i 0).val (i 1).val,
    fun c i => gateGrad (m ((c : Thread nD τ).loc main_arg0)) (m ((c : Thread nD τ).loc main_arg1)) (m ((c : Thread nD τ).loc main_arg2)) (m ((c : Thread nD τ).loc main_arg3)) (m ((c : Thread nD τ).loc main_arg4)) (i 0).val (i 1).val, ?_, ?_⟩
  · exact (θ_run defs _ _).mono (fun r h c => ⟨(h c).1.trans (result5_eq m c), (h c).2.1.trans (result6_eq m c), (h c).2.2.1.trans (result7_eq m c), (h c).2.2.2.1.trans (result8_eq m c), (h c).2.2.2.2⟩) (Value.run_blocks m g)
  · refine (θ_run _ _ _).mono (fun r h c => ⟨(h c).1.trans ?_, (h c).2.1.trans ?_, (h c).2.2.1.trans ?_, (h c).2.2.2.1.trans ?_, (h c).2.2.2.2⟩) (Cert.MergeBwdRefIdeal.Value.run m' g')
    iterate 3
      · clear h r
        simp only [(hargs c).1, (hargs c).2.2.2.2]
        funext i
        pointwise
        have h0 : (i 0).val < 8192 := (i 0).isLt
        have h1 : (i 1).val < 1024 := (i 1).isLt
        have own : ∀ X : Vec Ideal S8192x1024 .f32, cell X (i 0).val (i 1).val = X i := fun X => (cell_eq X i _ _ rfl rfl).symm
        unfold scaled
        simp only [Nat.mul_zero, Nat.reduceMul, zero_add]
        rw [own, cell_of_lt _ h0 (show _ < 3072 by omega), gate_eq]
        rfl
    rw [(hargs c).1, (hargs c).2.1, (hargs c).2.2.1, (hargs c).2.2.2.1, (hargs c).2.2.2.2]
    exact Cert.MergeBwdRefIdeal.Gates.gateGrad_eq _ _ _ _ _

end Cert.MergeBwdIdeal.Gates

end
-- ==== Proof.Merge.lean ====
/- `Merge`: the gated sum of the mixers' outputs, tile by tile and as a whole. -/
module

public import proofs.«01_k».proof.Defs
public import proofs.«01_k».proof.Proof.Gen.Merge
public import proofs.«01_k».proof.Proof.Gen.Merge.Frame
public import proofs.«01_k».proof.Proof.Gen.MergeIdeal
public import proofs.«01_k».proof.Proof.Gen.MergeIdeal.Value
public import proofs.«01_k».proof.Proof.Gen.MergeRefIdeal
public import proofs.«01_k».proof.Proof.Gen.MergeRefIdeal.Run
public import proofs.«01_k».proof.Proof.Gate
public import Idealize.ShloMosaic.Lib.Tactic
public import Idealize.ShloMosaic.Lib.Quiescent

@[expose] public section

noncomputable section

open Idealize.ShloMosaic Idealize.ShloMosaic.TcCoe Idealize.SL.Sem Cert.Gate
open scoped BigOperators

namespace Cert.MergeIdeal.Gates

open Cert.MergeIdeal Cert.MergeIdeal.Gen

variable (m : (ℓ : Loc nD τ sig) → Buf (Elt Ideal) ℓ) (ρ : Dev nD → PrngReg)

/-- The gated sum of a tile of the three mixers' outputs: the gates of the three lie side by side in the first array. -/
def sum3 {R : ℕ} (g : (⟨2, ![R, 3072]⟩ : Shape).Idx → EReal) (p a q : (⟨2, ![R, 1024]⟩ : Shape).Idx → EReal) (r s : ℕ) : EReal :=
  gate (cell g r s) * cell p r s + gate (cell g r (1024 + s)) * cell a r s + gate (cell g r (2048 + s)) * cell q r s

/-- The same, as a tile. -/
def tile (x0 : Vec Ideal S256x3072 .f32) (x1 x2 x3 : Vec Ideal S256x1024 .f32) : Vec Ideal S256x1024 .bf16 :=
  fun i => sum3 x0 x1 x2 x3 (i 0).val (i 1).val

theorem trip_pieces (𝒱 : Variants) (c : Dev nD) (bd : Option 𝒱.V) (i : grid0.Coords) (arg1 : Memref sig .tc .vmem S256x3072 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .bf16) (harg5 : arg5.IsWhole) (w : BitVec 32)
    (x0 : Vec Ideal S256x3072 .f32) (x1 : Vec Ideal S256x1024 .f32) (x2 : Vec Ideal S256x1024 .f32) (x3 : Vec Ideal S256x1024 .f32) (k : Fin k0_t1_loop.trips) :
    ∀ p ∈ tripL_k0_t1 (F := Ideal) 𝒱 c bd i arg1 harg1 arg2 harg2 arg3 harg3 arg4 harg4 arg5 harg5 w (harg1.unread x0) (harg2.unread x1) (harg3.unread x2) (harg4.unread x3) k, ∀ x, p.2 x = tile x0 x1 x2 x3 (p.1.emb x) := by
  unfold tripL_k0_t1 trip_k0_t1
  dsimp only
  sl_unfold_run_names
  refine List.forall_mem_cons.mpr ⟨fun x => ?_, List.forall_mem_cons.mpr ⟨fun x => ?_, fun _ h => absurd h List.not_mem_nil⟩⟩
  all_goals
    change gate _ * _ + gate _ * _ + gate _ * _ = sum3 x0 x1 x2 x3 _ _
    unfold sum3
    rw [load_apply, load_apply, load_apply, load_apply, load_apply, load_apply, ValueKit.rect_emb_unit_val, ValueKit.rect_emb_unit_val]
    simp only [k0_off1_eq, k0_off2_eq, k0_off3_eq, k0_off4_eq, k0_off5_eq, k0_off6_eq, k0_off7_eq, k0_off8_eq, Matrix.cons_val_zero, Matrix.cons_val_one, zero_add, ← add_assoc, Nat.reduceAdd]

/-- … and so are those of the loop. -/
theorem loop_pieces (𝒱 : Variants) (c : Dev nD) (bd : Option 𝒱.V) (i : grid0.Coords) (arg1 : Memref sig .tc .vmem S256x3072 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .bf16) (harg5 : arg5.IsWhole) (w : BitVec 32)
    (x0 : Vec Ideal S256x3072 .f32) (x1 : Vec Ideal S256x1024 .f32) (x2 : Vec Ideal S256x1024 .f32) (x3 : Vec Ideal S256x1024 .f32) :
    ∀ p ∈ pb_k0_t1 (F := Ideal) 𝒱 c bd i arg1 harg1 arg2 harg2 arg3 harg3 arg4 harg4 arg5 harg5 w (harg1.unread x0) (harg2.unread x1) (harg3.unread x2) (harg4.unread x3) k0_t1_loop.trips, ∀ x, p.2 x = tile x0 x1 x2 x3 (p.1.emb x) :=
  forall_pieces _ _ (by rw [pb_k0_t1.eq_1]) (fun k => pb_k0_t1_succ (F := Ideal) 𝒱 c bd i arg1 harg1 arg2 harg2 arg3 harg3 arg4 harg4 arg5 harg5 w (harg1.unread x0) (harg2.unread x1) (harg3.unread x2) (harg4.unread x3) k) (fun k => trip_pieces 𝒱 c bd i arg1 harg1 arg2 harg2 arg3 harg3 arg4 harg4 arg5 harg5 w x0 x1 x2 x3 k) _ le_rfl

/-- What a grid point leaves is the gated sum of its tiles. -/
theorem out_eq (c : Dev nD) (i : grid0.Coords) (arg1 : Memref sig .tc .vmem S256x3072 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .bf16) (harg5 : arg5.IsWhole)
    (x0 : Vec Ideal S256x3072 .f32) (x1 : Vec Ideal S256x1024 .f32) (x2 : Vec Ideal S256x1024 .f32) (x3 : Vec Ideal S256x1024 .f32) :
    out0_A_4 c i arg1 harg1 arg2 harg2 arg3 harg3 arg4 harg4 arg5 harg5 x0 x1 x2 x3 = tile x0 x1 x2 x3 := by
  unfold out0_A_4
  funext y
  refine View.read_writes_apply_of_pieces _ _ _ _ ?_ y (cover0_A_4 c i arg1 harg1 arg2 harg2 arg3 harg3 arg4 harg4 arg5 harg5 x0 x1 x2 x3 y)
  unfold kernelRun0_A
  dsimp only
  sl_unfold_run_names
  refine List.forall_mem_cons.mpr ⟨fun x => ?_, List.forall_mem_cons.mpr ⟨fun x => ?_, List.forall_mem_append.mpr ⟨loop_pieces _ _ _ _ _ _ _ _ _ _ _ _ _ _ _ _ _ _ _, List.forall_mem_cons.mpr ⟨fun x => ?_, List.forall_mem_cons.mpr ⟨fun x => ?_, fun _ h => absurd h List.not_mem_nil⟩⟩⟩⟩⟩
  all_goals
    change gate _ * _ + gate _ * _ + gate _ * _ = sum3 x0 x1 x2 x3 _ _
    unfold sum3
    rw [load_apply, load_apply, load_apply, load_apply, load_apply, load_apply, ValueKit.rect_emb_unit_val, ValueKit.rect_emb_unit_val]
    simp only [Matrix.cons_val_zero, Matrix.cons_val_one, zero_add, ← add_assoc, Nat.reduceAdd]

/-- The rows that grid point `t` works on. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] :=
  (by decide +kernel : ∀ t : Fin grid0.N, _)

/-- The result is the gated sum of the arrays handed in. -/
theorem result_eq (c : Dev nD) : (dats m 0 c).arrAt 4 cfg0.N = fun i => sum3 (m ((c : Thread nD τ).loc main_arg0)) (m ((c : Thread nD τ).loc main_arg1)) (m ((c : Thread nD τ).loc main_arg2)) (m ((c : Thread nD τ).loc main_arg3)) (i 0).val (i 1).val := by
  refine (dats m 0 c).arrAt_eq_of_covers 4 _ (by decide +kernel) fun t hf y => ?_
  have e := idx t
  have hy0 : (y 0).val < 256 := (y 0).isLt
  have hy1 : (y 1).val < 1024 := (y 1).isLt
  blk_simp
  rw [after0_4]
  unfold outsAt0
  rw [out_eq]
  unfold tile
  rw [e.2.2.2.2]
  show _ = sum3 _ _ _ _ (t.val * 256 + (y 0).val) (0 * 1024 + (y 1).val)
  have ht : t.val < 32 := t.isLt
  have h0 : ∀ s, cell (iblk m c 0 t) (y 0).val s = cell (m ((c : Thread nD τ).loc main_arg0)) (t.val * 256 + (y 0).val) s := fun s =>
    cell_block (by omega) (fun r s i hi => by blk_ext [iblk, V, idx t] <;> omega) hy0
  have h1 : ∀ s, cell (iblk m c 1 t) (y 0).val s = cell (m ((c : Thread nD τ).loc main_arg1)) (t.val * 256 + (y 0).val) s := fun s =>
    cell_block (by omega) (fun r s i hi => by blk_ext [iblk, V, idx t] <;> omega) hy0
  have h2 : ∀ s, cell (iblk m c 2 t) (y 0).val s = cell (m ((c : Thread nD τ).loc main_arg2)) (t.val * 256 + (y 0).val) s := fun s =>
    cell_block (by omega) (fun r s i hi => by blk_ext [iblk, V, idx t] <;> omega) hy0
  have h3 : ∀ s, cell (iblk m c 3 t) (y 0).val s = cell (m ((c : Thread nD τ).loc main_arg3)) (t.val * 256 + (y 0).val) s := fun s =>
    cell_block (by omega) (fun r s i hi => by blk_ext [iblk, V, idx t] <;> omega) hy0
  unfold sum3
  rw [h0, h0, h0, h1, h2, h3, zero_mul, zero_add]

/-- The call runs and leaves its arguments and the counters as it found them, on the machine's floats … -/
theorem frame_bits : Cert.quiescent_Merge (hMerge := Cert.Merge.Gen.facts) := fun m g _ => Cert.Merge.Gen.frame (F := Bits) m g
/-- … and over the extended reals; -/
theorem frame_ideal : Cert.quiescent_MergeIdeal (hMergeIdeal := Cert.MergeIdeal.Gen.facts) := fun m g _ => frame (F := Idealize.ShloMosaic.Ideal) m g
/-- the plain program too. -/
theorem frame_reference : Cert.quiescent_MergeRefIdeal (hMergeRefIdeal := Cert.MergeRefIdeal.Gen.facts) := fun m g _ =>
  (θ_run Cert.MergeRefIdeal.defs _ _).mono (fun r h => ⟨fun c => (h c).2, Idealize.ShloMosaic.sem_eq_zero_of_no_sems (by decide) r.2⟩)
    (Cert.MergeRefIdeal.Value.run (F := Idealize.ShloMosaic.Ideal) m g)

/-- From the same arguments both leave the same array. -/
theorem agrees : Cert.algebraic_MergeIdeal_MergeRefIdeal (hMergeIdeal := Cert.MergeIdeal.Gen.facts) (hMergeRefIdeal := Cert.MergeRefIdeal.Gen.facts) := by
  intro m g m' g' _ hargs
  refine ⟨fun c i => sum3 (m ((c : Thread nD τ).loc main_arg0)) (m ((c : Thread nD τ).loc main_arg1)) (m ((c : Thread nD τ).loc main_arg2)) (m ((c : Thread nD τ).loc main_arg3)) (i 0).val (i 1).val, ?_, ?_⟩
  · exact (θ_run defs _ _).mono (fun r h c => ⟨(h c).1.trans (result_eq m c), (h c).2⟩) (Value.run_blocks m g)
  · exact (θ_run _ _ _).mono (fun r h c => ⟨(h c).1.trans (by
      rw [(hargs c).1, (hargs c).2.1, (hargs c).2.2.1, (hargs c).2.2.2]; funext i
      unfold sum3
      pointwise
      have h0 : (i 0).val < 8192 := (i 0).isLt
      have h1 : (i 1).val < 1024 := (i 1).isLt
      have own : ∀ X : Vec Ideal S8192x1024 .f32, cell X (i 0).val (i 1).val = X i := fun X => (cell_eq X i _ _ rfl rfl).symm
      rw [own, own, own, cell_of_lt _ h0 (show (i 1).val < 3072 by omega), cell_of_lt _ h0 (show 1024 + (i 1).val < 3072 by omega),
        cell_of_lt _ h0 (show 2048 + (i 1).val < 3072 by omega), gate_eq, gate_eq, gate_eq]
      rfl), (h c).2⟩) (Cert.MergeRefIdeal.Value.run m' g')

end Cert.MergeIdeal.Gates

end
-- ==== Proof.Norm.lean ====
/- `Norm`: rows scaled to unit mean square, block by block and as a whole. -/
module

public import proofs.«01_k».proof.Defs
public import proofs.«01_k».proof.Proof.Gen.Norm
public import proofs.«01_k».proof.Proof.Gen.Norm.Frame
public import proofs.«01_k».proof.Proof.Gen.NormIdeal
public import proofs.«01_k».proof.Proof.Gen.NormIdeal.Value
public import proofs.«01_k».proof.Proof.Gen.NormRefIdeal
public import proofs.«01_k».proof.Proof.Gen.NormRefIdeal.Run
public import Idealize.ShloMosaic.Lib.Pipeline.Value
public import Idealize.ShloMosaic.Lib.Pipeline.ValueKit
public import Idealize.ShloMosaic.Lib.WholeRead
public import Idealize.ShloMosaic.Lib.Pointwise
public import Idealize.ShloMosaic.Lib.Tactic
public import Idealize.ShloMosaic.Lib.Quiescent

@[expose] public section

noncomputable section

open Idealize.ShloMosaic Idealize.ShloMosaic.TcCoe Idealize.SL.Sem
open scoped BigOperators

namespace Cert.NormIdeal.Rows

open Cert.NormIdeal Cert.NormIdeal.Gen

variable (m : (ℓ : Loc nD τ sig) → Buf (Elt Ideal) ℓ) (ρ : Dev nD → PrngReg)

/-- Row `r` of `X`, divided by the root of its mean square plus a small constant and scaled by the weight, in column `s`. -/
def normed {R : ℕ} (X : (⟨2, ![R, 1024]⟩ : Shape).Idx → EReal) (W : (⟨2, ![1, 1024]⟩ : Shape).Idx → EReal) (r : Fin R) (s : Fin 1024) : EReal :=
  X (ix2 r s) * Ideal.rsqrt (Ideal.div (∑ k : Fin 1024, X (ix2 r k) * X (ix2 r k)) (Ideal.ofBits .f32 0x44800000#32) + Ideal.ofBits .f32 0x358637BD#32) * W (ix2 0 s)

/-- A block of rows depends on those rows alone. -/
theorem normed_congr {R B : ℕ} {X : (⟨2, ![R, 1024]⟩ : Shape).Idx → EReal} {Y : (⟨2, ![B, 1024]⟩ : Shape).Idx → EReal} {W V : (⟨2, ![1, 1024]⟩ : Shape).Idx → EReal} {r : Fin R} {q : Fin B}
    (h : ∀ k, Y (ix2 q k) = X (ix2 r k)) (hw : ∀ k, V (ix2 0 k) = W (ix2 0 k)) (s : Fin 1024) : normed Y V q s = normed X W r s := by
  unfold normed
  rw [hw, h]
  simp only [h]

/-- The rows that grid point `t` works on. -/
theorem idx : ∀ t : Fin cfg0.N, win0_0.index t = ![t.val, 0] ∧ win0_1.index t = ![0, 0] ∧ win0_2.index t = ![t.val, 0] :=
  (by decide +kernel : ∀ t : Fin grid0.N, _)

/-- What a grid point computes. -/
theorem pay_apply (x : Vec Ideal S512x1024 .f32) (w : Vec Ideal S1x1024 .f32) (r : Fin 512) (s : Fin 1024) : k0_pay1 x w (ix2 r s) = normed x w r s := by
  unfold k0_pay1 normed
  pointwise [shapeCast_self]

/-- The result is the normalised array. -/
theorem result_eq (c : Dev nD) : (dats m 0 c).arrAt 2 cfg0.N = fun i => normed (m ((c : Thread nD τ).loc main_arg0)) (m ((c : Thread nD τ).loc main_arg1)) (i 0) (i 1) := by
  refine (dats m 0 c).arrAt_eq_of_covers 2 _ (by decide +kernel) fun t hf y => ?_
  have e := idx t
  have hy0 : (y 0).val < 512 := (y 0).isLt
  have hy1 : (y 1).val < 1024 := (y 1).isLt
  have ht : t.val < 16 := t.isLt
  blk_simp
  rw [after0_2]
  unfold out0_2
  frame_out
  have hs : y 1 = (win0_2.blk t).view.emb y 1 := Fin.ext (by show _ = win0_2.index t 1 * 1024 + 1 * (y 1).val; rw [e.2.2]; simp)
  have hr : ((win0_2.blk t).view.emb y 0).val = t.val * 512 + (y 0).val := by show win0_2.index t 0 * 512 + 1 * (y 0).val = _; rw [e.2.2]; simp
  refine (congrArg (k0_pay1 (iblk m c 0 t) (iblk m c 1 t)) (ValueIdx.eq_ix2 (n0 := 512) (n1 := 1024) y)).trans ((pay_apply _ _ (y 0) (y 1)).trans ((normed_congr (r := (win0_2.blk t).view.emb y 0) (fun k => ?_) (fun k => ?_) (y 1)).trans (congrArg (normed _ _ _) hs)))
  · blk_ext [iblk, V, idx t] <;> omega
  · blk_ext [iblk, V, idx t] <;> omega

/-- The call runs and leaves its arguments and the counters as it found them, on the machine's floats … -/
theorem frame_bits : Cert.quiescent_Norm (hNorm := Cert.Norm.Gen.facts) := fun m g _ => Cert.Norm.Gen.frame (F := Bits) m g
/-- … and over the extended reals; -/
theorem frame_ideal : Cert.quiescent_NormIdeal (hNormIdeal := Cert.NormIdeal.Gen.facts) := fun m g _ => frame (F := Idealize.ShloMosaic.Ideal) m g
/-- the plain program too. -/
theorem frame_reference : Cert.quiescent_NormRefIdeal (hNormRefIdeal := Cert.NormRefIdeal.Gen.facts) := fun m g _ =>
  (θ_run Cert.NormRefIdeal.defs _ _).mono (fun r h => ⟨fun c => (h c).2, Idealize.ShloMosaic.sem_eq_zero_of_no_sems (by decide) r.2⟩)
    (Cert.NormRefIdeal.Value.run (F := Idealize.ShloMosaic.Ideal) m g)

/-- From the same arguments both leave the same array. -/
theorem agrees : Cert.algebraic_NormIdeal_NormRefIdeal (hNormIdeal := Cert.NormIdeal.Gen.facts) (hNormRefIdeal := Cert.NormRefIdeal.Gen.facts) := by
  intro m g m' g' _ hargs
  refine ⟨fun c i => normed (m ((c : Thread nD τ).loc main_arg0)) (m ((c : Thread nD τ).loc main_arg1)) (i 0) (i 1), ?_, ?_⟩
  · exact (θ_run defs _ _).mono (fun r h c => ⟨(h c).1.trans (result_eq m c), (h c).2⟩) (Value.run_blocks m g)
  · exact (θ_run _ _ _).mono (fun r h c => ⟨(h c).1.trans (by
      clear h
      rw [(hargs c).1, (hargs c).2]; funext i
      rw [show i = ix2 (i 0) (i 1) from ValueIdx.eq_ix2 i]
      unfold normed
      pointwise), (h c).2⟩) (Cert.NormRefIdeal.Value.run m' g')

end Cert.NormIdeal.Rows

end
-- ==== Proof.Adam.lean ====
/- `Adam`: the optimiser on the packed small weights, entry by entry. -/
module

public import proofs.«01_k».proof.Defs
public import proofs.«01_k».proof.Proof.Gen.Adam
public import proofs.«01_k».proof.Proof.Gen.Adam.Frame
public import proofs.«01_k».proof.Proof.Gen.AdamIdeal
public import proofs.«01_k».proof.Proof.Gen.AdamIdeal.Value
public import proofs.«01_k».proof.Proof.Gen.AdamRefIdeal
public import proofs.«01_k».proof.Proof.Gen.AdamRefIdeal.Run
public import Idealize.ShloMosaic.Lib.Pipeline.Value
public import Idealize.ShloMosaic.Lib.Pipeline.ValueKit
public import Idealize.ShloMosaic.Lib.WholeRead
public import Idealize.ShloMosaic.Lib.Pointwise
public import Idealize.ShloMosaic.Lib.Tactic
public import Idealize.ShloMosaic.Lib.Quiescent

@[expose] public section

noncomputable section

open Idealize.ShloMosaic Idealize.ShloMosaic.TcCoe Idealize.SL.Sem
open scoped BigOperators

namespace Cert.AdamIdeal.Step

open Cert.AdamIdeal Cert.AdamIdeal.Gen

variable (m : (ℓ : Loc nD τ sig) → Buf (Elt Ideal) ℓ) (ρ : Dev nD → PrngReg)

/-- The call runs and leaves its arguments and the counters as it found them, on the machine's floats … -/
theorem frame_bits : Cert.quiescent_Adam (hAdam := Cert.Adam.Gen.facts) := fun m g _ => Cert.Adam.Gen.frame (F := Bits) m g
/-- … and over the extended reals; -/
theorem frame_ideal : Cert.quiescent_AdamIdeal (hAdamIdeal := Cert.AdamIdeal.Gen.facts) := fun m g _ => frame (F := Idealize.ShloMosaic.Ideal) m g
/-- the plain program too. -/
theorem frame_reference : Cert.quiescent_AdamRefIdeal (hAdamRefIdeal := Cert.AdamRefIdeal.Gen.facts) := fun m g _ =>
  (θ_run Cert.AdamRefIdeal.defs _ _).mono (fun r h => ⟨fun c => (h c).2.2.2, Idealize.ShloMosaic.sem_eq_zero_of_no_sems (by decide) r.2⟩)
    (Cert.AdamRefIdeal.Value.run (F := Idealize.ShloMosaic.Ideal) m g)

/-- From the same arguments both leave the same step and the same moments. -/
theorem agrees : Cert.algebraic_AdamIdeal_AdamRefIdeal (hAdamIdeal := Cert.AdamIdeal.Gen.facts) (hAdamRefIdeal := Cert.AdamRefIdeal.Gen.facts) := by
  intro m g m' g' _ hargs
  refine ⟨_, _, _, Value.run m g, ?_⟩
  exact (θ_run _ _ _).mono (fun r h c => ⟨(h c).1.trans (by
      clear h
      rw [(hargs c).1, (hargs c).2.1, (hargs c).2.2.1, (hargs c).2.2.2]; funext i
      pointwise), (h c).2.1.trans (by
      clear h
      rw [(hargs c).1, (hargs c).2.2.1]; funext i
      pointwise), (h c).2.2.1.trans (by
      clear h
      rw [(hargs c).1, (hargs c).2.2.2]; funext i
      pointwise), (h c).2.2.2⟩) (Cert.AdamRefIdeal.Value.run m' g')

end Cert.AdamIdeal.Step

end
-- ==== Proof.NormLaw.lean ====
/- The gradient of the root-mean-square norm over the extended reals: two forms of one row. -/
module

public import Idealize.ShloMosaic.Lib.Tactic
public import Idealize.ShloMosaic.Lib.Pointwise

@[expose] public section

noncomputable section

open Idealize.ShloMosaic
open scoped BigOperators

namespace Cert.NormLaw

/-- A nonnegative real factor goes into a sum. -/
theorem mul_sum_of_nonneg {n : ℕ} {a : ℝ} (ha : 0 ≤ a) (f : Fin n → EReal) : ∑ k, (a : EReal) * f k = (a : EReal) * ∑ k, f k := by
  induction n with
  | zero => simp
  | succ n ih => rw [Fin.sum_univ_succ, Fin.sum_univ_succ, ih, EReal.left_distrib_of_nonneg_of_ne_top (by exact_mod_cast ha) (EReal.coe_ne_top a)]

/-- A square is nonnegative. -/
theorem sq_nonneg (x : EReal) : 0 ≤ x * x := by
  induction x with
  | bot => simp
  | top => simp
  | coe r => rw [← EReal.coe_mul]; exact_mod_cast mul_self_nonneg r

theorem size_eq : Ideal.ofBits .f32 0x44800000#32 = ((1024 : ℝ) : EReal) := by
  simp [Ideal.ofBits, Ideal.ieee, -EReal.coe_mul]; norm_num

theorem half_eq : Ideal.ofBits .f32 0xBF000000#32 = ((-(1 / 2) : ℝ) : EReal) := by
  simp [Ideal.ofBits, Ideal.ieee, -EReal.coe_mul]; norm_num

theorem eps_pos : (0 : EReal) < Ideal.ofBits .f32 0x358637BD#32 := by
  simp [Ideal.ofBits, Ideal.ieee, -EReal.coe_mul]

/-- The mean square of a row plus a small constant. -/
def mean {n : ℕ} (x : Fin n → EReal) : EReal :=
  Ideal.div (∑ k, x k * x k) (Ideal.ofBits .f32 0x44800000#32) + Ideal.ofBits .f32 0x358637BD#32

theorem mean_pos {n : ℕ} (x : Fin n → EReal) : 0 < mean x := by
  unfold mean
  rw [size_eq, Ideal.div_coe (by norm_num)]
  exact lt_of_lt_of_le eps_pos (le_add_of_nonneg_left (mul_nonneg (Finset.sum_nonneg fun k _ => sq_nonneg _) (by exact_mod_cast (by norm_num : (0 : ℝ) ≤ 1 / 1024))))

/-- The reciprocal root of the mean square. -/
def scale {n : ℕ} (x : Fin n → EReal) : EReal := Ideal.rsqrt (mean x)

/-- The gradient in an entry of the row as the kernel computes it, from the weighted gradient `a`. -/
def fused {n : ℕ} (x a : Fin n → EReal) (j : Fin n) : EReal :=
  scale x * (a j - x j * scale x * Ideal.div (∑ k, a k * (x k * scale x)) (Ideal.ofBits .f32 0x44800000#32))

/-- The gradient in the mean square, spread over a row. -/
def spread {n : ℕ} (x a : Fin n → EReal) : EReal :=
  Ideal.div ((∑ k, x k * a k) * (Ideal.ofBits .f32 0xBF000000#32 * Ideal.div (scale x) (mean x))) (Ideal.ofBits .f32 0x44800000#32)

/-- The two forms are equal at all extended reals. -/
theorem fused_eq {n : ℕ} (x a : Fin n → EReal) (j : Fin n) : fused x a j = a j * scale x + x j * spread x a + spread x a * x j := by
  rw [add_assoc]
  have hp := mean_pos x
  unfold fused spread scale
  generalize mean x = v at hp
  rw [size_eq, half_eq]
  simp only [Ideal.div_coe (show (1024 : ℝ) ≠ 0 by norm_num)]
  induction v with
  | bot => simp at hp
  | top => simp [Ideal.div]
  | coe v =>
    have hv : 0 < v := by exact_mod_cast hp
    rw [Ideal.rsqrt_coe, if_neg (not_lt.mpr hv.le), if_neg hv.ne', Ideal.div_coe hv.ne']
    have hq : 0 < (Real.sqrt v)⁻¹ := inv_pos.mpr (Real.sqrt_pos.mpr hv)
    have hvq : 1 / v = (Real.sqrt v)⁻¹ * (Real.sqrt v)⁻¹ := by rw [← mul_inv, Real.mul_self_sqrt hv.le, one_div]
    rw [hvq]
    generalize (Real.sqrt v)⁻¹ = q at hq
    have hs : ∑ k, a k * (x k * (q : EReal)) = (q : EReal) * ∑ k, x k * a k := by
      rw [← mul_sum_of_nonneg hq.le]
      exact Finset.sum_congr rfl fun k _ => by rw [mul_comm (q : EReal), mul_comm (x k) (a k), mul_assoc]
    rw [hs]
    generalize (∑ k, x k * a k) = P
    have e1 : x j * (q : EReal) * ((q : EReal) * P * ((1 / 1024 : ℝ) : EReal)) = ((q * q * (1 / 1024) : ℝ) : EReal) * (x j * P) := by
      rw [EReal.coe_mul, EReal.coe_mul]
      simp only [mul_comm, mul_left_comm, mul_assoc]
    have e2 : P * (((-(1 / 2) : ℝ) : EReal) * ((q : EReal) * ((q * q : ℝ) : EReal))) * ((1 / 1024 : ℝ) : EReal) = -(((1 / 2 * (q * (q * q)) * (1 / 1024) : ℝ) : EReal) * P) := by
      rw [EReal.coe_neg, neg_mul, mul_neg, neg_mul]
      congr 1
      simp only [EReal.coe_mul]
      simp only [mul_comm, mul_left_comm, mul_assoc]
    rw [e1, e2, sub_eq_add_neg, EReal.left_distrib_of_nonneg_of_ne_top (by exact_mod_cast hq.le) (EReal.coe_ne_top q), mul_comm (a j), mul_comm (-(_ * P)) (x j), mul_neg, mul_neg]
    congr 1
    have hk : (0 : ℝ) ≤ 1 / 2 * (q * (q * q)) * (1 / 1024) := by positivity
    have e3 : x j * (((1 / 2 * (q * (q * q)) * (1 / 1024) : ℝ) : EReal) * P) = ((1 / 2 * (q * (q * q)) * (1 / 1024) : ℝ) : EReal) * (x j * P) := mul_left_comm _ _ _
    have e4 := EReal.right_distrib_of_nonneg (c := -(x j * P)) (EReal.coe_nonneg.mpr hk) (EReal.coe_nonneg.mpr hk)
    simp only [mul_neg] at e4
    rw [e3, ← e4, ← EReal.coe_add, ← mul_assoc, ← EReal.coe_mul]
    congr 3
    ring

end Cert.NormLaw

end
-- ==== Proof.NormBwd.lean ====
/- `NormBwd`: the gradient of the norm in its input and in its weight, block by block and as a whole. -/
module

public import proofs.«01_k».proof.Defs
public import proofs.«01_k».proof.Proof.Gen.NormBwd
public import proofs.«01_k».proof.Proof.Gen.NormBwd.Frame
public import proofs.«01_k».proof.Proof.Gen.NormBwdIdeal
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.Product
public import proofs.«01_k».proof.Proof.NormLaw
public import Idealize.ShloMosaic.Lib.Pipeline.Value
public import Idealize.ShloMosaic.Lib.Pipeline.ValueKit
public import Idealize.ShloMosaic.Lib.WholeRead
public import Idealize.ShloMosaic.Lib.Pointwise
public import Idealize.ShloMosaic.Lib.Tactic
public import Idealize.ShloMosaic.Lib.Quiescent

@[expose] public section

noncomputable section

open Idealize.ShloMosaic Idealize.ShloMosaic.TcCoe Idealize.SL.Sem Cert.Product Cert.NormLaw
open scoped BigOperators

namespace Cert.NormBwdIdeal.Rows

open Cert.NormBwdIdeal Cert.NormBwdIdeal.Gen

variable (m : (ℓ : Loc nD τ sig) → Buf (Elt Ideal) ℓ) (ρ : Dev nD → PrngReg)

/-- The gradient in the norm's input at row `r` and column `s`, on top of the gradient `E` along the residual stream. -/
def inputGrad {R : ℕ} (X : (⟨2, ![R, 1024]⟩ : Shape).Idx → EReal) (W : (⟨2, ![1, 1024]⟩ : Shape).Idx → EReal)
    (D E : (⟨2, ![R, 1024]⟩ : Shape).Idx → EReal) (r : Fin R) (s : Fin 1024) : EReal :=
  E (ix2 r s) + fused (fun k => X (ix2 r k)) (fun k => D (ix2 r k) * W (ix2 0 k)) s

/-- The same gradient, with the one through the mean square apart. -/
theorem inputGrad_eq {R : ℕ} (X : (⟨2, ![R, 1024]⟩ : Shape).Idx → EReal) (W : (⟨2, ![1, 1024]⟩ : Shape).Idx → EReal)
    (D E : (⟨2, ![R, 1024]⟩ : Shape).Idx → EReal) (r : Fin R) (s : Fin 1024) : inputGrad X W D E r s =
      E (ix2 r s) + (D (ix2 r s) * W (ix2 0 s) * scale (fun k => X (ix2 r k)) + X (ix2 r s) * spread (fun k => X (ix2 r k)) (fun k => D (ix2 r k) * W (ix2 0 k))
        + spread (fun k => X (ix2 r k)) (fun k => D (ix2 r k) * W (ix2 0 k)) * X (ix2 r s)) :=
  congrArg (E (ix2 r s) + ·) (fused_eq _ _ s)

/-- What row `l` adds to the gradient in the norm's weight. -/
def weightTerm {R : ℕ} (X D : (⟨2, ![R, 1024]⟩ : Shape).Idx → EReal) (l : Fin R) (s : Fin 1024) : EReal :=
  D (ix2 l s) * (X (ix2 l s) * scale (fun k => X (ix2 l k)))

/-- A block of rows depends on those rows alone. -/
theorem inputGrad_congr {R B : ℕ} {X D E : (⟨2, ![R, 1024]⟩ : Shape).Idx → EReal} {Y G H : (⟨2, ![B, 1024]⟩ : Shape).Idx → EReal}
    {W V : (⟨2, ![1, 1024]⟩ : Shape).Idx → EReal} {r : Fin R} {q : Fin B} (hx : ∀ k, Y (ix2 q k) = X (ix2 r k)) (hw : ∀ k, V (ix2 0 k) = W (ix2 0 k))
    (hd : ∀ k, G (ix2 q k) = D (ix2 r k)) (he : ∀ k, H (ix2 q k) = E (ix2 r k)) (s : Fin 1024) : inputGrad Y V G H q s = inputGrad X W D E r s := by
  unfold inputGrad
  simp only [hx, hw, hd, he]

theorem weightTerm_congr {R B : ℕ} {X D : (⟨2, ![R, 1024]⟩ : Shape).Idx → EReal} {Y G : (⟨2, ![B, 1024]⟩ : Shape).Idx → EReal} {r : Fin R} {q : Fin B}
    (hx : ∀ k, Y (ix2 q k) = X (ix2 r k)) (hd : ∀ k, G (ix2 q k) = D (ix2 r k)) (s : Fin 1024) : weightTerm Y G q s = weightTerm X D r s := by
  unfold weightTerm
  simp only [hx, hd]

/-- The blocks that grid point `t` works on. -/
theorem idx : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![0, 0] :=
  (by decide +kernel : ∀ t : Fin grid0.N, _)

/-- The gradient in the weight is written back after the last block of rows. -/
theorem last : ∀ t : Fin cfg0.N, (cfg0.win 5).flush t = true → t.val % 16 = 15 :=
  (by decide +kernel : ∀ t : Fin grid0.N, win0_5.flush t = true → t.val % 16 = 15)

/-- The block of the gradient in the input. -/
theorem pay_apply (x : Vec Ideal S512x1024 .f32) (w : Vec Ideal S1x1024 .f32) (d e : Vec Ideal S512x1024 .f32) (r : Fin 512) (s : Fin 1024) :
    k0_pay4 x w d e (ix2 r s) = inputGrad x w d e r s := by
  unfold k0_pay4 k0_pay3 k0_pay2 inputGrad fused scale mean
  pointwise [shapeCast_self]

/-- A block of rows adds its terms to the gradient in the weight … -/
theorem add_apply (x d : Vec Ideal S512x1024 .f32) (a : Vec Ideal S1x1024 .f32) (r : Fin 1) (s : Fin 1024) :
    k0_pay5 x d a (ix2 r s) = a (ix2 r s) + entry (fun _ _ => 1) (weightTerm x d) r s := by
  unfold k0_pay5 k0_pay3 k0_pay2 entry weightTerm scale mean
  pointwise [shapeCast_self, one_mul]

/-- … which starts at zero. -/
theorem init_apply (r : Fin 1) (s : Fin 1024) : k0_pay1 (F := Ideal) (ix2 r s) = 0 := by
  unfold k0_pay1
  pointwise [shapeCast_self]

/-- At each point the block of the gradient in the input is computed from the point's blocks alone. -/
theorem block_eq (c : Dev nD) (t : Fin cfg0.N) : (outsAt0 m c t.val t.isLt).1 = k0_pay4 (iblk m c 0 t) (iblk m c 3 t) (iblk m c 1 t) (iblk m c 2 t) := by
  by_cases h0 : t.val % 16 = 0
  · rw [outsAt0_A m c t h0]; dsimp only; unfold out0_A_4; frame_out
  · rw [outsAt0_B m c t h0]; dsimp only; unfold out0_B_4; frame_out

/-- The first result is the gradient in the input. -/
theorem result_eq (c : Dev nD) : (dats m 0 c).arrAt 4 cfg0.N =
    fun i => inputGrad (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 4 _ (by decide +kernel) fun t hf y => ?_
  have e := idx t
  have hy0 : (y 0).val < 512 := (y 0).isLt
  have hy1 : (y 1).val < 1024 := (y 1).isLt
  have ht : t.val < 16 := t.isLt
  blk_simp
  rw [after0_4, block_eq]
  have hs : y 1 = (win0_4.blk t).view.emb y 1 := Fin.ext (by show _ = win0_4.index t 1 * 1024 + 1 * (y 1).val; rw [e.2.2.2.2.1]; simp)
  have hr : ((win0_4.blk t).view.emb y 0).val = t.val * 512 + (y 0).val := by show win0_4.index t 0 * 512 + 1 * (y 0).val = _; rw [e.2.2.2.2.1]; simp
  refine (congrArg (k0_pay4 (iblk m c 0 t) (iblk m c 3 t) (iblk m c 1 t) (iblk m c 2 t)) (ValueIdx.eq_ix2 (n0 := 512) (n1 := 1024) y)).trans ((pay_apply _ _ _ _ (y 0) (y 1)).trans ((inputGrad_congr (r := (win0_4.blk t).view.emb y 0) (fun k => ?_) (fun k => ?_) (fun k => ?_) (fun k => ?_) (y 1)).trans (congrArg (inputGrad _ _ _ _ _) hs)))
  · blk_ext [iblk, V, idx t] <;> omega
  · blk_ext [iblk, V, idx t] <;> omega
  · blk_ext [iblk, V, idx t] <;> omega
  · blk_ext [iblk, V, idx t] <;> omega

/-- The second is the gradient in the weight: the sum of the terms of all rows. -/
theorem weight_eq (c : Dev nD) : (dats m 0 c).arrAt 5 cfg0.N =
    onto (fun _ _ => 0) (fun _ _ => 1) (weightTerm (m ((c : Thread nD τ).loc main_arg0)) (m ((c : Thread nD τ).loc main_arg2))) := by
  refine (dats m 0 c).arrAt_eq_of_covers 5 _ (by decide +kernel) fun t hf y => ?_
  have h1 : t.val % 16 = 15 := last t hf
  have e := idx t
  have hy0 : (y 0).val < 1 := (y 0).isLt
  have hy1 : (y 1).val < 1024 := (y 1).isLt
  blk_simp
  rw [after0_5]
  refine Eq.trans ?_ ((entry_of_run (J := 16) (tm := 1) (tk := 512) (tn := 1024) (nn := 1) (by decide) (fun n hn r s => rows (outsAt0 m c n hn).2 r s)
    (fun _ _ _ => 0) (fun t => fun _ _ => 1) (fun t => weightTerm (iblk m c 0 t) (iblk m c 1 t)) (fun _ _ => 0) (fun _ _ => 1)
    (weightTerm (m ((c : Thread nD τ).loc main_arg0)) (m ((c : Thread nD τ).loc main_arg2)))
    (fun t h0 r s => by
      unfold rows; rw [outsAt0_A m c t h0]; dsimp only; unfold out0_A_5; frame_out; rw [add_apply, init_apply])
    (fun t h0 r s => by
      unfold rows; rw [outsAt0_B m c t h0]; dsimp only; unfold out0_B_5; frame_out; rw [add_apply])
    (fun t r s i j hi hj => by rfl)
    (fun t r k i l hi hl => by rfl)
    (fun t k s l j hl hj => by
      have ht : t.val < 16 := t.isLt
      have hsj : s = j := Fin.ext (by omega)
      subst hsj
      refine weightTerm_congr (fun q => ?_) (fun q => ?_) s
      · blk_ext [iblk, V, idx t] <;> omega
      · blk_ext [iblk, V, idx t] <;> omega)
    t h1 ⟨(y 0).val, hy0⟩ ⟨(y 1).val, hy1⟩ _ _ ?_ ?_))
  · unfold rows; exact congrArg _ (ValueIdx.eq_ix2 _)
  · have ht : t.val < 16 := t.isLt
    show win0_5.index t (0 : Fin 2) * 1 + 1 * (y 0).val = t.val / 16 / 1 * 1 + (y 0).val
    rw [e.2.2.2.2.2]; show 0 * 1 + 1 * (y 0).val = _; omega
  · have ht : t.val < 16 := t.isLt
    show win0_5.index t (1 : Fin 2) * 1024 + 1 * (y 1).val = t.val / 16 % 1 * 1024 + (y 1).val
    rw [e.2.2.2.2.2]; show 0 * 1024 + 1 * (y 1).val = _; omega

/-- The call runs and leaves its arguments and the counters as it found them, on the machine's floats … -/
theorem frame_bits : Cert.quiescent_NormBwd (hNormBwd := Cert.NormBwd.Gen.facts) := fun m g _ => Cert.NormBwd.Gen.frame (F := Bits) m g
/-- … and over the extended reals; -/
theorem frame_ideal : Cert.quiescent_NormBwdIdeal (hNormBwdIdeal := Cert.NormBwdIdeal.Gen.facts) := fun m g _ => frame (F := Idealize.ShloMosaic.Ideal) m g
/-- the plain program too. -/
theorem frame_reference : Cert.quiescent_NormBwdRefIdeal (hNormBwdRefIdeal := Cert.NormBwdRefIdeal.Gen.facts) := fun m g _ =>
  (θ_run Cert.NormBwdRefIdeal.defs _ _).mono (fun r h => ⟨fun c => (h c).2.2, Idealize.ShloMosaic.sem_eq_zero_of_no_sems (by decide) r.2⟩)
    (Cert.NormBwdRefIdeal.Value.run (F := Idealize.ShloMosaic.Ideal) m g)

/-- From the same arguments both leave the same arrays. -/
theorem agrees : Cert.algebraic_NormBwdIdeal_NormBwdRefIdeal (hNormBwdIdeal := Cert.NormBwdIdeal.Gen.facts) (hNormBwdRefIdeal := Cert.NormBwdRefIdeal.Gen.facts) := by
  intro m g m' g' _ hargs
  refine ⟨fun c i => inputGrad (m ((c : Thread nD τ).loc main_arg0)) (m ((c : Thread nD τ).loc main_arg1)) (m ((c : Thread nD τ).loc main_arg2)) (m ((c : Thread nD τ).loc main_arg3)) (i 0) (i 1),
    fun c => onto (fun _ _ => 0) (fun _ _ => 1) (weightTerm (m ((c : Thread nD τ).loc main_arg0)) (m ((c : Thread nD τ).loc main_arg2))), ?_, ?_⟩
  · exact (θ_run defs _ _).mono (fun r h c => ⟨(h c).1.trans (result_eq m c), (h c).2.1.trans (weight_eq m c), (h c).2.2⟩) (Value.run_blocks m g)
  · exact (θ_run _ _ _).mono (fun r h c => ⟨(h c).1.trans (by
      clear h
      unfold Cert.NormBwdRefIdeal.Value.res_main_v37
      rw [(hargs c).1, (hargs c).2.1, (hargs c).2.2.1, (hargs c).2.2.2]; funext i
      rw [show i = ix2 (i 0) (i 1) from ValueIdx.eq_ix2 i]
      refine Eq.trans ?_ (inputGrad_eq _ _ _ _ (i 0) (i 1)).symm
      unfold spread scale mean
      pointwise
      simp only [Finset.univ_unique, Finset.sum_singleton]), (h c).2.1.trans (by
      clear h
      rw [(hargs c).1, (hargs c).2.2.1]; funext i
      rw [show i = ix2 (i 0) (i 1) from ValueIdx.eq_ix2 i]
      unfold onto entry weightTerm scale mean
      pointwise [one_mul, zero_add]
      exact (Fin.sum_univ_one _).trans (Finset.sum_congr rfl fun k _ => mul_comm _ _)), (h c).2.2⟩) (Cert.NormBwdRefIdeal.Value.run m' g')

end Cert.NormBwdIdeal.Rows

end
-- ==== Proof.LossHead.lean ====
/- `LossHead`: the final norm, the loss and its gradients in the norm's input and weight, block by block and as a whole. -/
module

public import proofs.«01_k».proof.Defs
public import proofs.«01_k».proof.Proof.Gen.LossHead
public import proofs.«01_k».proof.Proof.Gen.LossHead.Frame
public import proofs.«01_k».proof.Proof.Gen.LossHeadIdeal
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Product
public import proofs.«01_k».proof.Proof.NormLaw
public import Idealize.ShloMosaic.Lib.Pipeline.Value
public import Idealize.ShloMosaic.Lib.Pipeline.ValueKit
public import Idealize.ShloMosaic.Lib.WholeRead
public import Idealize.ShloMosaic.Lib.Pointwise
public import Idealize.ShloMosaic.Lib.Tactic
public import Idealize.ShloMosaic.Lib.Quiescent

@[expose] public section

noncomputable section

open Idealize.ShloMosaic Idealize.ShloMosaic.TcCoe Idealize.SL.Sem Cert.Product Cert.NormLaw
open scoped BigOperators

namespace Cert.LossHeadIdeal.Rows

open Cert.LossHeadIdeal Cert.LossHeadIdeal.Gen

variable (m : (ℓ : Loc nD τ sig) → Buf (Elt Ideal) ℓ) (ρ : Dev nD → PrngReg)

/-- What the normalised row `r` misses the target by. -/
def miss {R : ℕ} (X : (⟨2, ![R, 1024]⟩ : Shape).Idx → EReal) (W : (⟨2, ![1, 1024]⟩ : Shape).Idx → EReal) (T : (⟨2, ![R, 1024]⟩ : Shape).Idx → EReal)
    (r : Fin R) (s : Fin 1024) : EReal :=
  X (ix2 r s) * scale (fun k => X (ix2 r k)) * W (ix2 0 s) - T (ix2 r s)

/-- The derivative of half the mean square in one entry, as the chain rule gives it. -/
def slope (e : EReal) : EReal :=
  Ideal.div (Ideal.ofBits .f32 0x3F000000#32 * Ideal.ofBits .f32 0x3F800000#32) (Ideal.ofBits .f32 0x44800000#32) * (Ideal.ofBits .f32 0x40000000#32 * e)

theorem one_half_eq : Ideal.ofBits .f32 0x3F000000#32 = ((1 / 2 : ℝ) : EReal) := by
  simp [Ideal.ofBits, Ideal.ieee, -EReal.coe_mul]; norm_num

/-- It is the entry over the row's length. -/
theorem slope_eq (e : EReal) : slope e = Ideal.div e (Ideal.ofBits .f32 0x44800000#32) := by
  have h1 : Ideal.ofBits .f32 0x3F800000#32 = ((1 : ℝ) : EReal) := by
    simp [Ideal.ofBits, Ideal.ieee, -EReal.coe_mul, -EReal.coe_one]; norm_num
  have h2 : Ideal.ofBits .f32 0x40000000#32 = ((2 : ℝ) : EReal) := by
    simp [Ideal.ofBits, Ideal.ieee, -EReal.coe_mul]; norm_num
  unfold slope
  rw [one_half_eq, size_eq, h1, h2, Ideal.div_coe (by norm_num), Ideal.div_coe (by norm_num), ← EReal.coe_mul, ← EReal.coe_mul, ← mul_assoc, ← EReal.coe_mul, mul_comm e]
  congr 2
  norm_num

/-- The gradient in the rows. -/
def inputGrad {R : ℕ} (X : (⟨2, ![R, 1024]⟩ : Shape).Idx → EReal) (W : (⟨2, ![1, 1024]⟩ : Shape).Idx → EReal) (T : (⟨2, ![R, 1024]⟩ : Shape).Idx → EReal)
    (r : Fin R) (s : Fin 1024) : EReal :=
  fused (fun k => X (ix2 r k)) (fun k => slope (miss X W T r k) * W (ix2 0 k)) s

/-- What row `l` adds to the gradient in the norm's weight. -/
def weightTerm {R : ℕ} (X : (⟨2, ![R, 1024]⟩ : Shape).Idx → EReal) (W : (⟨2, ![1, 1024]⟩ : Shape).Idx → EReal) (T : (⟨2, ![R, 1024]⟩ : Shape).Idx → EReal)
    (l : Fin R) (s : Fin 1024) : EReal :=
  slope (miss X W T l s) * (X (ix2 l s) * scale (fun k => X (ix2 l k)))

/-- The mean square that row `l` adds to twice the loss, in each of the loss's lanes. -/
def lossTerm {R : ℕ} (X : (⟨2, ![R, 1024]⟩ : Shape).Idx → EReal) (W : (⟨2, ![1, 1024]⟩ : Shape).Idx → EReal) (T : (⟨2, ![R, 1024]⟩ : Shape).Idx → EReal)
    (l : Fin R) (s : Fin 128) : EReal :=
  Ideal.div (∑ k : Fin 1024, miss X W T l k * miss X W T l k) (Ideal.ofBits .f32 0x44800000#32)

section
variable {R B : ℕ} {X T : (⟨2, ![R, 1024]⟩ : Shape).Idx → EReal} {Y U : (⟨2, ![B, 1024]⟩ : Shape).Idx → EReal}
  {W V : (⟨2, ![1, 1024]⟩ : Shape).Idx → EReal} {r : Fin R} {q : Fin B}
  (hx : ∀ k, Y (ix2 q k) = X (ix2 r k)) (hw : ∀ k, V (ix2 0 k) = W (ix2 0 k)) (ht : ∀ k, U (ix2 q k) = T (ix2 r k))
include hx hw ht

/-- A block of rows depends on those rows alone. -/
theorem inputGrad_congr (s : Fin 1024) : inputGrad Y V U q s = inputGrad X W T r s := by
  unfold inputGrad miss
  simp only [hx, hw, ht]

theorem weightTerm_congr (s : Fin 1024) : weightTerm Y V U q s = weightTerm X W T r s := by
  unfold weightTerm miss
  simp only [hx, hw, ht]

theorem lossTerm_congr (s : Fin 128) : lossTerm Y V U q s = lossTerm X W T r s := by
  unfold lossTerm miss
  simp only [hx, hw, ht]

end

/-- The half goes out of the sum over the rows. -/
theorem half_entry {K : ℕ} (L : Fin K → Fin 128 → EReal) (r : Fin 1) (s : Fin 128) :
    entry (fun _ _ => Ideal.ofBits .f32 0x3F000000#32) L r s = Ideal.ofBits .f32 0x3F000000#32 * ∑ k, L k s := by
  unfold entry
  rw [one_half_eq]
  exact mul_sum_of_nonneg (by norm_num) _

/-- The blocks that grid point `t` works on. -/
theorem idx : ∀ t : Fin cfg0.N, win0_0.index t = ![t.val, 0] ∧ win0_1.index t = ![t.val, 0] ∧ win0_2.index t = ![0, 0] ∧ win0_3.index t = ![t.val, 0] ∧ win0_4.index t = ![0, 0] ∧ win0_5.index t = ![0, 0] :=
  (by decide +kernel : ∀ t : Fin grid0.N, _)

/-- The gradient in the weight and the loss are written back after the last block of rows. -/
theorem last4 : ∀ t : Fin cfg0.N, (cfg0.win 4).flush t = true → t.val % 16 = 15 :=
  (by decide +kernel : ∀ t : Fin grid0.N, win0_4.flush t = true → t.val % 16 = 15)

theorem last5 : ∀ t : Fin cfg0.N, (cfg0.win 5).flush t = true → t.val % 16 = 15 :=
  (by decide +kernel : ∀ t : Fin grid0.N, win0_5.flush t = true → t.val % 16 = 15)

/-- The block of the gradient in the rows. -/
theorem pay_apply (x : Vec Ideal S512x1024 .f32) (w : Vec Ideal S1x1024 .f32) (u : Vec Ideal S512x1024 .f32) (r : Fin 512) (s : Fin 1024) :
    k0_pay3 x w (k0_pay9 x w u) (k0_pay10 x) (ix2 r s) = inputGrad x w u r s := by
  unfold k0_pay3 k0_pay2 k0_pay1 k0_pay9 k0_pay7 k0_pay10 inputGrad fused miss
  simp only [slope_eq]
  unfold scale mean
  pointwise [shapeCast_self]

/-- A block of rows adds its terms to the gradient in the weight … -/
theorem add_apply (x : Vec Ideal S512x1024 .f32) (w : Vec Ideal S1x1024 .f32) (u : Vec Ideal S512x1024 .f32) (a : Vec Ideal S1x1024 .f32) (r : Fin 1) (s : Fin 1024) :
    k0_pay4 x (k0_pay9 x w u) (k0_pay10 x) a (ix2 r s) = a (ix2 r s) + entry (fun _ _ => 1) (weightTerm x w u) r s := by
  unfold k0_pay4 k0_pay2 k0_pay1 k0_pay9 k0_pay7 k0_pay10 entry weightTerm miss
  simp only [slope_eq]
  unfold scale mean
  pointwise [shapeCast_self, one_mul]

/-- … which starts at zero, … -/
theorem init_apply (r : Fin 1) (s : Fin 1024) : k0_pay5 (F := Ideal) (ix2 r s) = 0 := by
  unfold k0_pay5
  pointwise [shapeCast_self]

/-- … and to the loss … -/
theorem loss_apply (x : Vec Ideal S512x1024 .f32) (w : Vec Ideal S1x1024 .f32) (u : Vec Ideal S512x1024 .f32) (a : Vec Ideal S1x128 .f32) (r : Fin 1) (s : Fin 128) :
    k0_pay8 x w u a (ix2 r s) = a (ix2 r s) + entry (fun _ _ => Ideal.ofBits .f32 0x3F000000#32) (lossTerm x w u) r s := by
  rw [half_entry]
  unfold k0_pay8 k0_pay7 lossTerm miss scale mean
  pointwise [shapeCast_self]
  simp only [Finset.univ_unique, Finset.sum_singleton]

/-- … which starts at zero too. -/
theorem loss_init_apply (r : Fin 1) (s : Fin 128) : k0_pay6 (F := Ideal) (ix2 r s) = 0 := by
  unfold k0_pay6
  pointwise [shapeCast_self]

/-- At each point the block of the gradient in the rows is computed from the point's blocks alone. -/
theorem block_eq (c : Dev nD) (t : Fin cfg0.N) : (outsAt0 m c t.val t.isLt).1 =
    k0_pay3 (iblk m c 0 t) (iblk m c 2 t) (k0_pay9 (iblk m c 0 t) (iblk m c 2 t) (iblk m c 1 t)) (k0_pay10 (iblk m c 0 t)) := by
  by_cases h0 : t.val % 16 = 0
  · rw [outsAt0_A m c t h0]; dsimp only; unfold out0_A_3; frame_out
  · rw [outsAt0_B m c t h0]; dsimp only; unfold out0_B_3; frame_out

/-- The first result is the gradient in the rows. -/
theorem result_eq (c : Dev nD) : (dats m 0 c).arrAt 3 cfg0.N =
    fun i => inputGrad (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  have e := idx t
  have hy0 : (y 0).val < 512 := (y 0).isLt
  have hy1 : (y 1).val < 1024 := (y 1).isLt
  have ht : t.val < 16 := t.isLt
  blk_simp
  rw [after0_3, block_eq]
  have hs : y 1 = (win0_3.blk t).view.emb y 1 := Fin.ext (by show _ = win0_3.index t 1 * 1024 + 1 * (y 1).val; rw [e.2.2.2.1]; simp)
  have hr : ((win0_3.blk t).view.emb y 0).val = t.val * 512 + (y 0).val := by show win0_3.index t 0 * 512 + 1 * (y 0).val = _; rw [e.2.2.2.1]; simp
  refine (congrArg (k0_pay3 (iblk m c 0 t) (iblk m c 2 t) (k0_pay9 (iblk m c 0 t) (iblk m c 2 t) (iblk m c 1 t)) (k0_pay10 (iblk m c 0 t))) (ValueIdx.eq_ix2 (n0 := 512) (n1 := 1024) y)).trans ((pay_apply _ _ _ (y 0) (y 1)).trans ((inputGrad_congr (r := (win0_3.blk t).view.emb y 0) (fun k => ?_) (fun k => ?_) (fun k => ?_) (y 1)).trans (congrArg (inputGrad _ _ _ _) hs)))
  · blk_ext [iblk, V, idx t] <;> omega
  · blk_ext [iblk, V, idx t] <;> omega
  · blk_ext [iblk, V, idx t] <;> omega

/-- The second is the gradient in the weight: the sum of the terms of all rows. -/
theorem weight_eq (c : Dev nD) : (dats m 0 c).arrAt 4 cfg0.N =
    onto (fun _ _ => 0) (fun _ _ => 1) (weightTerm (m ((c : Thread nD τ).loc main_arg0)) (m ((c : Thread nD τ).loc main_arg1)) (m ((c : Thread nD τ).loc main_arg2))) := by
  refine (dats m 0 c).arrAt_eq_of_covers 4 _ (by decide +kernel) fun t hf y => ?_
  have h1 : t.val % 16 = 15 := last4 t hf
  have e := idx t
  have hy0 : (y 0).val < 1 := (y 0).isLt
  have hy1 : (y 1).val < 1024 := (y 1).isLt
  blk_simp
  rw [after0_4]
  refine Eq.trans ?_ ((entry_of_run (J := 16) (tm := 1) (tk := 512) (tn := 1024) (nn := 1) (by decide) (fun n hn r s => rows (outsAt0 m c n hn).2.1 r s)
    (fun _ _ _ => 0) (fun t => fun _ _ => 1) (fun t => weightTerm (iblk m c 0 t) (iblk m c 2 t) (iblk m c 1 t)) (fun _ _ => 0) (fun _ _ => 1)
    (weightTerm (m ((c : Thread nD τ).loc main_arg0)) (m ((c : Thread nD τ).loc main_arg1)) (m ((c : Thread nD τ).loc main_arg2)))
    (fun t h0 r s => by
      unfold rows; rw [outsAt0_A m c t h0]; dsimp only; unfold out0_A_4; frame_out; rw [add_apply, init_apply])
    (fun t h0 r s => by
      unfold rows; rw [outsAt0_B m c t h0]; dsimp only; unfold out0_B_4; frame_out; rw [add_apply])
    (fun t r s i j hi hj => by rfl)
    (fun t r k i l hi hl => by rfl)
    (fun t k s l j hl hj => by
      have ht : t.val < 16 := t.isLt
      have hsj : s = j := Fin.ext (by omega)
      subst hsj
      refine weightTerm_congr (fun q => ?_) (fun q => ?_) (fun q => ?_) s
      · blk_ext [iblk, V, idx t] <;> omega
      · blk_ext [iblk, V, idx t] <;> omega
      · blk_ext [iblk, V, idx t] <;> omega)
    t h1 ⟨(y 0).val, hy0⟩ ⟨(y 1).val, hy1⟩ _ _ ?_ ?_))
  · unfold rows; exact congrArg _ (ValueIdx.eq_ix2 _)
  · have ht : t.val < 16 := t.isLt
    show win0_4.index t (0 : Fin 2) * 1 + 1 * (y 0).val = t.val / 16 / 1 * 1 + (y 0).val
    rw [e.2.2.2.2.1]; show 0 * 1 + 1 * (y 0).val = _; omega
  · have ht : t.val < 16 := t.isLt
    show win0_4.index t (1 : Fin 2) * 1024 + 1 * (y 1).val = t.val / 16 % 1 * 1024 + (y 1).val
    rw [e.2.2.2.2.1]; show 0 * 1024 + 1 * (y 1).val = _; omega

/-- The third is the loss: half the sum of the mean squares of all rows, in every lane. -/
theorem loss_eq (c : Dev nD) : (dats m 0 c).arrAt 5 cfg0.N =
    onto (fun _ _ => 0) (fun _ _ => Ideal.ofBits .f32 0x3F000000#32) (lossTerm (m ((c : Thread nD τ).loc main_arg0)) (m ((c : Thread nD τ).loc main_arg1)) (m ((c : Thread nD τ).loc main_arg2))) := by
  refine (dats m 0 c).arrAt_eq_of_covers 5 _ (by decide +kernel) fun t hf y => ?_
  have h1 : t.val % 16 = 15 := last5 t hf
  have e := idx t
  have hy0 : (y 0).val < 1 := (y 0).isLt
  have hy1 : (y 1).val < 128 := (y 1).isLt
  blk_simp
  rw [after0_5]
  refine Eq.trans ?_ ((entry_of_run (J := 16) (tm := 1) (tk := 512) (tn := 128) (nn := 1) (by decide) (fun n hn r s => rows (outsAt0 m c n hn).2.2 r s)
    (fun _ _ _ => 0) (fun t => fun _ _ => Ideal.ofBits .f32 0x3F000000#32) (fun t => lossTerm (iblk m c 0 t) (iblk m c 2 t) (iblk m c 1 t)) (fun _ _ => 0) (fun _ _ => Ideal.ofBits .f32 0x3F000000#32)
    (lossTerm (m ((c : Thread nD τ).loc main_arg0)) (m ((c : Thread nD τ).loc main_arg1)) (m ((c : Thread nD τ).loc main_arg2)))
    (fun t h0 r s => by
      unfold rows; rw [outsAt0_A m c t h0]; dsimp only; unfold out0_A_5; frame_out; rw [loss_apply, loss_init_apply])
    (fun t h0 r s => by
      unfold rows; rw [outsAt0_B m c t h0]; dsimp only; unfold out0_B_5; frame_out; rw [loss_apply])
    (fun t r s i j hi hj => by rfl)
    (fun t r k i l hi hl => by rfl)
    (fun t k s l j hl hj => by
      have ht : t.val < 16 := t.isLt
      have hsj : s = j := Fin.ext (by omega)
      subst hsj
      refine lossTerm_congr (fun q => ?_) (fun q => ?_) (fun q => ?_) s
      · blk_ext [iblk, V, idx t] <;> omega
      · blk_ext [iblk, V, idx t] <;> omega
      · blk_ext [iblk, V, idx t] <;> omega)
    t h1 ⟨(y 0).val, hy0⟩ ⟨(y 1).val, hy1⟩ _ _ ?_ ?_))
  · unfold rows; exact congrArg _ (ValueIdx.eq_ix2 _)
  · have ht : t.val < 16 := t.isLt
    show win0_5.index t (0 : Fin 2) * 1 + 1 * (y 0).val = t.val / 16 / 1 * 1 + (y 0).val
    rw [e.2.2.2.2.2]; show 0 * 1 + 1 * (y 0).val = _; omega
  · have ht : t.val < 16 := t.isLt
    show win0_5.index t (1 : Fin 2) * 128 + 1 * (y 1).val = t.val / 16 % 1 * 128 + (y 1).val
    rw [e.2.2.2.2.2]; show 0 * 128 + 1 * (y 1).val = _; omega

/-- The call runs and leaves its arguments and the counters as it found them, on the machine's floats … -/
theorem frame_bits : Cert.quiescent_LossHead (hLossHead := Cert.LossHead.Gen.facts) := fun m g _ => Cert.LossHead.Gen.frame (F := Bits) m g
/-- … and over the extended reals; -/
theorem frame_ideal : Cert.quiescent_LossHeadIdeal (hLossHeadIdeal := Cert.LossHeadIdeal.Gen.facts) := fun m g _ => frame (F := Idealize.ShloMosaic.Ideal) m g
/-- the plain program too. -/
theorem frame_reference : Cert.quiescent_LossHeadRefIdeal (hLossHeadRefIdeal := Cert.LossHeadRefIdeal.Gen.facts) := fun m g _ =>
  (θ_run Cert.LossHeadRefIdeal.defs _ _).mono (fun r h => ⟨fun c => (h c).2.2.2, Idealize.ShloMosaic.sem_eq_zero_of_no_sems (by decide) r.2⟩)
    (Cert.LossHeadRefIdeal.Value.run (F := Idealize.ShloMosaic.Ideal) m g)

set_option maxHeartbeats 2000000 in
/-- The plain program's gradient in the rows. -/
theorem reference_input (m : (ℓ : Loc Cert.LossHeadRefIdeal.nD Cert.LossHeadRefIdeal.τ Cert.LossHeadRefIdeal.sig) → Buf (Elt Ideal) ℓ) (c : Dev Cert.LossHeadRefIdeal.nD) (r : Fin 8192) (s : Fin 1024) :
    Cert.LossHeadRefIdeal.Value.res_main_v51 m c (ix2 r s) =
      inputGrad (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1))
        (m ((c.tc : Thread Cert.LossHeadRefIdeal.nD Cert.LossHeadRefIdeal.τ).loc Cert.LossHeadRefIdeal.main_arg2)) r s := by
  refine Eq.trans ?_ (fused_eq _ _ s).symm
  unfold Cert.LossHeadRefIdeal.Value.res_main_v51 spread slope miss scale mean
  pointwise
  simp only [Finset.univ_unique, Finset.sum_singleton]

set_option maxHeartbeats 4000000 in
/-- From the same arguments both leave the same arrays. -/
theorem agrees : Cert.algebraic_LossHeadIdeal_LossHeadRefIdeal (hLossHeadIdeal := Cert.LossHeadIdeal.Gen.facts) (hLossHeadRefIdeal := Cert.LossHeadRefIdeal.Gen.facts) := by
  intro m g m' g' _ hargs
  refine ⟨fun c i => inputGrad (m ((c : Thread nD τ).loc main_arg0)) (m ((c : Thread nD τ).loc main_arg1)) (m ((c : Thread nD τ).loc main_arg2)) (i 0) (i 1),
    fun c => onto (fun _ _ => 0) (fun _ _ => 1) (weightTerm (m ((c : Thread nD τ).loc main_arg0)) (m ((c : Thread nD τ).loc main_arg1)) (m ((c : Thread nD τ).loc main_arg2))),
    fun c => onto (fun _ _ => 0) (fun _ _ => Ideal.ofBits .f32 0x3F000000#32) (lossTerm (m ((c : Thread nD τ).loc main_arg0)) (m ((c : Thread nD τ).loc main_arg1)) (m ((c : Thread nD τ).loc main_arg2))), ?_, ?_⟩
  · exact (θ_run defs _ _).mono (fun r h c => ⟨(h c).1.trans (result_eq m c), (h c).2.1.trans (weight_eq m c), (h c).2.2.1.trans (loss_eq m c), (h c).2.2.2⟩) (Value.run_blocks m g)
  · exact (θ_run _ _ _).mono (fun r h c => ⟨(h c).1.trans (by
      clear h
      funext i
      refine (congrArg _ (ValueIdx.eq_ix2 (n0 := 8192) (n1 := 1024) i)).trans ((reference_input m' c (i 0) (i 1)).trans ?_)
      rw [(hargs c).1, (hargs c).2.1, (hargs c).2.2]), (h c).2.1.trans (by
      clear h
      rw [(hargs c).1, (hargs c).2.1, (hargs c).2.2]; funext i
      rw [show i = ix2 (0 : Fin 1) (i 1) from (ValueIdx.eq_ix2 (n0 := 1) (n1 := 1024) i).trans (congrArg (fun r => ix2 r (i 1)) (Subsingleton.elim (α := Fin 1) _ _))]
      generalize i 1 = s
      unfold onto entry weightTerm slope miss scale mean
      pointwise [one_mul, zero_add]
      exact (Fin.sum_univ_one _).trans (Finset.sum_congr rfl fun k _ => mul_comm _ _)), (h c).2.2.1.trans (by
      clear h
      rw [(hargs c).1, (hargs c).2.1, (hargs c).2.2]; funext i
      rw [show i = ix2 (i 0) (i 1) from ValueIdx.eq_ix2 i]
      refine Eq.trans ?_ (congrArg (0 + ·) (half_entry _ (i 0) (i 1)).symm)
      unfold lossTerm miss scale mean
      pointwise [zero_add]), (h c).2.2.2⟩) (Cert.LossHeadRefIdeal.Value.run m' g')

end Cert.LossHeadIdeal.Rows

end
-- ==== Proof.lean ====
module

public import proofs.«01_k».proof.Defs
public import proofs.«01_k».proof.Proof.Gen.UpDx
public import proofs.«01_k».proof.Proof.Gen.UpDx.Frame
public import proofs.«01_k».proof.Proof.Gen.UpDxIdeal
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.UpDw
public import proofs.«01_k».proof.Proof.Gen.UpDw.Frame
public import proofs.«01_k».proof.Proof.Gen.UpDwIdeal
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.DownDw
public import proofs.«01_k».proof.Proof.Gen.DownDw.Frame
public import proofs.«01_k».proof.Proof.Gen.DownDwIdeal
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.OutDw
public import proofs.«01_k».proof.Proof.Gen.OutDw.Frame
public import proofs.«01_k».proof.Proof.Gen.OutDwIdeal
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.PoolDw
public import proofs.«01_k».proof.Proof.Gen.PoolDw.Frame
public import proofs.«01_k».proof.Proof.Gen.PoolDwIdeal
public import proofs.«01_k».proof.Proof.Gen.PoolDwIdeal.Value
public import proofs.«01_k».proof.Proof.Gen.PoolDwRefIdeal
public import proofs.«01_k».proof.Proof.Gen.PoolDwRefIdeal.Run
public import proofs.«01_k».proof.Proof.Gen.AttnDw
public import proofs.«01_k».proof.Proof.Gen.AttnDw.Frame
public import proofs.«01_k».proof.Proof.Gen.AttnDwIdeal
public import proofs.«01_k».proof.Proof.Gen.AttnDwIdeal.Value
public import proofs.«01_k».proof.Proof.Gen.AttnDwRefIdeal
public import proofs.«01_k».proof.Proof.Gen.AttnDwRefIdeal.Run
public import proofs.«01_k».proof.Proof.Gen.SsdDw
public import proofs.«01_k».proof.Proof.Gen.SsdDw.Frame
public import proofs.«01_k».proof.Proof.Gen.SsdDwIdeal
public import proofs.«01_k».proof.Proof.Gen.SsdDwIdeal.Value
public import proofs.«01_k».proof.Proof.Gen.SsdDwRefIdeal
public import proofs.«01_k».proof.Proof.Gen.SsdDwRefIdeal.Run
public import proofs.«01_k».proof.Proof.Gen.InPDw
public import proofs.«01_k».proof.Proof.Gen.InPDw.Frame
public import proofs.«01_k».proof.Proof.Gen.InPDwIdeal
public import proofs.«01_k».proof.Proof.Gen.InPDwIdeal.Value
public import proofs.«01_k».proof.Proof.Gen.InPDwRefIdeal
public import proofs.«01_k».proof.Proof.Gen.InPDwRefIdeal.Run
public import proofs.«01_k».proof.Proof.Gen.InXDw
public import proofs.«01_k».proof.Proof.Gen.InXDw.Frame
public import proofs.«01_k».proof.Proof.Gen.InXDwIdeal
public import proofs.«01_k».proof.Proof.Gen.InXDwIdeal.Value
public import proofs.«01_k».proof.Proof.Gen.InXDwRefIdeal
public import proofs.«01_k».proof.Proof.Gen.InXDwRefIdeal.Run
public import proofs.«01_k».proof.Proof.Gen.InGDw
public import proofs.«01_k».proof.Proof.Gen.InGDw.Frame
public import proofs.«01_k».proof.Proof.Gen.InGDwIdeal
public import proofs.«01_k».proof.Proof.Gen.InGDwIdeal.Value
public import proofs.«01_k».proof.Proof.Gen.InGDwRefIdeal
public import proofs.«01_k».proof.Proof.Gen.InGDwRefIdeal.Run
public import proofs.«01_k».proof.Proof.Gen.InFDw
public import proofs.«01_k».proof.Proof.Gen.InFDw.Frame
public import proofs.«01_k».proof.Proof.Gen.InFDwIdeal
public import proofs.«01_k».proof.Proof.Gen.InFDwIdeal.Value
public import proofs.«01_k».proof.Proof.Gen.InFDwRefIdeal
public import proofs.«01_k».proof.Proof.Gen.InFDwRefIdeal.Run
public import proofs.«01_k».proof.Proof.Gen.DownDx
public import proofs.«01_k».proof.Proof.Gen.DownDx.Frame
public import proofs.«01_k».proof.Proof.Gen.DownDxIdeal
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.OutDx
public import proofs.«01_k».proof.Proof.Gen.OutDx.Frame
public import proofs.«01_k».proof.Proof.Gen.OutDxIdeal
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.PoolDx
public import proofs.«01_k».proof.Proof.Gen.PoolDx.Frame
public import proofs.«01_k».proof.Proof.Gen.PoolDxIdeal
public import proofs.«01_k».proof.Proof.Gen.PoolDxIdeal.Value
public import proofs.«01_k».proof.Proof.Gen.PoolDxRefIdeal
public import proofs.«01_k».proof.Proof.Gen.PoolDxRefIdeal.Run
public import proofs.«01_k».proof.Proof.Gen.SsdDx
public import proofs.«01_k».proof.Proof.Gen.SsdDx.Frame
public import proofs.«01_k».proof.Proof.Gen.SsdDxIdeal
public import proofs.«01_k».proof.Proof.Gen.SsdDxIdeal.Value
public import proofs.«01_k».proof.Proof.Gen.SsdDxRefIdeal
public import proofs.«01_k».proof.Proof.Gen.SsdDxRefIdeal.Run
public import proofs.«01_k».proof.Proof.Gen.InPDx
public import proofs.«01_k».proof.Proof.Gen.InPDx.Frame
public import proofs.«01_k».proof.Proof.Gen.InPDxIdeal
public import proofs.«01_k».proof.Proof.Gen.InPDxIdeal.Value
public import proofs.«01_k».proof.Proof.Gen.InPDxRefIdeal
public import proofs.«01_k».proof.Proof.Gen.InPDxRefIdeal.Run
public import proofs.«01_k».proof.Proof.Gen.InZDx
public import proofs.«01_k».proof.Proof.Gen.InZDx.Frame
public import proofs.«01_k».proof.Proof.Gen.InZDxIdeal
public import proofs.«01_k».proof.Proof.Gen.InZDxIdeal.Value
public import proofs.«01_k».proof.Proof.Gen.InZDxRefIdeal
public import proofs.«01_k».proof.Proof.Gen.InZDxRefIdeal.Run
public import proofs.«01_k».proof.Proof.Gen.InXDx
public import proofs.«01_k».proof.Proof.Gen.InXDx.Frame
public import proofs.«01_k».proof.Proof.Gen.InXDxIdeal
public import proofs.«01_k».proof.Proof.Gen.InXDxIdeal.Value
public import proofs.«01_k».proof.Proof.Gen.InXDxRefIdeal
public import proofs.«01_k».proof.Proof.Gen.InXDxRefIdeal.Run
public import proofs.«01_k».proof.Proof.Gen.InGDx
public import proofs.«01_k».proof.Proof.Gen.InGDx.Frame
public import proofs.«01_k».proof.Proof.Gen.InGDxIdeal
public import proofs.«01_k».proof.Proof.Gen.InGDxIdeal.Value
public import proofs.«01_k».proof.Proof.Gen.InGDxRefIdeal
public import proofs.«01_k».proof.Proof.Gen.InGDxRefIdeal.Run
public import proofs.«01_k».proof.Proof.Gen.InFDx
public import proofs.«01_k».proof.Proof.Gen.InFDx.Frame
public import proofs.«01_k».proof.Proof.Gen.InFDxIdeal
public import proofs.«01_k».proof.Proof.Gen.InFDxIdeal.Value
public import proofs.«01_k».proof.Proof.Gen.InFDxRefIdeal
public import proofs.«01_k».proof.Proof.Gen.InFDxRefIdeal.Run
public import proofs.«01_k».proof.Proof.Gen.InP
public import proofs.«01_k».proof.Proof.Gen.InP.Frame
public import proofs.«01_k».proof.Proof.Gen.InPIdeal
public import proofs.«01_k».proof.Proof.Gen.InPIdeal.Value
public import proofs.«01_k».proof.Proof.Gen.InPRefIdeal
public import proofs.«01_k».proof.Proof.Gen.InPRefIdeal.Run
public import proofs.«01_k».proof.Proof.Gen.InZ
public import proofs.«01_k».proof.Proof.Gen.InZ.Frame
public import proofs.«01_k».proof.Proof.Gen.InZIdeal
public import proofs.«01_k».proof.Proof.Gen.InZIdeal.Value
public import proofs.«01_k».proof.Proof.Gen.InZRefIdeal
public import proofs.«01_k».proof.Proof.Gen.InZRefIdeal.Run
public import proofs.«01_k».proof.Proof.Gen.InX
public import proofs.«01_k».proof.Proof.Gen.InX.Frame
public import proofs.«01_k».proof.Proof.Gen.InXIdeal
public import proofs.«01_k».proof.Proof.Gen.InXIdeal.Value
public import proofs.«01_k».proof.Proof.Gen.InXRefIdeal
public import proofs.«01_k».proof.Proof.Gen.InXRefIdeal.Run
public import proofs.«01_k».proof.Proof.Gen.InG
public import proofs.«01_k».proof.Proof.Gen.InG.Frame
public import proofs.«01_k».proof.Proof.Gen.InGIdeal
public import proofs.«01_k».proof.Proof.Gen.InGIdeal.Value
public import proofs.«01_k».proof.Proof.Gen.InGRefIdeal
public import proofs.«01_k».proof.Proof.Gen.InGRefIdeal.Run
public import proofs.«01_k».proof.Proof.Gen.InF
public import proofs.«01_k».proof.Proof.Gen.InF.Frame
public import proofs.«01_k».proof.Proof.Gen.InFIdeal
public import proofs.«01_k».proof.Proof.Gen.InFIdeal.Value
public import proofs.«01_k».proof.Proof.Gen.InFRefIdeal
public import proofs.«01_k».proof.Proof.Gen.InFRefIdeal.Run
public import proofs.«01_k».proof.Proof.Gen.Pool
public import proofs.«01_k».proof.Proof.Gen.Pool.Frame
public import proofs.«01_k».proof.Proof.Gen.PoolIdeal
public import proofs.«01_k».proof.Proof.Gen.PoolIdeal.Value
public import proofs.«01_k».proof.Proof.Gen.PoolRefIdeal
public import proofs.«01_k».proof.Proof.Gen.PoolRefIdeal.Run
public import proofs.«01_k».proof.Proof.Gen.Attn
public import proofs.«01_k».proof.Proof.Gen.Attn.Frame
public import proofs.«01_k».proof.Proof.Gen.AttnIdeal
public import proofs.«01_k».proof.Proof.Gen.AttnIdeal.Value
public import proofs.«01_k».proof.Proof.Gen.AttnRefIdeal
public import proofs.«01_k».proof.Proof.Gen.AttnRefIdeal.Run
public import proofs.«01_k».proof.Proof.Gen.Out
public import proofs.«01_k».proof.Proof.Gen.Out.Frame
public import proofs.«01_k».proof.Proof.Gen.OutIdeal
public import proofs.«01_k».proof.Proof.Gen.OutIdeal.Value
public import proofs.«01_k».proof.Proof.Gen.OutRefIdeal
public import proofs.«01_k».proof.Proof.Gen.OutRefIdeal.Run
public import proofs.«01_k».proof.Proof.Gen.Up
public import proofs.«01_k».proof.Proof.Gen.Up.Frame
public import proofs.«01_k».proof.Proof.Gen.UpIdeal
public import proofs.«01_k».proof.Proof.Gen.UpIdeal.Value
public import proofs.«01_k».proof.Proof.Gen.UpRefIdeal
public import proofs.«01_k».proof.Proof.Gen.UpRefIdeal.Run
public import proofs.«01_k».proof.Proof.Gen.Down
public import proofs.«01_k».proof.Proof.Gen.Down.Frame
public import proofs.«01_k».proof.Proof.Gen.DownIdeal
public import proofs.«01_k».proof.Proof.Gen.DownIdeal.Value
public import proofs.«01_k».proof.Proof.Gen.DownRefIdeal
public import proofs.«01_k».proof.Proof.Gen.DownRefIdeal.Run
public import proofs.«01_k».proof.Proof.Gen.MergeBwd
public import proofs.«01_k».proof.Proof.Gen.MergeBwd.Frame
public import proofs.«01_k».proof.Proof.Gen.MergeBwdIdeal
public import proofs.«01_k».proof.Proof.Gen.MergeBwdIdeal.Value
public import proofs.«01_k».proof.Proof.Gen.MergeBwdRefIdeal
public import proofs.«01_k».proof.Proof.Gen.MergeBwdRefIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Value
public import proofs.«01_k».proof.Proof.Gen.MergeRefIdeal
public import proofs.«01_k».proof.Proof.Gen.MergeRefIdeal.Run
public import proofs.«01_k».proof.Proof.Gen.Norm
public import proofs.«01_k».proof.Proof.Gen.Norm.Frame
public import proofs.«01_k».proof.Proof.Gen.NormIdeal
public import proofs.«01_k».proof.Proof.Gen.NormIdeal.Value
public import proofs.«01_k».proof.Proof.Gen.NormRefIdeal
public import proofs.«01_k».proof.Proof.Gen.NormRefIdeal.Run
public import proofs.«01_k».proof.Proof.Gen.Adam
public import proofs.«01_k».proof.Proof.Gen.Adam.Frame
public import proofs.«01_k».proof.Proof.Gen.AdamIdeal
public import proofs.«01_k».proof.Proof.Gen.AdamIdeal.Value
public import proofs.«01_k».proof.Proof.Gen.AdamRefIdeal
public import proofs.«01_k».proof.Proof.Gen.AdamRefIdeal.Run
public import proofs.«01_k».proof.Proof.Gen.NormBwd
public import proofs.«01_k».proof.Proof.Gen.NormBwd.Frame
public import proofs.«01_k».proof.Proof.Gen.NormBwdIdeal
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.Gen.LossHead
public import proofs.«01_k».proof.Proof.Gen.LossHead.Frame
public import proofs.«01_k».proof.Proof.Gen.LossHeadIdeal
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.UpDx
public import proofs.«01_k».proof.Proof.UpDw
public import proofs.«01_k».proof.Proof.DownDw
public import proofs.«01_k».proof.Proof.OutDw
public import proofs.«01_k».proof.Proof.PoolDw
public import proofs.«01_k».proof.Proof.AttnDw
public import proofs.«01_k».proof.Proof.SsdDw
public import proofs.«01_k».proof.Proof.InPDw
public import proofs.«01_k».proof.Proof.InXDw
public import proofs.«01_k».proof.Proof.InGDw
public import proofs.«01_k».proof.Proof.InFDw
public import proofs.«01_k».proof.Proof.DownDx
public import proofs.«01_k».proof.Proof.OutDx
public import proofs.«01_k».proof.Proof.PoolDx
public import proofs.«01_k».proof.Proof.SsdDx
public import proofs.«01_k».proof.Proof.InPDx
public import proofs.«01_k».proof.Proof.InZDx
public import proofs.«01_k».proof.Proof.InXDx
public import proofs.«01_k».proof.Proof.InGDx
public import proofs.«01_k».proof.Proof.InFDx
public import proofs.«01_k».proof.Proof.InP
public import proofs.«01_k».proof.Proof.InZ
public import proofs.«01_k».proof.Proof.InX
public import proofs.«01_k».proof.Proof.InG
public import proofs.«01_k».proof.Proof.InF
public import proofs.«01_k».proof.Proof.Pool
public import proofs.«01_k».proof.Proof.Attn
public import proofs.«01_k».proof.Proof.Out
public import proofs.«01_k».proof.Proof.Up
public import proofs.«01_k».proof.Proof.Down
public import proofs.«01_k».proof.Proof.MergeBwd
public import proofs.«01_k».proof.Proof.Merge
public import proofs.«01_k».proof.Proof.Norm
public import proofs.«01_k».proof.Proof.Adam
public import proofs.«01_k».proof.Proof.NormBwd
public import proofs.«01_k».proof.Proof.LossHead
public import Idealize.ShloMosaic.Adequacy
public import Idealize.ShloMosaic.Init

@[expose] public section

noncomputable section

namespace Cert.Proof

open Idealize.ShloMosaic Idealize.SL.Sem

theorem claim : Cert.Claim :=
  ⟨Cert.UpDx.Gen.facts, Cert.UpDxIdeal.Gen.facts, Cert.UpDxRefIdeal.Gen.facts, Cert.UpDw.Gen.facts, Cert.UpDwIdeal.Gen.facts, Cert.UpDwRefIdeal.Gen.facts, Cert.DownDw.Gen.facts, Cert.DownDwIdeal.Gen.facts, Cert.DownDwRefIdeal.Gen.facts, Cert.OutDw.Gen.facts, Cert.OutDwIdeal.Gen.facts, Cert.OutDwRefIdeal.Gen.facts, Cert.PoolDw.Gen.facts, Cert.PoolDwIdeal.Gen.facts, Cert.PoolDwRefIdeal.Gen.facts, Cert.AttnDw.Gen.facts, Cert.AttnDwIdeal.Gen.facts, Cert.AttnDwRefIdeal.Gen.facts, Cert.SsdDw.Gen.facts, Cert.SsdDwIdeal.Gen.facts, Cert.SsdDwRefIdeal.Gen.facts, Cert.InPDw.Gen.facts, Cert.InPDwIdeal.Gen.facts, Cert.InPDwRefIdeal.Gen.facts, Cert.InXDw.Gen.facts, Cert.InXDwIdeal.Gen.facts, Cert.InXDwRefIdeal.Gen.facts, Cert.InGDw.Gen.facts, Cert.InGDwIdeal.Gen.facts, Cert.InGDwRefIdeal.Gen.facts, Cert.InFDw.Gen.facts, Cert.InFDwIdeal.Gen.facts, Cert.InFDwRefIdeal.Gen.facts, Cert.DownDx.Gen.facts, Cert.DownDxIdeal.Gen.facts, Cert.DownDxRefIdeal.Gen.facts, Cert.OutDx.Gen.facts, Cert.OutDxIdeal.Gen.facts, Cert.OutDxRefIdeal.Gen.facts, Cert.PoolDx.Gen.facts, Cert.PoolDxIdeal.Gen.facts, Cert.PoolDxRefIdeal.Gen.facts, Cert.SsdDx.Gen.facts, Cert.SsdDxIdeal.Gen.facts, Cert.SsdDxRefIdeal.Gen.facts, Cert.InPDx.Gen.facts, Cert.InPDxIdeal.Gen.facts, Cert.InPDxRefIdeal.Gen.facts, Cert.InZDx.Gen.facts, Cert.InZDxIdeal.Gen.facts, Cert.InZDxRefIdeal.Gen.facts, Cert.InXDx.Gen.facts, Cert.InXDxIdeal.Gen.facts, Cert.InXDxRefIdeal.Gen.facts, Cert.InGDx.Gen.facts, Cert.InGDxIdeal.Gen.facts, Cert.InGDxRefIdeal.Gen.facts, Cert.InFDx.Gen.facts, Cert.InFDxIdeal.Gen.facts, Cert.InFDxRefIdeal.Gen.facts, Cert.InP.Gen.facts, Cert.InPIdeal.Gen.facts, Cert.InPRefIdeal.Gen.facts, Cert.InZ.Gen.facts, Cert.InZIdeal.Gen.facts, Cert.InZRefIdeal.Gen.facts, Cert.InX.Gen.facts, Cert.InXIdeal.Gen.facts, Cert.InXRefIdeal.Gen.facts, Cert.InG.Gen.facts, Cert.InGIdeal.Gen.facts, Cert.InGRefIdeal.Gen.facts, Cert.InF.Gen.facts, Cert.InFIdeal.Gen.facts, Cert.InFRefIdeal.Gen.facts, Cert.Pool.Gen.facts, Cert.PoolIdeal.Gen.facts, Cert.PoolRefIdeal.Gen.facts, Cert.Attn.Gen.facts, Cert.AttnIdeal.Gen.facts, Cert.AttnRefIdeal.Gen.facts, Cert.Out.Gen.facts, Cert.OutIdeal.Gen.facts, Cert.OutRefIdeal.Gen.facts, Cert.Up.Gen.facts, Cert.UpIdeal.Gen.facts, Cert.UpRefIdeal.Gen.facts, Cert.Down.Gen.facts, Cert.DownIdeal.Gen.facts, Cert.DownRefIdeal.Gen.facts, Cert.MergeBwd.Gen.facts, Cert.MergeBwdIdeal.Gen.facts, Cert.MergeBwdRefIdeal.Gen.facts, Cert.Merge.Gen.facts, Cert.MergeIdeal.Gen.facts, Cert.MergeRefIdeal.Gen.facts, Cert.Norm.Gen.facts, Cert.NormIdeal.Gen.facts, Cert.NormRefIdeal.Gen.facts, Cert.Adam.Gen.facts, Cert.AdamIdeal.Gen.facts, Cert.AdamRefIdeal.Gen.facts, Cert.NormBwd.Gen.facts, Cert.NormBwdIdeal.Gen.facts, Cert.NormBwdRefIdeal.Gen.facts, Cert.LossHead.Gen.facts, Cert.LossHeadIdeal.Gen.facts, Cert.LossHeadRefIdeal.Gen.facts,
    Cert.UpDxIdeal.Prod.frame_bits,
    Cert.UpDxIdeal.Prod.frame_ideal,
    Cert.UpDxIdeal.Prod.frame_reference,
    Cert.UpDwIdeal.Prod.frame_bits,
    Cert.UpDwIdeal.Prod.frame_ideal,
    Cert.UpDwIdeal.Prod.frame_reference,
    Cert.DownDwIdeal.Prod.frame_bits,
    Cert.DownDwIdeal.Prod.frame_ideal,
    Cert.DownDwIdeal.Prod.frame_reference,
    Cert.OutDwIdeal.Prod.frame_bits,
    Cert.OutDwIdeal.Prod.frame_ideal,
    Cert.OutDwIdeal.Prod.frame_reference,
    Cert.PoolDwIdeal.Prod.frame_bits,
    Cert.PoolDwIdeal.Prod.frame_ideal,
    Cert.PoolDwIdeal.Prod.frame_reference,
    Cert.AttnDwIdeal.Prod.frame_bits,
    Cert.AttnDwIdeal.Prod.frame_ideal,
    Cert.AttnDwIdeal.Prod.frame_reference,
    Cert.SsdDwIdeal.Prod.frame_bits,
    Cert.SsdDwIdeal.Prod.frame_ideal,
    Cert.SsdDwIdeal.Prod.frame_reference,
    Cert.InPDwIdeal.Prod.frame_bits,
    Cert.InPDwIdeal.Prod.frame_ideal,
    Cert.InPDwIdeal.Prod.frame_reference,
    Cert.InXDwIdeal.Prod.frame_bits,
    Cert.InXDwIdeal.Prod.frame_ideal,
    Cert.InXDwIdeal.Prod.frame_reference,
    Cert.InGDwIdeal.Prod.frame_bits,
    Cert.InGDwIdeal.Prod.frame_ideal,
    Cert.InGDwIdeal.Prod.frame_reference,
    Cert.InFDwIdeal.Prod.frame_bits,
    Cert.InFDwIdeal.Prod.frame_ideal,
    Cert.InFDwIdeal.Prod.frame_reference,
    Cert.DownDxIdeal.Prod.frame_bits,
    Cert.DownDxIdeal.Prod.frame_ideal,
    Cert.DownDxIdeal.Prod.frame_reference,
    Cert.OutDxIdeal.Prod.frame_bits,
    Cert.OutDxIdeal.Prod.frame_ideal,
    Cert.OutDxIdeal.Prod.frame_reference,
    Cert.PoolDxIdeal.Prod.frame_bits,
    Cert.PoolDxIdeal.Prod.frame_ideal,
    Cert.PoolDxIdeal.Prod.frame_reference,
    Cert.SsdDxIdeal.Prod.frame_bits,
    Cert.SsdDxIdeal.Prod.frame_ideal,
    Cert.SsdDxIdeal.Prod.frame_reference,
    Cert.InPDxIdeal.Prod.frame_bits,
    Cert.InPDxIdeal.Prod.frame_ideal,
    Cert.InPDxIdeal.Prod.frame_reference,
    Cert.InZDxIdeal.Prod.frame_bits,
    Cert.InZDxIdeal.Prod.frame_ideal,
    Cert.InZDxIdeal.Prod.frame_reference,
    Cert.InXDxIdeal.Prod.frame_bits,
    Cert.InXDxIdeal.Prod.frame_ideal,
    Cert.InXDxIdeal.Prod.frame_reference,
    Cert.InGDxIdeal.Prod.frame_bits,
    Cert.InGDxIdeal.Prod.frame_ideal,
    Cert.InGDxIdeal.Prod.frame_reference,
    Cert.InFDxIdeal.Prod.frame_bits,
    Cert.InFDxIdeal.Prod.frame_ideal,
    Cert.InFDxIdeal.Prod.frame_reference,
    Cert.InPIdeal.Prod.frame_bits,
    Cert.InPIdeal.Prod.frame_ideal,
    Cert.InPIdeal.Prod.frame_reference,
    Cert.InZIdeal.Prod.frame_bits,
    Cert.InZIdeal.Prod.frame_ideal,
    Cert.InZIdeal.Prod.frame_reference,
    Cert.InXIdeal.Prod.frame_bits,
    Cert.InXIdeal.Prod.frame_ideal,
    Cert.InXIdeal.Prod.frame_reference,
    Cert.InGIdeal.Prod.frame_bits,
    Cert.InGIdeal.Prod.frame_ideal,
    Cert.InGIdeal.Prod.frame_reference,
    Cert.InFIdeal.Prod.frame_bits,
    Cert.InFIdeal.Prod.frame_ideal,
    Cert.InFIdeal.Prod.frame_reference,
    Cert.PoolIdeal.Prod.frame_bits,
    Cert.PoolIdeal.Prod.frame_ideal,
    Cert.PoolIdeal.Prod.frame_reference,
    Cert.AttnIdeal.Prod.frame_bits,
    Cert.AttnIdeal.Prod.frame_ideal,
    Cert.AttnIdeal.Prod.frame_reference,
    Cert.OutIdeal.Prod.frame_bits,
    Cert.OutIdeal.Prod.frame_ideal,
    Cert.OutIdeal.Prod.frame_reference,
    Cert.UpIdeal.Prod.frame_bits,
    Cert.UpIdeal.Prod.frame_ideal,
    Cert.UpIdeal.Prod.frame_reference,
    Cert.DownIdeal.Prod.frame_bits,
    Cert.DownIdeal.Prod.frame_ideal,
    Cert.DownIdeal.Prod.frame_reference,
    Cert.MergeBwdIdeal.Gates.frame_bits,
    Cert.MergeBwdIdeal.Gates.frame_ideal,
    Cert.MergeBwdIdeal.Gates.frame_reference,
    Cert.MergeIdeal.Gates.frame_bits,
    Cert.MergeIdeal.Gates.frame_ideal,
    Cert.MergeIdeal.Gates.frame_reference,
    Cert.NormIdeal.Rows.frame_bits,
    Cert.NormIdeal.Rows.frame_ideal,
    Cert.NormIdeal.Rows.frame_reference,
    Cert.AdamIdeal.Step.frame_bits,
    Cert.AdamIdeal.Step.frame_ideal,
    Cert.AdamIdeal.Step.frame_reference,
    Cert.NormBwdIdeal.Rows.frame_bits,
    Cert.NormBwdIdeal.Rows.frame_ideal,
    Cert.NormBwdIdeal.Rows.frame_reference,
    Cert.LossHeadIdeal.Rows.frame_bits,
    Cert.LossHeadIdeal.Rows.frame_ideal,
    Cert.LossHeadIdeal.Rows.frame_reference,
    trivial,
    Cert.UpDxIdeal.Prod.agrees,
    trivial,
    Cert.UpDwIdeal.Prod.agrees,
    trivial,
    Cert.DownDwIdeal.Prod.agrees,
    trivial,
    Cert.OutDwIdeal.Prod.agrees,
    trivial,
    Cert.PoolDwIdeal.Prod.agrees,
    trivial,
    Cert.AttnDwIdeal.Prod.agrees,
    trivial,
    Cert.SsdDwIdeal.Prod.agrees,
    trivial,
    Cert.InPDwIdeal.Prod.agrees,
    trivial,
    Cert.InXDwIdeal.Prod.agrees,
    trivial,
    Cert.InGDwIdeal.Prod.agrees,
    trivial,
    Cert.InFDwIdeal.Prod.agrees,
    trivial,
    Cert.DownDxIdeal.Prod.agrees,
    trivial,
    Cert.OutDxIdeal.Prod.agrees,
    trivial,
    Cert.PoolDxIdeal.Prod.agrees,
    trivial,
    Cert.SsdDxIdeal.Prod.agrees,
    trivial,
    Cert.InPDxIdeal.Prod.agrees,
    trivial,
    Cert.InZDxIdeal.Prod.agrees,
    trivial,
    Cert.InXDxIdeal.Prod.agrees,
    trivial,
    Cert.InGDxIdeal.Prod.agrees,
    trivial,
    Cert.InFDxIdeal.Prod.agrees,
    trivial,
    Cert.InPIdeal.Prod.agrees,
    trivial,
    Cert.InZIdeal.Prod.agrees,
    trivial,
    Cert.InXIdeal.Prod.agrees,
    trivial,
    Cert.InGIdeal.Prod.agrees,
    trivial,
    Cert.InFIdeal.Prod.agrees,
    trivial,
    Cert.PoolIdeal.Prod.agrees,
    trivial,
    Cert.AttnIdeal.Prod.agrees,
    trivial,
    Cert.OutIdeal.Prod.agrees,
    trivial,
    Cert.UpIdeal.Prod.agrees,
    trivial,
    Cert.DownIdeal.Prod.agrees,
    trivial,
    Cert.MergeBwdIdeal.Gates.agrees,
    trivial,
    Cert.MergeIdeal.Gates.agrees,
    trivial,
    Cert.NormIdeal.Rows.agrees,
    trivial,
    Cert.AdamIdeal.Step.agrees,
    trivial,
    Cert.NormBwdIdeal.Rows.agrees,
    trivial,
    Cert.LossHeadIdeal.Rows.agrees⟩

end Cert.Proof

end
